-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_v43) = v3 c
          ∧ r.2.mem ((c.tc : Thread Cert.ReferenceIdeal.nD Cert.ReferenceIdeal.τ).loc Cert.ReferenceIdeal.main_v40) = v4 c
          ∧ r.2.mem ((c.tc : Thread Cert.ReferenceIdeal.nD Cert.ReferenceIdeal.τ).loc Cert.ReferenceIdeal.main_v48) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v22) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_on_all_but_gate_inputs [hKernel3Ideal : Cert.Kernel3Ideal.Facts] [hReference3Ideal : Cert.Reference3Ideal.Facts] [hOn_all_but_gate_inputs : Cert.On_all_but_gate_inputs.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)) (v4 : (c : Dev Cert.Kernel3Ideal.nD) → Buf (Elt Ideal) ((c.tc : Thread Cert.Kernel3Ideal.nD Cert.Kernel3Ideal.τ).loc Cert.Kernel3Ideal.main_v1_4)) (v5 : (c : Dev Cert.Kernel3Ideal.nD) → Buf (Elt Ideal) ((c.tc : Thread Cert.Kernel3Ideal.nD Cert.Kernel3Ideal.τ).loc Cert.Kernel3Ideal.main_v1_5)) (v6 : (c : Dev Cert.Kernel3Ideal.nD) → Buf (Elt Ideal) ((c.tc : Thread Cert.Kernel3Ideal.nD Cert.Kernel3Ideal.τ).loc Cert.Kernel3Ideal.main_v1_6)) (v7 : (c : Dev Cert.Kernel3Ideal.nD) → Buf (Elt Ideal) ((c.tc : Thread Cert.Kernel3Ideal.nD Cert.Kernel3Ideal.τ).loc Cert.Kernel3Ideal.main_v1_7)) (v8 : (c : Dev Cert.Kernel3Ideal.nD) → Buf (Elt Ideal) ((c.tc : Thread Cert.Kernel3Ideal.nD Cert.Kernel3Ideal.τ).loc Cert.Kernel3Ideal.main_v1_8)) (v9 : (c : Dev Cert.Kernel3Ideal.nD) → Buf (Elt Ideal) ((c.tc : Thread Cert.Kernel3Ideal.nD Cert.Kernel3Ideal.τ).loc Cert.Kernel3Ideal.main_v1_9)) (v10 : (c : Dev Cert.Kernel3Ideal.nD) → Buf (Elt Ideal) ((c.tc : Thread Cert.Kernel3Ideal.nD Cert.Kernel3Ideal.τ).loc Cert.Kernel3Ideal.main_v1_10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨2, ![1, 128]⟩ : Shape).Idx, (Cert.On_all_but_gate_inputs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).1 i = 1#1 → r.2.mem ((c.tc : Thread Cert.Kernel3Ideal.nD Cert.Kernel3Ideal.τ).loc Cert.Kernel3Ideal.main_v1_0) i = v0 c i)
          ∧ (∀ i : (⟨2, ![16384, 1024]⟩ : Shape).Idx, (Cert.On_all_but_gate_inputs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.1 i = 1#1 → r.2.mem ((c.tc : Thread Cert.Kernel3Ideal.nD Cert.Kernel3Ideal.τ).loc Cert.Kernel3Ideal.main_v1_1) i = v1 c i)
          ∧ (∀ i : (⟨2, ![16384, 512]⟩ : Shape).Idx, (Cert.On_all_but_gate_inputs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.1 i = 1#1 → r.2.mem ((c.tc : Thread Cert.Kernel3Ideal.nD Cert.Kernel3Ideal.τ).loc Cert.Kernel3Ideal.main_v1_2) i = v2 c i)
          ∧ (∀ i : (⟨2, ![16384, 512]⟩ : Shape).Idx, (Cert.On_all_but_gate_inputs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.1 i = 1#1 → r.2.mem ((c.tc : Thread Cert.Kernel3Ideal.nD Cert.Kernel3Ideal.τ).loc Cert.Kernel3Ideal.main_v1_3) i = v3 c i)
          ∧ (∀ i : (⟨2, ![16384, 512]⟩ : Shape).Idx, (Cert.On_all_but_gate_inputs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.1 i = 1#1 → r.2.mem ((c.tc : Thread Cert.Kernel3Ideal.nD Cert.Kernel3Ideal.τ).loc Cert.Kernel3Ideal.main_v1_4) i = v4 c i)
          ∧ (∀ i : (⟨2, ![16384, 512]⟩ : Shape).Idx, (Cert.On_all_but_gate_inputs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.1 i = 1#1 → r.2.mem ((c.tc : Thread Cert.Kernel3Ideal.nD Cert.Kernel3Ideal.τ).loc Cert.Kernel3Ideal.main_v1_5) i = v5 c i)
          ∧ (∀ i : (⟨2, ![16384, 512]⟩ : Shape).Idx, (Cert.On_all_but_gate_inputs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.1 i = 1#1 → r.2.mem ((c.tc : Thread Cert.Kernel3Ideal.nD Cert.Kernel3Ideal.τ).loc Cert.Kernel3Ideal.main_v1_6) i = v6 c i)
          ∧ (∀ i : (⟨2, ![1, 1024]⟩ : Shape).Idx, (Cert.On_all_but_gate_inputs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.2.1 i = 1#1 → r.2.mem ((c.tc : Thread Cert.Kernel3Ideal.nD Cert.Kernel3Ideal.τ).loc Cert.Kernel3Ideal.main_v1_7) i = v7 c i)
          ∧ (∀ i : (⟨2, ![1, 1024]⟩ : Shape).Idx, (Cert.On_all_but_gate_inputs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.2.2.1 i = 1#1 → r.2.mem ((c.tc : Thread Cert.Kernel3Ideal.nD Cert.Kernel3Ideal.τ).loc Cert.Kernel3Ideal.main_v1_8) i = v8 c i)
          ∧ (∀ i : (⟨2, ![1, 512]⟩ : Shape).Idx, (Cert.On_all_but_gate_inputs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.2.2.2.1 i = 1#1 → r.2.mem ((c.tc : Thread Cert.Kernel3Ideal.nD Cert.Kernel3Ideal.τ).loc Cert.Kernel3Ideal.main_v1_9) i = v9 c i)
          ∧ (∀ i : (⟨2, ![1024, 1024]⟩ : Shape).Idx, (Cert.On_all_but_gate_inputs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.2.2.2.2 i = 1#1 → r.2.mem ((c.tc : Thread Cert.Kernel3Ideal.nD Cert.Kernel3Ideal.τ).loc Cert.Kernel3Ideal.main_v1_10) i = v10 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨2, ![1, 128]⟩ : Shape).Idx, (Cert.On_all_but_gate_inputs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).1 i = 1#1 → r.2.mem ((c.tc : Thread Cert.Reference3Ideal.nD Cert.Reference3Ideal.τ).loc Cert.Reference3Ideal.main_v154) i = v0 c i)
          ∧ (∀ i : (⟨2, ![16384, 1024]⟩ : Shape).Idx, (Cert.On_all_but_gate_inputs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.1 i = 1#1 → r.2.mem ((c.tc : Thread Cert.Reference3Ideal.nD Cert.Reference3Ideal.τ).loc Cert.Reference3Ideal.main_v102) i = v1 c i)
          ∧ (∀ i : (⟨2, ![16384, 512]⟩ : Shape).Idx, (Cert.On_all_but_gate_inputs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.1 i = 1#1 → r.2.mem ((c.tc : Thread Cert.Reference3Ideal.nD Cert.Reference3Ideal.τ).loc Cert.Reference3Ideal.main_v152) i = v2 c i)
          ∧ (∀ i : (⟨2, ![16384, 512]⟩ : Shape).Idx, (Cert.On_all_but_gate_inputs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.1 i = 1#1 → r.2.mem ((c.tc : Thread Cert.Reference3Ideal.nD Cert.Reference3Ideal.τ).loc Cert.Reference3Ideal.main_v155) i = v3 c i)
          ∧ (∀ i : (⟨2, ![16384, 512]⟩ : Shape).Idx, (Cert.On_all_but_gate_inputs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.1 i = 1#1 → r.2.mem ((c.tc : Thread Cert.Reference3Ideal.nD Cert.Reference3Ideal.τ).loc Cert.Reference3Ideal.main_v150) i = v4 c i)
          ∧ (∀ i : (⟨2, ![16384, 512]⟩ : Shape).Idx, (Cert.On_all_but_gate_inputs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.1 i = 1#1 → r.2.mem ((c.tc : Thread Cert.Reference3Ideal.nD Cert.Reference3Ideal.τ).loc Cert.Reference3Ideal.main_v156) i = v5 c i)
          ∧ (∀ i : (⟨2, ![16384, 512]⟩ : Shape).Idx, (Cert.On_all_but_gate_inputs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.1 i = 1#1 → r.2.mem ((c.tc : Thread Cert.Reference3Ideal.nD Cert.Reference3Ideal.τ).loc Cert.Reference3Ideal.main_v157) i = v6 c i)
          ∧ (∀ i : (⟨2, ![1, 1024]⟩ : Shape).Idx, (Cert.On_all_but_gate_inputs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.2.1 i = 1#1 → r.2.mem ((c.tc : Thread Cert.Reference3Ideal.nD Cert.Reference3Ideal.τ).loc Cert.Reference3Ideal.main_v107) i = v7 c i)
          ∧ (∀ i : (⟨2, ![1, 1024]⟩ : Shape).Idx, (Cert.On_all_but_gate_inputs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.2.2.1 i = 1#1 → r.2.mem ((c.tc : Thread Cert.Reference3Ideal.nD Cert.Reference3Ideal.τ).loc Cert.Reference3Ideal.main_v86) i = v8 c i)
          ∧ (∀ i : (⟨2, ![1, 512]⟩ : Shape).Idx, (Cert.On_all_but_gate_inputs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.2.2.2.1 i = 1#1 → r.2.mem ((c.tc : Thread Cert.Reference3Ideal.nD Cert.Reference3Ideal.τ).loc Cert.Reference3Ideal.main_v118) i = v9 c i)
          ∧ (∀ i : (⟨2, ![1024, 1024]⟩ : Shape).Idx, (Cert.On_all_but_gate_inputs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.2.2.2.2 i = 1#1 → r.2.mem ((c.tc : Thread Cert.Reference3Ideal.nD Cert.Reference3Ideal.τ).loc Cert.Reference3Ideal.main_v109) i = v10 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v20)) (v1 : (c : Dev Cert.Kernel5Ideal.nD) → Buf (Elt Ideal) ((c.tc : Thread Cert.Kernel5Ideal.nD Cert.Kernel5Ideal.τ).loc Cert.Kernel5Ideal.main_v2)) (v2 : (c : Dev Cert.Kernel5Ideal.nD) → Buf (Elt Ideal) ((c.tc : Thread Cert.Kernel5Ideal.nD Cert.Kernel5Ideal.τ).loc Cert.Kernel5Ideal.main_v3)) (v3 : (c : Dev Cert.Kernel5Ideal.nD) → Buf (Elt Ideal) ((c.tc : Thread Cert.Kernel5Ideal.nD Cert.Kernel5Ideal.τ).loc Cert.Kernel5Ideal.main_v7)) (v4 : (c : Dev Cert.Kernel5Ideal.nD) → Buf (Elt Ideal) ((c.tc : Thread Cert.Kernel5Ideal.nD Cert.Kernel5Ideal.τ).loc Cert.Kernel5Ideal.main_v8)) (v5 : (c : Dev Cert.Kernel5Ideal.nD) → Buf (Elt Ideal) ((c.tc : Thread Cert.Kernel5Ideal.nD Cert.Kernel5Ideal.τ).loc Cert.Kernel5Ideal.main_v9)) (v6 : (c : Dev Cert.Kernel5Ideal.nD) → Buf (Elt Ideal) ((c.tc : Thread Cert.Kernel5Ideal.nD Cert.Kernel5Ideal.τ).loc Cert.Kernel5Ideal.main_v13)) (v7 : (c : Dev Cert.Kernel5Ideal.nD) → Buf (Elt Ideal) ((c.tc : Thread Cert.Kernel5Ideal.nD Cert.Kernel5Ideal.τ).loc Cert.Kernel5Ideal.main_v14)) (v8 : (c : Dev Cert.Kernel5Ideal.nD) → Buf (Elt Ideal) ((c.tc : Thread Cert.Kernel5Ideal.nD Cert.Kernel5Ideal.τ).loc Cert.Kernel5Ideal.main_v16)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20) = v0 c
          ∧ r.2.mem ((c.tc : Thread Cert.Kernel5Ideal.nD Cert.Kernel5Ideal.τ).loc Cert.Kernel5Ideal.main_v2) = v1 c
          ∧ r.2.mem ((c.tc : Thread Cert.Kernel5Ideal.nD Cert.Kernel5Ideal.τ).loc Cert.Kernel5Ideal.main_v3) = v2 c
          ∧ r.2.mem ((c.tc : Thread Cert.Kernel5Ideal.nD Cert.Kernel5Ideal.τ).loc Cert.Kernel5Ideal.main_v7) = v3 c
          ∧ r.2.mem ((c.tc : Thread Cert.Kernel5Ideal.nD Cert.Kernel5Ideal.τ).loc Cert.Kernel5Ideal.main_v8) = v4 c
          ∧ r.2.mem ((c.tc : Thread Cert.Kernel5Ideal.nD Cert.Kernel5Ideal.τ).loc Cert.Kernel5Ideal.main_v9) = v5 c
          ∧ r.2.mem ((c.tc : Thread Cert.Kernel5Ideal.nD Cert.Kernel5Ideal.τ).loc Cert.Kernel5Ideal.main_v13) = v6 c
          ∧ r.2.mem ((c.tc : Thread Cert.Kernel5Ideal.nD Cert.Kernel5Ideal.τ).loc Cert.Kernel5Ideal.main_v14) = v7 c
          ∧ r.2.mem ((c.tc : Thread Cert.Kernel5Ideal.nD Cert.Kernel5Ideal.τ).loc Cert.Kernel5Ideal.main_v16) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_v6) = v1 c
          ∧ r.2.mem ((c.tc : Thread Cert.Reference5Ideal.nD Cert.Reference5Ideal.τ).loc Cert.Reference5Ideal.main_v7) = v2 c
          ∧ r.2.mem ((c.tc : Thread Cert.Reference5Ideal.nD Cert.Reference5Ideal.τ).loc Cert.Reference5Ideal.main_v11) = v3 c
          ∧ r.2.mem ((c.tc : Thread Cert.Reference5Ideal.nD Cert.Reference5Ideal.τ).loc Cert.Reference5Ideal.main_v12) = v4 c
          ∧ r.2.mem ((c.tc : Thread Cert.Reference5Ideal.nD Cert.Reference5Ideal.τ).loc Cert.Reference5Ideal.main_v13) = v5 c
          ∧ r.2.mem ((c.tc : Thread Cert.Reference5Ideal.nD Cert.Reference5Ideal.τ).loc Cert.Reference5Ideal.main_v17) = v6 c
          ∧ r.2.mem ((c.tc : Thread Cert.Reference5Ideal.nD Cert.Reference5Ideal.τ).loc Cert.Reference5Ideal.main_v18) = v7 c
          ∧ r.2.mem ((c.tc : Thread Cert.Reference5Ideal.nD Cert.Reference5Ideal.τ).loc Cert.Reference5Ideal.main_v20) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_1)) (v1 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_1) = v0 c
          ∧ r.2.mem ((c.tc : Thread Cert.Kernel6Ideal.nD Cert.Kernel6Ideal.τ).loc Cert.Kernel6Ideal.main_v0_2) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_v10) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_1)) (v1 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_1) = v0 c
          ∧ r.2.mem ((c.tc : Thread Cert.Kernel7Ideal.nD Cert.Kernel7Ideal.τ).loc Cert.Kernel7Ideal.main_v0_2) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_v10) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_1)) (v1 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_1) = v0 c
          ∧ r.2.mem ((c.tc : Thread Cert.Kernel8Ideal.nD Cert.Kernel8Ideal.τ).loc Cert.Kernel8Ideal.main_v0_2) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_v10) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_1)) (v1 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_1) = v0 c
          ∧ r.2.mem ((c.tc : Thread Cert.Kernel9Ideal.nD Cert.Kernel9Ideal.τ).loc Cert.Kernel9Ideal.main_v0_2) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_v10) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_1)) (v1 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_1) = v0 c
          ∧ r.2.mem ((c.tc : Thread Cert.Kernel10Ideal.nD Cert.Kernel10Ideal.τ).loc Cert.Kernel10Ideal.main_v0_2) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_v10) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_1)) (v1 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_1) = v0 c
          ∧ r.2.mem ((c.tc : Thread Cert.Kernel11Ideal.nD Cert.Kernel11Ideal.τ).loc Cert.Kernel11Ideal.main_v0_2) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_v10) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_1)) (v1 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_1) = v0 c
          ∧ r.2.mem ((c.tc : Thread Cert.Kernel12Ideal.nD Cert.Kernel12Ideal.τ).loc Cert.Kernel12Ideal.main_v0_2) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_v10) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_1)) (v1 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_1) = v0 c
          ∧ r.2.mem ((c.tc : Thread Cert.Kernel13Ideal.nD Cert.Kernel13Ideal.τ).loc Cert.Kernel13Ideal.main_v0_2) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_v10) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_1)) (v1 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_1) = v0 c
          ∧ r.2.mem ((c.tc : Thread Cert.Kernel14Ideal.nD Cert.Kernel14Ideal.τ).loc Cert.Kernel14Ideal.main_v0_2) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_v10) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_1)) (v1 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_1) = v0 c
          ∧ r.2.mem ((c.tc : Thread Cert.Kernel15Ideal.nD Cert.Kernel15Ideal.τ).loc Cert.Kernel15Ideal.main_v0_2) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_v10) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v4)) (v1 : (c : Dev Cert.Kernel16Ideal.nD) → Buf (Elt Ideal) ((c.tc : Thread Cert.Kernel16Ideal.nD Cert.Kernel16Ideal.τ).loc Cert.Kernel16Ideal.main_v5)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4) = v0 c
          ∧ r.2.mem ((c.tc : Thread Cert.Kernel16Ideal.nD Cert.Kernel16Ideal.τ).loc Cert.Kernel16Ideal.main_v5) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_v11) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hOn_all_but_gate_inputs : Cert.On_all_but_gate_inputs.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_on_all_but_gate_inputs (hKernel3Ideal := hKernel3Ideal) (hReference3Ideal := hReference3Ideal) (hOn_all_but_gate_inputs := hOn_all_but_gate_inputs)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== On_all_but_gate_inputs.lean ====
abbrev S16384x512 : Shape := ⟨2, ![16384, 512]⟩
abbrev S16384x4608 : Shape := ⟨2, ![16384, 4608]⟩
abbrev S16384x1024 : Shape := ⟨2, ![16384, 1024]⟩
abbrev S1x1024 : Shape := ⟨2, ![1, 1024]⟩
abbrev S1x512 : Shape := ⟨2, ![1, 512]⟩
abbrev S1024x1024 : Shape := ⟨2, ![1024, 1024]⟩
abbrev S_ : Shape := ⟨0, ![]⟩
abbrev S1x128 : Shape := ⟨2, ![1, 128]⟩

class Facts : Prop where
  bcast_S_S1x1024 : S_.BroadcastsInDim S1x1024 (![] : Fin 0 → Fin S1x1024.rank)
  bcast_S_S1x128 : S_.BroadcastsInDim S1x128 (![] : Fin 0 → Fin S1x128.rank)
  bcast_S_S16384x1024 : S_.BroadcastsInDim S16384x1024 (![] : Fin 0 → Fin S16384x1024.rank)
  bcast_S_S16384x512 : S_.BroadcastsInDim S16384x512 (![] : Fin 0 → Fin S16384x512.rank)
  bcast_S_S1x512 : S_.BroadcastsInDim S1x512 (![] : Fin 0 → Fin S1x512.rank)
  bcast_S_S1024x1024 : S_.BroadcastsInDim S1024x1024 (![] : Fin 0 → Fin S1024x1024.rank)

variable [Facts]

def fn {F : FTy → Type} [FloatOps F] (main_arg0 : FVec F S16384x512 .f32) (main_arg1 : FVec F S16384x4608 .bf16) (main_arg2 : FVec F S16384x512 .f32) (main_arg3 : FVec F S16384x512 .f32) (main_arg4 : FVec F S16384x1024 .f32) (main_arg5 : FVec F S16384x1024 .f32) (main_arg6 : FVec F S1x1024 .f32) (main_arg7 : FVec F S1x512 .f32) (main_arg8 : FVec F S1x1024 .f32) (main_arg9 : FVec F S1024x1024 .f32) : IVec S1x128 1 × IVec S16384x1024 1 × IVec S16384x512 1 × IVec S16384x512 1 × IVec S16384x512 1 × IVec S16384x512 1 × IVec S16384x512 1 × IVec S1x1024 1 × IVec S1x1024 1 × IVec S1x512 1 × IVec S1024x1024 1 :=
  let main_c : IVec S_ 1 := constantI S_ 1 1#1
  let main_v0 : IVec S1x1024 1 := broadcastInDim S1x1024 ![] bcast_S_S1x1024 main_c
  let main_c_0 : IVec S_ 1 := constantI S_ 1 1#1
  let main_v1 : IVec S1x128 1 := broadcastInDim S1x128 ![] bcast_S_S1x128 main_c_0
  let main_c_1 : IVec S_ 1 := constantI S_ 1 1#1
  let main_v2 : IVec S16384x1024 1 := broadcastInDim S16384x1024 ![] bcast_S_S16384x1024 main_c_1
  let main_c_2 : IVec S_ 1 := constantI S_ 1 1#1
  let main_v3 : IVec S16384x512 1 := broadcastInDim S16384x512 ![] bcast_S_S16384x512 main_c_2
  let main_c_3 : IVec S_ 1 := constantI S_ 1 0#1
  let main_v4 : IVec S16384x512 1 := broadcastInDim S16384x512 ![] bcast_S_S16384x512 main_c_3
  let main_c_4 : IVec S_ 1 := constantI S_ 1 0#1
  let main_v5 : IVec S16384x512 1 := broadcastInDim S16384x512 ![] bcast_S_S16384x512 main_c_4
  let main_c_5 : IVec S_ 1 := constantI S_ 1 0#1
  let main_v6 : IVec S16384x512 1 := broadcastInDim S16384x512 ![] bcast_S_S16384x512 main_c_5
  let main_c_6 : IVec S_ 1 := constantI S_ 1 0#1
  let main_v7 : IVec S16384x512 1 := broadcastInDim S16384x512 ![] bcast_S_S16384x512 main_c_6
  let main_c_7 : IVec S_ 1 := constantI S_ 1 1#1
  let main_v8 : IVec S1x512 1 := broadcastInDim S1x512 ![] bcast_S_S1x512 main_c_7
  let main_c_8 : IVec S_ 1 := constantI S_ 1 1#1
  let main_v9 : IVec S1024x1024 1 := broadcastInDim S1024x1024 ![] bcast_S_S1024x1024 main_c_8
  (main_v1, main_v2, main_v3, main_v4, main_v5, main_v6, main_v7, main_v0, main_v0, main_v8, main_v9)
-- ==== Kernel.lean ====
abbrev S16384x512 : Shape := ⟨2, ![16384, 512]⟩
abbrev S16384x1024 : Shape := ⟨2, ![16384, 1024]⟩
abbrev S16384x16 : Shape := ⟨2, ![16384, 16]⟩
abbrev S1024x4624 : Shape := ⟨2, ![1024, 4624]⟩
abbrev S1x1024 : Shape := ⟨2, ![1, 1024]⟩
abbrev S4624x1024 : Shape := ⟨2, ![4624, 1024]⟩
abbrev S_ : Shape := ⟨0, ![]⟩
abbrev S4736x1024 : Shape := ⟨2, ![4736, 1024]⟩
abbrev S16384x128 : Shape := ⟨2, ![16384, 128]⟩
abbrev S1x4736 : Shape := ⟨2, ![1, 4736]⟩
abbrev S512x512 : Shape := ⟨2, ![512, 512]⟩
abbrev S512x1024 : Shape := ⟨2, ![512, 1024]⟩
abbrev S512x128 : Shape := ⟨2, ![512, 128]⟩
abbrev S1024x4736 : Shape := ⟨2, ![1024, 4736]⟩
abbrev S2x128x1024 : Shape := ⟨3, ![2, 128, 1024]⟩
abbrev S3 : Shape := ⟨1, ![3]⟩
abbrev S1 : Shape := ⟨1, ![1]⟩
abbrev S512 : Shape := ⟨1, ![512]⟩
abbrev S512x1 : Shape := ⟨2, ![512, 1]⟩
abbrev S1024x512 : Shape := ⟨2, ![1024, 512]⟩
abbrev S1x512 : Shape := ⟨2, ![1, 512]⟩
abbrev S1024x1024 : Shape := ⟨2, ![1024, 1024]⟩
abbrev S1024 : Shape := ⟨1, ![1024]⟩
abbrev S128x1024 : Shape := ⟨2, ![128, 1024]⟩
abbrev S1024x128 : Shape := ⟨2, ![1024, 128]⟩
abbrev S1x128 : Shape := ⟨2, ![1, 128]⟩
abbrev S128 : Shape := ⟨1, ![128]⟩
abbrev S1x128x1024 : Shape := ⟨3, ![1, 128, 1024]⟩

abbrev nBuf : Space → Nat
  | .hbm => 29
  | .vmem => 34
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x1024, .bf16⟩
  | .hbm, ⟨5, _⟩ => ⟨S16384x512, .bf16⟩
  | .hbm, ⟨6, _⟩ => ⟨S16384x512, .bf16⟩
  | .hbm, ⟨7, _⟩ => ⟨S16384x512, .bf16⟩
  | .hbm, ⟨8, _⟩ => ⟨S16384x16, .f32⟩
  | .hbm, ⟨9, _⟩ => ⟨S16384x1024, .f32⟩
  | .hbm, ⟨10, _⟩ => ⟨S16384x1024, .f32⟩
  | .hbm, ⟨11, _⟩ => ⟨S1024x4624, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S4624x1024, .f32⟩
  | .hbm, ⟨16, _⟩ => ⟨S4624x1024, .bf16⟩
  | .hbm, ⟨17, _⟩ => ⟨S_, .i32⟩
  | .hbm, ⟨18, _⟩ => ⟨S_, .bf16⟩
  | .hbm, ⟨19, _⟩ => ⟨S4736x1024, .bf16⟩
  | .hbm, ⟨20, _⟩ => ⟨S_, .i32⟩
  | .hbm, ⟨21, _⟩ => ⟨S_, .f32⟩
  | .hbm, ⟨22, _⟩ => ⟨S16384x128, .f32⟩
  | .hbm, ⟨23, _⟩ => ⟨S16384x1024, .f32⟩
  | .hbm, ⟨24, _⟩ => ⟨S4736x1024, .f32⟩
  | .hbm, ⟨25, _⟩ => ⟨S1x4736, .f32⟩
  | .hbm, ⟨26, _⟩ => ⟨S1x1024, .f32⟩
  | .hbm, ⟨27, _⟩ => ⟨S1x1024, .f32⟩
  | .hbm, ⟨28, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x128, .f32⟩
  | .local _ .vmem, ⟨17, _⟩ => ⟨S512x128, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S512x1024, .f32⟩
  | .local _ .vmem, ⟨26, _⟩ => ⟨S512x1024, .f32⟩
  | .local _ .vmem, ⟨27, _⟩ => ⟨S1x4736, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S4736x1024, .bf16⟩
  | .local _ .vmem, ⟨32, _⟩ => ⟨S1024x4736, .f32⟩
  | .local _ .vmem, ⟨33, _⟩ => ⟨S2x128x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_call0_v0 : Ref sig .tc := ⟨.hbm, 18, rfl⟩
abbrev main_v2 : Ref sig .tc := ⟨.hbm, 19, rfl⟩
abbrev main_c_0 : Ref sig .tc := ⟨.hbm, 20, rfl⟩
abbrev main_call1_v0 : Ref sig .tc := ⟨.hbm, 21, rfl⟩
abbrev main_v3 : Ref sig .tc := ⟨.hbm, 22, rfl⟩
abbrev main_v4_0 : Ref sig .tc := ⟨.hbm, 23, rfl⟩
abbrev main_v4_1 : Ref sig .tc := ⟨.hbm, 24, rfl⟩
abbrev main_v4_2 : Ref sig .tc := ⟨.hbm, 25, rfl⟩
abbrev main_v4_3 : Ref sig .tc := ⟨.hbm, 26, rfl⟩
abbrev main_v4_4 : Ref sig .tc := ⟨.hbm, 27, rfl⟩
abbrev main_v4_5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem14_1 : DmaSem sig := 26
abbrev cc0_sem15_0 : DmaSem sig := 27
abbrev cc0_sem16_0 : DmaSem sig := 28
abbrev cc0_sem17_0 : DmaSem sig := 29
abbrev cc0_sem18_0 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x4736 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S16384x512 : Shape := ⟨2, ![16384, 512]⟩
abbrev S16384x1024 : Shape := ⟨2, ![16384, 1024]⟩
abbrev S16384x16 : Shape := ⟨2, ![16384, 16]⟩
abbrev S1024x4624 : Shape := ⟨2, ![1024, 4624]⟩
abbrev S1x1024 : Shape := ⟨2, ![1, 1024]⟩
abbrev S16384x4624 : Shape := ⟨2, ![16384, 4624]⟩
abbrev S_ : Shape := ⟨0, ![]⟩
abbrev S1x4624 : Shape := ⟨2, ![1, 4624]⟩
abbrev S16384 : Shape := ⟨1, ![16384]⟩
abbrev S16384x1 : Shape := ⟨2, ![16384, 1]⟩
abbrev S4624 : Shape := ⟨1, ![4624]⟩
abbrev S4624x1024 : Shape := ⟨2, ![4624, 1024]⟩
abbrev S1024 : Shape := ⟨1, ![1024]⟩
abbrev S4736x1024 : Shape := ⟨2, ![4736, 1024]⟩
abbrev S1x4736 : Shape := ⟨2, ![1, 4736]⟩

abbrev nBuf : Space → Nat
  | .hbm => 101
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x1024, .bf16⟩
  | .hbm, ⟨5, _⟩ => ⟨S16384x512, .bf16⟩
  | .hbm, ⟨6, _⟩ => ⟨S16384x512, .bf16⟩
  | .hbm, ⟨7, _⟩ => ⟨S16384x512, .bf16⟩
  | .hbm, ⟨8, _⟩ => ⟨S16384x16, .f32⟩
  | .hbm, ⟨9, _⟩ => ⟨S16384x1024, .f32⟩
  | .hbm, ⟨10, _⟩ => ⟨S16384x1024, .f32⟩
  | .hbm, ⟨11, _⟩ => ⟨S1024x4624, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S16384x1024, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x4624, .f32⟩
  | .hbm, ⟨24, _⟩ => ⟨S_, .f32⟩
  | .hbm, ⟨25, _⟩ => ⟨S1x4624, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S1x1024, .f32⟩
  | .hbm, ⟨47, _⟩ => ⟨S1x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x4624, .f32⟩
  | .hbm, ⟨53, _⟩ => ⟨S16384x4624, .f32⟩
  | .hbm, ⟨54, _⟩ => ⟨S16384x4624, .f32⟩
  | .hbm, ⟨55, _⟩ => ⟨S_, .f32⟩
  | .hbm, ⟨56, _⟩ => ⟨S4624, .f32⟩
  | .hbm, ⟨57, _⟩ => ⟨S1x4624, .f32⟩
  | .hbm, ⟨58, _⟩ => ⟨S4624x1024, .f32⟩
  | .hbm, ⟨59, _⟩ => ⟨S1024x4624, .f32⟩
  | .hbm, ⟨60, _⟩ => ⟨S16384x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S16384x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S_, .f32⟩
  | .hbm, ⟨78, _⟩ => ⟨S16384, .f32⟩
  | .hbm, ⟨79, _⟩ => ⟨S16384x1, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S16384x1, .f32⟩
  | .hbm, ⟨84, _⟩ => ⟨S_, .f32⟩
  | .hbm, ⟨85, _⟩ => ⟨S16384x1, .f32⟩
  | .hbm, ⟨86, _⟩ => ⟨S16384x1, .f32⟩
  | .hbm, ⟨87, _⟩ => ⟨S_, .f32⟩
  | .hbm, ⟨88, _⟩ => ⟨S16384, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S4624x1024, .f32⟩
  | .hbm, ⟨95, _⟩ => ⟨S_, .i32⟩
  | .hbm, ⟨96, _⟩ => ⟨S_, .f32⟩
  | .hbm, ⟨97, _⟩ => ⟨S4736x1024, .f32⟩
  | .hbm, ⟨98, _⟩ => ⟨S_, .i32⟩
  | .hbm, ⟨99, _⟩ => ⟨S_, .f32⟩
  | .hbm, ⟨100, _⟩ => ⟨S1x4736, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_10 : Ref sig .tc := ⟨.hbm, 84, rfl⟩
abbrev main_v58 : Ref sig .tc := ⟨.hbm, 85, rfl⟩
abbrev main_v59 : Ref sig .tc := ⟨.hbm, 86, rfl⟩
abbrev main_cst_11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c : Ref sig .tc := ⟨.hbm, 95, rfl⟩
abbrev main_call0_v0 : Ref sig .tc := ⟨.hbm, 96, rfl⟩
abbrev main_v67 : Ref sig .tc := ⟨.hbm, 97, rfl⟩
abbrev main_c_12 : Ref sig .tc := ⟨.hbm, 98, rfl⟩
abbrev main_call1_v0 : Ref sig .tc := ⟨.hbm, 99, rfl⟩
abbrev main_v68 : Ref sig .tc := ⟨.hbm, 100, rfl⟩

abbrev nD : Nat := 1
abbrev τ : Topo := Topo.v7x

variable {F : FTy → Type} [FloatOps F]
-- ==== Kernel2.lean ====
abbrev S16384x1024 : Shape := ⟨2, ![16384, 1024]⟩
abbrev S1x1024 : Shape := ⟨2, ![1, 1024]⟩
abbrev S1024x4624 : Shape := ⟨2, ![1024, 4624]⟩
abbrev S1x4624 : Shape := ⟨2, ![1, 4624]⟩
abbrev S4624x1024 : Shape := ⟨2, ![4624, 1024]⟩
abbrev S_ : Shape := ⟨0, ![]⟩
abbrev S4736x1024 : Shape := ⟨2, ![4736, 1024]⟩
abbrev S1x4736 : Shape := ⟨2, ![1, 4736]⟩
abbrev S16384x4608 : Shape := ⟨2, ![16384, 4608]⟩
abbrev S16384x128 : Shape := ⟨2, ![16384, 128]⟩
abbrev S2048x1024 : Shape := ⟨2, ![2048, 1024]⟩
abbrev S768x1024 : Shape := ⟨2, ![768, 1024]⟩
abbrev S1x768 : Shape := ⟨2, ![1, 768]⟩
abbrev S128x1024 : Shape := ⟨2, ![128, 1024]⟩
abbrev S1x128 : Shape := ⟨2, ![1, 128]⟩
abbrev S2048x768 : Shape := ⟨2, ![2048, 768]⟩
abbrev S2048x128 : Shape := ⟨2, ![2048, 128]⟩
abbrev S2048 : Shape := ⟨1, ![2048]⟩
abbrev S2048x1 : Shape := ⟨2, ![2048, 1]⟩

abbrev nBuf : Space → Nat
  | .hbm => 16
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x4624, .f32⟩
  | .hbm, ⟨5, _⟩ => ⟨S1x4624, .f32⟩
  | .hbm, ⟨6, _⟩ => ⟨S4624x1024, .f32⟩
  | .hbm, ⟨7, _⟩ => ⟨S4624x1024, .bf16⟩
  | .hbm, ⟨8, _⟩ => ⟨S_, .i32⟩
  | .hbm, ⟨9, _⟩ => ⟨S_, .bf16⟩
  | .hbm, ⟨10, _⟩ => ⟨S4736x1024, .bf16⟩
  | .hbm, ⟨11, _⟩ => ⟨S_, .i32⟩
  | .hbm, ⟨12, _⟩ => ⟨S_, .f32⟩
  | .hbm, ⟨13, _⟩ => ⟨S1x4736, .f32⟩
  | .hbm, ⟨14, _⟩ => ⟨S16384x4608, .bf16⟩
  | .hbm, ⟨15, _⟩ => ⟨S16384x128, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S768x1024, .bf16⟩
  | .local _ .vmem, ⟨6, _⟩ => ⟨S768x1024, .bf16⟩
  | .local _ .vmem, ⟨7, _⟩ => ⟨S1x768, .f32⟩
  | .local _ .vmem, ⟨8, _⟩ => ⟨S1x768, .f32⟩
  | .local _ .vmem, ⟨9, _⟩ => ⟨S128x1024, .bf16⟩
  | .local _ .vmem, ⟨10, _⟩ => ⟨S1x128, .f32⟩
  | .local _ .vmem, ⟨11, _⟩ => ⟨S2048x768, .bf16⟩
  | .local _ .vmem, ⟨12, _⟩ => ⟨S2048x768, .bf16⟩
  | .local _ .vmem, ⟨13, _⟩ => ⟨S2048x128, .f32⟩
  | .local _ .vmem, ⟨14, _⟩ => ⟨S2048x128, .f32⟩
  | .local _ .vmem, ⟨15, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c36_i32 : BitVec 32 := 36#32
  let c0_i32 : BitVec 32 := 0#32
  let c0_i32_0 : BitVec 32 := 0#32
  ![c36_i32.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c36_i32 : BitVec 32 := 36#32
  let c0_i32_0 : BitVec 32 := 0#32
  ![c0_i32.toNat, c36_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2048x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S16384x1024 : Shape := ⟨2, ![16384, 1024]⟩
abbrev S1x1024 : Shape := ⟨2, ![1, 1024]⟩
abbrev S1024x4624 : Shape := ⟨2, ![1024, 4624]⟩
abbrev S1x4624 : Shape := ⟨2, ![1, 4624]⟩
abbrev S_ : Shape := ⟨0, ![]⟩
abbrev S16384 : Shape := ⟨1, ![16384]⟩
abbrev S16384x1 : Shape := ⟨2, ![16384, 1]⟩
abbrev S16384x4624 : Shape := ⟨2, ![16384, 4624]⟩
abbrev S16384x16 : Shape := ⟨2, ![16384, 16]⟩
abbrev S16384x128 : Shape := ⟨2, ![16384, 128]⟩
abbrev S16384x4608 : Shape := ⟨2, ![16384, 4608]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x4624, .f32⟩
  | .hbm, ⟨5, _⟩ => ⟨S1x4624, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x4624, .f32⟩
  | .hbm, ⟨29, _⟩ => ⟨S16384x4624, .f32⟩
  | .hbm, ⟨30, _⟩ => ⟨S16384x4624, .f32⟩
  | .hbm, ⟨31, _⟩ => ⟨S16384x16, .f32⟩
  | .hbm, ⟨32, _⟩ => ⟨S_, .i32⟩
  | .hbm, ⟨33, _⟩ => ⟨S_, .f32⟩
  | .hbm, ⟨34, _⟩ => ⟨S16384x128, .f32⟩
  | .hbm, ⟨35, _⟩ => ⟨S16384x4608, .f32⟩
  | .hbm, ⟨36, _⟩ => ⟨S16384x4608, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c : Ref sig .tc := ⟨.hbm, 32, rfl⟩
abbrev main_call0_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Kernel3.lean ====
abbrev S16384x512 : Shape := ⟨2, ![16384, 512]⟩
abbrev S16384x4608 : Shape := ⟨2, ![16384, 4608]⟩
abbrev S16384x1024 : Shape := ⟨2, ![16384, 1024]⟩
abbrev S1x1024 : Shape := ⟨2, ![1, 1024]⟩
abbrev S1x512 : Shape := ⟨2, ![1, 512]⟩
abbrev S1024x1024 : Shape := ⟨2, ![1024, 1024]⟩
abbrev S1x128 : Shape := ⟨2, ![1, 128]⟩
abbrev S512x512 : Shape := ⟨2, ![512, 512]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩
abbrev S128 : Shape := ⟨1, ![128]⟩

abbrev nBuf : Space → Nat
  | .hbm => 22
  | .vmem => 38
  | .smem => 0
  | _ => 0

abbrev bufTy : (tb : Table) → Fin (tcTables nBuf tb) → BufTy
  | .hbm, ⟨0, _⟩ => ⟨S16384x512, .f32⟩
  | .hbm, ⟨1, _⟩ => ⟨S16384x4608, .bf16⟩
  | .hbm, ⟨2, _⟩ => ⟨S16384x512, .f32⟩
  | .hbm, ⟨3, _⟩ => ⟨S16384x512, .f32⟩
  | .hbm, ⟨4, _⟩ => ⟨S16384x1024, .f32⟩
  | .hbm, ⟨5, _⟩ => ⟨S16384x1024, .f32⟩
  | .hbm, ⟨6, _⟩ => ⟨S1x1024, .f32⟩
  | .hbm, ⟨7, _⟩ => ⟨S1x512, .f32⟩
  | .hbm, ⟨8, _⟩ => ⟨S1x1024, .f32⟩
  | .hbm, ⟨9, _⟩ => ⟨S1024x1024, .f32⟩
  | .hbm, ⟨10, _⟩ => ⟨S1024x1024, .bf16⟩
  | .hbm, ⟨11, _⟩ => ⟨S1x128, .f32⟩
  | .hbm, ⟨12, _⟩ => ⟨S16384x1024, .f32⟩
  | .hbm, ⟨13, _⟩ => ⟨S16384x512, .f32⟩
  | .hbm, ⟨14, _⟩ => ⟨S16384x512, .bf16⟩
  | .hbm, ⟨15, _⟩ => ⟨S16384x512, .f32⟩
  | .hbm, ⟨16, _⟩ => ⟨S16384x512, .bf16⟩
  | .hbm, ⟨17, _⟩ => ⟨S16384x512, .bf16⟩
  | .hbm, ⟨18, _⟩ => ⟨S1x1024, .f32⟩
  | .hbm, ⟨19, _⟩ => ⟨S1x1024, .f32⟩
  | .hbm, ⟨20, _⟩ => ⟨S1x512, .f32⟩
  | .hbm, ⟨21, _⟩ => ⟨S1024x1024, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S1x512, .f32⟩
  | .local _ .vmem, ⟨18, _⟩ => ⟨S1x1024, .f32⟩
  | .local _ .vmem, ⟨19, _⟩ => ⟨S1024x1024, .bf16⟩
  | .local _ .vmem, ⟨20, _⟩ => ⟨S1x128, .f32⟩
  | .local _ .vmem, ⟨21, _⟩ => ⟨S512x1024, .f32⟩
  | .local _ .vmem, ⟨22, _⟩ => ⟨S512x1024, .f32⟩
  | .local _ .vmem, ⟨23, _⟩ => ⟨S512x512, .f32⟩
  | .local _ .vmem, ⟨24, _⟩ => ⟨S512x512, .f32⟩
  | .local _ .vmem, ⟨25, _⟩ => ⟨S512x512, .bf16⟩
  | .local _ .vmem, ⟨26, _⟩ => ⟨S512x512, .bf16⟩
  | .local _ .vmem, ⟨27, _⟩ => ⟨S512x512, .f32⟩
  | .local _ .vmem, ⟨28, _⟩ => ⟨S512x512, .f32⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S1x1024, .f32⟩
  | .local _ .vmem, ⟨34, _⟩ => ⟨S1x1024, .f32⟩
  | .local _ .vmem, ⟨35, _⟩ => ⟨S1x512, .f32⟩
  | .local _ .vmem, ⟨36, _⟩ => ⟨S1024x1024, .f32⟩
  | .local _ .vmem, ⟨37, _⟩ => ⟨S512x1024, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v1_4 : Ref sig .tc := ⟨.hbm, 15, rfl⟩
abbrev main_v1_5 : Ref sig .tc := ⟨.hbm, 16, rfl⟩
abbrev main_v1_6 : Ref sig .tc := ⟨.hbm, 17, rfl⟩
abbrev main_v1_7 : Ref sig .tc := ⟨.hbm, 18, rfl⟩
abbrev main_v1_8 : Ref sig .tc := ⟨.hbm, 19, rfl⟩
abbrev main_v1_9 : Ref sig .tc := ⟨.hbm, 20, rfl⟩
abbrev main_v1_10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg21_0 : Ref sig .tc := ⟨.vmem, 35, rfl⟩
abbrev cc0_stg22_0 : Ref sig .tc := ⟨.vmem, 36, rfl⟩
abbrev cc0_scratch0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem20_0 : DmaSem sig := 34
abbrev cc0_sem21_0 : DmaSem sig := 35
abbrev cc0_sem22_0 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1024x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== Reference3Ideal.lean ====
abbrev S16384x512 : Shape := ⟨2, ![16384, 512]⟩
abbrev S16384x4608 : Shape := ⟨2, ![16384, 4608]⟩
abbrev S16384x1024 : Shape := ⟨2, ![16384, 1024]⟩
abbrev S1x1024 : Shape := ⟨2, ![1, 1024]⟩
abbrev S1x512 : Shape := ⟨2, ![1, 512]⟩
abbrev S1024x1024 : Shape := ⟨2, ![1024, 1024]⟩
abbrev S_ : Shape := ⟨0, ![]⟩
abbrev S16384x4x128 : Shape := ⟨3, ![16384, 4, 128]⟩
abbrev S16384x4 : Shape := ⟨2, ![16384, 4]⟩
abbrev S16384x4x1 : Shape := ⟨3, ![16384, 4, 1]⟩
abbrev S16384 : Shape := ⟨1, ![16384]⟩
abbrev S16384x1 : Shape := ⟨2, ![16384, 1]⟩
abbrev S1024 : Shape := ⟨1, ![1024]⟩
abbrev S512 : Shape := ⟨1, ![512]⟩
abbrev S1x128 : Shape := ⟨2, ![1, 128]⟩

abbrev nBuf : Space → Nat
  | .hbm => 233
  | .vmem => 0
  | .smem => 0
  | _ => 0

abbrev hbmTy0_0 (i : Nat) : BufTy := match i % 128 with
  | 0 => ⟨S16384x512, .f32⟩
  | 1 => ⟨S16384x4608, .bf16⟩
  | 2 => ⟨S16384x512, .f32⟩
  | 3 => ⟨S16384x512, .f32⟩
  | 4 => ⟨S16384x1024, .f32⟩
  | 5 => ⟨S16384x1024, .f32⟩
  | 6 => ⟨S1x1024, .f32⟩
  | 7 => ⟨S1x512, .f32⟩
  | 8 => ⟨S1x1024, .f32⟩
  | 9 => ⟨S1024x1024, .f32⟩
  | 10 => ⟨S16384x512, .bf16⟩
  | 11 => ⟨S16384x512, .f32⟩
  | 12 => ⟨S16384x512, .bf16⟩
  | 13 => ⟨S16384x512, .f32⟩
  | 14 => ⟨S16384x512, .bf16⟩
  | 15 => ⟨S16384x512, .f32⟩
  | 16 => ⟨S16384x512, .f32⟩
  | 17 => ⟨S16384x512, .f32⟩
  | 18 => ⟨S16384x512, .f32⟩
  | 19 => ⟨S_, .f32⟩
  | 20 => ⟨S16384x512, .f32⟩
  | 21 => ⟨S16384x512, .f32⟩
  | 22 => ⟨S_, .f32⟩
  | 23 => ⟨S16384x512, .f32⟩
  | 24 => ⟨S16384x512, .f32⟩
  | 25 => ⟨S_, .f32⟩
  | 26 => ⟨S16384x512, .f32⟩
  | 27 => ⟨S16384x512, .f32⟩
  | 28 => ⟨S16384x512, .f32⟩
  | 29 => ⟨S16384x512, .f32⟩
  | 30 => ⟨S16384x512, .f32⟩
  | 31 => ⟨S16384x4x128, .f32⟩
  | 32 => ⟨S16384x512, .f32⟩
  | 33 => ⟨S16384x512, .f32⟩
  | 34 => ⟨S_, .f32⟩
  | 35 => ⟨S16384x512, .f32⟩
  | 36 => ⟨S16384x512, .f32⟩
  | 37 => ⟨S_, .f32⟩
  | 38 => ⟨S16384x512, .f32⟩
  | 39 => ⟨S16384x512, .f32⟩
  | 40 => ⟨S_, .f32⟩
  | 41 => ⟨S16384x512, .f32⟩
  | 42 => ⟨S16384x512, .f32⟩
  | 43 => ⟨S16384x512, .f32⟩
  | 44 => ⟨S16384x4x128, .f32⟩
  | 45 => ⟨S16384x4x128, .f32⟩
  | 46 => ⟨S_, .f32⟩
  | 47 => ⟨S16384x4, .f32⟩
  | 48 => ⟨S16384x4x1, .f32⟩
  | 49 => ⟨S_, .f32⟩
  | 50 => ⟨S16384x4x1, .f32⟩
  | 51 => ⟨S16384x4x1, .f32⟩
  | 52 => ⟨S16384x4x128, .f32⟩
  | 53 => ⟨S16384x4x128, .f32⟩
  | 54 => ⟨S16384x4x128, .f32⟩
  | 55 => ⟨S_, .f32⟩
  | 56 => ⟨S16384x4x128, .f32⟩
  | 57 => ⟨S16384x4x128, .f32⟩
  | 58 => ⟨S_, .f32⟩
  | 59 => ⟨S16384x4, .f32⟩
  | 60 => ⟨S16384x4x1, .f32⟩
  | 61 => ⟨S_, .f32⟩
  | 62 => ⟨S16384x4x1, .f32⟩
  | 63 => ⟨S16384x4x1, .f32⟩
  | 64 => ⟨S16384x4x128, .f32⟩
  | 65 => ⟨S16384x4x128, .f32⟩
  | 66 => ⟨S_, .f32⟩
  | 67 => ⟨S16384x4x1, .f32⟩
  | 68 => ⟨S16384x4x1, .f32⟩
  | 69 => ⟨S16384x4x1, .f32⟩
  | 70 => ⟨S16384x4x1, .f32⟩
  | 71 => ⟨S_, .f32⟩
  | 72 => ⟨S16384x4x1, .f32⟩
  | 73 => ⟨S16384x4x1, .f32⟩
  | 74 => ⟨S16384x4x128, .f32⟩
  | 75 => ⟨S16384x4x128, .f32⟩
  | 76 => ⟨S16384x512, .f32⟩
  | 77 => ⟨S16384x512, .f32⟩
  | 78 => ⟨S16384x512, .f32⟩
  | 79 => ⟨S16384x512, .f32⟩
  | 80 => ⟨S16384x512, .f32⟩
  | 81 => ⟨S_, .f32⟩
  | 82 => ⟨S16384x512, .f32⟩
  | 83 => ⟨S16384x512, .f32⟩
  | 84 => ⟨S_, .f32⟩
  | 85 => ⟨S16384x512, .f32⟩
  | 86 => ⟨S16384x512, .f32⟩
  | 87 => ⟨S_, .f32⟩
  | 88 => ⟨S16384x512, .f32⟩
  | 89 => ⟨S16384x512, .f32⟩
  | 90 => ⟨S16384x512, .f32⟩
  | 91 => ⟨S16384x512, .f32⟩
  | 92 => ⟨S16384x512, .f32⟩
  | 93 => ⟨S16384x1024, .f32⟩
  | 94 => ⟨S16384x1024, .f32⟩
  | 95 => ⟨S16384x1024, .f32⟩
  | 96 => ⟨S16384x1024, .f32⟩
  | 97 => ⟨S16384x1024, .f32⟩
  | 98 => ⟨S16384x1024, .f32⟩
  | 99 => ⟨S_, .f32⟩
  | 100 => ⟨S16384, .f32⟩
  | 101 => ⟨S16384x1, .f32⟩
  | 102 => ⟨S_, .f32⟩
  | 103 => ⟨S16384x1, .f32⟩
  | 104 => ⟨S16384x1, .f32⟩
  | 105 => ⟨S_, .f32⟩
  | 106 => ⟨S16384x1, .f32⟩
  | 107 => ⟨S16384x1, .f32⟩
  | 108 => ⟨S16384x1, .f32⟩
  | 109 => ⟨S16384x1, .f32⟩
  | 110 => ⟨S_, .f32⟩
  | 111 => ⟨S16384x1, .f32⟩
  | 112 => ⟨S16384x1, .f32⟩
  | 113 => ⟨S16384x1024, .f32⟩
  | 114 => ⟨S16384x1024, .f32⟩
  | 115 => ⟨S16384x1024, .f32⟩
  | 116 => ⟨S16384x1024, .f32⟩
  | 117 => ⟨S16384x1024, .f32⟩
  | 118 => ⟨S16384x1024, .f32⟩
  | 119 => ⟨S_, .f32⟩
  | 120 => ⟨S16384x1024, .f32⟩
  | 121 => ⟨S16384x1024, .f32⟩
  | 122 => ⟨S_, .f32⟩
  | 123 => ⟨S16384, .f32⟩
  | 124 => ⟨S_, .f32⟩
  | 125 => ⟨S16384, .f32⟩
  | 126 => ⟨S16384, .f32⟩
  | 127 => ⟨S_, .f32⟩
  | _ => ⟨S16384x512, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S16384, .f32⟩
  | 7 => ⟨S_, .f32⟩
  | 8 => ⟨S16384, .f32⟩
  | 9 => ⟨S16384, .f32⟩
  | 10 => ⟨S16384x1024, .f32⟩
  | 11 => ⟨S16384x1024, .f32⟩
  | 12 => ⟨S16384x1024, .f32⟩
  | 13 => ⟨S_, .f32⟩
  | 14 => ⟨S1024, .f32⟩
  | 15 => ⟨S1x1024, .f32⟩
  | 16 => ⟨S16384x1024, .f32⟩
  | 17 => ⟨S16384x1024, .f32⟩
  | 18 => ⟨S16384x1024, .f32⟩
  | 19 => ⟨S_, .f32⟩
  | 20 => ⟨S16384, .f32⟩
  | 21 => ⟨S16384x1, .f32⟩
  | 22 => ⟨S16384x1024, .f32⟩
  | 23 => ⟨S16384x1024, .f32⟩
  | 24 => ⟨S16384x1, .f32⟩
  | 25 => ⟨S_, .f32⟩
  | 26 => ⟨S16384x1, .f32⟩
  | 27 => ⟨S16384x1, .f32⟩
  | 28 => ⟨S_, .f32⟩
  | 29 => ⟨S16384, .f32⟩
  | 30 => ⟨S16384x1024, .f32⟩
  | 31 => ⟨S16384x1024, .f32⟩
  | 32 => ⟨S16384x1024, .f32⟩
  | 33 => ⟨S16384x1024, .f32⟩
  | 34 => ⟨S16384x1024, .f32⟩
  | 35 => ⟨S16384x1024, .f32⟩
  | 36 => ⟨S16384x1024, .f32⟩
  | 37 => ⟨S16384x1024, .f32⟩
  | 38 => ⟨S_, .f32⟩
  | 39 => ⟨S1024, .f32⟩
  | 40 => ⟨S1x1024, .f32⟩
  | 41 => ⟨S1024x1024, .f32⟩
  | 42 => ⟨S1024x1024, .f32⟩
  | 43 => ⟨S16384x1024, .f32⟩
  | 44 => ⟨S16384x512, .f32⟩
  | 45 => ⟨S16384x512, .f32⟩
  | 46 => ⟨S16384x512, .f32⟩
  | 47 => ⟨S16384x512, .f32⟩
  | 48 => ⟨S16384x512, .f32⟩
  | 49 => ⟨S16384x512, .f32⟩
  | 50 => ⟨S16384x512, .f32⟩
  | 51 => ⟨S16384x512, .f32⟩
  | 52 => ⟨S16384x512, .f32⟩
  | 53 => ⟨S_, .f32⟩
  | 54 => ⟨S512, .f32⟩
  | 55 => ⟨S1x512, .f32⟩
  | 56 => ⟨S16384x512, .f32⟩
  | 57 => ⟨S16384x512, .f32⟩
  | 58 => ⟨S16384x4x128, .f32⟩
  | 59 => ⟨S16384x4x128, .f32⟩
  | 60 => ⟨S_, .f32⟩
  | 61 => ⟨S16384x4, .f32⟩
  | 62 => ⟨S16384x4x1, .f32⟩
  | 63 => ⟨S16384x4x128, .f32⟩
  | 64 => ⟨S16384x4x128, .f32⟩
  | 65 => ⟨S16384x4x1, .f32⟩
  | 66 => ⟨S16384x4x128, .f32⟩
  | 67 => ⟨S_, .f32⟩
  | 68 => ⟨S16384x4, .f32⟩
  | 69 => ⟨S16384x4x1, .f32⟩
  | 70 => ⟨S_, .f32⟩
  | 71 => ⟨S16384x4x1, .f32⟩
  | 72 => ⟨S16384x4x1, .f32⟩
  | 73 => ⟨S_, .f32⟩
  | 74 => ⟨S16384x4, .f32⟩
  | 75 => ⟨S16384x4x128, .f32⟩
  | 76 => ⟨S16384x4x128, .f32⟩
  | 77 => ⟨S16384x4x128, .f32⟩
  | 78 => ⟨S_, .f32⟩
  | 79 => ⟨S16384x4, .f32⟩
  | 80 => ⟨S16384x4x1, .f32⟩
  | 81 => ⟨S16384x4x128, .f32⟩
  | 82 => ⟨S16384x4x1, .f32⟩
  | 83 => ⟨S_, .f32⟩
  | 84 => ⟨S16384x4x1, .f32⟩
  | 85 => ⟨S16384x4x1, .f32⟩
  | 86 => ⟨S_, .f32⟩
  | 87 => ⟨S16384x4, .f32⟩
  | 88 => ⟨S16384x4x128, .f32⟩
  | 89 => ⟨S16384x4x128, .f32⟩
  | 90 => ⟨S16384x4x128, .f32⟩
  | 91 => ⟨S16384x4x128, .f32⟩
  | 92 => ⟨S16384x512, .f32⟩
  | 93 => ⟨S16384x512, .f32⟩
  | 94 => ⟨S16384x512, .f32⟩
  | 95 => ⟨S16384x512, .f32⟩
  | 96 => ⟨S16384x512, .f32⟩
  | 97 => ⟨S16384x512, .f32⟩
  | 98 => ⟨S16384x512, .f32⟩
  | 99 => ⟨S16384x512, .f32⟩
  | 100 => ⟨S16384x512, .f32⟩
  | 101 => ⟨S1x128, .f32⟩
  | 102 => ⟨S16384x512, .bf16⟩
  | 103 => ⟨S16384x512, .bf16⟩
  | 104 => ⟨S16384x512, .bf16⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_v7_2 : Ref sig .tc := ⟨.hbm, 24, rfl⟩
abbrev main_call0_cst_1 : Ref sig .tc := ⟨.hbm, 25, rfl⟩
abbrev main_call0_v6 : Ref sig .tc := ⟨.hbm, 26, rfl⟩
abbrev main_call0_v7 : Ref sig .tc := ⟨.hbm, 27, rfl⟩
abbrev main_v7_1 : Ref sig .tc := ⟨.hbm, 28, rfl⟩
abbrev main_v7_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst : Ref sig .tc := ⟨.hbm, 34, rfl⟩
abbrev main_v12 : Ref sig .tc := ⟨.hbm, 35, rfl⟩
abbrev main_v13 : Ref sig .tc := ⟨.hbm, 36, rfl⟩
abbrev main_cst_0 : Ref sig .tc := ⟨.hbm, 37, rfl⟩
abbrev main_v14 : Ref sig .tc := ⟨.hbm, 38, rfl⟩
abbrev main_v15 : Ref sig .tc := ⟨.hbm, 39, rfl⟩
abbrev main_cst_1 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_2 : Ref sig .tc := ⟨.hbm, 46, rfl⟩
abbrev main_v21 : Ref sig .tc := ⟨.hbm, 47, rfl⟩
abbrev main_v22 : Ref sig .tc := ⟨.hbm, 48, rfl⟩
abbrev main_cst_3 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_4 : Ref sig .tc := ⟨.hbm, 55, rfl⟩
abbrev main_v28 : Ref sig .tc := ⟨.hbm, 56, rfl⟩
abbrev main_v29 : Ref sig .tc := ⟨.hbm, 57, rfl⟩
abbrev main_cst_5 : Ref sig .tc := ⟨.hbm, 58, rfl⟩
abbrev main_v30 : Ref sig .tc := ⟨.hbm, 59, rfl⟩
abbrev main_v31 : Ref sig .tc := ⟨.hbm, 60, rfl⟩
abbrev main_cst_6 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_7 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_8 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_call1_v0 : Ref sig .tc := ⟨.hbm, 79, rfl⟩
abbrev main_call1_v1 : Ref sig .tc := ⟨.hbm, 80, rfl⟩
abbrev main_call1_cst : Ref sig .tc := ⟨.hbm, 81, rfl⟩
abbrev main_call1_v2 : Ref sig .tc := ⟨.hbm, 82, rfl⟩
abbrev main_call1_v3 : Ref sig .tc := ⟨.hbm, 83, rfl⟩
abbrev main_call1_cst_0 : Ref sig .tc := ⟨.hbm, 84, rfl⟩
abbrev main_call1_v4 : Ref sig .tc := ⟨.hbm, 85, rfl⟩
abbrev main_v47_2 : Ref sig .tc := ⟨.hbm, 86, rfl⟩
abbrev main_call1_cst_1 : Ref sig .tc := ⟨.hbm, 87, rfl⟩
abbrev main_call1_v6 : Ref sig .tc := ⟨.hbm, 88, rfl⟩
abbrev main_call1_v7 : Ref sig .tc := ⟨.hbm, 89, rfl⟩
abbrev main_v47_1 : Ref sig .tc := ⟨.hbm, 90, rfl⟩
abbrev main_v47_0 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_cst_9 : Ref sig .tc := ⟨.hbm, 99, rfl⟩
abbrev main_v55 : Ref sig .tc := ⟨.hbm, 100, rfl⟩
abbrev main_v56 : Ref sig .tc := ⟨.hbm, 101, rfl⟩
abbrev main_cst_10 : Ref sig .tc := ⟨.hbm, 102, rfl⟩
abbrev main_v57 : Ref sig .tc := ⟨.hbm, 103, rfl⟩
abbrev main_v58 : Ref sig .tc := ⟨.hbm, 104, rfl⟩
abbrev main_cst_11 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_cst_12 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_cst_13 : Ref sig .tc := ⟨.hbm, 119, rfl⟩
abbrev main_v71 : Ref sig .tc := ⟨.hbm, 120, rfl⟩
abbrev main_v72 : Ref sig .tc := ⟨.hbm, 121, rfl⟩
abbrev main_cst_14 : Ref sig .tc := ⟨.hbm, 122, rfl⟩
abbrev main_v73 : Ref sig .tc := ⟨.hbm, 123, rfl⟩
abbrev main_cst_15 : Ref sig .tc := ⟨.hbm, 124, rfl⟩
abbrev main_v74 : Ref sig .tc := ⟨.hbm, 125, rfl⟩
abbrev main_v75 : Ref sig .tc := ⟨.hbm, 126, rfl⟩
abbrev main_cst_16 : Ref sig .tc := ⟨.hbm, 127, rfl⟩
abbrev main_v76 : Ref sig .tc := ⟨.hbm, 128, rfl⟩
abbrev main_cst_17 : Ref sig .tc := ⟨.hbm, 129, rfl⟩
abbrev main_v77 : Ref sig .tc := ⟨.hbm, 130, rfl⟩
abbrev main_cst_18 : Ref sig .tc := ⟨.hbm, 131, rfl⟩
abbrev main_cst_19 : Ref sig .tc := ⟨.hbm, 132, rfl⟩
abbrev main_v78 : Ref sig .tc := ⟨.hbm, 133, rfl⟩
abbrev main_v79 : Ref sig .tc := ⟨.hbm, 134, rfl⟩
abbrev main_cst_20 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_cst_21 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_cst_22 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_cst_23 : Ref sig .tc := ⟨.hbm, 153, rfl⟩
abbrev main_v95 : Ref sig .tc := ⟨.hbm, 154, rfl⟩
abbrev main_v96 : Ref sig .tc := ⟨.hbm, 155, rfl⟩
abbrev main_cst_24 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_cst_25 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_call2_v0 : Ref sig .tc := ⟨.hbm, 176, rfl⟩
abbrev main_call2_v1 : Ref sig .tc := ⟨.hbm, 177, rfl⟩
abbrev main_call2_v2 : Ref sig .tc := ⟨.hbm, 178, rfl⟩
abbrev main_v115 : Ref sig .tc := ⟨.hbm, 179, rfl⟩
abbrev main_v116 : Ref sig .tc := ⟨.hbm, 180, rfl⟩
abbrev main_cst_26 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_cst_27 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_cst_28 : Ref sig .tc := ⟨.hbm, 195, rfl⟩
abbrev main_v129 : Ref sig .tc := ⟨.hbm, 196, rfl⟩
abbrev main_v130 : Ref sig .tc := ⟨.hbm, 197, rfl⟩
abbrev main_cst_29 : Ref sig .tc := ⟨.hbm, 198, rfl⟩
abbrev main_v131 : Ref sig .tc := ⟨.hbm, 199, rfl⟩
abbrev main_v132 : Ref sig .tc := ⟨.hbm, 200, rfl⟩
abbrev main_cst_30 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_cst_31 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_cst_32 : Ref sig .tc := ⟨.hbm, 211, rfl⟩
abbrev main_v141 : Ref sig .tc := ⟨.hbm, 212, rfl⟩
abbrev main_v142 : Ref sig .tc := ⟨.hbm, 213, rfl⟩
abbrev main_cst_33 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_call3_v0 : Ref sig .tc := ⟨.hbm, 225, rfl⟩
abbrev main_call3_v1 : Ref sig .tc := ⟨.hbm, 226, rfl⟩
abbrev main_call3_v2 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩

abbrev nD : Nat := 1
abbrev τ : Topo := Topo.v7x

variable {F : FTy → Type} [FloatOps F]
-- ==== Kernel4.lean ====
abbrev S8x1024 : Shape := ⟨2, ![8, 1024]⟩
abbrev S1024x768 : Shape := ⟨2, ![1024, 768]⟩
abbrev S1x768 : Shape := ⟨2, ![1, 768]⟩
abbrev S8x768 : Shape := ⟨2, ![8, 768]⟩

abbrev nBuf : Space → Nat
  | .hbm => 5
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S1x768, .f32⟩
  | .hbm, ⟨3, _⟩ => ⟨S8x768, .f32⟩
  | .hbm, ⟨4, _⟩ => ⟨S1024x768, .f32⟩
  | .local _ .vmem, ⟨0, _⟩ => ⟨S8x1024, .f32⟩
  | .local _ .vmem, ⟨1, _⟩ => ⟨S8x768, .f32⟩
  | .local _ .vmem, ⟨2, _⟩ => ⟨S1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference4Ideal.lean ====
abbrev S8x1024 : Shape := ⟨2, ![8, 1024]⟩
abbrev S1024x768 : Shape := ⟨2, ![1024, 768]⟩
abbrev S1x768 : Shape := ⟨2, ![1, 768]⟩
abbrev S8x768 : Shape := ⟨2, ![8, 768]⟩
abbrev S_ : Shape := ⟨0, ![]⟩
abbrev S768x1024 : Shape := ⟨2, ![768, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S1x768, .f32⟩
  | .hbm, ⟨3, _⟩ => ⟨S8x768, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x768, .f32⟩
  | .hbm, ⟨14, _⟩ => ⟨S8x768, .f32⟩
  | .hbm, ⟨15, _⟩ => ⟨S8x768, .f32⟩
  | .hbm, ⟨16, _⟩ => ⟨S768x1024, .f32⟩
  | .hbm, ⟨17, _⟩ => ⟨S1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== Kernel5.lean ====
abbrev S8x24x1024 : Shape := ⟨3, ![8, 24, 1024]⟩
abbrev S24x1024 : Shape := ⟨2, ![24, 1024]⟩
abbrev S8x8x1024 : Shape := ⟨3, ![8, 8, 1024]⟩
abbrev S8x1024 : Shape := ⟨2, ![8, 1024]⟩
abbrev S1x8x1024 : Shape := ⟨3, ![1, 8, 1024]⟩
abbrev S3x1024 : Shape := ⟨2, ![3, 1024]⟩
abbrev S1x3072 : Shape := ⟨2, ![1, 3072]⟩
abbrev S1x1024 : Shape := ⟨2, ![1, 1024]⟩
abbrev S5x1024 : Shape := ⟨2, ![5, 1024]⟩
abbrev S5120 : Shape := ⟨1, ![5120]⟩
abbrev S4624 : Shape := ⟨1, ![4624]⟩
abbrev S1x4624 : Shape := ⟨2, ![1, 4624]⟩
abbrev S4x1024 : Shape := ⟨2, ![4, 1024]⟩
abbrev S4096 : Shape := ⟨1, ![4096]⟩
abbrev S3720 : Shape := ⟨1, ![3720]⟩
abbrev S1x8x15x31 : Shape := ⟨4, ![1, 8, 15, 31]⟩
abbrev S1x512 : Shape := ⟨2, ![1, 512]⟩
abbrev S1024 : Shape := ⟨1, ![1024]⟩
abbrev S1 : Shape := ⟨1, ![1]⟩
abbrev S_ : Shape := ⟨0, ![]⟩

abbrev nBuf : Space → Nat
  | .hbm => 22
  | .vmem => 4
  | .smem => 0
  | _ => 0

abbrev bufTy : (tb : Table) → Fin (tcTables nBuf tb) → BufTy
  | .hbm, ⟨0, _⟩ => ⟨S8x24x1024, .f32⟩
  | .hbm, ⟨1, _⟩ => ⟨S24x1024, .f32⟩
  | .hbm, ⟨2, _⟩ => ⟨S3x1024, .f32⟩
  | .hbm, ⟨3, _⟩ => ⟨S1x3072, .f32⟩
  | .hbm, ⟨4, _⟩ => ⟨S1x1024, .f32⟩
  | .hbm, ⟨5, _⟩ => ⟨S5x1024, .f32⟩
  | .hbm, ⟨6, _⟩ => ⟨S5120, .f32⟩
  | .hbm, ⟨7, _⟩ => ⟨S4624, .f32⟩
  | .hbm, ⟨8, _⟩ => ⟨S1x4624, .f32⟩
  | .hbm, ⟨9, _⟩ => ⟨S5x1024, .f32⟩
  | .hbm, ⟨10, _⟩ => ⟨S1x1024, .f32⟩
  | .hbm, ⟨11, _⟩ => ⟨S4x1024, .f32⟩
  | .hbm, ⟨12, _⟩ => ⟨S4096, .f32⟩
  | .hbm, ⟨13, _⟩ => ⟨S3720, .f32⟩
  | .hbm, ⟨14, _⟩ => ⟨S1x8x15x31, .f32⟩
  | .hbm, ⟨15, _⟩ => ⟨S1x512, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1, .f32⟩
  | .hbm, ⟨21, _⟩ => ⟨S_, .f32⟩
  | .local _ .vmem, ⟨0, _⟩ => ⟨S8x8x1024, .f32⟩
  | .local _ .vmem, ⟨1, _⟩ => ⟨S8x8x1024, .f32⟩
  | .local _ .vmem, ⟨2, _⟩ => ⟨S8x1024, .f32⟩
  | .local _ .vmem, ⟨3, _⟩ => ⟨S8x1024, .f32⟩
  | _, _ => ⟨S8x24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference5Ideal.lean ====
abbrev S8x24x1024 : Shape := ⟨3, ![8, 24, 1024]⟩
abbrev S_ : Shape := ⟨0, ![]⟩
abbrev S24x1024 : Shape := ⟨2, ![24, 1024]⟩
abbrev S1x1024 : Shape := ⟨2, ![1, 1024]⟩
abbrev S1024 : Shape := ⟨1, ![1024]⟩
abbrev S1 : Shape := ⟨1, ![1]⟩
abbrev S3x1024 : Shape := ⟨2, ![3, 1024]⟩
abbrev S1x3072 : Shape := ⟨2, ![1, 3072]⟩
abbrev S5x1024 : Shape := ⟨2, ![5, 1024]⟩
abbrev S5120 : Shape := ⟨1, ![5120]⟩
abbrev S4624 : Shape := ⟨1, ![4624]⟩
abbrev S1x4624 : Shape := ⟨2, ![1, 4624]⟩
abbrev S4x1024 : Shape := ⟨2, ![4, 1024]⟩
abbrev S4096 : Shape := ⟨1, ![4096]⟩
abbrev S3720 : Shape := ⟨1, ![3720]⟩
abbrev S1x8x15x31 : Shape := ⟨4, ![1, 8, 15, 31]⟩
abbrev S1x512 : Shape := ⟨2, ![1, 512]⟩

abbrev nBuf : Space → Nat
  | .hbm => 23
  | .vmem => 0
  | .smem => 0
  | _ => 0

abbrev bufTy : (tb : Table) → Fin (tcTables nBuf tb) → BufTy
  | .hbm, ⟨0, _⟩ => ⟨S8x24x1024, .f32⟩
  | .hbm, ⟨1, _⟩ => ⟨S_, .f32⟩
  | .hbm, ⟨2, _⟩ => ⟨S24x1024, .f32⟩
  | .hbm, ⟨3, _⟩ => ⟨S1x1024, .f32⟩
  | .hbm, ⟨4, _⟩ => ⟨S1024, .f32⟩
  | .hbm, ⟨5, _⟩ => ⟨S1, .f32⟩
  | .hbm, ⟨6, _⟩ => ⟨S_, .f32⟩
  | .hbm, ⟨7, _⟩ => ⟨S3x1024, .f32⟩
  | .hbm, ⟨8, _⟩ => ⟨S1x3072, .f32⟩
  | .hbm, ⟨9, _⟩ => ⟨S1x1024, .f32⟩
  | .hbm, ⟨10, _⟩ => ⟨S5x1024, .f32⟩
  | .hbm, ⟨11, _⟩ => ⟨S5120, .f32⟩
  | .hbm, ⟨12, _⟩ => ⟨S4624, .f32⟩
  | .hbm, ⟨13, _⟩ => ⟨S1x4624, .f32⟩
  | .hbm, ⟨14, _⟩ => ⟨S5x1024, .f32⟩
  | .hbm, ⟨15, _⟩ => ⟨S1x1024, .f32⟩
  | .hbm, ⟨16, _⟩ => ⟨S4x1024, .f32⟩
  | .hbm, ⟨17, _⟩ => ⟨S4096, .f32⟩
  | .hbm, ⟨18, _⟩ => ⟨S3720, .f32⟩
  | .hbm, ⟨19, _⟩ => ⟨S1x8x15x31, .f32⟩
  | .hbm, ⟨20, _⟩ => ⟨S1x512, .f32⟩
  | .hbm, ⟨21, _⟩ => ⟨S1x1024, .f32⟩
  | .hbm, ⟨22, _⟩ => ⟨S1024, .f32⟩
  | _, _ => ⟨S8x24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩

abbrev nD : Nat := 1
abbrev τ : Topo := Topo.v7x

variable {F : FTy → Type} [FloatOps F]
-- ==== Kernel6.lean ====
abbrev S1024x768 : Shape := ⟨2, ![1024, 768]⟩
abbrev S512x768 : Shape := ⟨2, ![512, 768]⟩

abbrev nBuf : Space → Nat
  | .hbm => 7
  | .vmem => 14
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S1024x768 : Shape := ⟨2, ![1024, 768]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Kernel7.lean ====
abbrev S1x3072 : Shape := ⟨2, ![1, 3072]⟩

abbrev nBuf : Space → Nat
  | .hbm => 7
  | .vmem => 7
  | .smem => 0
  | _ => 0

abbrev bufTy : (tb : Table) → Fin (tcTables nBuf tb) → BufTy
  | .hbm, ⟨0, _⟩ => ⟨S1x3072, .f32⟩
  | .hbm, ⟨1, _⟩ => ⟨S1x3072, .f32⟩
  | .hbm, ⟨2, _⟩ => ⟨S1x3072, .f32⟩
  | .hbm, ⟨3, _⟩ => ⟨S1x3072, .f32⟩
  | .hbm, ⟨4, _⟩ => ⟨S1x3072, .f32⟩
  | .hbm, ⟨5, _⟩ => ⟨S1x3072, .f32⟩
  | .hbm, ⟨6, _⟩ => ⟨S1x3072, .f32⟩
  | .local _ .vmem, ⟨0, _⟩ => ⟨S1x3072, .f32⟩
  | .local _ .vmem, ⟨1, _⟩ => ⟨S1x3072, .f32⟩
  | .local _ .vmem, ⟨2, _⟩ => ⟨S1x3072, .f32⟩
  | .local _ .vmem, ⟨3, _⟩ => ⟨S1x3072, .f32⟩
  | .local _ .vmem, ⟨4, _⟩ => ⟨S1x3072, .f32⟩
  | .local _ .vmem, ⟨5, _⟩ => ⟨S1x3072, .f32⟩
  | .local _ .vmem, ⟨6, _⟩ => ⟨S1x3072, .f32⟩
  | _, _ => ⟨S1x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference7Ideal.lean ====
abbrev S1x3072 : Shape := ⟨2, ![1, 3072]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S1x3072, .f32⟩
  | .hbm, ⟨1, _⟩ => ⟨S1x3072, .f32⟩
  | .hbm, ⟨2, _⟩ => ⟨S1x3072, .f32⟩
  | .hbm, ⟨3, _⟩ => ⟨S1x3072, .f32⟩
  | .hbm, ⟨4, _⟩ => ⟨S_, .f32⟩
  | .hbm, ⟨5, _⟩ => ⟨S1x3072, .f32⟩
  | .hbm, ⟨6, _⟩ => ⟨S1x3072, .f32⟩
  | .hbm, ⟨7, _⟩ => ⟨S_, .f32⟩
  | .hbm, ⟨8, _⟩ => ⟨S1x3072, .f32⟩
  | .hbm, ⟨9, _⟩ => ⟨S1x3072, .f32⟩
  | .hbm, ⟨10, _⟩ => ⟨S1x3072, .f32⟩
  | .hbm, ⟨11, _⟩ => ⟨S_, .f32⟩
  | .hbm, ⟨12, _⟩ => ⟨S1x3072, .f32⟩
  | .hbm, ⟨13, _⟩ => ⟨S1x3072, .f32⟩
  | .hbm, ⟨14, _⟩ => ⟨S1x3072, .f32⟩
  | .hbm, ⟨15, _⟩ => ⟨S_, .f32⟩
  | .hbm, ⟨16, _⟩ => ⟨S1x3072, .f32⟩
  | .hbm, ⟨17, _⟩ => ⟨S1x3072, .f32⟩
  | .hbm, ⟨18, _⟩ => ⟨S1x3072, .f32⟩
  | _, _ => ⟨S1x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Kernel8.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S1x1024 : Shape := ⟨2, ![1, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Kernel9.lean ====
abbrev S1x4624 : Shape := ⟨2, ![1, 4624]⟩

abbrev nBuf : Space → Nat
  | .hbm => 7
  | .vmem => 7
  | .smem => 0
  | _ => 0

abbrev bufTy : (tb : Table) → Fin (tcTables nBuf tb) → BufTy
  | .hbm, ⟨0, _⟩ => ⟨S1x4624, .f32⟩
  | .hbm, ⟨1, _⟩ => ⟨S1x4624, .f32⟩
  | .hbm, ⟨2, _⟩ => ⟨S1x4624, .f32⟩
  | .hbm, ⟨3, _⟩ => ⟨S1x4624, .f32⟩
  | .hbm, ⟨4, _⟩ => ⟨S1x4624, .f32⟩
  | .hbm, ⟨5, _⟩ => ⟨S1x4624, .f32⟩
  | .hbm, ⟨6, _⟩ => ⟨S1x4624, .f32⟩
  | .local _ .vmem, ⟨0, _⟩ => ⟨S1x4624, .f32⟩
  | .local _ .vmem, ⟨1, _⟩ => ⟨S1x4624, .f32⟩
  | .local _ .vmem, ⟨2, _⟩ => ⟨S1x4624, .f32⟩
  | .local _ .vmem, ⟨3, _⟩ => ⟨S1x4624, .f32⟩
  | .local _ .vmem, ⟨4, _⟩ => ⟨S1x4624, .f32⟩
  | .local _ .vmem, ⟨5, _⟩ => ⟨S1x4624, .f32⟩
  | .local _ .vmem, ⟨6, _⟩ => ⟨S1x4624, .f32⟩
  | _, _ => ⟨S1x4624, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x4624 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4624 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4624 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4624 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4624 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4624 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4624 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference9Ideal.lean ====
abbrev S1x4624 : Shape := ⟨2, ![1, 4624]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S1x4624, .f32⟩
  | .hbm, ⟨1, _⟩ => ⟨S1x4624, .f32⟩
  | .hbm, ⟨2, _⟩ => ⟨S1x4624, .f32⟩
  | .hbm, ⟨3, _⟩ => ⟨S1x4624, .f32⟩
  | .hbm, ⟨4, _⟩ => ⟨S_, .f32⟩
  | .hbm, ⟨5, _⟩ => ⟨S1x4624, .f32⟩
  | .hbm, ⟨6, _⟩ => ⟨S1x4624, .f32⟩
  | .hbm, ⟨7, _⟩ => ⟨S_, .f32⟩
  | .hbm, ⟨8, _⟩ => ⟨S1x4624, .f32⟩
  | .hbm, ⟨9, _⟩ => ⟨S1x4624, .f32⟩
  | .hbm, ⟨10, _⟩ => ⟨S1x4624, .f32⟩
  | .hbm, ⟨11, _⟩ => ⟨S_, .f32⟩
  | .hbm, ⟨12, _⟩ => ⟨S1x4624, .f32⟩
  | .hbm, ⟨13, _⟩ => ⟨S1x4624, .f32⟩
  | .hbm, ⟨14, _⟩ => ⟨S1x4624, .f32⟩
  | .hbm, ⟨15, _⟩ => ⟨S_, .f32⟩
  | .hbm, ⟨16, _⟩ => ⟨S1x4624, .f32⟩
  | .hbm, ⟨17, _⟩ => ⟨S1x4624, .f32⟩
  | .hbm, ⟨18, _⟩ => ⟨S1x4624, .f32⟩
  | _, _ => ⟨S1x4624, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Kernel10.lean ====
abbrev S5x256 : Shape := ⟨2, ![5, 256]⟩

abbrev nBuf : Space → Nat
  | .hbm => 7
  | .vmem => 7
  | .smem => 0
  | _ => 0

abbrev bufTy : (tb : Table) → Fin (tcTables nBuf tb) → BufTy
  | .hbm, ⟨0, _⟩ => ⟨S5x256, .f32⟩
  | .hbm, ⟨1, _⟩ => ⟨S5x256, .f32⟩
  | .hbm, ⟨2, _⟩ => ⟨S5x256, .f32⟩
  | .hbm, ⟨3, _⟩ => ⟨S5x256, .f32⟩
  | .hbm, ⟨4, _⟩ => ⟨S5x256, .f32⟩
  | .hbm, ⟨5, _⟩ => ⟨S5x256, .f32⟩
  | .hbm, ⟨6, _⟩ => ⟨S5x256, .f32⟩
  | .local _ .vmem, ⟨0, _⟩ => ⟨S5x256, .f32⟩
  | .local _ .vmem, ⟨1, _⟩ => ⟨S5x256, .f32⟩
  | .local _ .vmem, ⟨2, _⟩ => ⟨S5x256, .f32⟩
  | .local _ .vmem, ⟨3, _⟩ => ⟨S5x256, .f32⟩
  | .local _ .vmem, ⟨4, _⟩ => ⟨S5x256, .f32⟩
  | .local _ .vmem, ⟨5, _⟩ => ⟨S5x256, .f32⟩
  | .local _ .vmem, ⟨6, _⟩ => ⟨S5x256, .f32⟩
  | _, _ => ⟨S5x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S5x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S5x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference10Ideal.lean ====
abbrev S5x256 : Shape := ⟨2, ![5, 256]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S5x256, .f32⟩
  | .hbm, ⟨1, _⟩ => ⟨S5x256, .f32⟩
  | .hbm, ⟨2, _⟩ => ⟨S5x256, .f32⟩
  | .hbm, ⟨3, _⟩ => ⟨S5x256, .f32⟩
  | .hbm, ⟨4, _⟩ => ⟨S_, .f32⟩
  | .hbm, ⟨5, _⟩ => ⟨S5x256, .f32⟩
  | .hbm, ⟨6, _⟩ => ⟨S5x256, .f32⟩
  | .hbm, ⟨7, _⟩ => ⟨S_, .f32⟩
  | .hbm, ⟨8, _⟩ => ⟨S5x256, .f32⟩
  | .hbm, ⟨9, _⟩ => ⟨S5x256, .f32⟩
  | .hbm, ⟨10, _⟩ => ⟨S5x256, .f32⟩
  | .hbm, ⟨11, _⟩ => ⟨S_, .f32⟩
  | .hbm, ⟨12, _⟩ => ⟨S5x256, .f32⟩
  | .hbm, ⟨13, _⟩ => ⟨S5x256, .f32⟩
  | .hbm, ⟨14, _⟩ => ⟨S5x256, .f32⟩
  | .hbm, ⟨15, _⟩ => ⟨S_, .f32⟩
  | .hbm, ⟨16, _⟩ => ⟨S5x256, .f32⟩
  | .hbm, ⟨17, _⟩ => ⟨S5x256, .f32⟩
  | .hbm, ⟨18, _⟩ => ⟨S5x256, .f32⟩
  | _, _ => ⟨S5x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Kernel11.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference11Ideal.lean ====
abbrev S1x1024 : Shape := ⟨2, ![1, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Kernel12.lean ====
abbrev S8x465 : Shape := ⟨2, ![8, 465]⟩

abbrev nBuf : Space → Nat
  | .hbm => 7
  | .vmem => 7
  | .smem => 0
  | _ => 0

abbrev bufTy : (tb : Table) → Fin (tcTables nBuf tb) → BufTy
  | .hbm, ⟨0, _⟩ => ⟨S8x465, .f32⟩
  | .hbm, ⟨1, _⟩ => ⟨S8x465, .f32⟩
  | .hbm, ⟨2, _⟩ => ⟨S8x465, .f32⟩
  | .hbm, ⟨3, _⟩ => ⟨S8x465, .f32⟩
  | .hbm, ⟨4, _⟩ => ⟨S8x465, .f32⟩
  | .hbm, ⟨5, _⟩ => ⟨S8x465, .f32⟩
  | .hbm, ⟨6, _⟩ => ⟨S8x465, .f32⟩
  | .local _ .vmem, ⟨0, _⟩ => ⟨S8x465, .f32⟩
  | .local _ .vmem, ⟨1, _⟩ => ⟨S8x465, .f32⟩
  | .local _ .vmem, ⟨2, _⟩ => ⟨S8x465, .f32⟩
  | .local _ .vmem, ⟨3, _⟩ => ⟨S8x465, .f32⟩
  | .local _ .vmem, ⟨4, _⟩ => ⟨S8x465, .f32⟩
  | .local _ .vmem, ⟨5, _⟩ => ⟨S8x465, .f32⟩
  | .local _ .vmem, ⟨6, _⟩ => ⟨S8x465, .f32⟩
  | _, _ => ⟨S8x465, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x465 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x465 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x465 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x465 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x465 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x465 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x465 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference12Ideal.lean ====
abbrev S8x465 : Shape := ⟨2, ![8, 465]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8x465, .f32⟩
  | .hbm, ⟨1, _⟩ => ⟨S8x465, .f32⟩
  | .hbm, ⟨2, _⟩ => ⟨S8x465, .f32⟩
  | .hbm, ⟨3, _⟩ => ⟨S8x465, .f32⟩
  | .hbm, ⟨4, _⟩ => ⟨S_, .f32⟩
  | .hbm, ⟨5, _⟩ => ⟨S8x465, .f32⟩
  | .hbm, ⟨6, _⟩ => ⟨S8x465, .f32⟩
  | .hbm, ⟨7, _⟩ => ⟨S_, .f32⟩
  | .hbm, ⟨8, _⟩ => ⟨S8x465, .f32⟩
  | .hbm, ⟨9, _⟩ => ⟨S8x465, .f32⟩
  | .hbm, ⟨10, _⟩ => ⟨S8x465, .f32⟩
  | .hbm, ⟨11, _⟩ => ⟨S_, .f32⟩
  | .hbm, ⟨12, _⟩ => ⟨S8x465, .f32⟩
  | .hbm, ⟨13, _⟩ => ⟨S8x465, .f32⟩
  | .hbm, ⟨14, _⟩ => ⟨S8x465, .f32⟩
  | .hbm, ⟨15, _⟩ => ⟨S_, .f32⟩
  | .hbm, ⟨16, _⟩ => ⟨S8x465, .f32⟩
  | .hbm, ⟨17, _⟩ => ⟨S8x465, .f32⟩
  | .hbm, ⟨18, _⟩ => ⟨S8x465, .f32⟩
  | _, _ => ⟨S8x465, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Kernel13.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference13Ideal.lean ====
abbrev S1x512 : Shape := ⟨2, ![1, 512]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Kernel14.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference14Ideal.lean ====
abbrev S256x1024 : Shape := ⟨2, ![256, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Kernel15.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference15Ideal.lean ====
abbrev S1x1024 : Shape := ⟨2, ![1, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Kernel16.lean ====
abbrev S1024x1156 : Shape := ⟨2, ![1024, 1156]⟩
abbrev S1156x1024 : Shape := ⟨2, ![1156, 1024]⟩
abbrev S1156x128 : Shape := ⟨2, ![1156, 128]⟩

abbrev nBuf : Space → Nat
  | .hbm => 12
  | .vmem => 14
  | .smem => 0
  | _ => 0

abbrev bufTy : (tb : Table) → Fin (tcTables nBuf tb) → BufTy
  | .hbm, ⟨0, _⟩ => ⟨S1024x1156, .f32⟩
  | .hbm, ⟨1, _⟩ => ⟨S1156x1024, .f32⟩
  | .hbm, ⟨2, _⟩ => ⟨S1024x1156, .f32⟩
  | .hbm, ⟨3, _⟩ => ⟨S1024x1156, .f32⟩
  | .hbm, ⟨4, _⟩ => ⟨S1156x1024, .f32⟩
  | .hbm, ⟨5, _⟩ => ⟨S1156x1024, .f32⟩
  | .hbm, ⟨6, _⟩ => ⟨S1156x1024, .f32⟩
  | .hbm, ⟨7, _⟩ => ⟨S1156x1024, .f32⟩
  | .hbm, ⟨8, _⟩ => ⟨S1156x1024, .f32⟩
  | .hbm, ⟨9, _⟩ => ⟨S1156x1024, .f32⟩
  | .hbm, ⟨10, _⟩ => ⟨S1024x1156, .f32⟩
  | .hbm, ⟨11, _⟩ => ⟨S1024x1156, .f32⟩
  | .local _ .vmem, ⟨0, _⟩ => ⟨S1156x128, .f32⟩
  | .local _ .vmem, ⟨1, _⟩ => ⟨S1156x128, .f32⟩
  | .local _ .vmem, ⟨2, _⟩ => ⟨S1156x128, .f32⟩
  | .local _ .vmem, ⟨3, _⟩ => ⟨S1156x128, .f32⟩
  | .local _ .vmem, ⟨4, _⟩ => ⟨S1156x128, .f32⟩
  | .local _ .vmem, ⟨5, _⟩ => ⟨S1156x128, .f32⟩
  | .local _ .vmem, ⟨6, _⟩ => ⟨S1156x128, .f32⟩
  | .local _ .vmem, ⟨7, _⟩ => ⟨S1156x128, .f32⟩
  | .local _ .vmem, ⟨8, _⟩ => ⟨S1156x128, .f32⟩
  | .local _ .vmem, ⟨9, _⟩ => ⟨S1156x128, .f32⟩
  | .local _ .vmem, ⟨10, _⟩ => ⟨S1156x128, .f32⟩
  | .local _ .vmem, ⟨11, _⟩ => ⟨S1156x128, .f32⟩
  | .local _ .vmem, ⟨12, _⟩ => ⟨S1156x128, .f32⟩
  | .local _ .vmem, ⟨13, _⟩ => ⟨S1156x128, .f32⟩
  | _, _ => ⟨S1024x1156, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1156x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1156x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1156x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1156x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1156x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1156x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1156x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S1024x1156 : Shape := ⟨2, ![1024, 1156]⟩
abbrev S1156x1024 : Shape := ⟨2, ![1156, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1024x1156, .f32⟩
  | .hbm, ⟨1, _⟩ => ⟨S1156x1024, .f32⟩
  | .hbm, ⟨2, _⟩ => ⟨S1024x1156, .f32⟩
  | .hbm, ⟨3, _⟩ => ⟨S1024x1156, .f32⟩
  | .hbm, ⟨4, _⟩ => ⟨S1024x1156, .f32⟩
  | .hbm, ⟨5, _⟩ => ⟨S_, .f32⟩
  | .hbm, ⟨6, _⟩ => ⟨S1024x1156, .f32⟩
  | .hbm, ⟨7, _⟩ => ⟨S1024x1156, .f32⟩
  | .hbm, ⟨8, _⟩ => ⟨S_, .f32⟩
  | .hbm, ⟨9, _⟩ => ⟨S1024x1156, .f32⟩
  | .hbm, ⟨10, _⟩ => ⟨S1024x1156, .f32⟩
  | .hbm, ⟨11, _⟩ => ⟨S1024x1156, .f32⟩
  | .hbm, ⟨12, _⟩ => ⟨S_, .f32⟩
  | .hbm, ⟨13, _⟩ => ⟨S1024x1156, .f32⟩
  | .hbm, ⟨14, _⟩ => ⟨S1024x1156, .f32⟩
  | .hbm, ⟨15, _⟩ => ⟨S1024x1156, .f32⟩
  | .hbm, ⟨16, _⟩ => ⟨S_, .f32⟩
  | .hbm, ⟨17, _⟩ => ⟨S1024x1156, .f32⟩
  | .hbm, ⟨18, _⟩ => ⟨S1024x1156, .f32⟩
  | .hbm, ⟨19, _⟩ => ⟨S1024x1156, .f32⟩
  | _, _ => ⟨S1024x1156, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]
-- ==== Proof.InPay.lean ====
/- The stored values of the projection's backward body, read at one index: what each payload computes over the
   extended reals, as sums and products of the values it is given. -/
module

public import Idealize.ShloMosaic.Lib.Pipeline.ValueKit
public import proofs.«01_k».proof.Proof.Gen.KernelIdeal.Skeleton

@[expose] public section

set_option maxRecDepth 16384

noncomputable section

namespace Cert.InBwd

open Cert.KernelIdeal Cert.KernelIdeal.Gen Idealize.ShloMosaic Idealize.ShloMosaic.TcCoe Idealize.SL.Sem

/-- The word of one. -/
theorem one_bits : Ideal.ofBits FTy.f32 0x3F800000#32 = (1 : EReal) := by
  simp [Ideal.ofBits, Ideal.ieee, -EReal.coe_mul]; norm_num

/-- The zero fill of the first point. -/
theorem p41  (y : S1024x4736.Idx) :
    k0_pay41 (F := Ideal) y = 0 := by
  pointwise [k0_pay41]

theorem p42  (y : S1x4736.Idx) :
    k0_pay42 (F := Ideal) y = 0 := by
  pointwise [k0_pay42]

theorem p43  (y : S1x1024.Idx) :
    k0_pay43 (F := Ideal) y = 0 := by
  pointwise [k0_pay43]

theorem p44  (y : S1x1024.Idx) :
    k0_pay44 (F := Ideal) y = 0 := by
  pointwise [k0_pay44]

theorem p45  (y : S1x1024.Idx) :
    k0_pay45 (F := Ideal) y = 0 := by
  pointwise [k0_pay45]

/-- The weight gradient's accumulator: one piece's columns take this block's rows. -/
theorem p51 (h : FVec Ideal S512x1024 .bf16) (p : Vec Ideal S512x512 .bf16) (a : Vec Ideal S1024x512 .f32) (y : S1024x512.Idx) :
    k0_pay51 (F := Ideal) h p a y = a y + ∑ r : Fin 512, h (ix2 r (y 0)) * p (ix2 r (y 1)) := by
  pointwise [k0_pay51]

theorem p54 (h : FVec Ideal S512x1024 .bf16) (p : Vec Ideal S512x512 .bf16) (a : Vec Ideal S1024x512 .f32) (y : S1024x512.Idx) :
    k0_pay54 (F := Ideal) h p a y = a y + ∑ r : Fin 512, h (ix2 r (y 0)) * p (ix2 r (y 1)) := by
  pointwise [k0_pay54]

theorem p56 (h : FVec Ideal S512x1024 .bf16) (p : Vec Ideal S512x512 .bf16) (a : Vec Ideal S1024x512 .f32) (y : S1024x512.Idx) :
    k0_pay56 (F := Ideal) h p a y = a y + ∑ r : Fin 512, h (ix2 r (y 0)) * p (ix2 r (y 1)) := by
  pointwise [k0_pay56]

theorem p59 (h : FVec Ideal S512x1024 .bf16) (p : Vec Ideal S512x512 .bf16) (a : Vec Ideal S1024x512 .f32) (y : S1024x512.Idx) :
    k0_pay59 (F := Ideal) h p a y = a y + ∑ r : Fin 512, h (ix2 r (y 0)) * p (ix2 r (y 1)) := by
  pointwise [k0_pay59]

theorem p63 (h : FVec Ideal S512x1024 .bf16) (p : Vec Ideal S512x1024 .bf16) (a : Vec Ideal S1024x1024 .f32) (y : S1024x1024.Idx) :
    k0_pay63 (F := Ideal) h p a y = a y + ∑ r : Fin 512, h (ix2 r (y 0)) * p (ix2 r (y 1)) := by
  pointwise [k0_pay63]

theorem p66 (h : FVec Ideal S512x1024 .bf16) (p : Vec Ideal S512x512 .bf16) (a : Vec Ideal S1024x512 .f32) (y : S1024x512.Idx) :
    k0_pay66 (F := Ideal) h p a y = a y + ∑ r : Fin 512, h (ix2 r (y 0)) * p (ix2 r (y 1)) := by
  pointwise [k0_pay66]

theorem p68 (h : FVec Ideal S512x1024 .bf16) (p : Vec Ideal S512x512 .bf16) (a : Vec Ideal S1024x512 .f32) (y : S1024x512.Idx) :
    k0_pay68 (F := Ideal) h p a y = a y + ∑ r : Fin 512, h (ix2 r (y 0)) * p (ix2 r (y 1)) := by
  pointwise [k0_pay68]

theorem p71 (h : FVec Ideal S512x1024 .bf16) (p : Vec Ideal S512x512 .bf16) (a : Vec Ideal S1024x512 .f32) (y : S1024x512.Idx) :
    k0_pay71 (F := Ideal) h p a y = a y + ∑ r : Fin 512, h (ix2 r (y 0)) * p (ix2 r (y 1)) := by
  pointwise [k0_pay71]

theorem p76 (h : FVec Ideal S512x1024 .bf16) (p : Vec Ideal S512x128 .f32) (a : Vec Ideal S1024x128 .f32) (y : S1024x128.Idx) :
    k0_pay76 (F := Ideal) h p a y = a y + ∑ r : Fin 512, h (ix2 r (y 0)) * p (ix2 r (y 1)) := by
  pointwise [k0_pay76, k0_pay74, k0_pay73]

/-- The bias gradient: one piece's columns take this block's rows. -/
theorem p52 (p : Vec Ideal S512x512 .bf16) (a : Vec Ideal S1x512 .f32) (y : S1x512.Idx) :
    k0_pay52 (F := Ideal) p a y = a y + ∑ r : Fin 512, p (ix2 r (y 1)) := by
  pointwise [k0_pay52]

theorem p55 (p : Vec Ideal S512x512 .bf16) (a : Vec Ideal S1x512 .f32) (y : S1x512.Idx) :
    k0_pay55 (F := Ideal) p a y = a y + ∑ r : Fin 512, p (ix2 r (y 1)) := by
  pointwise [k0_pay55]

theorem p57 (p : Vec Ideal S512x512 .bf16) (a : Vec Ideal S1x512 .f32) (y : S1x512.Idx) :
    k0_pay57 (F := Ideal) p a y = a y + ∑ r : Fin 512, p (ix2 r (y 1)) := by
  pointwise [k0_pay57]

theorem p64 (p : Vec Ideal S512x1024 .bf16) (a : Vec Ideal S1x1024 .f32) (y : S1x1024.Idx) :
    k0_pay64 (F := Ideal) p a y = a y + ∑ r : Fin 512, p (ix2 r (y 1)) := by
  pointwise [k0_pay64]

theorem p67 (p : Vec Ideal S512x512 .bf16) (a : Vec Ideal S1x512 .f32) (y : S1x512.Idx) :
    k0_pay67 (F := Ideal) p a y = a y + ∑ r : Fin 512, p (ix2 r (y 1)) := by
  pointwise [k0_pay67]

theorem p69 (p : Vec Ideal S512x512 .bf16) (a : Vec Ideal S1x512 .f32) (y : S1x512.Idx) :
    k0_pay69 (F := Ideal) p a y = a y + ∑ r : Fin 512, p (ix2 r (y 1)) := by
  pointwise [k0_pay69]

theorem p72 (p : Vec Ideal S512x512 .bf16) (a : Vec Ideal S1x512 .f32) (y : S1x512.Idx) :
    k0_pay72 (F := Ideal) p a y = a y + ∑ r : Fin 512, p (ix2 r (y 1)) := by
  pointwise [k0_pay72]

theorem p62 (p : Vec Ideal S512x512 .bf16) (a : Vec Ideal S1x512 .f32) (y : S1x512.Idx) :
    k0_pay62 (F := Ideal) (k0_pay60 (F := Ideal) a) (k0_pay61 (F := Ideal) p) y = a y + ∑ r : Fin 512, p (ix2 r (y 1)) := by
  pointwise [k0_pay62, k0_pay60, k0_pay61]

theorem p77 (p : Vec Ideal S512x128 .f32) (a : Vec Ideal S1x128 .f32) (y : S1x128.Idx) :
    k0_pay77 (F := Ideal) p a y = a y + ∑ r : Fin 512, p (ix2 r (y 1)) := by
  pointwise [k0_pay77, k0_pay73]

/-- One plus the scale. -/
theorem p46 (s : Vec Ideal S1x1024 .f32) (y : S1x1024.Idx) :
    k0_pay46 (F := Ideal) s y = 1 + s y := by
  pointwise [k0_pay46]

/-- The reciprocal root of one row's mean square. -/
def rr (x : Fin 1024 → EReal) : EReal :=
  Ideal.rsqrt (Ideal.div (∑ k, x k * x k) (Ideal.ofBits FTy.f32 1149239296#32) + Ideal.ofBits FTy.f32 897988541#32)

theorem p47 (x : Vec Ideal S512x1024 .f32) (y : S512x1.Idx) :
    k0_pay47 (F := Ideal) x y = rr fun k => x (ix2 (y 0) k) := by
  pointwise [k0_pay47, rr]

theorem p48 (x : Vec Ideal S512x1024 .f32) (y : S512x1024.Idx) :
    k0_pay48 (F := Ideal) x y = x y * rr fun k => x (ix2 (y 0) k) := by
  pointwise [k0_pay48, k0_pay47, rr]

/-- The modulated norm of one block. -/
theorem p49 (n : Vec Ideal S1x1024 .f32) (x : Vec Ideal S512x1024 .f32) (s f : Vec Ideal S1x1024 .f32) (y : S512x1024.Idx) :
    k0_pay49 (F := Ideal) n x s f y = (x y * rr fun k => x (ix2 (y 0) k)) * n (ix2 0 (y 1)) * (1 + s (ix2 0 (y 1))) + f (ix2 0 (y 1)) := by
  pointwise [k0_pay49, k0_pay48, k0_pay47, rr]

theorem p78 (d : FVec Ideal S512x1024 .f32) (a : Vec Ideal S1x1024 .f32) (y : S1x1024.Idx) :
    k0_pay78 (F := Ideal) d a y = a y + ∑ r : Fin 512, d (ix2 r (y 1)) := by
  pointwise [k0_pay78]

theorem p79 (s : Vec Ideal S1x1024 .f32) (g d : FVec Ideal S512x1024 .f32) (a : Vec Ideal S1x1024 .f32) (y : S1x1024.Idx) :
    k0_pay79 (F := Ideal) s g d a y = a y + ∑ r : Fin 512, d (ix2 r (y 1)) * g (ix2 r (y 1)) * s (ix2 0 (y 1)) := by
  pointwise [k0_pay79]

theorem p80 (s : FVec Ideal S1x1024 .f32) (g d : FVec Ideal S512x1024 .f32) (a : Vec Ideal S1x1024 .f32) (y : S1x1024.Idx) :
    k0_pay80 (F := Ideal) s g d a y = a y + ∑ r : Fin 512, d (ix2 r (y 1)) * g (ix2 r (y 1)) * s (ix2 0 (y 1)) := by
  pointwise [k0_pay80]

/-- The block of the gradient of `x`. -/
theorem p81 (n : Vec Ideal S1x1024 .f32) (s : FVec Ideal S1x1024 .f32) (r : FVec Ideal S512x1 .f32) (g d : FVec Ideal S512x1024 .f32) (e : Vec Ideal S512x1024 .f32) (y : S512x1024.Idx) :
    k0_pay81 (F := Ideal) n s r g d e y = e y + r (ix2 (y 0) 0) * (d y * n (ix2 0 (y 1)) * s (ix2 0 (y 1)) - g y * Ideal.div (∑ k : Fin 1024, d (ix2 (y 0) k) * n (ix2 0 k) * s (ix2 0 k) * g (ix2 (y 0) k)) (Ideal.ofBits FTy.f32 1149239296#32)) := by
  pointwise [k0_pay81]

/-- The block of the gradient into the modulated norm: the nine pieces' products, summed. -/
theorem pdh (p0 : Vec Ideal S512x512 .bf16) (w0 : Vec Ideal S512x1024 .bf16) (p1 : Vec Ideal S512x512 .bf16) (w1 : Vec Ideal S512x1024 .bf16) (p2 : Vec Ideal S512x512 .bf16) (w2 : Vec Ideal S512x1024 .bf16) (p3 : Vec Ideal S512x512 .bf16) (w3 : Vec Ideal S512x1024 .bf16) (p4 : Vec Ideal S512x1024 .bf16) (w4 : Vec Ideal S1024x1024 .bf16) (p5 : Vec Ideal S512x512 .bf16) (w5 : Vec Ideal S512x1024 .bf16) (p6 : Vec Ideal S512x512 .bf16) (w6 : Vec Ideal S512x1024 .bf16) (p7 : Vec Ideal S512x512 .bf16) (w7 : Vec Ideal S512x1024 .bf16) (p8 : Vec Ideal S512x128 .f32) (w8 : Vec Ideal S128x1024 .bf16) (y : S512x1024.Idx) :
    (k0_pay75 (F := Ideal) (k0_pay70 (F := Ideal) (k0_pay65 (F := Ideal) (k0_pay58 (F := Ideal) (k0_pay53 (F := Ideal) (k0_pay50 (F := Ideal) p0 w0) p1 w1) p2 w2 p3 w3) p4 w4 p5 w5) p6 w6 p7 w7) p8 w8) y = (∑ k : Fin 512, p0 (ix2 (y 0) k) * w0 (ix2 k (y 1))) + (∑ k : Fin 512, p1 (ix2 (y 0) k) * w1 (ix2 k (y 1))) + (∑ k : Fin 512, p2 (ix2 (y 0) k) * w2 (ix2 k (y 1))) + (∑ k : Fin 512, p3 (ix2 (y 0) k) * w3 (ix2 k (y 1))) + (∑ k : Fin 1024, p4 (ix2 (y 0) k) * w4 (ix2 k (y 1))) + (∑ k : Fin 512, p5 (ix2 (y 0) k) * w5 (ix2 k (y 1))) + (∑ k : Fin 512, p6 (ix2 (y 0) k) * w6 (ix2 k (y 1))) + (∑ k : Fin 512, p7 (ix2 (y 0) k) * w7 (ix2 k (y 1))) + (∑ k : Fin 128, p8 (ix2 (y 0) k) * w8 (ix2 k (y 1))) := by
  pointwise [k0_pay75, k0_pay70, k0_pay65, k0_pay58, k0_pay53, k0_pay50, k0_pay74, k0_pay73]

end Cert.InBwd
-- ==== Proof.NormMath.lean ====
/- Arithmetic on the extended reals: a finite nonnegative factor through a sum, and the input gradient of the
   root-mean-square norm in the kernel's form and in the reference's. -/
module

public import Idealize.ShloMosaic.Lib.Pipeline.ValueKit

@[expose] public section

noncomputable section
open Idealize.ShloMosaic

namespace Cert.NormMath

/-- A nonnegative real factor goes through a sum. -/
theorem coe_mul_add {r : ℝ} (hr : 0 ≤ r) (a b : EReal) : (r : EReal) * (a + b) = r * a + r * b :=
  EReal.left_distrib_of_nonneg_of_ne_top (by exact_mod_cast hr) (EReal.coe_ne_top r) a b

theorem coe_mul_sum {ι : Type*} {r : ℝ} (hr : 0 ≤ r) (s : Finset ι) (f : ι → EReal) :
    (r : EReal) * ∑ k ∈ s, f k = ∑ k ∈ s, (r : EReal) * f k := by
  classical
  induction s using Finset.induction_on with
  | empty => simp
  | insert a s ha ih => rw [Finset.sum_insert ha, Finset.sum_insert ha, coe_mul_add hr, ih]

theorem add_self (z : EReal) : z + z = ((2 : ℝ) : EReal) * z := by
  have h := EReal.right_distrib_of_nonneg (a := 1) (b := 1) (c := z) (by simp) (by simp)
  rw [one_mul] at h
  rw [← h]; congr 1; norm_cast

/-- One row of the norm's input gradient. `r` is the reciprocal root, `ρ` the same as a real; `q` stands for `r / m`. -/
theorem row_real {n : ℕ} (x u : Fin n → EReal) (a : EReal) (ρ κ : ℝ) (hρ : 0 ≤ ρ) (j : Fin n) :
    a + (ρ : EReal) * (u j - x j * ρ * ((∑ k, u k * (x k * ρ)) * (κ : EReal)))
      = ((a + u j * ρ) + x j * (((∑ k, x k * u k) * (((-1 / 2 : ℝ) : EReal) * ((ρ * ρ * ρ : ℝ) : EReal))) * (κ : EReal)))
        + (((∑ k, x k * u k) * (((-1 / 2 : ℝ) : EReal) * ((ρ * ρ * ρ : ℝ) : EReal))) * (κ : EReal)) * x j := by
  have hs : ∑ k, u k * (x k * ρ) = (ρ : EReal) * ∑ k, x k * u k := by
    rw [coe_mul_sum hρ]; exact Finset.sum_congr rfl fun k _ => by
      rw [mul_comm (x k) (ρ : EReal), mul_left_comm, mul_comm (u k)]
  rw [hs]
  generalize (∑ k, x k * u k) = S
  have hneg : S * (((-1 / 2 : ℝ) : EReal) * ((ρ * ρ * ρ : ℝ) : EReal)) * (κ : EReal)
      = -(((1 / 2 * (ρ * ρ * ρ) * κ : ℝ) : EReal) * S) := by
    rw [← EReal.coe_mul, mul_assoc, ← EReal.coe_mul, mul_comm, ← EReal.neg_mul, ← EReal.coe_neg]
    congr 2; ring
  rw [hneg, mul_comm _ (x j), add_assoc, add_self, sub_eq_add_neg, coe_mul_add hρ, mul_comm (u j), add_assoc]
  congr 2
  have h1 : x j * (ρ : EReal) * ((ρ : EReal) * S * (κ : EReal)) = ((ρ * ρ * κ : ℝ) : EReal) * (x j * S) := by
    rw [EReal.coe_mul, EReal.coe_mul]; ac_rfl
  rw [h1, mul_neg, mul_neg, mul_neg, mul_left_comm (x j), ← mul_assoc, ← mul_assoc ((2 : ℝ) : EReal), ← EReal.coe_mul, ← EReal.coe_mul]
  congr 3; ring

/-- The reciprocal root of a sum of a nonnegative mean and a positive real is a nonnegative real `ρ`, and dividing it
    by that sum gives its cube. -/
theorem rsqrt_cube (m : EReal) (hm : 0 < m) :
    ∃ ρ : ℝ, 0 ≤ ρ ∧ Ideal.rsqrt m = (ρ : EReal) ∧ Ideal.div (Ideal.rsqrt m) m = ((ρ * ρ * ρ : ℝ) : EReal) := by
  induction m with
  | bot => simp at hm
  | top =>
    refine ⟨0, le_rfl, by simp, ?_⟩
    rw [Ideal.rsqrt_top]; simp [Ideal.div]
  | coe x =>
    have hx : 0 < x := by exact_mod_cast hm
    have hr : Ideal.rsqrt (x : EReal) = (((Real.sqrt x)⁻¹ : ℝ) : EReal) := by
      rw [Ideal.rsqrt_coe, if_neg (not_lt.mpr hx.le), if_neg hx.ne']
    refine ⟨(Real.sqrt x)⁻¹, by positivity, hr, ?_⟩
    rw [hr, Ideal.div_coe hx.ne', ← EReal.coe_mul]
    congr 1
    have hsq : Real.sqrt x * Real.sqrt x = x := Real.mul_self_sqrt hx.le
    have h2 : (Real.sqrt x)⁻¹ * (Real.sqrt x)⁻¹ = 1 / x := by rw [← mul_inv, hsq, one_div]
    rw [← h2]; ring

theorem sq_nonneg (x : EReal) : 0 ≤ x * x := by
  rcases le_total 0 x with h | h
  · exact mul_nonneg h h
  · have := mul_nonneg (EReal.neg_nonneg.mpr h) (EReal.neg_nonneg.mpr h)
    simpa [EReal.neg_mul, mul_comm] using this

/-- The mean square plus a positive real is positive. -/
theorem mean_pos {n : ℕ} (x : Fin n → EReal) (κ e : ℝ) (hκ : 0 ≤ κ) (he : 0 < e) :
    0 < (∑ k, x k * x k) * (κ : EReal) + (e : EReal) := by
  have h : (0 : EReal) ≤ (∑ k, x k * x k) * (κ : EReal) :=
    mul_nonneg (Finset.sum_nonneg fun k _ => sq_nonneg (x k)) (by exact_mod_cast hκ)
  calc (0 : EReal) < (e : EReal) := by exact_mod_cast he
    _ = 0 + e := (zero_add _).symm
    _ ≤ _ := add_le_add_left h _

end Cert.NormMath
-- ==== Proof.InMath.lean ====
/- The mathematics of the projection's backward pass over the extended reals, on plain functions of row and column:
   the nine cotangent pieces side by side (`ct`), the modulated norm (`hh`), the gradient into it (`dh`), and the six
   results.  The kernel's certificate and the reference's are both read as these. -/
module

public import proofs.«01_k».proof.Proof.InPay
public import proofs.«01_k».proof.Proof.NormMath

@[expose] public section

set_option maxRecDepth 16384

noncomputable section

namespace Cert.InBwd

open Idealize.ShloMosaic

/-- The arrays the step is a function of, by row and column. -/
structure Args where
  p0 : Fin 16384 → Fin 512 → EReal
  p1 : Fin 16384 → Fin 512 → EReal
  p2 : Fin 16384 → Fin 512 → EReal
  p3 : Fin 16384 → Fin 512 → EReal
  p4 : Fin 16384 → Fin 1024 → EReal
  p5 : Fin 16384 → Fin 512 → EReal
  p6 : Fin 16384 → Fin 512 → EReal
  p7 : Fin 16384 → Fin 512 → EReal
  p8 : Fin 16384 → Fin 16 → EReal
  x : Fin 16384 → Fin 1024 → EReal
  e : Fin 16384 → Fin 1024 → EReal
  w : Fin 1024 → Fin 4624 → EReal
  n : Fin 1024 → EReal
  s : Fin 1024 → EReal
  f : Fin 1024 → EReal

variable (A : Args)

/-- The nine pieces side by side, and zero after the last column. -/
def ct (R : Fin 16384) (j : ℕ) : EReal :=
  if h : j < 512 then A.p0 R ⟨j, h⟩ else
  if h : j - 512 < 512 then A.p1 R ⟨j - 512, h⟩ else
  if h : j - 512 - 512 < 512 then A.p2 R ⟨j - 512 - 512, h⟩ else
  if h : j - 512 - 512 - 512 < 512 then A.p3 R ⟨j - 512 - 512 - 512, h⟩ else
  if h : j - 512 - 512 - 512 - 512 < 1024 then A.p4 R ⟨j - 512 - 512 - 512 - 512, h⟩ else
  if h : j - 512 - 512 - 512 - 512 - 1024 < 512 then A.p5 R ⟨j - 512 - 512 - 512 - 512 - 1024, h⟩ else
  if h : j - 512 - 512 - 512 - 512 - 1024 - 512 < 512 then A.p6 R ⟨j - 512 - 512 - 512 - 512 - 1024 - 512, h⟩ else
  if h : j - 512 - 512 - 512 - 512 - 1024 - 512 - 512 < 512 then A.p7 R ⟨j - 512 - 512 - 512 - 512 - 1024 - 512 - 512, h⟩ else
  if h : j - 512 - 512 - 512 - 512 - 1024 - 512 - 512 - 512 < 16 then A.p8 R ⟨j - 512 - 512 - 512 - 512 - 1024 - 512 - 512 - 512, h⟩ else
  0

theorem ct_0 (R : Fin 16384) (j : Fin 512) : ct A R (0 + j) = A.p0 R j := by
  unfold ct
  rw [dif_pos (by omega)]
  exact congrArg (A.p0 R) (Fin.ext (by simp only []; omega))

theorem ct_1 (R : Fin 16384) (j : Fin 512) : ct A R (512 + j) = A.p1 R j := by
  unfold ct
  rw [dif_neg (by omega), dif_pos (by omega)]
  exact congrArg (A.p1 R) (Fin.ext (by simp only []; omega))

theorem ct_2 (R : Fin 16384) (j : Fin 512) : ct A R (1024 + j) = A.p2 R j := by
  unfold ct
  rw [dif_neg (by omega), dif_neg (by omega), dif_pos (by omega)]
  exact congrArg (A.p2 R) (Fin.ext (by simp only []; omega))

theorem ct_3 (R : Fin 16384) (j : Fin 512) : ct A R (1536 + j) = A.p3 R j := by
  unfold ct
  rw [dif_neg (by omega), dif_neg (by omega), dif_neg (by omega), dif_pos (by omega)]
  exact congrArg (A.p3 R) (Fin.ext (by simp only []; omega))

theorem ct_4 (R : Fin 16384) (j : Fin 1024) : ct A R (2048 + j) = A.p4 R j := by
  unfold ct
  rw [dif_neg (by omega), dif_neg (by omega), dif_neg (by omega), dif_neg (by omega), dif_pos (by omega)]
  exact congrArg (A.p4 R) (Fin.ext (by simp only []; omega))

theorem ct_5 (R : Fin 16384) (j : Fin 512) : ct A R (3072 + j) = A.p5 R j := by
  unfold ct
  rw [dif_neg (by omega), dif_neg (by omega), dif_neg (by omega), dif_neg (by omega), dif_neg (by omega), dif_pos (by omega)]
  exact congrArg (A.p5 R) (Fin.ext (by simp only []; omega))

theorem ct_6 (R : Fin 16384) (j : Fin 512) : ct A R (3584 + j) = A.p6 R j := by
  unfold ct
  rw [dif_neg (by omega), dif_neg (by omega), dif_neg (by omega), dif_neg (by omega), dif_neg (by omega), dif_neg (by omega), dif_pos (by omega)]
  exact congrArg (A.p6 R) (Fin.ext (by simp only []; omega))

theorem ct_7 (R : Fin 16384) (j : Fin 512) : ct A R (4096 + j) = A.p7 R j := by
  unfold ct
  rw [dif_neg (by omega), dif_neg (by omega), dif_neg (by omega), dif_neg (by omega), dif_neg (by omega), dif_neg (by omega), dif_neg (by omega), dif_pos (by omega)]
  exact congrArg (A.p7 R) (Fin.ext (by simp only []; omega))

theorem ct_8 (R : Fin 16384) (j : Fin 16) : ct A R (4608 + j) = A.p8 R j := by
  unfold ct
  rw [dif_neg (by omega), dif_neg (by omega), dif_neg (by omega), dif_neg (by omega), dif_neg (by omega), dif_neg (by omega), dif_neg (by omega), dif_neg (by omega), dif_pos (by omega)]
  exact congrArg (A.p8 R) (Fin.ext (by simp only []; omega))

theorem ct_pad (R : Fin 16384) (j : ℕ) (h : 4624 ≤ j) : ct A R j = 0 := by
  unfold ct
  rw [dif_neg (by omega), dif_neg (by omega), dif_neg (by omega), dif_neg (by omega), dif_neg (by omega), dif_neg (by omega), dif_neg (by omega), dif_neg (by omega), dif_neg (by omega)]

/-- A sum over `a + b` places, cut after `a`. -/
theorem cut (a b : ℕ) (F : ℕ → EReal) : ∑ j : Fin (a + b), F j = (∑ j : Fin a, F j) + ∑ j : Fin b, F (a + j) := by
  rw [Fin.sum_univ_add]; rfl

/-- The weight's column, zero after the last. -/
def wc (k : Fin 1024) (j : ℕ) : EReal := if h : j < 4624 then A.w k ⟨j, h⟩ else 0

theorem wc_lt (k : Fin 1024) (j : ℕ) (h : j < 4624) : wc A k j = A.w k ⟨j, h⟩ := dif_pos h

/-- The gradient into the modulated norm, piece by piece. -/
def dh (R : Fin 16384) (k : Fin 1024) : EReal :=
  (∑ j : Fin 512, A.p0 R j * wc A k (0 + j)) + (∑ j : Fin 512, A.p1 R j * wc A k (512 + j)) + (∑ j : Fin 512, A.p2 R j * wc A k (1024 + j)) + (∑ j : Fin 512, A.p3 R j * wc A k (1536 + j)) + (∑ j : Fin 1024, A.p4 R j * wc A k (2048 + j)) + (∑ j : Fin 512, A.p5 R j * wc A k (3072 + j)) + (∑ j : Fin 512, A.p6 R j * wc A k (3584 + j)) + (∑ j : Fin 512, A.p7 R j * wc A k (4096 + j)) + (∑ j : Fin 16, A.p8 R j * wc A k (4608 + j))

/-- … is the one product over all columns. -/
theorem dh_eq (R : Fin 16384) (k : Fin 1024) : ∑ j : Fin 4624, ct A R j * A.w k j = dh A R k := by
  have e : ∀ j : Fin 4624, ct A R j * A.w k j = (fun j : ℕ => ct A R j * wc A k j) j := fun j => by
    show _ = ct A R j * wc A k j
    rw [wc_lt A k j j.2]
  rw [Finset.sum_congr rfl fun j _ => e j]
  refine (cut 4608 16 fun j : ℕ => ct A R j * wc A k j).trans ?_
  refine congrArg₂ (· + ·) ?_ (Finset.sum_congr rfl fun j _ => congrArg (· * _) (ct_8 A R j))
  refine (cut 4096 512 fun j : ℕ => ct A R j * wc A k j).trans ?_
  refine congrArg₂ (· + ·) ?_ (Finset.sum_congr rfl fun j _ => congrArg (· * _) (ct_7 A R j))
  refine (cut 3584 512 fun j : ℕ => ct A R j * wc A k j).trans ?_
  refine congrArg₂ (· + ·) ?_ (Finset.sum_congr rfl fun j _ => congrArg (· * _) (ct_6 A R j))
  refine (cut 3072 512 fun j : ℕ => ct A R j * wc A k j).trans ?_
  refine congrArg₂ (· + ·) ?_ (Finset.sum_congr rfl fun j _ => congrArg (· * _) (ct_5 A R j))
  refine (cut 2048 1024 fun j : ℕ => ct A R j * wc A k j).trans ?_
  refine congrArg₂ (· + ·) ?_ (Finset.sum_congr rfl fun j _ => congrArg (· * _) (ct_4 A R j))
  refine (cut 1536 512 fun j : ℕ => ct A R j * wc A k j).trans ?_
  refine congrArg₂ (· + ·) ?_ (Finset.sum_congr rfl fun j _ => congrArg (· * _) (ct_3 A R j))
  refine (cut 1024 512 fun j : ℕ => ct A R j * wc A k j).trans ?_
  refine congrArg₂ (· + ·) ?_ (Finset.sum_congr rfl fun j _ => congrArg (· * _) (ct_2 A R j))
  refine (cut 512 512 fun j : ℕ => ct A R j * wc A k j).trans ?_
  refine congrArg₂ (· + ·) (Finset.sum_congr rfl fun j _ => ?_) (Finset.sum_congr rfl fun j _ => congrArg (· * _) (ct_1 A R j))
  rw [show ct A R j = A.p0 R j by rw [← ct_0 A R j, Nat.zero_add], Nat.zero_add]

/-- The normalised entry. -/
def xn (R : Fin 16384) (k : Fin 1024) : EReal := A.x R k * rr (A.x R)

/-- The modulated norm. -/
def hh (R : Fin 16384) (k : Fin 1024) : EReal := xn A R k * A.n k * (1 + A.s k) + A.f k

/-- The gradient of `x`: the residual's, and the norm's backward. -/
def gx (R : Fin 16384) (k : Fin 1024) : EReal :=
  A.e R k + rr (A.x R) * (dh A R k * A.n k * (1 + A.s k)
    - xn A R k * Ideal.div (∑ l, dh A R l * A.n l * (1 + A.s l) * xn A R l) (Ideal.ofBits FTy.f32 1149239296#32))

/-- The gradient of the weight, transposed and padded to 4736 rows. -/
def gw (j : ℕ) (k : Fin 1024) : EReal := ∑ R, hh A R k * ct A R j

/-- The gradient of the bias, padded to 4736 columns. -/
def gb (j : ℕ) : EReal := ∑ R, ct A R j

/-- The gradient of the scale. -/
def dsc (k : Fin 1024) : EReal := ∑ R, dh A R k * xn A R k * A.n k

/-- The gradient of the shift. -/
def dsh (k : Fin 1024) : EReal := ∑ R, dh A R k

/-- The gradient of the norm's weight. -/
def gnw (k : Fin 1024) : EReal := ∑ R, dh A R k * xn A R k * (1 + A.s k)

/-- The norm's mean divides by 1024. -/
theorem bits_1024 : Ideal.ofBits FTy.f32 1149239296#32 = ((1024 : ℝ) : EReal) := by
  simp [Ideal.ofBits, Ideal.ieee, -EReal.coe_mul]; norm_num

theorem bits_half : Ideal.ofBits FTy.f32 3204448256#32 = ((-1 / 2 : ℝ) : EReal) := by
  simp [Ideal.ofBits, Ideal.ieee, -EReal.coe_mul]; norm_num

theorem bits_eps : ∃ e : ℝ, 0 < e ∧ Ideal.ofBits FTy.f32 897988541#32 = (e : EReal) := by
  refine ⟨_, ?_, by simp [Ideal.ofBits, Ideal.ieee, -EReal.coe_mul]; rfl⟩
  norm_num

/-- The gradient of `x` in the reference's form: the norm differentiated step by step. -/
theorem gx_form (R : Fin 16384) (k : Fin 1024) : gx A R k =
    A.e R k + dh A R k * (1 + A.s k) * A.n k * rr (A.x R)
      + A.x R k * Ideal.div ((∑ l, A.x R l * (dh A R l * (1 + A.s l) * A.n l)) * (Ideal.ofBits FTy.f32 3204448256#32
          * Ideal.div (rr (A.x R)) (Ideal.div (∑ l, A.x R l * A.x R l) (Ideal.ofBits FTy.f32 1149239296#32)
            + Ideal.ofBits FTy.f32 897988541#32))) (Ideal.ofBits FTy.f32 1149239296#32)
      + Ideal.div ((∑ l, A.x R l * (dh A R l * (1 + A.s l) * A.n l)) * (Ideal.ofBits FTy.f32 3204448256#32
          * Ideal.div (rr (A.x R)) (Ideal.div (∑ l, A.x R l * A.x R l) (Ideal.ofBits FTy.f32 1149239296#32)
            + Ideal.ofBits FTy.f32 897988541#32))) (Ideal.ofBits FTy.f32 1149239296#32) * A.x R k := by
  obtain ⟨e, he, hE⟩ := bits_eps
  have hpos : 0 < Ideal.div (∑ l, A.x R l * A.x R l) (Ideal.ofBits FTy.f32 1149239296#32) + Ideal.ofBits FTy.f32 897988541#32 := by
    rw [bits_1024, Ideal.div_coe (by norm_num), hE]
    exact NormMath.mean_pos (A.x R) _ e (by norm_num) he
  obtain ⟨ρ, hρ, h1, h2⟩ := NormMath.rsqrt_cube _ hpos
  have hr : rr (A.x R) = (ρ : EReal) := h1
  have hd : Ideal.div (rr (A.x R)) (Ideal.div (∑ l, A.x R l * A.x R l) (Ideal.ofBits FTy.f32 1149239296#32) + Ideal.ofBits FTy.f32 897988541#32)
      = ((ρ * ρ * ρ : ℝ) : EReal) := h2
  unfold gx xn
  rw [hd, hr, bits_1024, bits_half, Ideal.div_coe (by norm_num), Ideal.div_coe (by norm_num)]
  simp only [mul_right_comm (dh A R _) (A.n _) (1 + A.s _)]
  exact NormMath.row_real (A.x R) (fun l => dh A R l * (1 + A.s l) * A.n l) (A.e R k) ρ _ hρ k

end Cert.InBwd
-- ==== Proof.InKer.lean ====
/- What the kernel of the input projection's gradient leaves in its windows and in its accumulator. -/
module

public import proofs.«01_k».proof.Proof.Gen.KernelIdeal.Frame
public import proofs.«01_k».proof.Proof.InPay
public import proofs.«01_k».proof.Proof.InMath
public import Idealize.ShloMosaic.Lib.Pipeline.ValueKit
public import Idealize.ShloMosaic.Lib.Pipeline.ReadBack

@[expose] public section

set_option maxRecDepth 16384

noncomputable section

set_option maxHeartbeats 400000

namespace Cert.InBwd

open Cert.KernelIdeal Cert.KernelIdeal.Gen Idealize.ShloMosaic Idealize.ShloMosaic.TcCoe Idealize.SL.Sem

variable (m : (ℓ : Loc nD τ sig) → Buf (Elt Ideal) ℓ) (c : Dev nD)

/-! ## Stores and loads of whole buffers -/

theorem canon_all {S : Shape} {e : EltTy} (X : S.Idx → Elt Ideal e) (L : List (View.Piece (Elt Ideal) S e)) :
    View.canon (⟨Rect.whole S, X⟩ :: L) = X := by
  funext y
  have h := View.canon_cons_emb (Rect.whole S) X L y
  rwa [Rect.emb_whole_apply] at h

theorem readCov_all {sp : Space} {S : Shape} {e : EltTy} (v : View sig .tc sp S e) (X : S.Idx → Elt Ideal e)
    (L : List (View.Piece (Elt Ideal) S e)) (r : Rect S) :
    v.readCov (⟨Rect.whole S, X⟩ :: L) r.toLoadRect = View.ld X r := by
  rw [View.readCov_eq_canon', canon_all]

/-- A copy between buffers of one type moves the entries as they are. -/
theorem same_apply {S : Shape} {e : EltTy} (X : S.Idx → Elt Ideal e) : ReadAs.same.apply X = X := rfl

/-- The kernel's arguments by row and column. -/
def args : Args where
  p0 R j := m ((c : Thread nD τ).loc main_arg0) (ix2 R j)
  p1 R j := m ((c : Thread nD τ).loc main_arg1) (ix2 R j)
  p2 R j := m ((c : Thread nD τ).loc main_arg2) (ix2 R j)
  p3 R j := m ((c : Thread nD τ).loc main_arg3) (ix2 R j)
  p4 R j := m ((c : Thread nD τ).loc main_arg4) (ix2 R j)
  p5 R j := m ((c : Thread nD τ).loc main_arg5) (ix2 R j)
  p6 R j := m ((c : Thread nD τ).loc main_arg6) (ix2 R j)
  p7 R j := m ((c : Thread nD τ).loc main_arg7) (ix2 R j)
  p8 R j := m ((c : Thread nD τ).loc main_arg8) (ix2 R j)
  x R k := m ((c : Thread nD τ).loc main_arg9) (ix2 R k)
  e R k := m ((c : Thread nD τ).loc main_arg10) (ix2 R k)
  w k j := m ((c : Thread nD τ).loc main_arg11) (ix2 k j)
  n k := m ((c : Thread nD τ).loc main_arg12) (ix2 0 k)
  s k := m ((c : Thread nD τ).loc main_arg13) (ix2 0 k)
  f k := m ((c : Thread nD τ).loc main_arg14) (ix2 0 k)

local notation "𝔸" => args m c

/-! ## The blocks -/

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_14.index t = ![t.val, 0]
    ∧ win0_11.index t = ![0, 0] ∧ win0_12.index t = ![0, 0] ∧ win0_13.index t = ![0, 0] ∧ win0_15.index t = ![0, 0] ∧ win0_16.index t = ![0, 0] ∧ win0_17.index t = ![0, 0] ∧ win0_18.index t = ![0, 0] :=
  (by decide +kernel : ∀ t : Fin grid0.N, _)

theorem N_lt (t : Fin cfg0.N) : t.val < 32 := lt_of_lt_of_eq t.isLt (show cfg0.N = 32 from N_0)

/-- The row of the arrays that row `r` of block `t` is. -/
def row (t : Fin cfg0.N) (r : Fin 512) : Fin 16384 := ⟨t.val * 512 + r.val, by have := N_lt t; omega⟩

variable (t : Fin cfg0.N) (r : Fin 512) (k : Fin 1024)

theorem b0 (j : Fin 512) : iblk m c 0 t (ix2 r j) = ct 𝔸 (row t r) (0 + j) := by
  rw [ct_0]
  simp only [args, row]
  blk_point [iblk, V, idx t]

theorem b1 (j : Fin 512) : iblk m c 1 t (ix2 r j) = ct 𝔸 (row t r) (512 + j) := by
  rw [ct_1]
  simp only [args, row]
  blk_point [iblk, V, idx t]

theorem b2 (j : Fin 512) : iblk m c 2 t (ix2 r j) = ct 𝔸 (row t r) (1024 + j) := by
  rw [ct_2]
  simp only [args, row]
  blk_point [iblk, V, idx t]

theorem b3 (j : Fin 512) : iblk m c 3 t (ix2 r j) = ct 𝔸 (row t r) (1536 + j) := by
  rw [ct_3]
  simp only [args, row]
  blk_point [iblk, V, idx t]

theorem b4 (j : Fin 1024) : iblk m c 4 t (ix2 r j) = ct 𝔸 (row t r) (2048 + j) := by
  rw [ct_4]
  simp only [args, row]
  blk_point [iblk, V, idx t]

theorem b5 (j : Fin 512) : iblk m c 5 t (ix2 r j) = ct 𝔸 (row t r) (3072 + j) := by
  rw [ct_5]
  simp only [args, row]
  blk_point [iblk, V, idx t]

theorem b6 (j : Fin 512) : iblk m c 6 t (ix2 r j) = ct 𝔸 (row t r) (3584 + j) := by
  rw [ct_6]
  simp only [args, row]
  blk_point [iblk, V, idx t]

theorem b7 (j : Fin 512) : iblk m c 7 t (ix2 r j) = ct 𝔸 (row t r) (4096 + j) := by
  rw [ct_7]
  simp only [args, row]
  blk_point [iblk, V, idx t]

/-- An integer zero as a number. -/
theorem sitofp_zero (ty : FTy) : FloatOps.sitofp (F := Ideal) ty 0#32 = (0 : EReal) := by
  show (((0#32 : BitVec 32).toInt : ℝ) : EReal) = 0
  simp

/-- The staged gate piece: zero columns after the last one. -/
theorem gv (R : Fin 16384) (j : Fin 128) : V m c main_v3 (ix2 R j) = ct 𝔸 R (4608 + j) := by
  have e : ct 𝔸 R (4608 + j) = if h : j.val < 16 then m ((c : Thread nD τ).loc main_arg8) (ix2 R ⟨j, h⟩) else (0 : EReal) := by
    split
    case isTrue h => exact ct_8 𝔸 R ⟨j.val, h⟩
    case isFalse h => exact ct_pad 𝔸 R (4608 + j.val) (by omega)
  rw [e]
  simp only [V, hostOps0, hostOps0_1, hostOps0_2, hostOps0_3, List.flatten_cons, List.flatten_nil, List.append_nil, List.cons_append, List.nil_append]
  entry_read
  change (pad (s := S16384x16) S16384x128 ![0, 0] ![0, 112] ![0, 0] (m ((c : Thread nD τ).loc main_arg8)) (sitofp (F := Ideal) FTy.f32 (constantI S_ 32 0#32))
    pads_S16384x16_S16384x128_000_01120 h_S_) (ix2 R j) = _
  pointwise
  rw [sitofp_zero]

theorem b8 (j : Fin 128) : iblk m c 8 t (ix2 r j) = ct 𝔸 (row t r) (4608 + j) := by
  rw [← gv m c (row t r) j]
  simp only [row]
  show V m c main_v3 _ = V m c main_v3 _
  blk_ext [idx t]

theorem b9 : iblk m c 9 t (ix2 r k) = (𝔸).x (row t r) k := by
  simp only [args, row]
  blk_point [iblk, V, idx t]

theorem b10 : iblk m c 10 t (ix2 r k) = (𝔸).e (row t r) k := by
  simp only [args, row]
  blk_point [iblk, V, idx t]

theorem b11 : iblk m c 11 t (ix2 0 k) = (𝔸).n k := by
  simp only [args]
  blk_point [iblk, V, idx t]

theorem b12 : iblk m c 12 t (ix2 0 k) = (𝔸).s k := by
  simp only [args]
  blk_point [iblk, V, idx t]

theorem b13 : iblk m c 13 t (ix2 0 k) = (𝔸).f k := by
  simp only [args]
  blk_point [iblk, V, idx t]

/-- The staged weights: transposed, with zero rows after the last column. -/
theorem wv (j : Fin 4736) : V m c main_v2 (ix2 j k) = wc 𝔸 k j := by
  unfold wc
  simp only [args]
  simp only [V, hostOps0, hostOps0_1, hostOps0_2, hostOps0_3, List.flatten_cons, List.flatten_nil, List.append_nil, List.cons_append, List.nil_append]
  entry_read
  change (pad S4736x1024 ![0, 0] ![112, 0] ![0, 0] (truncf (F := Ideal) FTy.bf16 (transpose S4624x1024 [1, 0] (m ((c : Thread nD τ).loc main_arg11))
    transposes_S1024x4624_S4624x1024_1_0) bitsLt_bf16_f32) (sitofp (F := Ideal) FTy.bf16 (constantI S_ 32 0#32))
    pads_S4624x1024_S4736x1024_01120_000 h_S_) (ix2 j k) = _
  pointwise
  rw [sitofp_zero]

theorem wl0 (W : Vec Ideal S4736x1024 .bf16) (hW : W = V m c main_v2) (j : Fin 512) :
    View.ld W (Rect.unit ![0, 0] ![512, 1024] inb_S4736x1024_S512x1024_0_0) (ix2 j k) = wc 𝔸 k (0 + j) := by
  rw [hW, ← wv m c k ⟨0 + j, by omega⟩]
  show V m c main_v2 _ = V m c main_v2 _
  blk_ext <;> simp

theorem wl1 (W : Vec Ideal S4736x1024 .bf16) (hW : W = V m c main_v2) (j : Fin 512) :
    View.ld W (Rect.unit ![512, 0] ![512, 1024] inb_S4736x1024_S512x1024_512_0) (ix2 j k) = wc 𝔸 k (512 + j) := by
  rw [hW, ← wv m c k ⟨512 + j, by omega⟩]
  show V m c main_v2 _ = V m c main_v2 _
  blk_ext <;> simp

theorem wl2 (W : Vec Ideal S4736x1024 .bf16) (hW : W = V m c main_v2) (j : Fin 512) :
    View.ld W (Rect.unit ![1024, 0] ![512, 1024] inb_S4736x1024_S512x1024_1024_0) (ix2 j k) = wc 𝔸 k (1024 + j) := by
  rw [hW, ← wv m c k ⟨1024 + j, by omega⟩]
  show V m c main_v2 _ = V m c main_v2 _
  blk_ext <;> simp

theorem wl3 (W : Vec Ideal S4736x1024 .bf16) (hW : W = V m c main_v2) (j : Fin 512) :
    View.ld W (Rect.unit ![1536, 0] ![512, 1024] inb_S4736x1024_S512x1024_1536_0) (ix2 j k) = wc 𝔸 k (1536 + j) := by
  rw [hW, ← wv m c k ⟨1536 + j, by omega⟩]
  show V m c main_v2 _ = V m c main_v2 _
  blk_ext <;> simp

theorem wl4 (W : Vec Ideal S4736x1024 .bf16) (hW : W = V m c main_v2) (j : Fin 1024) :
    View.ld W (Rect.unit ![2048, 0] ![1024, 1024] inb_S4736x1024_S1024x1024_2048_0) (ix2 j k) = wc 𝔸 k (2048 + j) := by
  rw [hW, ← wv m c k ⟨2048 + j, by omega⟩]
  show V m c main_v2 _ = V m c main_v2 _
  blk_ext <;> simp

theorem wl5 (W : Vec Ideal S4736x1024 .bf16) (hW : W = V m c main_v2) (j : Fin 512) :
    View.ld W (Rect.unit ![3072, 0] ![512, 1024] inb_S4736x1024_S512x1024_3072_0) (ix2 j k) = wc 𝔸 k (3072 + j) := by
  rw [hW, ← wv m c k ⟨3072 + j, by omega⟩]
  show V m c main_v2 _ = V m c main_v2 _
  blk_ext <;> simp

theorem wl6 (W : Vec Ideal S4736x1024 .bf16) (hW : W = V m c main_v2) (j : Fin 512) :
    View.ld W (Rect.unit ![3584, 0] ![512, 1024] inb_S4736x1024_S512x1024_3584_0) (ix2 j k) = wc 𝔸 k (3584 + j) := by
  rw [hW, ← wv m c k ⟨3584 + j, by omega⟩]
  show V m c main_v2 _ = V m c main_v2 _
  blk_ext <;> simp

theorem wl7 (W : Vec Ideal S4736x1024 .bf16) (hW : W = V m c main_v2) (j : Fin 512) :
    View.ld W (Rect.unit ![4096, 0] ![512, 1024] inb_S4736x1024_S512x1024_4096_0) (ix2 j k) = wc 𝔸 k (4096 + j) := by
  rw [hW, ← wv m c k ⟨4096 + j, by omega⟩]
  show V m c main_v2 _ = V m c main_v2 _
  blk_ext <;> simp

theorem wl8 (W : Vec Ideal S4736x1024 .bf16) (hW : W = V m c main_v2) (j : Fin 128) :
    View.ld W (Rect.unit ![4608, 0] ![128, 1024] inb_S4736x1024_S128x1024_4608_0) (ix2 j k) = wc 𝔸 k (4608 + j) := by
  rw [hW, ← wv m c k ⟨4608 + j, by omega⟩]
  show V m c main_v2 _ = V m c main_v2 _
  blk_ext <;> simp

/-! ## The modulated norm and the gradient into it, block by block -/

/-- The block of the modulated norm. -/
def HB : FVec Ideal S512x1024 .bf16 := k0_pay49 (iblk m c 11 t) (iblk m c 9 t) (iblk m c 12 t) (iblk m c 13 t)

theorem hb_at : HB m c t (ix2 r k) = hh 𝔸 (row t r) k := by
  unfold HB
  rw [p49]
  simp only [ix2_0, ix2_1, b9 m c t r, b11 m c t, b12 m c t, b13 m c t]
  rfl

theorem x_at : k0_pay48 (F := Ideal) (iblk m c 9 t) (ix2 r k) = xn 𝔸 (row t r) k := by
  rw [p48]
  simp only [ix2_0, ix2_1, b9 m c t r]
  rfl

theorem r_at (z : Fin 1) : k0_pay47 (F := Ideal) (iblk m c 9 t) (ix2 r z) = rr ((𝔸).x (row t r)) := by
  rw [p47]
  simp only [ix2_0, ix2_1, b9 m c t r]

theorem s_at : k0_pay46 (F := Ideal) (iblk m c 12 t) (ix2 0 k) = 1 + (𝔸).s k := by
  rw [p46, b12]

/-- The block of the gradient into the modulated norm, from the weights in the scratch. -/
def DH (W : Vec Ideal S4736x1024 .bf16) : FVec Ideal S512x1024 .f32 :=
  k0_pay75 (k0_pay70 (k0_pay65 (k0_pay58 (k0_pay53 (k0_pay50 (iblk m c 0 t) (View.ld W (Rect.unit ![0, 0] ![512, 1024] inb_S4736x1024_S512x1024_0_0))) (iblk m c 1 t) (View.ld W (Rect.unit ![512, 0] ![512, 1024] inb_S4736x1024_S512x1024_512_0))) (iblk m c 2 t) (View.ld W (Rect.unit ![1024, 0] ![512, 1024] inb_S4736x1024_S512x1024_1024_0)) (iblk m c 3 t) (View.ld W (Rect.unit ![1536, 0] ![512, 1024] inb_S4736x1024_S512x1024_1536_0)))
    (iblk m c 4 t) (View.ld W (Rect.unit ![2048, 0] ![1024, 1024] inb_S4736x1024_S1024x1024_2048_0)) (iblk m c 5 t) (View.ld W (Rect.unit ![3072, 0] ![512, 1024] inb_S4736x1024_S512x1024_3072_0))) (iblk m c 6 t) (View.ld W (Rect.unit ![3584, 0] ![512, 1024] inb_S4736x1024_S512x1024_3584_0)) (iblk m c 7 t) (View.ld W (Rect.unit ![4096, 0] ![512, 1024] inb_S4736x1024_S512x1024_4096_0))) (iblk m c 8 t) (View.ld W (Rect.unit ![4608, 0] ![128, 1024] inb_S4736x1024_S128x1024_4608_0))

theorem dh_at (W : Vec Ideal S4736x1024 .bf16) (hW : W = V m c main_v2) : DH m c t W (ix2 r k) = dh 𝔸 (row t r) k := by
  unfold DH
  rw [pdh]
  simp only [ix2_0, ix2_1, b0 m c t r, wl0 m c k W hW, b1 m c t r, wl1 m c k W hW, b2 m c t r, wl2 m c k W hW, b3 m c t r, wl3 m c k W hW, b4 m c t r, wl4 m c k W hW, b5 m c t r, wl5 m c k W hW, b6 m c t r, wl6 m c k W hW, b7 m c t r, wl7 m c k W hW, b8 m c t r, wl8 m c k W hW]
  unfold dh
  simp only [ct_0, ct_1, ct_2, ct_3, ct_4, ct_5, ct_6, ct_7]
  refine congrArg₂ (fun a b : EReal => a + b) rfl ?_
  refine (cut 16 112 fun j : ℕ => ct 𝔸 (row t r) (4608 + j) * wc 𝔸 k (4608 + j)).trans ?_
  rw [show (∑ j : Fin 112, ct 𝔸 (row t r) (4608 + (16 + j)) * wc 𝔸 k (4608 + (16 + j))) = 0 from
    Finset.sum_eq_zero fun j _ => by rw [ct_pad 𝔸 _ _ (by omega), zero_mul], add_zero]
  exact Finset.sum_congr rfl fun j _ => congrArg (· * _) (ct_8 𝔸 (row t r) j)

/-! ## Rows of blocks are rows of arrays -/

/-- An accumulation over the blocks is a sum over the rows. -/
theorem total {ι : Type} (f : (n : ℕ) → n < cfg0.N → ι → EReal) (g : Fin 16384 → ι → EReal)
    (h0 : ∀ t : Fin cfg0.N, t.val % 32 = 0 → ∀ i, f t.val t.isLt i = 0 + ∑ r : Fin 512, g (row t r) i)
    (hs : ∀ t : Fin cfg0.N, ¬t.val % 32 = 0 → ∀ i,
      f t.val t.isLt i = f (t.val - 1) (Nat.lt_of_le_of_lt (Nat.sub_le _ _) t.isLt) i + ∑ r : Fin 512, g (row t r) i)
    (t : Fin cfg0.N) (ht : t.val % 32 = 31) (i : ι) : f t.val t.isLt i = ∑ R, g R i := by
  rw [Pipeline.eq_sum_fin_of_reset_step_apply_last f 32 (fun _ => 0) (fun t i => ∑ r : Fin 512, g (row t r) i) h0 hs (le_of_eq N_0) t
    (by have := N_lt t; have := (show cfg0.N = 32 from N_0); omega) i, zero_add]
  exact Fin.sum_mul_add_congr (fun s k hl => rfl) (show 16384 = cfg0.N * 512 by rw [show cfg0.N = 32 from N_0])

/-- The nine column pieces added into the bias gradient at one point. -/
abbrev gbPieces (P : Vec Ideal S1x4736 .f32) : List (View.Piece (Elt Ideal) S1x4736 .f32) :=
  [⟨(Rect.unit ![0, 4608] ![1, 128] inb_S1x4736_S1x128_0_4608), k0_pay77 (iblk m c 8 t) (View.ld P (Rect.unit ![0, 4608] ![1, 128] inb_S1x4736_S1x128_0_4608))⟩,
  ⟨(Rect.unit ![0, 4096] ![1, 512] inb_S1x4736_S1x512_0_4096), k0_pay72 (iblk m c 7 t) (View.ld P (Rect.unit ![0, 4096] ![1, 512] inb_S1x4736_S1x512_0_4096))⟩,
  ⟨(Rect.unit ![0, 3584] ![1, 512] inb_S1x4736_S1x512_0_3584), k0_pay69 (iblk m c 6 t) (View.ld P (Rect.unit ![0, 3584] ![1, 512] inb_S1x4736_S1x512_0_3584))⟩,
  ⟨(Rect.unit ![0, 3072] ![1, 512] inb_S1x4736_S1x512_0_3072), k0_pay67 (iblk m c 5 t) (View.ld P (Rect.unit ![0, 3072] ![1, 512] inb_S1x4736_S1x512_0_3072))⟩,
  ⟨(Rect.unit ![0, 2048] ![1, 1024] inb_S1x4736_S1x1024_0_2048), k0_pay64 (iblk m c 4 t) (View.ld P (Rect.unit ![0, 2048] ![1, 1024] inb_S1x4736_S1x1024_0_2048))⟩,
  ⟨(Rect.unit ![0, 1536] ![1, 512] inb_S1x4736_S1x512_0_1536), k0_pay62 (k0_pay60 (View.ld P (Rect.unit ![0, 1536] ![1, 512] inb_S1x4736_S1x512_0_1536))) (k0_pay61 (iblk m c 3 t))⟩,
  ⟨(Rect.unit ![0, 1024] ![1, 512] inb_S1x4736_S1x512_0_1024), k0_pay57 (iblk m c 2 t) (View.ld P (Rect.unit ![0, 1024] ![1, 512] inb_S1x4736_S1x512_0_1024))⟩,
  ⟨(Rect.unit ![0, 512] ![1, 512] inb_S1x4736_S1x512_0_512), k0_pay55 (iblk m c 1 t) (View.ld P (Rect.unit ![0, 512] ![1, 512] inb_S1x4736_S1x512_0_512))⟩,
  ⟨(Rect.unit ![0, 0] ![1, 512] inb_S1x4736_S1x512_0_0), k0_pay52 (iblk m c 0 t) (View.ld P (Rect.unit ![0, 0] ![1, 512] inb_S1x4736_S1x512_0_0))⟩]

theorem gb_of (P : Vec Ideal S1x4736 .f32) :
    View.PiecesOf (fun y => P y + ∑ r : Fin 512, ct 𝔸 (row t r) (y 1)) (gbPieces m c t P) := by
  unfold View.PiecesOf
  refine ⟨fun x => ?_, fun x => ?_, fun x => ?_, fun x => ?_, fun x => ?_, fun x => ?_, fun x => ?_, fun x => ?_, fun x => ?_, trivial⟩
  · exact (p77 _ _ x).trans (congrArg (P _ + ·) (Finset.sum_congr rfl fun q _ => (b8 m c t q (x 1)).trans
      (congrArg (ct 𝔸 (row t q)) (by simp))))
  · exact (p72 _ _ x).trans (congrArg (P _ + ·) (Finset.sum_congr rfl fun q _ => (b7 m c t q (x 1)).trans
      (congrArg (ct 𝔸 (row t q)) (by simp))))
  · exact (p69 _ _ x).trans (congrArg (P _ + ·) (Finset.sum_congr rfl fun q _ => (b6 m c t q (x 1)).trans
      (congrArg (ct 𝔸 (row t q)) (by simp))))
  · exact (p67 _ _ x).trans (congrArg (P _ + ·) (Finset.sum_congr rfl fun q _ => (b5 m c t q (x 1)).trans
      (congrArg (ct 𝔸 (row t q)) (by simp))))
  · exact (p64 _ _ x).trans (congrArg (P _ + ·) (Finset.sum_congr rfl fun q _ => (b4 m c t q (x 1)).trans
      (congrArg (ct 𝔸 (row t q)) (by simp))))
  · exact (p62 _ _ x).trans (congrArg (P _ + ·) (Finset.sum_congr rfl fun q _ => (b3 m c t q (x 1)).trans
      (congrArg (ct 𝔸 (row t q)) (by simp))))
  · exact (p57 _ _ x).trans (congrArg (P _ + ·) (Finset.sum_congr rfl fun q _ => (b2 m c t q (x 1)).trans
      (congrArg (ct 𝔸 (row t q)) (by simp))))
  · exact (p55 _ _ x).trans (congrArg (P _ + ·) (Finset.sum_congr rfl fun q _ => (b1 m c t q (x 1)).trans
      (congrArg (ct 𝔸 (row t q)) (by simp))))
  · exact (p52 _ _ x).trans (congrArg (P _ + ·) (Finset.sum_congr rfl fun q _ => (b0 m c t q (x 1)).trans
      (congrArg (ct 𝔸 (row t q)) (by simp))))

theorem gb_at (P : Vec Ideal S1x4736 .f32) (L : List (View.Piece (Elt Ideal) S1x4736 .f32)) :
    View.canon (gbPieces m c t P ++ L) = fun y => P y + ∑ r : Fin 512, ct 𝔸 (row t r) (y 1) :=
  funext fun y => View.canon_append_of_piecesOf _ L _ (gb_of m c t P) y (View.cover_of_tiledBy _ ![1, 128] (by sl_kernel_rfl) y)

/-- The nine column pieces added into the accumulator at one point. -/
abbrev acPieces (P : Vec Ideal S1024x4736 .f32) : List (View.Piece (Elt Ideal) S1024x4736 .f32) :=
  [⟨(Rect.unit ![0, 4608] ![1024, 128] inb_S1024x4736_S1024x128_0_4608), k0_pay76 (HB m c t) (iblk m c 8 t) (View.ld P (Rect.unit ![0, 4608] ![1024, 128] inb_S1024x4736_S1024x128_0_4608))⟩,
  ⟨(Rect.unit ![0, 4096] ![1024, 512] inb_S1024x4736_S1024x512_0_4096), k0_pay71 (HB m c t) (iblk m c 7 t) (View.ld P (Rect.unit ![0, 4096] ![1024, 512] inb_S1024x4736_S1024x512_0_4096))⟩,
  ⟨(Rect.unit ![0, 3584] ![1024, 512] inb_S1024x4736_S1024x512_0_3584), k0_pay68 (HB m c t) (iblk m c 6 t) (View.ld P (Rect.unit ![0, 3584] ![1024, 512] inb_S1024x4736_S1024x512_0_3584))⟩,
  ⟨(Rect.unit ![0, 3072] ![1024, 512] inb_S1024x4736_S1024x512_0_3072), k0_pay66 (HB m c t) (iblk m c 5 t) (View.ld P (Rect.unit ![0, 3072] ![1024, 512] inb_S1024x4736_S1024x512_0_3072))⟩,
  ⟨(Rect.unit ![0, 2048] ![1024, 1024] inb_S1024x4736_S1024x1024_0_2048), k0_pay63 (HB m c t) (iblk m c 4 t) (View.ld P (Rect.unit ![0, 2048] ![1024, 1024] inb_S1024x4736_S1024x1024_0_2048))⟩,
  ⟨(Rect.unit ![0, 1536] ![1024, 512] inb_S1024x4736_S1024x512_0_1536), k0_pay59 (HB m c t) (iblk m c 3 t) (View.ld P (Rect.unit ![0, 1536] ![1024, 512] inb_S1024x4736_S1024x512_0_1536))⟩,
  ⟨(Rect.unit ![0, 1024] ![1024, 512] inb_S1024x4736_S1024x512_0_1024), k0_pay56 (HB m c t) (iblk m c 2 t) (View.ld P (Rect.unit ![0, 1024] ![1024, 512] inb_S1024x4736_S1024x512_0_1024))⟩,
  ⟨(Rect.unit ![0, 512] ![1024, 512] inb_S1024x4736_S1024x512_0_512), k0_pay54 (HB m c t) (iblk m c 1 t) (View.ld P (Rect.unit ![0, 512] ![1024, 512] inb_S1024x4736_S1024x512_0_512))⟩,
  ⟨(Rect.unit ![0, 0] ![1024, 512] inb_S1024x4736_S1024x512_0_0), k0_pay51 (HB m c t) (iblk m c 0 t) (View.ld P (Rect.unit ![0, 0] ![1024, 512] inb_S1024x4736_S1024x512_0_0))⟩]

theorem ac_of (P : Vec Ideal S1024x4736 .f32) :
    View.PiecesOf (fun y => P y + ∑ r : Fin 512, hh 𝔸 (row t r) (y 0) * ct 𝔸 (row t r) (y 1)) (acPieces m c t P) := by
  unfold View.PiecesOf
  refine ⟨fun x => ?_, fun x => ?_, fun x => ?_, fun x => ?_, fun x => ?_, fun x => ?_, fun x => ?_, fun x => ?_, fun x => ?_, trivial⟩
  · exact (p76 _ _ _ x).trans (congrArg (P _ + ·) (Finset.sum_congr rfl fun q _ => congrArg₂ (· * ·)
      ((hb_at m c t q (x 0)).trans (congrArg (hh 𝔸 (row t q)) (Fin.ext (by simp)))) ((b8 m c t q (x 1)).trans (congrArg (ct 𝔸 (row t q)) (by simp)))))
  · exact (p71 _ _ _ x).trans (congrArg (P _ + ·) (Finset.sum_congr rfl fun q _ => congrArg₂ (· * ·)
      ((hb_at m c t q (x 0)).trans (congrArg (hh 𝔸 (row t q)) (Fin.ext (by simp)))) ((b7 m c t q (x 1)).trans (congrArg (ct 𝔸 (row t q)) (by simp)))))
  · exact (p68 _ _ _ x).trans (congrArg (P _ + ·) (Finset.sum_congr rfl fun q _ => congrArg₂ (· * ·)
      ((hb_at m c t q (x 0)).trans (congrArg (hh 𝔸 (row t q)) (Fin.ext (by simp)))) ((b6 m c t q (x 1)).trans (congrArg (ct 𝔸 (row t q)) (by simp)))))
  · exact (p66 _ _ _ x).trans (congrArg (P _ + ·) (Finset.sum_congr rfl fun q _ => congrArg₂ (· * ·)
      ((hb_at m c t q (x 0)).trans (congrArg (hh 𝔸 (row t q)) (Fin.ext (by simp)))) ((b5 m c t q (x 1)).trans (congrArg (ct 𝔸 (row t q)) (by simp)))))
  · exact (p63 _ _ _ x).trans (congrArg (P _ + ·) (Finset.sum_congr rfl fun q _ => congrArg₂ (· * ·)
      ((hb_at m c t q (x 0)).trans (congrArg (hh 𝔸 (row t q)) (Fin.ext (by simp)))) ((b4 m c t q (x 1)).trans (congrArg (ct 𝔸 (row t q)) (by simp)))))
  · exact (p59 _ _ _ x).trans (congrArg (P _ + ·) (Finset.sum_congr rfl fun q _ => congrArg₂ (· * ·)
      ((hb_at m c t q (x 0)).trans (congrArg (hh 𝔸 (row t q)) (Fin.ext (by simp)))) ((b3 m c t q (x 1)).trans (congrArg (ct 𝔸 (row t q)) (by simp)))))
  · exact (p56 _ _ _ x).trans (congrArg (P _ + ·) (Finset.sum_congr rfl fun q _ => congrArg₂ (· * ·)
      ((hb_at m c t q (x 0)).trans (congrArg (hh 𝔸 (row t q)) (Fin.ext (by simp)))) ((b2 m c t q (x 1)).trans (congrArg (ct 𝔸 (row t q)) (by simp)))))
  · exact (p54 _ _ _ x).trans (congrArg (P _ + ·) (Finset.sum_congr rfl fun q _ => congrArg₂ (· * ·)
      ((hb_at m c t q (x 0)).trans (congrArg (hh 𝔸 (row t q)) (Fin.ext (by simp)))) ((b1 m c t q (x 1)).trans (congrArg (ct 𝔸 (row t q)) (by simp)))))
  · exact (p51 _ _ _ x).trans (congrArg (P _ + ·) (Finset.sum_congr rfl fun q _ => congrArg₂ (· * ·)
      ((hb_at m c t q (x 0)).trans (congrArg (hh 𝔸 (row t q)) (Fin.ext (by simp)))) ((b0 m c t q (x 1)).trans (congrArg (ct 𝔸 (row t q)) (by simp)))))

theorem ac_at (P : Vec Ideal S1024x4736 .f32) (L : List (View.Piece (Elt Ideal) S1024x4736 .f32)) :
    View.canon (acPieces m c t P ++ L) = fun y => P y + ∑ r : Fin 512, hh 𝔸 (row t r) (y 0) * ct 𝔸 (row t r) (y 1) :=
  funext fun y => View.canon_append_of_piecesOf _ L _ (ac_of m c t P) y (View.cover_of_tiledBy _ ![1024, 128] (by sl_kernel_rfl) y)

/-! ## One point's contents -/

section State

theorem w_A (h0 : t.val % 32 = 0) (h1 : ¬t.val % 32 = 31) : (outsAt0 m c t.val t.isLt).2.2.2.2.2.1 = V m c main_v2 := by
  rw [outsAt0_A m c t h0 h1]; frame_out; exact canon_all _ _

theorem w_B (h0 : ¬t.val % 32 = 0) (h1 : ¬t.val % 32 = 31) :
    (outsAt0 m c t.val t.isLt).2.2.2.2.2.1 = (outsAt0 m c (t.val - 1) (Nat.lt_of_le_of_lt (Nat.sub_le _ _) t.isLt)).2.2.2.2.2.1 := by
  rw [outsAt0_B m c t h0 h1]; rfl

theorem w_C (h0 : ¬t.val % 32 = 0) (h1 : t.val % 32 = 31) :
    (outsAt0 m c t.val t.isLt).2.2.2.2.2.1 = (outsAt0 m c (t.val - 1) (Nat.lt_of_le_of_lt (Nat.sub_le _ _) t.isLt)).2.2.2.2.2.1 := by
  rw [outsAt0_C m c t h0 h1]; rfl

/-- The weights' scratch holds the staged weights after every point. -/
theorem w_at : ∀ (n : ℕ) (hn : n < cfg0.N), (outsAt0 m c n hn).2.2.2.2.2.1 = V m c main_v2 := by
  intro n
  induction n with
  | zero => intro hn; exact w_A m c ⟨0, hn⟩ (Nat.zero_mod 32) (by simp)
  | succ n ih =>
    intro hn
    by_cases h0 : (n + 1) % 32 = 0
    · exact w_A m c ⟨n + 1, hn⟩ h0 (by simp only []; omega)
    · by_cases h1 : (n + 1) % 32 = 31
      · exact (w_C m c ⟨n + 1, hn⟩ h0 h1).trans (ih _)
      · exact (w_B m c ⟨n + 1, hn⟩ h0 h1).trans (ih _)

variable (W : Vec Ideal S4736x1024 .bf16) (hW : W = V m c main_v2)
include hW

theorem gx_pay : k0_pay81 (F := Ideal) (iblk m c 11 t) (k0_pay46 (iblk m c 12 t)) (k0_pay47 (iblk m c 9 t)) (k0_pay48 (iblk m c 9 t)) (DH m c t W)
    (iblk m c 10 t) (ix2 r k) = gx 𝔸 (row t r) k := by
  rw [p81]
  simp only [ix2_0, ix2_1, r_at m c t, x_at m c t, s_at m c t, b10 m c t, b11 m c t, dh_at m c t _ _ W hW]
  rfl

theorem dsc_pay (P : Vec Ideal S1x1024 .f32) (y : S1x1024.Idx) :
    k0_pay79 (F := Ideal) (iblk m c 11 t) (k0_pay48 (iblk m c 9 t)) (DH m c t W) P y
      = P y + ∑ r : Fin 512, dh 𝔸 (row t r) (y 1) * xn 𝔸 (row t r) (y 1) * (𝔸).n (y 1) := by
  rw [p79]
  exact congrArg (P y + ·) (Finset.sum_congr rfl fun r _ => congrArg₂ (· * ·) (congrArg₂ (· * ·) (dh_at m c t r (y 1) W hW) (x_at m c t r (y 1))) (b11 m c t (y 1)))

theorem dsh_pay (P : Vec Ideal S1x1024 .f32) (y : S1x1024.Idx) :
    k0_pay78 (F := Ideal) (DH m c t W) P y = P y + ∑ r : Fin 512, dh 𝔸 (row t r) (y 1) := by
  rw [p78]
  exact congrArg (P y + ·) (Finset.sum_congr rfl fun r _ => dh_at m c t r (y 1) W hW)

theorem gnw_pay (P : Vec Ideal S1x1024 .f32) (y : S1x1024.Idx) :
    k0_pay80 (F := Ideal) (k0_pay46 (iblk m c 12 t)) (k0_pay48 (iblk m c 9 t)) (DH m c t W) P y
      = P y + ∑ r : Fin 512, dh 𝔸 (row t r) (y 1) * xn 𝔸 (row t r) (y 1) * (1 + (𝔸).s (y 1)) := by
  rw [p80]
  exact congrArg (P y + ·) (Finset.sum_congr rfl fun r _ => congrArg₂ (· * ·) (congrArg₂ (· * ·) (dh_at m c t r (y 1) W hW) (x_at m c t r (y 1))) (s_at m c t (y 1)))

omit hW

/-- The point before. -/
abbrev prev (n : ℕ) (hn : n < cfg0.N) : n - 1 < cfg0.N := Nat.lt_of_le_of_lt (Nat.sub_le _ _) hn

theorem gx_A (h0 : t.val % 32 = 0) (h1 : ¬t.val % 32 = 31) : (outsAt0 m c t.val t.isLt).1 (ix2 r k) = gx 𝔸 (row t r) k := by
  rw [outsAt0_A m c t h0 h1]; frame_out
  try simp (disch := first | rfl | decide) only [↓View.readCov_skip, ↓View.readCov_fill, readCov_all, read_unread_whole]
  exact gx_pay m c t r k _ rfl

theorem gx_B (h0 : ¬t.val % 32 = 0) (h1 : ¬t.val % 32 = 31) : (outsAt0 m c t.val t.isLt).1 (ix2 r k) = gx 𝔸 (row t r) k := by
  rw [outsAt0_B m c t h0 h1]; frame_out
  try simp (disch := first | rfl | decide) only [↓View.readCov_skip, ↓View.readCov_fill, readCov_all, read_unread_whole]
  exact gx_pay m c t r k _ (w_at m c _ _)

theorem gx_C (h0 : ¬t.val % 32 = 0) (h1 : t.val % 32 = 31) : (outsAt0 m c t.val t.isLt).1 (ix2 r k) = gx 𝔸 (row t r) k := by
  rw [outsAt0_C m c t h0 h1]; frame_out
  try simp (disch := first | rfl | decide) only [↓View.readCov_skip, ↓View.readCov_fill, readCov_all, read_unread_whole]
  exact gx_pay m c t r k _ (w_at m c _ _)

theorem gx_at : (outsAt0 m c t.val t.isLt).1 (ix2 r k) = gx 𝔸 (row t r) k := by
  by_cases h0 : t.val % 32 = 0
  · exact gx_A m c t r k h0 (by omega)
  · by_cases h1 : t.val % 32 = 31
    · exact gx_C m c t r k h0 h1
    · exact gx_B m c t r k h0 h1

theorem gb_A (h0 : t.val % 32 = 0) (h1 : ¬t.val % 32 = 31) (y : S1x4736.Idx) :
    (outsAt0 m c t.val t.isLt).2.1 y = 0 + ∑ r : Fin 512, ct 𝔸 (row t r) (y 1) := by
  rw [outsAt0_A m c t h0 h1]; frame_out
  try simp (disch := first | rfl | decide) only [↓View.readCov_skip, ↓View.readCov_fill, readCov_all, read_unread_whole]
  exact (congrFun (gb_at m c t _ [_]) y).trans (congrArg (· + _) (p42 y))

theorem gb_B (h0 : ¬t.val % 32 = 0) (h1 : ¬t.val % 32 = 31) (y : S1x4736.Idx) :
    (outsAt0 m c t.val t.isLt).2.1 y = (outsAt0 m c (t.val - 1) (prev t.val t.isLt)).2.1 y + ∑ r : Fin 512, ct 𝔸 (row t r) (y 1) := by
  rw [outsAt0_B m c t h0 h1]; frame_out
  try simp (disch := first | rfl | decide) only [↓View.readCov_skip, ↓View.readCov_fill, readCov_all, read_unread_whole]
  exact (congrFun (gb_at m c t _ []) y)

theorem gb_C (h0 : ¬t.val % 32 = 0) (h1 : t.val % 32 = 31) (y : S1x4736.Idx) :
    (outsAt0 m c t.val t.isLt).2.1 y = (outsAt0 m c (t.val - 1) (prev t.val t.isLt)).2.1 y + ∑ r : Fin 512, ct 𝔸 (row t r) (y 1) := by
  rw [outsAt0_C m c t h0 h1]; frame_out
  try simp (disch := first | rfl | decide) only [↓View.readCov_skip, ↓View.readCov_fill, readCov_all, read_unread_whole]
  exact (congrFun (gb_at m c t _ []) y)

theorem gb_step (h0 : ¬t.val % 32 = 0) (y : S1x4736.Idx) :
    (outsAt0 m c t.val t.isLt).2.1 y = (outsAt0 m c (t.val - 1) (prev t.val t.isLt)).2.1 y + ∑ r : Fin 512, ct 𝔸 (row t r) (y 1) := by
  by_cases h1 : t.val % 32 = 31
  · exact gb_C m c t h0 h1 y
  · exact gb_B m c t h0 h1 y

theorem gb_last (ht : t.val % 32 = 31) (y : S1x4736.Idx) : (outsAt0 m c t.val t.isLt).2.1 y = ∑ R, ct 𝔸 R (y 1) :=
  total (fun n hn => (outsAt0 m c n hn).2.1) (fun R y => ct 𝔸 R (y 1)) (fun t h y => gb_A m c t h (by omega) y) (fun t h y => gb_step m c t h y) t ht y

theorem dsc_A (h0 : t.val % 32 = 0) (h1 : ¬t.val % 32 = 31) (y : S1x1024.Idx) :
    (outsAt0 m c t.val t.isLt).2.2.1 y = 0 + ∑ r : Fin 512, dh 𝔸 (row t r) (y 1) * xn 𝔸 (row t r) (y 1) * (𝔸).n (y 1) := by
  rw [outsAt0_A m c t h0 h1]; frame_out
  try simp (disch := first | rfl | decide) only [↓View.readCov_skip, ↓View.readCov_fill, readCov_all, read_unread_whole]
  exact (dsc_pay m c t _ rfl _ y).trans (congrArg (· + _) (p43 y))

theorem dsc_B (h0 : ¬t.val % 32 = 0) (h1 : ¬t.val % 32 = 31) (y : S1x1024.Idx) :
    (outsAt0 m c t.val t.isLt).2.2.1 y = (outsAt0 m c (t.val - 1) (prev t.val t.isLt)).2.2.1 y + ∑ r : Fin 512, dh 𝔸 (row t r) (y 1) * xn 𝔸 (row t r) (y 1) * (𝔸).n (y 1) := by
  rw [outsAt0_B m c t h0 h1]; frame_out
  try simp (disch := first | rfl | decide) only [↓View.readCov_skip, ↓View.readCov_fill, readCov_all, read_unread_whole]
  exact (dsc_pay m c t _ (w_at m c _ _) _ y)

theorem dsc_C (h0 : ¬t.val % 32 = 0) (h1 : t.val % 32 = 31) (y : S1x1024.Idx) :
    (outsAt0 m c t.val t.isLt).2.2.1 y = (outsAt0 m c (t.val - 1) (prev t.val t.isLt)).2.2.1 y + ∑ r : Fin 512, dh 𝔸 (row t r) (y 1) * xn 𝔸 (row t r) (y 1) * (𝔸).n (y 1) := by
  rw [outsAt0_C m c t h0 h1]; frame_out
  try simp (disch := first | rfl | decide) only [↓View.readCov_skip, ↓View.readCov_fill, readCov_all, read_unread_whole]
  exact (dsc_pay m c t _ (w_at m c _ _) _ y)

theorem dsc_step (h0 : ¬t.val % 32 = 0) (y : S1x1024.Idx) :
    (outsAt0 m c t.val t.isLt).2.2.1 y = (outsAt0 m c (t.val - 1) (prev t.val t.isLt)).2.2.1 y + ∑ r : Fin 512, dh 𝔸 (row t r) (y 1) * xn 𝔸 (row t r) (y 1) * (𝔸).n (y 1) := by
  by_cases h1 : t.val % 32 = 31
  · exact dsc_C m c t h0 h1 y
  · exact dsc_B m c t h0 h1 y

theorem dsc_last (ht : t.val % 32 = 31) (y : S1x1024.Idx) : (outsAt0 m c t.val t.isLt).2.2.1 y = ∑ R, dh 𝔸 R (y 1) * xn 𝔸 R (y 1) * (𝔸).n (y 1) :=
  total (fun n hn => (outsAt0 m c n hn).2.2.1) (fun R y => dh 𝔸 R (y 1) * xn 𝔸 R (y 1) * (𝔸).n (y 1)) (fun t h y => dsc_A m c t h (by omega) y) (fun t h y => dsc_step m c t h y) t ht y

theorem dsh_A (h0 : t.val % 32 = 0) (h1 : ¬t.val % 32 = 31) (y : S1x1024.Idx) :
    (outsAt0 m c t.val t.isLt).2.2.2.1 y = 0 + ∑ r : Fin 512, dh 𝔸 (row t r) (y 1) := by
  rw [outsAt0_A m c t h0 h1]; frame_out
  try simp (disch := first | rfl | decide) only [↓View.readCov_skip, ↓View.readCov_fill, readCov_all, read_unread_whole]
  exact (dsh_pay m c t _ rfl _ y).trans (congrArg (· + _) (p44 y))

theorem dsh_B (h0 : ¬t.val % 32 = 0) (h1 : ¬t.val % 32 = 31) (y : S1x1024.Idx) :
    (outsAt0 m c t.val t.isLt).2.2.2.1 y = (outsAt0 m c (t.val - 1) (prev t.val t.isLt)).2.2.2.1 y + ∑ r : Fin 512, dh 𝔸 (row t r) (y 1) := by
  rw [outsAt0_B m c t h0 h1]; frame_out
  try simp (disch := first | rfl | decide) only [↓View.readCov_skip, ↓View.readCov_fill, readCov_all, read_unread_whole]
  exact (dsh_pay m c t _ (w_at m c _ _) _ y)

theorem dsh_C (h0 : ¬t.val % 32 = 0) (h1 : t.val % 32 = 31) (y : S1x1024.Idx) :
    (outsAt0 m c t.val t.isLt).2.2.2.1 y = (outsAt0 m c (t.val - 1) (prev t.val t.isLt)).2.2.2.1 y + ∑ r : Fin 512, dh 𝔸 (row t r) (y 1) := by
  rw [outsAt0_C m c t h0 h1]; frame_out
  try simp (disch := first | rfl | decide) only [↓View.readCov_skip, ↓View.readCov_fill, readCov_all, read_unread_whole]
  exact (dsh_pay m c t _ (w_at m c _ _) _ y)

theorem dsh_step (h0 : ¬t.val % 32 = 0) (y : S1x1024.Idx) :
    (outsAt0 m c t.val t.isLt).2.2.2.1 y = (outsAt0 m c (t.val - 1) (prev t.val t.isLt)).2.2.2.1 y + ∑ r : Fin 512, dh 𝔸 (row t r) (y 1) := by
  by_cases h1 : t.val % 32 = 31
  · exact dsh_C m c t h0 h1 y
  · exact dsh_B m c t h0 h1 y

theorem dsh_last (ht : t.val % 32 = 31) (y : S1x1024.Idx) : (outsAt0 m c t.val t.isLt).2.2.2.1 y = ∑ R, dh 𝔸 R (y 1) :=
  total (fun n hn => (outsAt0 m c n hn).2.2.2.1) (fun R y => dh 𝔸 R (y 1)) (fun t h y => dsh_A m c t h (by omega) y) (fun t h y => dsh_step m c t h y) t ht y

theorem gnw_A (h0 : t.val % 32 = 0) (h1 : ¬t.val % 32 = 31) (y : S1x1024.Idx) :
    (outsAt0 m c t.val t.isLt).2.2.2.2.1 y = 0 + ∑ r : Fin 512, dh 𝔸 (row t r) (y 1) * xn 𝔸 (row t r) (y 1) * (1 + (𝔸).s (y 1)) := by
  rw [outsAt0_A m c t h0 h1]; frame_out
  try simp (disch := first | rfl | decide) only [↓View.readCov_skip, ↓View.readCov_fill, readCov_all, read_unread_whole]
  exact (gnw_pay m c t _ rfl _ y).trans (congrArg (· + _) (p45 y))

theorem gnw_B (h0 : ¬t.val % 32 = 0) (h1 : ¬t.val % 32 = 31) (y : S1x1024.Idx) :
    (outsAt0 m c t.val t.isLt).2.2.2.2.1 y = (outsAt0 m c (t.val - 1) (prev t.val t.isLt)).2.2.2.2.1 y + ∑ r : Fin 512, dh 𝔸 (row t r) (y 1) * xn 𝔸 (row t r) (y 1) * (1 + (𝔸).s (y 1)) := by
  rw [outsAt0_B m c t h0 h1]; frame_out
  try simp (disch := first | rfl | decide) only [↓View.readCov_skip, ↓View.readCov_fill, readCov_all, read_unread_whole]
  exact (gnw_pay m c t _ (w_at m c _ _) _ y)

theorem gnw_C (h0 : ¬t.val % 32 = 0) (h1 : t.val % 32 = 31) (y : S1x1024.Idx) :
    (outsAt0 m c t.val t.isLt).2.2.2.2.1 y = (outsAt0 m c (t.val - 1) (prev t.val t.isLt)).2.2.2.2.1 y + ∑ r : Fin 512, dh 𝔸 (row t r) (y 1) * xn 𝔸 (row t r) (y 1) * (1 + (𝔸).s (y 1)) := by
  rw [outsAt0_C m c t h0 h1]; frame_out
  try simp (disch := first | rfl | decide) only [↓View.readCov_skip, ↓View.readCov_fill, readCov_all, read_unread_whole]
  exact (gnw_pay m c t _ (w_at m c _ _) _ y)

theorem gnw_step (h0 : ¬t.val % 32 = 0) (y : S1x1024.Idx) :
    (outsAt0 m c t.val t.isLt).2.2.2.2.1 y = (outsAt0 m c (t.val - 1) (prev t.val t.isLt)).2.2.2.2.1 y + ∑ r : Fin 512, dh 𝔸 (row t r) (y 1) * xn 𝔸 (row t r) (y 1) * (1 + (𝔸).s (y 1)) := by
  by_cases h1 : t.val % 32 = 31
  · exact gnw_C m c t h0 h1 y
  · exact gnw_B m c t h0 h1 y

theorem gnw_last (ht : t.val % 32 = 31) (y : S1x1024.Idx) : (outsAt0 m c t.val t.isLt).2.2.2.2.1 y = ∑ R, dh 𝔸 R (y 1) * xn 𝔸 R (y 1) * (1 + (𝔸).s (y 1)) :=
  total (fun n hn => (outsAt0 m c n hn).2.2.2.2.1) (fun R y => dh 𝔸 R (y 1) * xn 𝔸 R (y 1) * (1 + (𝔸).s (y 1))) (fun t h y => gnw_A m c t h (by omega) y) (fun t h y => gnw_step m c t h y) t ht y

theorem ac_A (h0 : t.val % 32 = 0) (h1 : ¬t.val % 32 = 31) (y : S1024x4736.Idx) :
    (outsAt0 m c t.val t.isLt).2.2.2.2.2.2 y = 0 + ∑ r : Fin 512, hh 𝔸 (row t r) (y 0) * ct 𝔸 (row t r) (y 1) := by
  rw [outsAt0_A m c t h0 h1]; frame_out
  try simp (disch := first | rfl | decide) only [↓View.readCov_skip, ↓View.readCov_fill, readCov_all, read_unread_whole]
  exact (congrFun (ac_at m c t _ [_]) y).trans (congrArg (· + _) (p41 y))

theorem ac_B (h0 : ¬t.val % 32 = 0) (h1 : ¬t.val % 32 = 31) (y : S1024x4736.Idx) :
    (outsAt0 m c t.val t.isLt).2.2.2.2.2.2 y = (outsAt0 m c (t.val - 1) (prev t.val t.isLt)).2.2.2.2.2.2 y + ∑ r : Fin 512, hh 𝔸 (row t r) (y 0) * ct 𝔸 (row t r) (y 1) := by
  rw [outsAt0_B m c t h0 h1]; frame_out
  try simp (disch := first | rfl | decide) only [↓View.readCov_skip, ↓View.readCov_fill, readCov_all, read_unread_whole]
  exact (congrFun (ac_at m c t _ []) y)

theorem ac_C (h0 : ¬t.val % 32 = 0) (h1 : t.val % 32 = 31) (y : S1024x4736.Idx) :
    (outsAt0 m c t.val t.isLt).2.2.2.2.2.2 y = (outsAt0 m c (t.val - 1) (prev t.val t.isLt)).2.2.2.2.2.2 y + ∑ r : Fin 512, hh 𝔸 (row t r) (y 0) * ct 𝔸 (row t r) (y 1) := by
  rw [outsAt0_C m c t h0 h1]; frame_out
  try simp (disch := first | rfl | decide) only [↓View.readCov_skip, ↓View.readCov_fill, readCov_all, read_unread_whole]
  exact (congrFun (ac_at m c t _ []) y)

theorem ac_step (h0 : ¬t.val % 32 = 0) (y : S1024x4736.Idx) :
    (outsAt0 m c t.val t.isLt).2.2.2.2.2.2 y = (outsAt0 m c (t.val - 1) (prev t.val t.isLt)).2.2.2.2.2.2 y + ∑ r : Fin 512, hh 𝔸 (row t r) (y 0) * ct 𝔸 (row t r) (y 1) := by
  by_cases h1 : t.val % 32 = 31
  · exact ac_C m c t h0 h1 y
  · exact ac_B m c t h0 h1 y

theorem ac_last (ht : t.val % 32 = 31) (y : S1024x4736.Idx) : (outsAt0 m c t.val t.isLt).2.2.2.2.2.2 y = ∑ R, hh 𝔸 R (y 0) * ct 𝔸 R (y 1) :=
  total (fun n hn => (outsAt0 m c n hn).2.2.2.2.2.2) (fun R y => hh 𝔸 R (y 0) * ct 𝔸 R (y 1)) (fun t h y => ac_A m c t h (by omega) y) (fun t h y => ac_step m c t h y) t ht y

end State

/-! ## The arrays -/

theorem final14 : (dats m 0 c).arrAt 14 cfg0.N = fun y => gx 𝔸 (y 0) (y 1) := by
  refine (dats m 0 c).arrAt_eq_of_covers 14 _ (by decide +kernel) fun t hf y => ?_
  blk_simp
  rw [after0_14]
  refine (congrArg _ (funext fun a => by fin_cases a <;> rfl : y = ix2 (y 0) (y 1))).trans ((gx_at m c t (y 0) (y 1)).trans ?_)
  exact congrArg₂ (gx 𝔸) (Fin.ext (by simp only [row]; blk_simp [idx t])) (Fin.ext (by blk_simp [idx t]))

theorem final15 : (dats m 0 c).arrAt 15 cfg0.N = fun y => gb 𝔸 (y 1) := by
  refine (dats m 0 c).arrAt_eq_of_covers 15 _ (by decide +kernel) fun t hf y => ?_
  blk_simp
  rw [after0_15]
  refine (gb_last m c t ((flush0_15 t).mp hf) y).trans (congrArg (gb 𝔸) ?_)

  blk_simp [idx t]

theorem final16 : (dats m 0 c).arrAt 16 cfg0.N = fun y => dsc 𝔸 (y 1) := by
  refine (dats m 0 c).arrAt_eq_of_covers 16 _ (by decide +kernel) fun t hf y => ?_
  blk_simp
  rw [after0_16]
  refine (dsc_last m c t ((flush0_16 t).mp hf) y).trans (congrArg (dsc 𝔸) ?_)
  refine Fin.ext ?_
  blk_simp [idx t]

theorem final17 : (dats m 0 c).arrAt 17 cfg0.N = fun y => dsh 𝔸 (y 1) := by
  refine (dats m 0 c).arrAt_eq_of_covers 17 _ (by decide +kernel) fun t hf y => ?_
  blk_simp
  rw [after0_17]
  refine (dsh_last m c t ((flush0_17 t).mp hf) y).trans (congrArg (dsh 𝔸) ?_)
  refine Fin.ext ?_
  blk_simp [idx t]

theorem final18 : (dats m 0 c).arrAt 18 cfg0.N = fun y => gnw 𝔸 (y 1) := by
  refine (dats m 0 c).arrAt_eq_of_covers 18 _ (by decide +kernel) fun t hf y => ?_
  blk_simp
  rw [after0_18]
  refine (gnw_last m c t ((flush0_18 t).mp hf) y).trans (congrArg (gnw 𝔸) ?_)
  refine Fin.ext ?_
  blk_simp [idx t]

end Cert.InBwd

end
-- ==== Proof.InRef.lean ====
/- The reference's results read as the step's mathematics: its products over all columns piece by piece, its norm's
   backward in the kernel's form. -/
module

public import proofs.«01_k».proof.Proof.InMath
public import proofs.«01_k».proof.Proof.Gen.ReferenceIdeal.Read

@[expose] public section

set_option maxRecDepth 16384

noncomputable section

set_option maxHeartbeats 400000

namespace Cert.InBwd.Ref

open Cert.ReferenceIdeal Cert.ReferenceIdeal.Gen Cert.ReferenceIdeal.Read Idealize.ShloMosaic Idealize.ShloMosaic.TcCoe Idealize.SL.Sem

variable (x0 x1 x2 x3 : (⟨S16384x512, .bf16⟩ : BufTy).Contents (Elt Ideal)) (x4 : (⟨S16384x1024, .bf16⟩ : BufTy).Contents (Elt Ideal))
  (x5 x6 x7 : (⟨S16384x512, .bf16⟩ : BufTy).Contents (Elt Ideal)) (x8 : (⟨S16384x16, .f32⟩ : BufTy).Contents (Elt Ideal))
  (x9 x10 : (⟨S16384x1024, .f32⟩ : BufTy).Contents (Elt Ideal)) (x11 : (⟨S1024x4624, .f32⟩ : BufTy).Contents (Elt Ideal))
  (x12 x13 x14 : (⟨S1x1024, .f32⟩ : BufTy).Contents (Elt Ideal))

/-- The reference's arguments by row and column. -/
def args : Args where
  p0 R j := x0 (ix2 R j)
  p1 R j := x1 (ix2 R j)
  p2 R j := x2 (ix2 R j)
  p3 R j := x3 (ix2 R j)
  p4 R j := x4 (ix2 R j)
  p5 R j := x5 (ix2 R j)
  p6 R j := x6 (ix2 R j)
  p7 R j := x7 (ix2 R j)
  p8 R j := x8 (ix2 R j)
  x R k := x9 (ix2 R k)
  e R k := x10 (ix2 R k)
  w k j := x11 (ix2 k j)
  n k := x12 (ix2 0 k)
  s k := x13 (ix2 0 k)
  f k := x14 (ix2 0 k)

local notation "𝔸" => args x0 x1 x2 x3 x4 x5 x6 x7 x8 x9 x10 x11 x12 x13 x14

variable (R : Fin 16384) (k : Fin 1024)

/-- The concatenated cotangent. -/
theorem v8 (j : Fin 4624) : val_main_v8 (F := Ideal) x0 x1 x2 x3 x4 x5 x6 x7 x8 (ix2 R j) = ct 𝔸 R j := by
  pointwise [val_main_v8, val_main_v0, val_main_v1, val_main_v2, val_main_v3, val_main_v4, val_main_v5, val_main_v6, val_main_v7]
  unfold ct
  have hy : j.val < 4624 := j.2
  simp only [args]
  repeat' split
  all_goals first | rfl | omega

/-- The reciprocal root. -/
theorem v17 (z : Fin 1) : val_main_v17 (F := Ideal) x9 (ix2 R z) = rr ((𝔸).x R) := by
  pointwise [rr, args, val_main_v17, val_main_v16, val_main_v15, val_main_v14, val_main_v13, val_main_v12, val_main_v11, val_main_v10, val_main_cst, val_main_cst_0, val_main_cst_1, val_main_cst_2, val_main_cst_3, val_main_cst_4, val_main_cst_5, val_main_cst_6, val_main_cst_7, val_main_cst_8, val_main_cst_9, val_main_cst_10, val_main_cst_11]

/-- The normalised entry. -/
theorem v22 : val_main_v22 (F := Ideal) x9 (ix2 R k) = xn 𝔸 R k := by
  pointwise [val_main_v22, val_main_v21]
  rw [v17 x0 x1 x2 x3 x4 x5 x6 x7 x8 x9 x10 x11 x12 x13 x14]
  rfl

/-- The modulated norm. -/
theorem v30 : val_main_v30 (F := Ideal) x9 x12 x13 x14 (ix2 R k) = hh 𝔸 R k := by
  pointwise [val_main_v30, val_main_v29, val_main_v28, val_main_v27, val_main_v26, val_main_v25, val_main_v24, val_main_v23, val_main_cst_4]
  rw [v22 x0 x1 x2 x3 x4 x5 x6 x7 x8 x9 x10 x11 x12 x13 x14]
  rfl

/-- The gradient into the modulated norm. -/
theorem v38 : val_main_v38 (F := Ideal) x0 x1 x2 x3 x4 x5 x6 x7 x8 x11 (ix2 R k) = dh 𝔸 R k := by
  rw [← dh_eq]
  pointwise [val_main_v38]
  exact Finset.sum_congr rfl fun j _ => congrArg (· * _) (v8 x0 x1 x2 x3 x4 x5 x6 x7 x8 x9 x10 x11 x12 x13 x14 R j)

/-- The gradient of the shift. -/
theorem v40 : val_main_v40 (F := Ideal) x0 x1 x2 x3 x4 x5 x6 x7 x8 x11 (ix2 0 k) = dsh 𝔸 k := by
  pointwise [val_main_v40, val_main_v39, val_main_cst_6]
  exact Finset.sum_congr rfl fun r _ => v38 x0 x1 x2 x3 x4 x5 x6 x7 x8 x9 x10 x11 x12 x13 x14 r k

/-- The gradient of the scale. -/
theorem v43 : val_main_v43 (F := Ideal) x0 x1 x2 x3 x4 x5 x6 x7 x8 x9 x11 x12 (ix2 0 k) = dsc 𝔸 k := by
  pointwise [val_main_v43, val_main_v42, val_main_v41, val_main_v24, val_main_v23, val_main_cst_7]
  refine Finset.sum_congr rfl fun r _ => ?_
  rw [v38 x0 x1 x2 x3 x4 x5 x6 x7 x8 x9 x10 x11 x12 x13 x14, v22 x0 x1 x2 x3 x4 x5 x6 x7 x8 x9 x10 x11 x12 x13 x14]
  exact (mul_comm _ _).trans (mul_assoc _ _ _).symm

/-- The gradient of the norm's weight. -/
theorem v48 : val_main_v48 (F := Ideal) x0 x1 x2 x3 x4 x5 x6 x7 x8 x9 x11 x13 (ix2 0 k) = gnw 𝔸 k := by
  pointwise [val_main_v48, val_main_v47, val_main_v46, val_main_v45, val_main_v44, val_main_v26, val_main_v25, val_main_cst_8, val_main_cst_4]
  refine Finset.sum_congr rfl fun r _ => ?_
  rw [v38 x0 x1 x2 x3 x4 x5 x6 x7 x8 x9 x10 x11 x12 x13 x14, v22 x0 x1 x2 x3 x4 x5 x6 x7 x8 x9 x10 x11 x12 x13 x14]
  exact (mul_left_comm _ _ _).trans (mul_assoc _ _ _).symm

/-- The pad's word, converted. -/
theorem pad_zero : (FloatOps.sitofp (F := Ideal) FTy.f32 0#32 : EReal) = 0 := by
  show (((0#32 : BitVec 32).toInt : ℝ) : EReal) = 0
  simp

/-- The gradient of the bias. -/
theorem v68 (j : Fin 4736) : val_main_v68 (F := Ideal) x0 x1 x2 x3 x4 x5 x6 x7 x8 (ix2 0 j) = gb 𝔸 j := by
  pointwise [val_main_v68, val_main_v35, val_main_v34, val_main_cst_5, val_main_call1_v0, val_main_c_12]
  split
  · exact Finset.sum_congr rfl fun r _ => v8 x0 x1 x2 x3 x4 x5 x6 x7 x8 x9 x10 x11 x12 x13 x14 r _
  · exact pad_zero.trans (Finset.sum_eq_zero fun r _ => ct_pad _ _ _ (by omega)).symm

/-- The gradient of the weight. -/
theorem v67 (j : Fin 4736) : val_main_v67 (F := Ideal) x0 x1 x2 x3 x4 x5 x6 x7 x8 x9 x12 x13 x14 (ix2 j k) = gw 𝔸 j k := by
  pointwise [val_main_v67, val_main_v66, val_main_v37, val_main_v36, val_main_call0_v0, val_main_c]
  split
  · refine Finset.sum_congr rfl fun r _ => ?_
    rw [v8 x0 x1 x2 x3 x4 x5 x6 x7 x8 x9 x10 x11 x12 x13 x14, v30 x0 x1 x2 x3 x4 x5 x6 x7 x8 x9 x10 x11 x12 x13 x14]
    exact mul_comm _ _
  · refine pad_zero.trans (Finset.sum_eq_zero fun r _ => ?_).symm
    rw [ct_pad _ _ _ (by omega), mul_zero]

/-- The gradient of `x`. -/
theorem v65 : val_main_v65 (F := Ideal) x0 x1 x2 x3 x4 x5 x6 x7 x8 x9 x10 x11 x12 x13 (ix2 R k) = gx 𝔸 R k := by
  pointwise [val_main_v65, val_main_v64, val_main_v63, val_main_v62, val_main_v61, val_main_v60, val_main_v59, val_main_v58, val_main_v57, val_main_v56, val_main_v55, val_main_v54, val_main_v53, val_main_v52, val_main_v51, val_main_v50, val_main_v49, val_main_v45, val_main_v44, val_main_v26, val_main_v25, val_main_v20, val_main_v19, val_main_v18, val_main_v16, val_main_v15, val_main_v14, val_main_v13, val_main_v12, val_main_v11, val_main_v10, val_main_cst, val_main_cst_0, val_main_cst_1, val_main_cst_2, val_main_cst_3, val_main_cst_4, val_main_cst_5, val_main_cst_6, val_main_cst_7, val_main_cst_8, val_main_cst_9, val_main_cst_10, val_main_cst_11]
  simp only [v17 x0 x1 x2 x3 x4 x5 x6 x7 x8 x9 x10 x11 x12 x13 x14, v38 x0 x1 x2 x3 x4 x5 x6 x7 x8 x9 x10 x11 x12 x13 x14, Finset.univ_unique, Finset.sum_singleton]
  exact (gx_form 𝔸 R k).symm

end Cert.InBwd.Ref
-- ==== Proof.InRefRun.lean ====
/- The reference's run of the projection's backward pass, its results as the plain functions. -/
module

public import proofs.«01_k».proof.Proof.Gen.ReferenceIdeal.Run
public import proofs.«01_k».proof.Proof.InRef

@[expose] public section

set_option maxRecDepth 16384

noncomputable section

set_option maxHeartbeats 400000

namespace Cert.InBwd.Ref

open Cert.ReferenceIdeal Cert.ReferenceIdeal.Gen Cert.ReferenceIdeal.Value Cert.ReferenceIdeal.Read Idealize.ShloMosaic Idealize.ShloMosaic.TcCoe Idealize.SL.Sem

variable (m : (ℓ : Loc nD τ sig) → Buf (Elt Ideal) ℓ) (c : Dev nD)

/-- The launched arguments by row and column. -/
def margs : Args := args (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))
  (m ((c.tc : Thread nD τ).loc main_arg6)) (m ((c.tc : Thread nD τ).loc main_arg7)) (m ((c.tc : Thread nD τ).loc main_arg8))
  (m ((c.tc : Thread nD τ).loc main_arg9)) (m ((c.tc : Thread nD τ).loc main_arg10)) (m ((c.tc : Thread nD τ).loc main_arg11))
  (m ((c.tc : Thread nD τ).loc main_arg12)) (m ((c.tc : Thread nD τ).loc main_arg13)) (m ((c.tc : Thread nD τ).loc main_arg14))

/-- A row's index is its column. -/
theorem row_idx {n : ℕ} (y : (⟨2, ![1, n]⟩ : Shape).Idx) : y = ix2 0 (y 1) :=
  (eq_ix2 y).trans (congrArg (fun z => ix2 z (y 1)) (Subsingleton.elim (α := Fin 1) _ _))

theorem run (ρ : Dev nD → PrngReg) :
    θ_run defs (onTc (τ := τ) (main (F := Ideal))) ⟨m, fun _ => 0, ρ⟩ fun r => ∀ c : Dev nD,
      r.2.mem ((c.tc : Thread nD τ).loc main_v65) = (fun y : S16384x1024.Idx => gx (margs m c) (y 0) (y 1))
      ∧ r.2.mem ((c.tc : Thread nD τ).loc main_v67) = (fun y : S4736x1024.Idx => gw (margs m c) (y 0 : Fin 4736) (y 1))
      ∧ r.2.mem ((c.tc : Thread nD τ).loc main_v68) = (fun y : S1x4736.Idx => gb (margs m c) (y 1 : Fin 4736))
      ∧ r.2.mem ((c.tc : Thread nD τ).loc main_v43) = (fun y : S1x1024.Idx => dsc (margs m c) (y 1))
      ∧ r.2.mem ((c.tc : Thread nD τ).loc main_v40) = (fun y : S1x1024.Idx => dsh (margs m c) (y 1))
      ∧ r.2.mem ((c.tc : Thread nD τ).loc main_v48) = (fun y : S1x1024.Idx => gnw (margs m c) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) := by
  refine (θ_run defs _ _).mono (fun r h c => ?_) (Cert.ReferenceIdeal.Value.run m ρ)
  obtain ⟨h65, h67, h68, h43, h40, h48, hk⟩ := h c
  refine ⟨h65.trans ?_, h67.trans ?_, h68.trans ?_, h43.trans ?_, h40.trans ?_, h48.trans ?_, hk⟩
  · exact (val_main_v65_eq m c).trans (funext fun y => (congrArg _ (eq_ix2 y)).trans (v65 _ _ _ _ _ _ _ _ _ _ _ _ _ _ _ (y 0) (y 1)))
  · exact (val_main_v67_eq ..).trans (funext fun y => (congrArg _ (eq_ix2 y)).trans (v67 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (y 1) (y 0)))
  · exact (val_main_v68_eq ..).trans (funext fun y => (congrArg _ (row_idx y)).trans (v68 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (y 1)))
  · exact (val_main_v43_eq ..).trans (funext fun y => (congrArg _ (row_idx y)).trans (v43 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (y 1)))
  · exact (val_main_v40_eq ..).trans (funext fun y => (congrArg _ (row_idx y)).trans (v40 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (y 1)))
  · exact (val_main_v48_eq ..).trans (funext fun y => (congrArg _ (row_idx y)).trans (v48 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (y 1)))

end Cert.InBwd.Ref

end
-- ==== Proof.ProjRuns.lean ====
/- The launch of the input projection: when each branch of its body is taken, and which windows it stores. -/
module

public import proofs.«01_k».proof.Proof.Gen.Kernel2Ideal.Frame
public import proofs.«01_k».proof.Proof.Gen.Kernel2Ideal.Skeleton
public import Idealize.ShloMosaic.Lib.Pipeline.TableIdle

@[expose] public section

set_option maxRecDepth 16384

noncomputable section

namespace Cert.InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

abbrev cond0_0 (i : grid0.Coords) : Prop := k0_cond1 i = 1#1
theorem hcond0_0 : ∀ t : Fin cfg0.N, cond0_0 (grid0.coords t) ↔ t.val % 6 = 0 :=
  (fun t => by
    have ht : t.val < 48 := Nat.lt_of_lt_of_eq t.isLt N_0
    have e0 : (grid0.coords t 0).val = t.val / 6 % 8 := Pipeline.Grid.coords_val t 0 (by decide) rfl
    have e1 : (grid0.coords t 1).val = t.val / 1 % 6 := Pipeline.Grid.coords_val t 1 (by decide) rfl
    simp only [cond0_0, k0_cond1, e0, e1]
    word_cmp
   : ∀ t : Fin grid0.N, cond0_0 (grid0.coords t) ↔ t.val % 6 = 0)

abbrev cond0_1 (i : grid0.Coords) : Prop := ¬cond0_0 i
theorem hcond0_1 (t : Fin cfg0.N) : cond0_1 (grid0.coords t) ↔ 1 ≤ t.val % 6 := by
  rw [show cond0_1 (grid0.coords t) = ¬cond0_0 (grid0.coords t) from rfl, hcond0_0 t]
  omega

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
def freshTab0_9 : ℕ → Bool
  | 0 => true
  | n + 1 => (0x820820820820 : ℕ).testBit n
theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)
theorem liveAt0_9_A : ∀ t : Fin cfg0.N, cond0_0 (grid0.coords t) → ¬cond0_1 (grid0.coords t) → cfg0.idle 9 (grid0.coords t) = false := by decide +kernel
/-- The gate window is idle in case B: nothing is stored into it after a row block's first step. -/
theorem idleAt0_9_B : ∀ t : Fin cfg0.N, ¬cond0_0 (grid0.coords t) → cond0_1 (grid0.coords t) → cfg0.idle 9 (grid0.coords t) = true := by decide +kernel
theorem notFresh0_9_B : ∀ t : Fin cfg0.N, ¬cond0_0 (grid0.coords t) → cond0_1 (grid0.coords t) → cfg0.fresh 9 t.val = false := by
  intro t; rw [fresh0_9_eq t]; revert t; decide +kernel

/-! ## The kernel body on any staging memrefs: a subtype the run finds -/

abbrev VO0_8 : View sig .tc .vmem S2048x768 .bf16 := (Memref.whole cc0_stg8_0 : Memref sig .tc .vmem S2048x768 .bf16).view
abbrev VO0_9 : View sig .tc .vmem S2048x128 .f32 := (Memref.whole cc0_stg9_0 : Memref sig .tc .vmem S2048x128 .f32).view
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x768 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x768 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2048x128 .f32 := win0_9.stage (cfg0.slots t 9)
abbrev hs0_9 (t : Fin cfg0.N) : (ms0_9 t).IsWhole := hstage0_9 ((cfg0.slots t 9).cast nbuf0_9)
abbrev scM0_0 : Memref sig .tc .vmem S2048x1024 .bf16 := Memref.whole cc0_scratch0
abbrev VS0_0 : View sig .tc .vmem S2048x1024 .bf16 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.InProj

end
-- ==== Proof.ProjA.lean ====
/- The first step of a row block: the body normalises its rows into the scratch, and stores the gate columns and the first piece of the projection. -/
module

public import proofs.«01_k».proof.Proof.ProjRuns

@[expose] public section

set_option maxRecDepth 16384

noncomputable section

namespace Cert.InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
noncomputable def kernelRun0_A (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S768x1024 .bf16) (harg6 : arg6.IsWhole) (arg7 : Memref sig .tc .vmem S1x768 .f32) (harg7 : arg7.IsWhole) (arg8 : Memref sig .tc .vmem S128x1024 .bf16) (harg8 : arg8.IsWhole) (arg9 : Memref sig .tc .vmem S1x128 .f32) (harg9 : arg9.IsWhole) (arg10 : Memref sig .tc .vmem S2048x768 .bf16) (harg10 : arg10.IsWhole) (arg11 : Memref sig .tc .vmem S2048x128 .f32) (harg11 : arg11.IsWhole) (arg12 : Memref sig .tc .vmem S2048x1024 .bf16) (harg12 : arg12.IsWhole) (hc0 : cond0_0 i) (hc1 : ¬cond0_1 i)
    (x0 : Vec F S2048x1024 .f32) (x1 : Vec F S1x1024 .f32) (x2 : Vec F S1x1024 .f32) (x3 : Vec F S1x1024 .f32) (x4 : Vec F S768x1024 .bf16) (x5 : Vec F S1x768 .f32) (x6 : Vec F S128x1024 .bf16) (x7 : Vec F S1x128 .f32) :
    Σ' (L8 : List (View.Piece (Elt F) S2048x768 .bf16)), Σ' (L9 : List (View.Piece (Elt F) S2048x128 .f32)), { LS0 : List (View.Piece (Elt F) S2048x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_in_proj_eq_skeleton]; unfold cc0_in_proj_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    iexists _; iexact HS0

end Cert.InProj

end
-- ==== Proof.ProjB.lean ====
/- The later steps of a row block: the body stores one piece of the projection and leaves the gate columns and the scratch alone. -/
module

public import proofs.«01_k».proof.Proof.ProjA

@[expose] public section

set_option maxRecDepth 16384

noncomputable section

namespace Cert.InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
noncomputable def kernelRun0_B (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S768x1024 .bf16) (harg6 : arg6.IsWhole) (arg7 : Memref sig .tc .vmem S1x768 .f32) (harg7 : arg7.IsWhole) (arg8 : Memref sig .tc .vmem S128x1024 .bf16) (harg8 : arg8.IsWhole) (arg9 : Memref sig .tc .vmem S1x128 .f32) (harg9 : arg9.IsWhole) (arg10 : Memref sig .tc .vmem S2048x768 .bf16) (harg10 : arg10.IsWhole) (arg11 : Memref sig .tc .vmem S2048x128 .f32) (harg11 : arg11.IsWhole) (arg12 : Memref sig .tc .vmem S2048x1024 .bf16) (harg12 : arg12.IsWhole) (hc0 : ¬cond0_0 i) (hc1 : cond0_1 i)
    (x0 : Vec F S2048x1024 .f32) (x1 : Vec F S1x1024 .f32) (x2 : Vec F S1x1024 .f32) (x3 : Vec F S1x1024 .f32) (x4 : Vec F S768x1024 .bf16) (x5 : Vec F S1x768 .f32) (x6 : Vec F S128x1024 .bf16) (x7 : Vec F S1x128 .f32) (xo9 : Vec F S2048x128 .f32) (xs0 : Vec F S2048x1024 .bf16) :
    Σ' (L8 : List (View.Piece (Elt F) S2048x768 .bf16)), { LS0 : List (View.Piece (Elt F) S2048x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xo9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xo9 ∗ owns (c : Thread nD τ) arg12 fullShare xs0) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12) K } := by
  refine ⟨?_, [], fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    iexists _; isplitr; · ipureintro; exact harg12.read_unread _
    iexact HS0

end Cert.InProj

end
-- ==== Proof.ProjFrame.lean ====
/- The launch of the input projection: what the windows and the scratch hold point by point, the body obligation, and the run. -/
module

public import proofs.«01_k».proof.Proof.ProjB
public import Idealize.ShloMosaic.Lib.Claim

@[expose] public section

set_option maxRecDepth 16384

noncomputable section

namespace Cert.InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_A_8 (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S768x1024 .bf16) (harg6 : arg6.IsWhole) (arg7 : Memref sig .tc .vmem S1x768 .f32) (harg7 : arg7.IsWhole) (arg8 : Memref sig .tc .vmem S128x1024 .bf16) (harg8 : arg8.IsWhole) (arg9 : Memref sig .tc .vmem S1x128 .f32) (harg9 : arg9.IsWhole) (arg10 : Memref sig .tc .vmem S2048x768 .bf16) (harg10 : arg10.IsWhole) (arg11 : Memref sig .tc .vmem S2048x128 .f32) (harg11 : arg11.IsWhole) (arg12 : Memref sig .tc .vmem S2048x1024 .bf16) (harg12 : arg12.IsWhole) (hc0 : cond0_0 i) (hc1 : ¬cond0_1 i)
    (x0 : Vec F S2048x1024 .f32) (x1 : Vec F S1x1024 .f32) (x2 : Vec F S1x1024 .f32) (x3 : Vec F S1x1024 .f32) (x4 : Vec F S768x1024 .bf16) (x5 : Vec F S1x768 .f32) (x6 : Vec F S128x1024 .bf16) (x7 : Vec F S1x128 .f32) (y : S2048x768.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).1 S2048x768.size (by sl_kernel_rfl) y

def out0_A_8 (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S768x1024 .bf16) (harg6 : arg6.IsWhole) (arg7 : Memref sig .tc .vmem S1x768 .f32) (harg7 : arg7.IsWhole) (arg8 : Memref sig .tc .vmem S128x1024 .bf16) (harg8 : arg8.IsWhole) (arg9 : Memref sig .tc .vmem S1x128 .f32) (harg9 : arg9.IsWhole) (arg10 : Memref sig .tc .vmem S2048x768 .bf16) (harg10 : arg10.IsWhole) (arg11 : Memref sig .tc .vmem S2048x128 .f32) (harg11 : arg11.IsWhole) (arg12 : Memref sig .tc .vmem S2048x1024 .bf16) (harg12 : arg12.IsWhole) (hc0 : cond0_0 i) (hc1 : ¬cond0_1 i)
    (x0 : Vec F S2048x1024 .f32) (x1 : Vec F S1x1024 .f32) (x2 : Vec F S1x1024 .f32) (x3 : Vec F S1x1024 .f32) (x4 : Vec F S768x1024 .bf16) (x5 : Vec F S1x768 .f32) (x6 : Vec F S128x1024 .bf16) (x7 : Vec F S1x128 .f32) : Vec F S2048x768 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).1)

theorem cover0_A_9 (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S768x1024 .bf16) (harg6 : arg6.IsWhole) (arg7 : Memref sig .tc .vmem S1x768 .f32) (harg7 : arg7.IsWhole) (arg8 : Memref sig .tc .vmem S128x1024 .bf16) (harg8 : arg8.IsWhole) (arg9 : Memref sig .tc .vmem S1x128 .f32) (harg9 : arg9.IsWhole) (arg10 : Memref sig .tc .vmem S2048x768 .bf16) (harg10 : arg10.IsWhole) (arg11 : Memref sig .tc .vmem S2048x128 .f32) (harg11 : arg11.IsWhole) (arg12 : Memref sig .tc .vmem S2048x1024 .bf16) (harg12 : arg12.IsWhole) (hc0 : cond0_0 i) (hc1 : ¬cond0_1 i)
    (x0 : Vec F S2048x1024 .f32) (x1 : Vec F S1x1024 .f32) (x2 : Vec F S1x1024 .f32) (x3 : Vec F S1x1024 .f32) (x4 : Vec F S768x1024 .bf16) (x5 : Vec F S1x768 .f32) (x6 : Vec F S128x1024 .bf16) (x7 : Vec F S1x128 .f32) (y : S2048x128.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.1 S2048x128.size (by sl_kernel_rfl) y

def out0_A_9 (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S768x1024 .bf16) (harg6 : arg6.IsWhole) (arg7 : Memref sig .tc .vmem S1x768 .f32) (harg7 : arg7.IsWhole) (arg8 : Memref sig .tc .vmem S128x1024 .bf16) (harg8 : arg8.IsWhole) (arg9 : Memref sig .tc .vmem S1x128 .f32) (harg9 : arg9.IsWhole) (arg10 : Memref sig .tc .vmem S2048x768 .bf16) (harg10 : arg10.IsWhole) (arg11 : Memref sig .tc .vmem S2048x128 .f32) (harg11 : arg11.IsWhole) (arg12 : Memref sig .tc .vmem S2048x1024 .bf16) (harg12 : arg12.IsWhole) (hc0 : cond0_0 i) (hc1 : ¬cond0_1 i)
    (x0 : Vec F S2048x1024 .f32) (x1 : Vec F S1x1024 .f32) (x2 : Vec F S1x1024 .f32) (x3 : Vec F S1x1024 .f32) (x4 : Vec F S768x1024 .bf16) (x5 : Vec F S1x768 .f32) (x6 : Vec F S128x1024 .bf16) (x7 : Vec F S1x128 .f32) : Vec F S2048x128 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.1)

theorem scover0_A_0 (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S768x1024 .bf16) (harg6 : arg6.IsWhole) (arg7 : Memref sig .tc .vmem S1x768 .f32) (harg7 : arg7.IsWhole) (arg8 : Memref sig .tc .vmem S128x1024 .bf16) (harg8 : arg8.IsWhole) (arg9 : Memref sig .tc .vmem S1x128 .f32) (harg9 : arg9.IsWhole) (arg10 : Memref sig .tc .vmem S2048x768 .bf16) (harg10 : arg10.IsWhole) (arg11 : Memref sig .tc .vmem S2048x128 .f32) (harg11 : arg11.IsWhole) (arg12 : Memref sig .tc .vmem S2048x1024 .bf16) (harg12 : arg12.IsWhole) (hc0 : cond0_0 i) (hc1 : ¬cond0_1 i)
    (x0 : Vec F S2048x1024 .f32) (x1 : Vec F S1x1024 .f32) (x2 : Vec F S1x1024 .f32) (x3 : Vec F S1x1024 .f32) (x4 : Vec F S768x1024 .bf16) (x5 : Vec F S1x768 .f32) (x6 : Vec F S128x1024 .bf16) (x7 : Vec F S1x128 .f32) (y : S2048x1024.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1 S2048x1024.size (by sl_kernel_rfl) y

def sout0_A_0 (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S768x1024 .bf16) (harg6 : arg6.IsWhole) (arg7 : Memref sig .tc .vmem S1x768 .f32) (harg7 : arg7.IsWhole) (arg8 : Memref sig .tc .vmem S128x1024 .bf16) (harg8 : arg8.IsWhole) (arg9 : Memref sig .tc .vmem S1x128 .f32) (harg9 : arg9.IsWhole) (arg10 : Memref sig .tc .vmem S2048x768 .bf16) (harg10 : arg10.IsWhole) (arg11 : Memref sig .tc .vmem S2048x128 .f32) (harg11 : arg11.IsWhole) (arg12 : Memref sig .tc .vmem S2048x1024 .bf16) (harg12 : arg12.IsWhole) (hc0 : cond0_0 i) (hc1 : ¬cond0_1 i)
    (x0 : Vec F S2048x1024 .f32) (x1 : Vec F S1x1024 .f32) (x2 : Vec F S1x1024 .f32) (x3 : Vec F S1x1024 .f32) (x4 : Vec F S768x1024 .bf16) (x5 : Vec F S1x768 .f32) (x6 : Vec F S128x1024 .bf16) (x7 : Vec F S1x128 .f32) : Vec F S2048x1024 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1)

theorem cover0_B_8 (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S768x1024 .bf16) (harg6 : arg6.IsWhole) (arg7 : Memref sig .tc .vmem S1x768 .f32) (harg7 : arg7.IsWhole) (arg8 : Memref sig .tc .vmem S128x1024 .bf16) (harg8 : arg8.IsWhole) (arg9 : Memref sig .tc .vmem S1x128 .f32) (harg9 : arg9.IsWhole) (arg10 : Memref sig .tc .vmem S2048x768 .bf16) (harg10 : arg10.IsWhole) (arg11 : Memref sig .tc .vmem S2048x128 .f32) (harg11 : arg11.IsWhole) (arg12 : Memref sig .tc .vmem S2048x1024 .bf16) (harg12 : arg12.IsWhole) (hc0 : ¬cond0_0 i) (hc1 : cond0_1 i)
    (x0 : Vec F S2048x1024 .f32) (x1 : Vec F S1x1024 .f32) (x2 : Vec F S1x1024 .f32) (x3 : Vec F S1x1024 .f32) (x4 : Vec F S768x1024 .bf16) (x5 : Vec F S1x768 .f32) (x6 : Vec F S128x1024 .bf16) (x7 : Vec F S1x128 .f32) (xo9 : Vec F S2048x128 .f32) (xs0 : Vec F S2048x1024 .bf16) (y : S2048x768.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xs0).1 S2048x768.size (by sl_kernel_rfl) y

def out0_B_8 (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S768x1024 .bf16) (harg6 : arg6.IsWhole) (arg7 : Memref sig .tc .vmem S1x768 .f32) (harg7 : arg7.IsWhole) (arg8 : Memref sig .tc .vmem S128x1024 .bf16) (harg8 : arg8.IsWhole) (arg9 : Memref sig .tc .vmem S1x128 .f32) (harg9 : arg9.IsWhole) (arg10 : Memref sig .tc .vmem S2048x768 .bf16) (harg10 : arg10.IsWhole) (arg11 : Memref sig .tc .vmem S2048x128 .f32) (harg11 : arg11.IsWhole) (arg12 : Memref sig .tc .vmem S2048x1024 .bf16) (harg12 : arg12.IsWhole) (hc0 : ¬cond0_0 i) (hc1 : cond0_1 i)
    (x0 : Vec F S2048x1024 .f32) (x1 : Vec F S1x1024 .f32) (x2 : Vec F S1x1024 .f32) (x3 : Vec F S1x1024 .f32) (x4 : Vec F S768x1024 .bf16) (x5 : Vec F S1x768 .f32) (x6 : Vec F S128x1024 .bf16) (x7 : Vec F S1x128 .f32) (xo9 : Vec F S2048x128 .f32) (xs0 : Vec F S2048x1024 .bf16) : Vec F S2048x768 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xs0).1)

def out0_B_9 (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S768x1024 .bf16) (harg6 : arg6.IsWhole) (arg7 : Memref sig .tc .vmem S1x768 .f32) (harg7 : arg7.IsWhole) (arg8 : Memref sig .tc .vmem S128x1024 .bf16) (harg8 : arg8.IsWhole) (arg9 : Memref sig .tc .vmem S1x128 .f32) (harg9 : arg9.IsWhole) (arg10 : Memref sig .tc .vmem S2048x768 .bf16) (harg10 : arg10.IsWhole) (arg11 : Memref sig .tc .vmem S2048x128 .f32) (harg11 : arg11.IsWhole) (arg12 : Memref sig .tc .vmem S2048x1024 .bf16) (harg12 : arg12.IsWhole) (hc0 : ¬cond0_0 i) (hc1 : cond0_1 i)
    (x0 : Vec F S2048x1024 .f32) (x1 : Vec F S1x1024 .f32) (x2 : Vec F S1x1024 .f32) (x3 : Vec F S1x1024 .f32) (x4 : Vec F S768x1024 .bf16) (x5 : Vec F S1x768 .f32) (x6 : Vec F S128x1024 .bf16) (x7 : Vec F S1x128 .f32) (xo9 : Vec F S2048x128 .f32) (xs0 : Vec F S2048x1024 .bf16) : Vec F S2048x128 .f32 :=
  xo9

def sout0_B_0 (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S768x1024 .bf16) (harg6 : arg6.IsWhole) (arg7 : Memref sig .tc .vmem S1x768 .f32) (harg7 : arg7.IsWhole) (arg8 : Memref sig .tc .vmem S128x1024 .bf16) (harg8 : arg8.IsWhole) (arg9 : Memref sig .tc .vmem S1x128 .f32) (harg9 : arg9.IsWhole) (arg10 : Memref sig .tc .vmem S2048x768 .bf16) (harg10 : arg10.IsWhole) (arg11 : Memref sig .tc .vmem S2048x128 .f32) (harg11 : arg11.IsWhole) (arg12 : Memref sig .tc .vmem S2048x1024 .bf16) (harg12 : arg12.IsWhole) (hc0 : ¬cond0_0 i) (hc1 : cond0_1 i)
    (x0 : Vec F S2048x1024 .f32) (x1 : Vec F S1x1024 .f32) (x2 : Vec F S1x1024 .f32) (x3 : Vec F S1x1024 .f32) (x4 : Vec F S768x1024 .bf16) (x5 : Vec F S1x768 .f32) (x6 : Vec F S128x1024 .bf16) (x7 : Vec F S1x128 .f32) (xo9 : Vec F S2048x128 .f32) (xs0 : Vec F S2048x1024 .bf16) : Vec F S2048x1024 .bf16 := xs0

/-! ## What the outputs hold after each point -/

def outsAt0 (c : Dev nD) : (n : ℕ) → n < cfg0.N → Vec F S2048x768 .bf16 × Vec F S2048x128 .f32 × Vec F S2048x1024 .bf16
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (X0_4 m c ⟨0, hn⟩) (X0_5 m c ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (X0_4 m c ⟨0, hn⟩) (X0_5 m c ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (X0_4 m c ⟨0, hn⟩) (X0_5 m c ⟨0, hn⟩) (iblk m c 6 ⟨0, hn⟩) (iblk m c 7 ⟨0, hn⟩))
  | n + 1, hn =>
    if h0 : (n + 1) % 6 = 0 then
      if h1 : 1 ≤ (n + 1) % 6 then
        False.elim (by have hN : n + 1 < 48 := lt_of_lt_of_eq hn (show cfg0.N = 48 from N_0); omega)
      else
        (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (X0_4 m c ⟨n + 1, hn⟩) (X0_5 m c ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (X0_4 m c ⟨n + 1, hn⟩) (X0_5 m c ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (X0_4 m c ⟨n + 1, hn⟩) (X0_5 m c ⟨n + 1, hn⟩) (iblk m c 6 ⟨n + 1, hn⟩) (iblk m c 7 ⟨n + 1, hn⟩))
    else
      if h1 : 1 ≤ (n + 1) % 6 then
        (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (X0_4 m c ⟨n + 1, hn⟩) (X0_5 m c ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (X0_4 m c ⟨n + 1, hn⟩) (X0_5 m c ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (X0_4 m c ⟨n + 1, hn⟩) (X0_5 m c ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2)
      else
        False.elim (by have hN : n + 1 < 48 := lt_of_lt_of_eq hn (show cfg0.N = 48 from N_0); omega)

theorem outsAt0_A (c : Dev nD) (t : Fin cfg0.N) (h0 : t.val % 6 = 0) (h1 : ¬1 ≤ t.val % 6) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (X0_4 m c t) (X0_5 m c t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (X0_4 m c t) (X0_5 m c t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (X0_4 m c t) (X0_5 m c t) (iblk m c 6 t) (iblk m c 7 t)) := by
  obtain ⟨n, hn⟩ := t
  cases n with
  | zero => exact rfl
  | succ n => exact (dif_pos h0).trans ((dif_neg h1).trans rfl)

theorem outsAt0_B (c : Dev nD) (t : Fin cfg0.N) (h0 : ¬t.val % 6 = 0) (h1 : 1 ≤ t.val % 6) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (X0_4 m c t) (X0_5 m c t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (X0_4 m c t) (X0_5 m c t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (X0_4 m c t) (X0_5 m c t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => X0_4 m c t
    | ⟨5, _⟩ => X0_5 m c t
    | ⟨6, _⟩ => iblk m c 6 t
    | ⟨7, _⟩ => iblk m c 7 t
    | ⟨8, _⟩ => (outsAt0 m c t.val t.isLt).1
    | ⟨9, _⟩ => (outsAt0 m c t.val t.isLt).2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem hcarry0_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  have hN : t.val < 48 := lt_of_lt_of_eq t.isLt (show cfg0.N = 48 from N_0)
  rw [after0_9, after0_9]
  by_cases h0 : t.val % 6 = 0
  · by_cases h1 : 1 ≤ t.val % 6
    · exfalso; omega
    · rw [liveAt0_9_A t ((hcond0_0 t).mpr h0) (fun h => h1 ((hcond0_1 t).mp h))] at hi
      exact absurd hi Bool.false_ne_true
  · by_cases h1 : 1 ≤ t.val % 6
    · rw [outsAt0_B m c t h0 h1]
      rfl
    · exfalso; omega
theorem before0_9_B (c : Dev nD) (t : Fin cfg0.N) (h0 : ¬t.val % 6 = 0) (h1 : 1 ≤ t.val % 6) (d) :
    (dats m 0 c).before 9 t d = (outsAt0 m c (t.val - 1) (Nat.lt_of_le_of_lt (Nat.sub_le _ _) t.isLt)).2.1 := by
  rw [Dat.before_out_traj _ 9 rfl (fun _ _ => rfl) (hcarry0_9 m c) t.val t rfl d,
    if_neg (by rw [notFresh0_9_B t (fun h => h0 ((hcond0_0 t).mp h)) ((hcond0_1 t).mpr h1)]; exact Bool.false_ne_true)]
  dsimp only [dats]

/-- After a later step of a row block the gate window is left as the point before left it. -/
theorem leaves0_9_B (c : Dev nD) (t : Fin cfg0.N) (h0 : ¬t.val % 6 = 0) (h1 : 1 ≤ t.val % 6) :
    (owns (c : Thread nD τ) (ms0_9 t) fullShare (outsAt0 m c (t.val - 1) (Nat.lt_of_le_of_lt (Nat.sub_le _ _) t.isLt)).2.1 : sProp 𝕄)
      ⊢ (dats m 0 c).leavesExact 9 t := by
  have hi := idleAt0_9_B t (fun h => h0 ((hcond0_0 t).mp h)) ((hcond0_1 t).mpr h1)
  cases hf : (cfg0.win 9).flush t
  · rw [Dat.leavesExact_idle _ 9 t hi hf]
    iintro H
    iexists (outsAt0 m c (t.val - 1) (Nat.lt_of_le_of_lt (Nat.sub_le _ _) t.isLt)).2.1
    rw [before0_9_B m c t h0 h1]
    iexact H
  · unfold Dat.leavesExact
    rw [hi, hf, after0_9, outsAt0_B m c t h0 h1]
    exact Idealize.SL.BI.Entails.refl _

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 48 := lt_of_lt_of_eq t.isLt (show cfg0.N = 48 from N_0)
  by_cases h0 : t.val % 6 = 0
  · by_cases h1 : 1 ≤ t.val % 6
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9_A t ((hcond0_0 t).mpr h0) (fun h => h1 ((hcond0_1 t).mp h))], after0_9]
      by_cases hz : t.val = 0
      · rw [PhiS_castSucc m c t, PhiS_zero m c _ _ hz, PhiA0_eq]
        rw [outsAt0_A m c t h0 h1]
        unfold out0_A_8 out0_A_9 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (X0_4 m c t) (X0_5 m c t) (iblk m c 6 t) (iblk m c 7 t)).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [HS0]; · iexact HS0
        iintro ⟨H0, H1, H2, H3, H4, H5, H6, H7, ⟨%e8, H8⟩, ⟨%e9, H9⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _)
      · rw [PhiS_castSucc m c t, PhiS_pos m c _ _ hz]
        rw [outsAt0_A m c t h0 h1]
        unfold out0_A_8 out0_A_9 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (X0_4 m c t) (X0_5 m c t) (iblk m c 6 t) (iblk m c 7 t)).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [HS0]; · iexists _; iexact HS0
        iintro ⟨H0, H1, H2, H3, H4, H5, H6, H7, ⟨%e8, H8⟩, ⟨%e9, H9⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _)
  · by_cases h1 : 1 ≤ t.val % 6
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      by_cases hz : t.val = 0
      · exfalso; have hN : t.val < 48 := lt_of_lt_of_eq t.isLt (show cfg0.N = 48 from N_0); omega
      · rw [PhiS_castSucc m c t, PhiS_pos m c _ _ hz]
        rw [outsAt0_B m c t h0 h1]
        simp only [before0_9_B m c t h0 h1]
        unfold out0_B_8 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (X0_4 m c t) (X0_5 m c t) (iblk m c 6 t) (iblk m c 7 t) _ _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [HS0]; · iexact HS0
        iintro ⟨H0, H1, H2, H3, H4, H5, H6, H7, ⟨%e8, H8⟩, H9, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _ _ _ _)
        iapply (leaves0_9_B m c t h0 h1)
        iexact H9
    · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 48 := N_0; omega)

/-! ## The run and the frame -/

-- `θ_run_frame_track_shared`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.InProj

end
-- ==== Proof.ProjMath.lean ====
/- The mathematics of the input projection over the extended reals, on plain functions of row and column. -/
module

public import proofs.«01_k».proof.Proof.InPay

@[expose] public section

set_option maxRecDepth 16384

noncomputable section

namespace Cert.InProj

open Idealize.ShloMosaic
open Cert.InBwd (rr)

/-- The arrays the projection is a function of, by row and column. -/
structure Args where
  x : Fin 16384 → Fin 1024 → EReal
  n : Fin 1024 → EReal
  s : Fin 1024 → EReal
  f : Fin 1024 → EReal
  w : Fin 1024 → Fin 4624 → EReal
  b : Fin 4624 → EReal

variable (A : Args)

/-- The modulated norm. -/
def hh (R : Fin 16384) (k : Fin 1024) : EReal := A.x R k * rr (A.x R) * A.n k * (1 + A.s k) + A.f k

/-- The weight's column, zero after the last. -/
def wc (k : Fin 1024) (j : ℕ) : EReal := if h : j < 4624 then A.w k ⟨j, h⟩ else 0

/-- The bias, zero after the last. -/
def bc (j : ℕ) : EReal := if h : j < 4624 then A.b ⟨j, h⟩ else 0

/-- The projection, zero after the last column. -/
def pj (R : Fin 16384) (j : ℕ) : EReal := (∑ k, hh A R k * wc A k j) + bc A j

theorem pj_lt (R : Fin 16384) (j : ℕ) (h : j < 4624) : pj A R j = (∑ k, hh A R k * A.w k ⟨j, h⟩) + A.b ⟨j, h⟩ := by
  simp only [pj, wc, bc, dif_pos h]

theorem pj_pad (R : Fin 16384) (j : ℕ) (h : ¬j < 4624) : pj A R j = 0 := by
  simp only [pj, wc, bc, dif_neg h, mul_zero, Finset.sum_const_zero, add_zero]

end Cert.InProj

end
-- ==== Proof.ProjKer.lean ====
/- What the kernel of the input projection leaves in its windows, its scratch and its two results. -/
module

public import proofs.«01_k».proof.Proof.ProjFrame
public import proofs.«01_k».proof.Proof.ProjMath
public import Idealize.ShloMosaic.Lib.Pipeline.ValueKit
public import Idealize.ShloMosaic.Lib.Pipeline.ReadBack

@[expose] public section

set_option maxRecDepth 16384

noncomputable section

set_option maxHeartbeats 400000

namespace Cert.InProj

open Cert.Kernel2Ideal Cert.Kernel2Ideal.Gen Idealize.ShloMosaic Idealize.ShloMosaic.TcCoe Idealize.SL.Sem
open Cert.InBwd (rr)

/-! ## The stored values -/

/-- The projection's block. -/
theorem p1 (h : Vec Ideal S2048x1024 .bf16) (w : Vec Ideal S768x1024 .bf16) (b : Vec Ideal S1x768 .f32) (y : S2048x768.Idx) :
    k0_pay1 (F := Ideal) h w b y = (∑ k : Fin 1024, h (ix2 (y 0) k) * w (ix2 (y 1) k)) + b (ix2 0 (y 1)) := by
  pointwise [k0_pay1]

/-- The modulated norm's block. -/
theorem p2 (x : Vec Ideal S2048x1024 .f32) (n s f : Vec Ideal S1x1024 .f32) (y : S2048x1024.Idx) :
    k0_pay2 (F := Ideal) x n s f y = (x y * rr fun k => x (ix2 (y 0) k)) * n (ix2 0 (y 1)) * (1 + s (ix2 0 (y 1))) + f (ix2 0 (y 1)) := by
  pointwise [k0_pay2, rr]

/-- The gates' block. -/
theorem p3 (h : Vec Ideal S2048x1024 .bf16) (w : Vec Ideal S128x1024 .bf16) (b : Vec Ideal S1x128 .f32) (y : S2048x128.Idx) :
    k0_pay3 (F := Ideal) h w b y = (∑ k : Fin 1024, h (ix2 (y 0) k) * w (ix2 (y 1) k)) + b (ix2 0 (y 1)) := by
  pointwise [k0_pay3]

variable (m : (ℓ : Loc nD τ sig) → Buf (Elt Ideal) ℓ) (c : Dev nD)

/-- The kernel's arguments by row and column. -/
def args : Args where
  x R k := m ((c : Thread nD τ).loc main_arg0) (ix2 R k)
  n k := m ((c : Thread nD τ).loc main_arg1) (ix2 0 k)
  s k := m ((c : Thread nD τ).loc main_arg2) (ix2 0 k)
  f k := m ((c : Thread nD τ).loc main_arg3) (ix2 0 k)
  w k j := m ((c : Thread nD τ).loc main_arg4) (ix2 k j)
  b j := m ((c : Thread nD τ).loc main_arg5) (ix2 0 j)

local notation "𝔸" => args m c

/-! ## The blocks -/

theorem idx : ∀ t : Fin cfg0.N, win0_0.index t = ![t.val / 6, 0] ∧ win0_1.index t = ![0, 0] ∧ win0_2.index t = ![0, 0] ∧ win0_3.index t = ![0, 0]
    ∧ win0_4.index t = ![t.val % 6, 0] ∧ win0_5.index t = ![0, t.val % 6] ∧ win0_6.index t = ![36, 0] ∧ win0_7.index t = ![0, 36]
    ∧ win0_8.index t = ![t.val / 6, t.val % 6] ∧ win0_9.index t = ![t.val / 6, 0] :=
  (by decide +kernel : ∀ t : Fin grid0.N, _)

theorem N_lt (t : Fin cfg0.N) : t.val < 48 := lt_of_lt_of_eq t.isLt (show cfg0.N = 48 from N_0)

/-- The row of the arrays that row `r` of point `n`'s block is. -/
def row (n : ℕ) (hn : n < cfg0.N) (r : Fin 2048) : Fin 16384 := ⟨n / 6 * 2048 + r.val, by have := N_lt ⟨n, hn⟩; simp only at this; omega⟩

variable (t : Fin cfg0.N) (r : Fin 2048) (k : Fin 1024)

theorem b0 : iblk m c 0 t (ix2 r k) = (𝔸).x (row t.val t.isLt r) k := by
  simp only [args, row]
  blk_point [iblk, V, idx t]

theorem b1 : iblk m c 1 t (ix2 0 k) = (𝔸).n k := by
  simp only [args]
  blk_point [iblk, V, idx t]

theorem b2 : iblk m c 2 t (ix2 0 k) = (𝔸).s k := by
  simp only [args]
  blk_point [iblk, V, idx t]

theorem b3 : iblk m c 3 t (ix2 0 k) = (𝔸).f k := by
  simp only [args]
  blk_point [iblk, V, idx t]

/-- An integer zero as a number. -/
theorem sitofp_zero (ty : FTy) : FloatOps.sitofp (F := Ideal) ty 0#32 = (0 : EReal) := by
  show (((0#32 : BitVec 32).toInt : ℝ) : EReal) = 0
  simp

/-- The staged weights: transposed, with zero rows after the last column. -/
theorem wv (j : Fin 4736) : V m c main_v2 (ix2 j k) = wc 𝔸 k j := by
  unfold wc
  simp only [args]
  simp only [V, hostOps0, hostOps0_1, hostOps0_2, hostOps0_3, List.flatten_cons, List.flatten_nil, List.append_nil, List.cons_append, List.nil_append]
  entry_read
  change (pad S4736x1024 ![0, 0] ![112, 0] ![0, 0] (truncf (F := Ideal) FTy.bf16 (transpose S4624x1024 [1, 0] (m ((c : Thread nD τ).loc main_arg4))
    transposes_S1024x4624_S4624x1024_1_0) bitsLt_bf16_f32) (sitofp (F := Ideal) FTy.bf16 (constantI S_ 32 0#32))
    pads_S4624x1024_S4736x1024_01120_000 h_S_) (ix2 j k) = _
  pointwise
  rw [sitofp_zero]

/-- The staged bias, with zeros after the last column. -/
theorem bv (j : Fin 4736) : V m c main_v3 (ix2 0 j) = bc 𝔸 j := by
  unfold bc
  simp only [args]
  simp only [V, hostOps0, hostOps0_1, hostOps0_2, hostOps0_3, List.flatten_cons, List.flatten_nil, List.append_nil, List.cons_append, List.nil_append]
  entry_read
  change (pad (s := S1x4624) S1x4736 ![0, 0] ![0, 112] ![0, 0] (m ((c : Thread nD τ).loc main_arg5)) (sitofp (F := Ideal) FTy.f32 (constantI S_ 32 0#32))
    pads_S1x4624_S1x4736_000_01120 h_S_) (ix2 0 j) = _
  pointwise
  rw [sitofp_zero]

theorem b4 (j : Fin 768) : X0_4 m c t (ix2 j k) = wc 𝔸 k (t.val % 6 * 768 + j) := by
  rw [← wv m c k ⟨t.val % 6 * 768 + j, by omega⟩]
  unfold X0_4 Pipeline.Window.fill
  rw [dif_pos (moved0_4 t _)]
  show V m c main_v2 _ = V m c main_v2 _
  blk_ext [idx t]

theorem b5 (j : Fin 768) : X0_5 m c t (ix2 0 j) = bc 𝔸 (t.val % 6 * 768 + j) := by
  rw [← bv m c ⟨t.val % 6 * 768 + j, by omega⟩]
  unfold X0_5 Pipeline.Window.fill
  rw [dif_pos (moved0_5 t _)]
  show V m c main_v3 _ = V m c main_v3 _
  blk_ext [idx t]

theorem b6 (j : Fin 128) : iblk m c 6 t (ix2 j k) = wc 𝔸 k (4608 + j) := by
  rw [← wv m c k ⟨4608 + j, by omega⟩]
  show V m c main_v2 _ = V m c main_v2 _
  blk_ext [idx t]

theorem b7 (j : Fin 128) : iblk m c 7 t (ix2 0 j) = bc 𝔸 (4608 + j) := by
  rw [← bv m c ⟨4608 + j, by omega⟩]
  show V m c main_v3 _ = V m c main_v3 _
  blk_ext [idx t]

/-! ## One point's contents -/

/-- The stored modulated norm. -/
theorem h_pay : k0_pay2 (F := Ideal) (iblk m c 0 t) (iblk m c 1 t) (iblk m c 2 t) (iblk m c 3 t) (ix2 r k) = hh 𝔸 (row t.val t.isLt r) k := by
  rw [p2]
  simp only [ix2_0, ix2_1, b0 m c t r, b1 m c t, b2 m c t, b3 m c t]
  rfl

/-- The stored projection, from a scratch that holds the modulated norm. -/
theorem pj_pay (H : Vec Ideal S2048x1024 .bf16) (hH : ∀ r k, H (ix2 r k) = hh 𝔸 (row t.val t.isLt r) k) (j : Fin 768) :
    k0_pay1 (F := Ideal) H (X0_4 m c t) (X0_5 m c t) (ix2 r j) = pj 𝔸 (row t.val t.isLt r) (t.val % 6 * 768 + j) := by
  rw [p1]
  simp only [ix2_0, ix2_1, b5 m c t]
  exact congrArg (· + _) (Finset.sum_congr rfl fun k _ => congrArg₂ (fun a b : EReal => a * b) (hH r k) (b4 m c t k j))

/-- The stored gates, from a scratch that holds the modulated norm. -/
theorem g_pay (H : Vec Ideal S2048x1024 .bf16) (hH : ∀ r k, H (ix2 r k) = hh 𝔸 (row t.val t.isLt r) k) (j : Fin 128) :
    k0_pay3 (F := Ideal) H (iblk m c 6 t) (iblk m c 7 t) (ix2 r j) = pj 𝔸 (row t.val t.isLt r) (4608 + j) := by
  rw [p3]
  simp only [ix2_0, ix2_1, b7 m c t]
  exact congrArg (· + _) (Finset.sum_congr rfl fun k _ => congrArg₂ (fun a b : EReal => a * b) (hH r k) (b6 m c t k j))

theorem canon_all {S : Shape} {e : EltTy} (X : S.Idx → Elt Ideal e) (L : List (View.Piece (Elt Ideal) S e)) :
    View.canon (⟨Rect.whole S, X⟩ :: L) = X := by
  funext y
  have h := View.canon_cons_emb (Rect.whole S) X L y
  rwa [Rect.emb_whole_apply] at h

theorem readCov_all {sp : Space} {S : Shape} {e : EltTy} (v : View sig .tc sp S e) (X : S.Idx → Elt Ideal e)
    (L : List (View.Piece (Elt Ideal) S e)) (r : Rect S) :
    v.readCov (⟨Rect.whole S, X⟩ :: L) r.toLoadRect = View.ld X r := by
  rw [View.readCov_eq_canon', canon_all]

theorem h_A (h0 : t.val % 6 = 0) (h1 : ¬1 ≤ t.val % 6) : (outsAt0 m c t.val t.isLt).2.2 (ix2 r k) = hh 𝔸 (row t.val t.isLt r) k := by
  rw [outsAt0_A m c t h0 h1]; frame_out
  try simp (disch := first | rfl | decide) only [↓View.readCov_skip, ↓View.readCov_fill, readCov_all, read_unread_whole]
  exact h_pay m c t r k

theorem h_B (h0 : ¬t.val % 6 = 0) (h1 : 1 ≤ t.val % 6) :
    (outsAt0 m c t.val t.isLt).2.2 = (outsAt0 m c (t.val - 1) (Nat.lt_of_le_of_lt (Nat.sub_le _ _) t.isLt)).2.2 := by
  rw [outsAt0_B m c t h0 h1]; rfl

/-- The scratch holds the block's modulated norm after every point. -/
theorem h_at : ∀ (n : ℕ) (hn : n < cfg0.N) (r : Fin 2048) (k : Fin 1024), (outsAt0 m c n hn).2.2 (ix2 r k) = hh 𝔸 (row n hn r) k := by
  intro n
  induction n with
  | zero => intro hn r k; exact h_A m c ⟨0, hn⟩ r k (Nat.zero_mod 6) (by simp)
  | succ n ih =>
    intro hn r k
    by_cases h0 : (n + 1) % 6 = 0
    · exact h_A m c ⟨n + 1, hn⟩ r k h0 (by simp only []; omega)
    · refine (congrFun (h_B m c ⟨n + 1, hn⟩ h0 (by simp only []; omega)) _).trans ((ih _ r k).trans (congrArg (hh 𝔸 · k) (Fin.ext ?_)))
      simp only [row]
      have : (n + 1) / 6 = n / 6 := by omega
      rw [this]

theorem pj_A (h0 : t.val % 6 = 0) (h1 : ¬1 ≤ t.val % 6) (j : Fin 768) :
    (outsAt0 m c t.val t.isLt).1 (ix2 r j) = pj 𝔸 (row t.val t.isLt r) (t.val % 6 * 768 + j) := by
  rw [outsAt0_A m c t h0 h1]; frame_out
  try simp (disch := first | rfl | decide) only [↓View.readCov_skip, ↓View.readCov_fill, readCov_all, read_unread_whole]
  exact pj_pay m c t r _ (fun r k => h_pay m c t r k) j

theorem pj_B (h0 : ¬t.val % 6 = 0) (h1 : 1 ≤ t.val % 6) (j : Fin 768) :
    (outsAt0 m c t.val t.isLt).1 (ix2 r j) = pj 𝔸 (row t.val t.isLt r) (t.val % 6 * 768 + j) := by
  have hs := fun r k => (congrFun (h_B m c t h0 h1) (ix2 r k)).symm.trans (h_at m c t.val t.isLt r k)
  rw [outsAt0_B m c t h0 h1]; frame_out
  try simp (disch := first | rfl | decide) only [↓View.readCov_skip, ↓View.readCov_fill, readCov_all, read_unread_whole]
  exact pj_pay m c t r _ hs j

theorem g_A (h0 : t.val % 6 = 0) (h1 : ¬1 ≤ t.val % 6) (j : Fin 128) :
    (outsAt0 m c t.val t.isLt).2.1 (ix2 r j) = pj 𝔸 (row t.val t.isLt r) (4608 + j) := by
  rw [outsAt0_A m c t h0 h1]; frame_out
  try simp (disch := first | rfl | decide) only [↓View.readCov_skip, ↓View.readCov_fill, readCov_all, read_unread_whole]
  exact g_pay m c t r _ (fun r k => h_pay m c t r k) j

theorem g_B (h0 : ¬t.val % 6 = 0) (h1 : 1 ≤ t.val % 6) :
    (outsAt0 m c t.val t.isLt).2.1 = (outsAt0 m c (t.val - 1) (Nat.lt_of_le_of_lt (Nat.sub_le _ _) t.isLt)).2.1 := by
  rw [outsAt0_B m c t h0 h1]; rfl

theorem pj_at (j : Fin 768) : (outsAt0 m c t.val t.isLt).1 (ix2 r j) = pj 𝔸 (row t.val t.isLt r) (t.val % 6 * 768 + j) := by
  by_cases h0 : t.val % 6 = 0
  · exact pj_A m c t r h0 (by omega) j
  · exact pj_B m c t r h0 (by omega) j

/-- The gate window holds the block's gates after every point. -/
theorem g_at : ∀ (n : ℕ) (hn : n < cfg0.N) (r : Fin 2048) (j : Fin 128), (outsAt0 m c n hn).2.1 (ix2 r j) = pj 𝔸 (row n hn r) (4608 + j) := by
  intro n
  induction n with
  | zero => intro hn r j; exact g_A m c ⟨0, hn⟩ r (Nat.zero_mod 6) (by simp) j
  | succ n ih =>
    intro hn r j
    by_cases h0 : (n + 1) % 6 = 0
    · exact g_A m c ⟨n + 1, hn⟩ r h0 (by simp only []; omega) j
    · refine (congrFun (g_B m c ⟨n + 1, hn⟩ h0 (by simp only []; omega)) _).trans ((ih _ r j).trans (congrArg (pj 𝔸 · _) (Fin.ext ?_)))
      simp only [row]
      have : (n + 1) / 6 = n / 6 := by omega
      rw [this]

/-! ## The arrays -/

theorem final8 : (dats m 0 c).arrAt 8 cfg0.N = fun y => pj 𝔸 (y 0) (y 1 : Fin 4608) := by
  refine (dats m 0 c).arrAt_eq_of_covers 8 _ (by decide +kernel) fun t hf y => ?_
  blk_simp
  rw [after0_8]
  refine (congrArg _ (funext fun a => by fin_cases a <;> rfl : y = ix2 (y 0) (y 1))).trans ((pj_at m c t (y 0) (y 1)).trans ?_)
  exact congrArg₂ (pj 𝔸) (Fin.ext (by simp only [row]; blk_simp [idx t])) (by blk_simp [idx t])

theorem final9 : (dats m 0 c).arrAt 9 cfg0.N = fun y => pj 𝔸 (y 0) (4608 + (y 1 : Fin 128)) := by
  refine (dats m 0 c).arrAt_eq_of_covers 9 _ (by decide +kernel) fun t hf y => ?_
  blk_simp
  rw [after0_9]
  refine (congrArg _ (funext fun a => by fin_cases a <;> rfl : y = ix2 (y 0) (y 1))).trans ((g_at m c t.val t.isLt (y 0) (y 1)).trans ?_)
  exact congrArg₂ (pj 𝔸) (Fin.ext (by simp only [row]; blk_simp [idx t])) (by blk_simp [idx t])

/-- The run, its two results as the projection. -/
theorem run (ρ : Dev nD → PrngReg) : θ_run defs (onTc (τ := τ) (main (F := Ideal))) ⟨m, fun _ => 0, ρ⟩ fun r => ∀ c : Dev nD,
      r.2.mem ((c.tc : Thread nD τ).loc main_v4_0) = (fun y : S16384x4608.Idx => pj (args m c) (y 0) (y 1 : Fin 4608))
      ∧ r.2.mem ((c.tc : Thread nD τ).loc main_v4_1) = (fun y : S16384x128.Idx => pj (args m c) (y 0) (4608 + (y 1 : Fin 128)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have h8 : θ_run defs (onTc (τ := τ) (main (F := Ideal))) ⟨m, fun _ => 0, ρ⟩ fun r => ∀ c : Dev nD,
      r.2.mem ((c.tc : Thread nD τ).loc main_v4_0) = (dats m 0 c).arrAt 8 cfg0.N
      ∧ r.2.mem ((c.tc : Thread nD τ).loc main_v4_1) = (dats m 0 c).arrAt 9 cfg0.N :=
    (θ_run defs _ _).mono (fun r h c => ⟨(h c).1 8, (h c).1 9⟩) (run_main m ρ)
  exact (θ_run defs _ _).mono (fun r h c => ⟨(h.1 c).1.trans (final8 m c), (h.1 c).2.trans (final9 m c), h.2 c⟩) (θ_run_and h8 (unchanged m ρ))

end Cert.InProj

end
-- ==== Proof.ProjRef.lean ====
/- The reference's results of the input projection read as the projection's mathematics, and its run. -/
module

public import proofs.«01_k».proof.Proof.ProjMath
public import proofs.«01_k».proof.Proof.Gen.Reference2Ideal.Run
public import proofs.«01_k».proof.Proof.Gen.Reference2Ideal.Read

@[expose] public section

set_option maxRecDepth 16384

noncomputable section

namespace Cert.InProj.Ref

open Cert.Reference2Ideal Cert.Reference2Ideal.Gen Cert.Reference2Ideal.Value Cert.Reference2Ideal.Read Idealize.ShloMosaic Idealize.ShloMosaic.TcCoe Idealize.SL.Sem
open Cert.InBwd (rr)

variable (x0 : (⟨S16384x1024, .f32⟩ : BufTy).Contents (Elt Ideal)) (x1 x2 x3 : (⟨S1x1024, .f32⟩ : BufTy).Contents (Elt Ideal))
  (x4 : (⟨S1024x4624, .f32⟩ : BufTy).Contents (Elt Ideal)) (x5 : (⟨S1x4624, .f32⟩ : BufTy).Contents (Elt Ideal))

/-- The reference's arguments by row and column. -/
def args : Args where
  x R k := x0 (ix2 R k)
  n k := x1 (ix2 0 k)
  s k := x2 (ix2 0 k)
  f k := x3 (ix2 0 k)
  w k j := x4 (ix2 k j)
  b j := x5 (ix2 0 j)

local notation "𝔸" => args x0 x1 x2 x3 x4 x5

variable (R : Fin 16384) (k : Fin 1024)

/-- The modulated norm. -/
theorem v17 : val_main_v17 (F := Ideal) x0 x1 x2 x3 (ix2 R k) = hh 𝔸 R k := by
  pointwise [hh, rr, args, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

/-- The projection. -/
theorem v20 (j : Fin 4624) : val_main_v20 (F := Ideal) x0 x1 x2 x3 x4 x5 (ix2 R j) = pj 𝔸 R j := by
  rw [pj_lt _ _ _ j.2]
  pointwise [val_main_v20, val_main_v19, val_main_v18]
  exact congrArg (· + _) (Finset.sum_congr rfl fun k _ => congrArg (· * _) (v17 x0 x1 x2 x3 x4 x5 R k))

/-- Its main columns. -/
theorem v24 (j : Fin 4608) : val_main_v24 (F := Ideal) x0 x1 x2 x3 x4 x5 (ix2 R j) = pj 𝔸 R j := by
  pointwise [val_main_v24, val_main_v23]
  exact v20 x0 x1 x2 x3 x4 x5 R ⟨j.val, by omega⟩

/-- An integer zero as a number. -/
theorem sitofp_zero (ty : FTy) : FloatOps.sitofp (F := Ideal) ty 0#32 = (0 : EReal) := by
  show (((0#32 : BitVec 32).toInt : ℝ) : EReal) = 0
  simp

/-- Its gate columns, padded. -/
theorem v22 (j : Fin 128) : val_main_v22 (F := Ideal) x0 x1 x2 x3 x4 x5 (ix2 R j) = pj 𝔸 R (4608 + j) := by
  pointwise [val_main_v22, val_main_v21, val_main_call0_v0, val_main_c]
  split
  case isTrue h => exact v20 x0 x1 x2 x3 x4 x5 R ⟨4608 + j.val, by omega⟩
  case isFalse h => rw [pj_pad _ _ _ (by omega)]; exact sitofp_zero _

variable (m : (ℓ : Loc nD τ sig) → Buf (Elt Ideal) ℓ) (c : Dev nD)

/-- The launched arguments by row and column. -/
def margs : Args := args (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))

theorem run (ρ : Dev nD → PrngReg) :
    θ_run defs (onTc (τ := τ) (main (F := Ideal))) ⟨m, fun _ => 0, ρ⟩ fun r => ∀ c : Dev nD,
      r.2.mem ((c.tc : Thread nD τ).loc main_v24) = (fun y : S16384x4608.Idx => pj (margs m c) (y 0) (y 1 : Fin 4608))
      ∧ r.2.mem ((c.tc : Thread nD τ).loc main_v22) = (fun y : S16384x128.Idx => pj (margs m c) (y 0) (4608 + (y 1 : Fin 128)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Cert.Reference2Ideal.Value.run m ρ)
  obtain ⟨h24, h22, hk⟩ := h c
  refine ⟨h24.trans ?_, h22.trans ?_, hk⟩
  · exact (val_main_v24_eq ..).trans (funext fun y => (congrArg _ (eq_ix2 y)).trans (v24 _ _ _ _ _ _ (y 0) (y 1)))
  · exact (val_main_v22_eq ..).trans (funext fun y => (congrArg _ (eq_ix2 y)).trans (v22 _ _ _ _ _ _ (y 0) (y 1)))

end Cert.InProj.Ref

end
-- ==== Proof.GwRun.lean ====
/- The last grid point of the projection's backward kernel, run once more with what its copies out leave in the
   weight gradient's array as a witness (`gwRun`): the generated run of that case gives the array back at some contents. -/
module

public import proofs.«01_k».proof.Proof.Gen.KernelIdeal.Frame.Runs

@[expose] public section

set_option maxRecDepth 16384

noncomputable section

namespace Cert.KernelIdeal.Gw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 3232000 in set_option sl_exec.dmaWindow true in set_option sl_exec.dmaWindowSet true in
/-- The body at the last point, from the staging buffer at `xs2` and the weight gradient's array at `fw1`: the pieces
    stored into each output and the accumulator, and the array's contents after its 37 copies out. -/
noncomputable def gwRun (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x128 .f32) (harg9 : arg9.IsWhole) (arg10 : Memref sig .tc .vmem S512x1024 .f32) (harg10 : arg10.IsWhole) (arg11 : Memref sig .tc .vmem S512x1024 .f32) (harg11 : arg11.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg18 : Memref sig .tc .vmem S1x4736 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S4736x1024 .bf16) (harg22 : arg22.IsWhole) (arg23 : Memref sig .tc .vmem S1024x4736 .f32) (harg23 : arg23.IsWhole) (arg24 : Memref sig .tc .vmem S2x128x1024 .f32) (harg24 : arg24.IsWhole) (hc0 : ¬cond0_0 i) (hc1 : cond0_1 i) (hd0 : Disjoint (((Memref.whole main_v4_1).slice (Rect.unit (s := S4736x1024) ![128, 0] S128x1024.size inb_S4736x1024_S128x1024_128_0) (fun _ => rfl))).view.set (((Memref.whole main_v4_1).slice (Rect.unit (s := S4736x1024) ![0, 0] S128x1024.size inb_S4736x1024_S128x1024_0_0) (fun _ => rfl))).view.set) (hd1 : Disjoint (((Memref.whole main_v4_1).slice (Rect.unit (s := S4736x1024) ![256, 0] S128x1024.size inb_S4736x1024_S128x1024_256_0) (fun _ => rfl))).view.set (((Memref.whole main_v4_1).slice (Rect.unit (s := S4736x1024) ![128, 0] S128x1024.size inb_S4736x1024_S128x1024_128_0) (fun _ => rfl))).view.set) (hd2 : Disjoint (((Memref.whole main_v4_1).slice (Rect.unit (s := S4736x1024) ![384, 0] S128x1024.size inb_S4736x1024_S128x1024_384_0) (fun _ => rfl))).view.set (((Memref.whole main_v4_1).slice (Rect.unit (s := S4736x1024) ![256, 0] S128x1024.size inb_S4736x1024_S128x1024_256_0) (fun _ => rfl))).view.set) (hd3 : Disjoint (((Memref.whole main_v4_1).slice (Rect.unit (s := S4736x1024) ![512, 0] S128x1024.size inb_S4736x1024_S128x1024_512_0) (fun _ => rfl))).view.set (((Memref.whole main_v4_1).slice (Rect.unit (s := S4736x1024) ![384, 0] S128x1024.size inb_S4736x1024_S128x1024_384_0) (fun _ => rfl))).view.set) (hd4 : Disjoint (((Memref.whole main_v4_1).slice (Rect.unit (s := S4736x1024) ![640, 0] S128x1024.size inb_S4736x1024_S128x1024_640_0) (fun _ => rfl))).view.set (((Memref.whole main_v4_1).slice (Rect.unit (s := S4736x1024) ![512, 0] S128x1024.size inb_S4736x1024_S128x1024_512_0) (fun _ => rfl))).view.set) (hd5 : Disjoint (((Memref.whole main_v4_1).slice (Rect.unit (s := S4736x1024) ![768, 0] S128x1024.size inb_S4736x1024_S128x1024_768_0) (fun _ => rfl))).view.set (((Memref.whole main_v4_1).slice (Rect.unit (s := S4736x1024) ![640, 0] S128x1024.size inb_S4736x1024_S128x1024_640_0) (fun _ => rfl))).view.set) (hd6 : Disjoint (((Memref.whole main_v4_1).slice (Rect.unit (s := S4736x1024) ![896, 0] S128x1024.size inb_S4736x1024_S128x1024_896_0) (fun _ => rfl))).view.set (((Memref.whole main_v4_1).slice (Rect.unit (s := S4736x1024) ![768, 0] S128x1024.size inb_S4736x1024_S128x1024_768_0) (fun _ => rfl))).view.set) (hd7 : Disjoint (((Memref.whole main_v4_1).slice (Rect.unit (s := S4736x1024) ![1024, 0] S128x1024.size inb_S4736x1024_S128x1024_1024_0) (fun _ => rfl))).view.set (((Memref.whole main_v4_1).slice (Rect.unit (s := S4736x1024) ![896, 0] S128x1024.size inb_S4736x1024_S128x1024_896_0) (fun _ => rfl))).view.set) (hd8 : Disjoint (((Memref.whole main_v4_1).slice (Rect.unit (s := S4736x1024) ![1152, 0] S128x1024.size inb_S4736x1024_S128x1024_1152_0) (fun _ => rfl))).view.set (((Memref.whole main_v4_1).slice (Rect.unit (s := S4736x1024) ![1024, 0] S128x1024.size inb_S4736x1024_S128x1024_1024_0) (fun _ => rfl))).view.set) (hd9 : Disjoint (((Memref.whole main_v4_1).slice (Rect.unit (s := S4736x1024) ![1280, 0] S128x1024.size inb_S4736x1024_S128x1024_1280_0) (fun _ => rfl))).view.set (((Memref.whole main_v4_1).slice (Rect.unit (s := S4736x1024) ![1152, 0] S128x1024.size inb_S4736x1024_S128x1024_1152_0) (fun _ => rfl))).view.set) (hd10 : Disjoint (((Memref.whole main_v4_1).slice (Rect.unit (s := S4736x1024) ![1408, 0] S128x1024.size inb_S4736x1024_S128x1024_1408_0) (fun _ => rfl))).view.set (((Memref.whole main_v4_1).slice (Rect.unit (s := S4736x1024) ![1280, 0] S128x1024.size inb_S4736x1024_S128x1024_1280_0) (fun _ => rfl))).view.set) (hd11 : Disjoint (((Memref.whole main_v4_1).slice (Rect.unit (s := S4736x1024) ![1536, 0] S128x1024.size inb_S4736x1024_S128x1024_1536_0) (fun _ => rfl))).view.set (((Memref.whole main_v4_1).slice (Rect.unit (s := S4736x1024) ![1408, 0] S128x1024.size inb_S4736x1024_S128x1024_1408_0) (fun _ => rfl))).view.set) (hd12 : Disjoint (((Memref.whole main_v4_1).slice (Rect.unit (s := S4736x1024) ![1664, 0] S128x1024.size inb_S4736x1024_S128x1024_1664_0) (fun _ => rfl))).view.set (((Memref.whole main_v4_1).slice (Rect.unit (s := S4736x1024) ![1536, 0] S128x1024.size inb_S4736x1024_S128x1024_1536_0) (fun _ => rfl))).view.set) (hd13 : Disjoint (((Memref.whole main_v4_1).slice (Rect.unit (s := S4736x1024) ![1792, 0] S128x1024.size inb_S4736x1024_S128x1024_1792_0) (fun _ => rfl))).view.set (((Memref.whole main_v4_1).slice (Rect.unit (s := S4736x1024) ![1664, 0] S128x1024.size inb_S4736x1024_S128x1024_1664_0) (fun _ => rfl))).view.set) (hd14 : Disjoint (((Memref.whole main_v4_1).slice (Rect.unit (s := S4736x1024) ![1920, 0] S128x1024.size inb_S4736x1024_S128x1024_1920_0) (fun _ => rfl))).view.set (((Memref.whole main_v4_1).slice (Rect.unit (s := S4736x1024) ![1792, 0] S128x1024.size inb_S4736x1024_S128x1024_1792_0) (fun _ => rfl))).view.set) (hd15 : Disjoint (((Memref.whole main_v4_1).slice (Rect.unit (s := S4736x1024) ![2048, 0] S128x1024.size inb_S4736x1024_S128x1024_2048_0) (fun _ => rfl))).view.set (((Memref.whole main_v4_1).slice (Rect.unit (s := S4736x1024) ![1920, 0] S128x1024.size inb_S4736x1024_S128x1024_1920_0) (fun _ => rfl))).view.set) (hd16 : Disjoint (((Memref.whole main_v4_1).slice (Rect.unit (s := S4736x1024) ![2176, 0] S128x1024.size inb_S4736x1024_S128x1024_2176_0) (fun _ => rfl))).view.set (((Memref.whole main_v4_1).slice (Rect.unit (s := S4736x1024) ![2048, 0] S128x1024.size inb_S4736x1024_S128x1024_2048_0) (fun _ => rfl))).view.set) (hd17 : Disjoint (((Memref.whole main_v4_1).slice (Rect.unit (s := S4736x1024) ![2304, 0] S128x1024.size inb_S4736x1024_S128x1024_2304_0) (fun _ => rfl))).view.set (((Memref.whole main_v4_1).slice (Rect.unit (s := S4736x1024) ![2176, 0] S128x1024.size inb_S4736x1024_S128x1024_2176_0) (fun _ => rfl))).view.set) (hd18 : Disjoint (((Memref.whole main_v4_1).slice (Rect.unit (s := S4736x1024) ![2432, 0] S128x1024.size inb_S4736x1024_S128x1024_2432_0) (fun _ => rfl))).view.set (((Memref.whole main_v4_1).slice (Rect.unit (s := S4736x1024) ![2304, 0] S128x1024.size inb_S4736x1024_S128x1024_2304_0) (fun _ => rfl))).view.set) (hd19 : Disjoint (((Memref.whole main_v4_1).slice (Rect.unit (s := S4736x1024) ![2560, 0] S128x1024.size inb_S4736x1024_S128x1024_2560_0) (fun _ => rfl))).view.set (((Memref.whole main_v4_1).slice (Rect.unit (s := S4736x1024) ![2432, 0] S128x1024.size inb_S4736x1024_S128x1024_2432_0) (fun _ => rfl))).view.set) (hd20 : Disjoint (((Memref.whole main_v4_1).slice (Rect.unit (s := S4736x1024) ![2688, 0] S128x1024.size inb_S4736x1024_S128x1024_2688_0) (fun _ => rfl))).view.set (((Memref.whole main_v4_1).slice (Rect.unit (s := S4736x1024) ![2560, 0] S128x1024.size inb_S4736x1024_S128x1024_2560_0) (fun _ => rfl))).view.set) (hd21 : Disjoint (((Memref.whole main_v4_1).slice (Rect.unit (s := S4736x1024) ![2816, 0] S128x1024.size inb_S4736x1024_S128x1024_2816_0) (fun _ => rfl))).view.set (((Memref.whole main_v4_1).slice (Rect.unit (s := S4736x1024) ![2688, 0] S128x1024.size inb_S4736x1024_S128x1024_2688_0) (fun _ => rfl))).view.set) (hd22 : Disjoint (((Memref.whole main_v4_1).slice (Rect.unit (s := S4736x1024) ![2944, 0] S128x1024.size inb_S4736x1024_S128x1024_2944_0) (fun _ => rfl))).view.set (((Memref.whole main_v4_1).slice (Rect.unit (s := S4736x1024) ![2816, 0] S128x1024.size inb_S4736x1024_S128x1024_2816_0) (fun _ => rfl))).view.set) (hd23 : Disjoint (((Memref.whole main_v4_1).slice (Rect.unit (s := S4736x1024) ![3072, 0] S128x1024.size inb_S4736x1024_S128x1024_3072_0) (fun _ => rfl))).view.set (((Memref.whole main_v4_1).slice (Rect.unit (s := S4736x1024) ![2944, 0] S128x1024.size inb_S4736x1024_S128x1024_2944_0) (fun _ => rfl))).view.set) (hd24 : Disjoint (((Memref.whole main_v4_1).slice (Rect.unit (s := S4736x1024) ![3200, 0] S128x1024.size inb_S4736x1024_S128x1024_3200_0) (fun _ => rfl))).view.set (((Memref.whole main_v4_1).slice (Rect.unit (s := S4736x1024) ![3072, 0] S128x1024.size inb_S4736x1024_S128x1024_3072_0) (fun _ => rfl))).view.set) (hd25 : Disjoint (((Memref.whole main_v4_1).slice (Rect.unit (s := S4736x1024) ![3328, 0] S128x1024.size inb_S4736x1024_S128x1024_3328_0) (fun _ => rfl))).view.set (((Memref.whole main_v4_1).slice (Rect.unit (s := S4736x1024) ![3200, 0] S128x1024.size inb_S4736x1024_S128x1024_3200_0) (fun _ => rfl))).view.set) (hd26 : Disjoint (((Memref.whole main_v4_1).slice (Rect.unit (s := S4736x1024) ![3456, 0] S128x1024.size inb_S4736x1024_S128x1024_3456_0) (fun _ => rfl))).view.set (((Memref.whole main_v4_1).slice (Rect.unit (s := S4736x1024) ![3328, 0] S128x1024.size inb_S4736x1024_S128x1024_3328_0) (fun _ => rfl))).view.set) (hd27 : Disjoint (((Memref.whole main_v4_1).slice (Rect.unit (s := S4736x1024) ![3584, 0] S128x1024.size inb_S4736x1024_S128x1024_3584_0) (fun _ => rfl))).view.set (((Memref.whole main_v4_1).slice (Rect.unit (s := S4736x1024) ![3456, 0] S128x1024.size inb_S4736x1024_S128x1024_3456_0) (fun _ => rfl))).view.set) (hd28 : Disjoint (((Memref.whole main_v4_1).slice (Rect.unit (s := S4736x1024) ![3712, 0] S128x1024.size inb_S4736x1024_S128x1024_3712_0) (fun _ => rfl))).view.set (((Memref.whole main_v4_1).slice (Rect.unit (s := S4736x1024) ![3584, 0] S128x1024.size inb_S4736x1024_S128x1024_3584_0) (fun _ => rfl))).view.set) (hd29 : Disjoint (((Memref.whole main_v4_1).slice (Rect.unit (s := S4736x1024) ![3840, 0] S128x1024.size inb_S4736x1024_S128x1024_3840_0) (fun _ => rfl))).view.set (((Memref.whole main_v4_1).slice (Rect.unit (s := S4736x1024) ![3712, 0] S128x1024.size inb_S4736x1024_S128x1024_3712_0) (fun _ => rfl))).view.set) (hd30 : Disjoint (((Memref.whole main_v4_1).slice (Rect.unit (s := S4736x1024) ![3968, 0] S128x1024.size inb_S4736x1024_S128x1024_3968_0) (fun _ => rfl))).view.set (((Memref.whole main_v4_1).slice (Rect.unit (s := S4736x1024) ![3840, 0] S128x1024.size inb_S4736x1024_S128x1024_3840_0) (fun _ => rfl))).view.set) (hd31 : Disjoint (((Memref.whole main_v4_1).slice (Rect.unit (s := S4736x1024) ![4096, 0] S128x1024.size inb_S4736x1024_S128x1024_4096_0) (fun _ => rfl))).view.set (((Memref.whole main_v4_1).slice (Rect.unit (s := S4736x1024) ![3968, 0] S128x1024.size inb_S4736x1024_S128x1024_3968_0) (fun _ => rfl))).view.set) (hd32 : Disjoint (((Memref.whole main_v4_1).slice (Rect.unit (s := S4736x1024) ![4224, 0] S128x1024.size inb_S4736x1024_S128x1024_4224_0) (fun _ => rfl))).view.set (((Memref.whole main_v4_1).slice (Rect.unit (s := S4736x1024) ![4096, 0] S128x1024.size inb_S4736x1024_S128x1024_4096_0) (fun _ => rfl))).view.set) (hd33 : Disjoint (((Memref.whole main_v4_1).slice (Rect.unit (s := S4736x1024) ![4352, 0] S128x1024.size inb_S4736x1024_S128x1024_4352_0) (fun _ => rfl))).view.set (((Memref.whole main_v4_1).slice (Rect.unit (s := S4736x1024) ![4224, 0] S128x1024.size inb_S4736x1024_S128x1024_4224_0) (fun _ => rfl))).view.set) (hd34 : Disjoint (((Memref.whole main_v4_1).slice (Rect.unit (s := S4736x1024) ![4480, 0] S128x1024.size inb_S4736x1024_S128x1024_4480_0) (fun _ => rfl))).view.set (((Memref.whole main_v4_1).slice (Rect.unit (s := S4736x1024) ![4352, 0] S128x1024.size inb_S4736x1024_S128x1024_4352_0) (fun _ => rfl))).view.set) (hd35 : Disjoint (((Memref.whole main_v4_1).slice (Rect.unit (s := S4736x1024) ![4608, 0] S128x1024.size inb_S4736x1024_S128x1024_4608_0) (fun _ => rfl))).view.set (((Memref.whole main_v4_1).slice (Rect.unit (s := S4736x1024) ![4480, 0] S128x1024.size inb_S4736x1024_S128x1024_4480_0) (fun _ => rfl))).view.set)
    (x0 : Vec F S512x512 .bf16) (x1 : Vec F S512x512 .bf16) (x2 : Vec F S512x512 .bf16) (x3 : Vec F S512x512 .bf16) (x4 : Vec F S512x1024 .bf16) (x5 : Vec F S512x512 .bf16) (x6 : Vec F S512x512 .bf16) (x7 : Vec F S512x512 .bf16) (x8 : Vec F S512x128 .f32) (x9 : Vec F S512x1024 .f32) (x10 : Vec F S512x1024 .f32) (x11 : Vec F S1x1024 .f32) (x12 : Vec F S1x1024 .f32) (x13 : Vec F S1x1024 .f32) (xo15 : Vec F S1x4736 .f32) (xo16 : Vec F S1x1024 .f32) (xo17 : Vec F S1x1024 .f32) (xo18 : Vec F S1x1024 .f32) (xs0 : Vec F S4736x1024 .bf16) (xs1 : Vec F S1024x4736 .f32) (fh0 : HbBuf0 (F := F) c hbM0_0) (xs2 : Vec F S2x128x1024 .f32) (fw1 : HbBuf0 (F := F) c hbM0_1) :
    Σ' (L14 : List (View.Piece (Elt F) S512x1024 .f32)), Σ' (L15 : List (View.Piece (Elt F) S1x4736 .f32)), Σ' (L16 : List (View.Piece (Elt F) S1x1024 .f32)), Σ' (L17 : List (View.Piece (Elt F) S1x1024 .f32)), Σ' (L18 : List (View.Piece (Elt F) S1x1024 .f32)), Σ' (LS0 : List (View.Piece (Elt F) S4736x1024 .bf16)), Σ' (LS1 : List (View.Piece (Elt F) S1024x4736 .f32)), { gw1 : HbBuf0 (F := F) c hbM0_1 //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ owns (c : Thread nD τ) arg18 fullShare xo15 ∗ owns (c : Thread nD τ) arg19 fullShare xo16 ∗ owns (c : Thread nD τ) arg20 fullShare xo17 ∗ owns (c : Thread nD τ) arg21 fullShare xo18 ∗ owns (c : Thread nD τ) arg22 fullShare xs0 ∗ owns (c : Thread nD τ) arg23 fullShare xs1 ∗ owns (c : Thread nD τ) arg24 fullShare xs2 ∗ semVal ((c : Thread nD τ), SemLoc.dma 31) 0 ∗ semVal ((c : Thread nD τ), SemLoc.dma 32) 0 ∗ semVal ((c : Thread nD τ), SemLoc.dma 33) 0 ∗ hbPt0 c hbM0_0 fh0 ∗ hbPt0 c hbM0_1 fw1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ (∃ f, arg18.view.loc (c : Thread nD τ) ↦[arg18.view.set]{fullShare} arg18.view.writes (Elt F) f L15) ∗ (∃ f, arg19.view.loc (c : Thread nD τ) ↦[arg19.view.set]{fullShare} arg19.view.writes (Elt F) f L16) ∗ (∃ f, arg20.view.loc (c : Thread nD τ) ↦[arg20.view.set]{fullShare} arg20.view.writes (Elt F) f L17) ∗ (∃ f, arg21.view.loc (c : Thread nD τ) ↦[arg21.view.set]{fullShare} arg21.view.writes (Elt F) f L18) ∗ owns (c : Thread nD τ) arg22 fullShare xs0 ∗ (∃ f, arg23.view.loc (c : Thread nD τ) ↦[arg23.view.set]{fullShare} arg23.view.writes (Elt F) f LS1) ∗ (∃ d, owns (c : Thread nD τ) arg24 fullShare d) ∗ semVal ((c : Thread nD τ), SemLoc.dma 31) 0 ∗ semVal ((c : Thread nD τ), SemLoc.dma 32) 0 ∗ semVal ((c : Thread nD τ), SemLoc.dma 33) 0 ∗ hbPt0 c hbM0_0 fh0 ∗ hbPt0 c hbM0_1 gw1 ∗ (∃ W', owes (c : Thread nD τ) 0 W')) -∗ K ⟨⟩))
          ⊢ wp frame (wpE (defs₀ (F := F)) Variants.none c none) Set.univ (cc0_in_bwd i arg1 harg1 arg2 harg2 arg3 harg3 arg4 harg4 arg5 harg5 arg6 harg6 arg7 harg7 arg8 harg8 arg9 harg9 arg10 harg10 arg11 harg11 (Memref.whole main_v2) (Memref.isWhole_whole _) arg13 harg13 arg14 harg14 arg15 harg15 arg16 harg16 (Memref.whole main_v4_1) (Memref.isWhole_whole _) arg18 harg18 arg19 harg19 arg20 harg20 arg21 harg21 arg22 harg22 arg23 harg23 arg24 harg24 cc0_scratch3) K } := by
  refine ⟨?_, ?_, ?_, ?_, ?_, [], ?_, ?_, fun W K => ?run⟩
  case run =>
    simp only [cc0_in_bwd_eq_skeleton]; unfold cc0_in_bwd_skel
    simp only [k0_part22_eq_skeleton, k0_part23_eq_skeleton, k0_part24_eq_skeleton, k0_part25_eq_skeleton, k0_part26_eq_skeleton, k0_part27_eq_skeleton, k0_part28_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, ⟨%f17, %hf17, H17⟩, ⟨%f18, %hf18, H18⟩, ⟨%fs0, %hfs0, HS0⟩, ⟨%fs1, %hfs1, HS1⟩, ⟨%fs2, %hfs2, HS2⟩, Hq0, Hq1, Hq2, Hh0, Hh1, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hf11; obtain rfl := harg14.eq_unread hf12; obtain rfl := harg15.eq_unread hf13; obtain rfl := harg18.eq_unread hf15; obtain rfl := harg19.eq_unread hf16; obtain rfl := harg20.eq_unread hf17; obtain rfl := harg21.eq_unread hf18; obtain rfl := harg22.eq_unread hfs0; obtain rfl := harg23.eq_unread hfs1; obtain rfl := harg24.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [HS0]
    · iexists _; isplitr; · ipureintro; exact harg22.read_unread _
      iexact HS0
    isplitl [HS1]; · iexists _; iexact HS1
    isplitl [HS2]
    · iexists _, _; isplitr; swap; · iexact HS2
      ipureintro; rfl
    isplitl [Hq0]; · iexact Hq0
    isplitl [Hq1]; · iexact Hq1
    isplitl [Hq2]; · iexact Hq2
    isplitl [Hh0]; · iexact Hh0
    isplitl [Hh1]; · iexact Hh1
    iexists _; iexact HW

end Cert.KernelIdeal.Gw

end
-- ==== Proof.GwVal.lean ====
/- What the copies out of the last grid point leave in the weight gradient's array: the accumulator, transposed. -/
module

public import proofs.«01_k».proof.Proof.GwRun
public import Idealize.ShloMosaic.Lib.Pipeline.ValueKit
public import Idealize.ShloMosaic.Lib.Pipeline.ReadBack

@[expose] public section

set_option maxRecDepth 16384

noncomputable section

namespace Cert.KernelIdeal.Gw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-- A block of 128 columns of the accumulator, transposed into a slot of the staging buffer and copied from there, is the
    block's transpose: entry `(i, j)` of the copy is the accumulator's entry `(j, o + i)`. -/
theorem slot_at (M : Memref sig .tc .vmem S2x128x1024 .f32) {off : Fin 3 → ℕ} (inb) (inb') (hr) (hq : _) (f) (L) (ht : S1024x128.Transposes [1, 0] S128x1024) (hs : S128x1024.ShapeCasts S1x128x1024)
    (A : View sig .tc .vmem S1024x4736 .f32) (P : List (View.Piece (Elt F) S1024x4736 .f32)) (o : ℕ) (io) (io') (x : S128x1024.Idx) :
    ReadAs.same.apply (((M.slice (Rect.unit off ![1, 128, 1024] inb) hr).squeeze S128x1024 hq).view.read (Elt F)
      (M.view.writes (Elt F) f (⟨Rect.unit off ![1, 128, 1024] inb', shapeCast S1x128x1024 (transpose S128x1024 [1, 0]
        (A.readCov P (Rect.unit (s := S1024x4736) ![0, o] ![1024, 128] io).toLoadRect) ht) hs⟩ :: L))) x
      = View.canon P (ix2 ((Rect.unit (s := S4736x1024) ![o, 0] ![128, 1024] io').emb x 1) ((Rect.unit (s := S4736x1024) ![o, 0] ![128, 1024] io').emb x 0)) := by
  obtain ⟨i, j, rfl⟩ : ∃ (i : Fin 128) (j : Fin 1024), x = ix2 i j := ⟨x 0, x 1, by funext a; fin_cases a <;> rfl⟩
  rw [View.readCov_eq_canon']
  have hc : (⟨3, ![1, 128, 1024]⟩ : Shape).ShapeCasts S128x1024 := by decide
  have e : M.view.readAt (Elt F) (Rect.unit off ![1, 128, 1024] inb).toLoadRect (M.view.writes (Elt F) f
      (⟨Rect.unit off ![1, 128, 1024] inb', shapeCast S1x128x1024 (transpose S128x1024 [1, 0]
        (fun j => View.canon P ((Rect.unit (s := S1024x4736) ![0, o] ![1024, 128] io).toLoadRect.idx j)) ht) hs⟩ :: L))
      = shapeCast S1x128x1024 (transpose S128x1024 [1, 0]
        (fun j => View.canon P ((Rect.unit (s := S1024x4736) ![0, o] ![1024, 128] io).toLoadRect.idx j)) ht) hs :=
    funext fun z => View.read_writes_cons_emb _ _ _ _ _ z
  refine (congrFun (Memref.read_squeeze_slice M (Rect.unit off ![1, 128, 1024] inb) hr hq hc _) (ix2 i j)).trans ?_
  rw [e]
  refine (congrFun (shapeCast_shapeCast _ hs hc) (ix2 i j)).trans ?_
  refine (transpose_apply (s := S1024x128) [1, 0] _ ht (ix2 i j) (ix2 j i) (fun a => match a with | ⟨0, _⟩ => rfl | ⟨1, _⟩ => rfl)).trans ?_
  refine congrArg (View.canon P) (funext fun a => Fin.ext ?_)
  match a with
  | ⟨0, _⟩ => show 0 + 1 * j.val = 0 + 1 * j.val; rfl
  | ⟨1, _⟩ => show o + 1 * i.val = o + 1 * i.val; rfl

/-- Copies that are blocks of `G` and cover the weight gradient's array leave `G` in it. -/
theorem whole_of_pieces (f) (G : S4736x1024.Idx → Elt F .f32) (L : List (View.Piece (Elt F) S4736x1024 .f32)) (h : View.PiecesOf G L)
    (hc : ∀ y, ∃ p ∈ L, y ∈ p.1.set) : (View.whole main_v4_1).writes (Elt F) f L = G :=
  funext fun y => View.read_writes_apply_of_pieces (View.whole main_v4_1) f G L h.mem y (hc y)

/-- The weight gradient's array after the copies out: the accumulator, transposed. -/
theorem gw1_eq (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x128 .f32) (harg9 : arg9.IsWhole) (arg10 : Memref sig .tc .vmem S512x1024 .f32) (harg10 : arg10.IsWhole) (arg11 : Memref sig .tc .vmem S512x1024 .f32) (harg11 : arg11.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg18 : Memref sig .tc .vmem S1x4736 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S4736x1024 .bf16) (harg22 : arg22.IsWhole) (arg23 : Memref sig .tc .vmem S1024x4736 .f32) (harg23 : arg23.IsWhole) (arg24 : Memref sig .tc .vmem S2x128x1024 .f32) (harg24 : arg24.IsWhole) (hc0 : ¬cond0_0 i) (hc1 : cond0_1 i) (hd0 : Disjoint (((Memref.whole main_v4_1).slice (Rect.unit (s := S4736x1024) ![128, 0] S128x1024.size inb_S4736x1024_S128x1024_128_0) (fun _ => rfl))).view.set (((Memref.whole main_v4_1).slice (Rect.unit (s := S4736x1024) ![0, 0] S128x1024.size inb_S4736x1024_S128x1024_0_0) (fun _ => rfl))).view.set) (hd1 : Disjoint (((Memref.whole main_v4_1).slice (Rect.unit (s := S4736x1024) ![256, 0] S128x1024.size inb_S4736x1024_S128x1024_256_0) (fun _ => rfl))).view.set (((Memref.whole main_v4_1).slice (Rect.unit (s := S4736x1024) ![128, 0] S128x1024.size inb_S4736x1024_S128x1024_128_0) (fun _ => rfl))).view.set) (hd2 : Disjoint (((Memref.whole main_v4_1).slice (Rect.unit (s := S4736x1024) ![384, 0] S128x1024.size inb_S4736x1024_S128x1024_384_0) (fun _ => rfl))).view.set (((Memref.whole main_v4_1).slice (Rect.unit (s := S4736x1024) ![256, 0] S128x1024.size inb_S4736x1024_S128x1024_256_0) (fun _ => rfl))).view.set) (hd3 : Disjoint (((Memref.whole main_v4_1).slice (Rect.unit (s := S4736x1024) ![512, 0] S128x1024.size inb_S4736x1024_S128x1024_512_0) (fun _ => rfl))).view.set (((Memref.whole main_v4_1).slice (Rect.unit (s := S4736x1024) ![384, 0] S128x1024.size inb_S4736x1024_S128x1024_384_0) (fun _ => rfl))).view.set) (hd4 : Disjoint (((Memref.whole main_v4_1).slice (Rect.unit (s := S4736x1024) ![640, 0] S128x1024.size inb_S4736x1024_S128x1024_640_0) (fun _ => rfl))).view.set (((Memref.whole main_v4_1).slice (Rect.unit (s := S4736x1024) ![512, 0] S128x1024.size inb_S4736x1024_S128x1024_512_0) (fun _ => rfl))).view.set) (hd5 : Disjoint (((Memref.whole main_v4_1).slice (Rect.unit (s := S4736x1024) ![768, 0] S128x1024.size inb_S4736x1024_S128x1024_768_0) (fun _ => rfl))).view.set (((Memref.whole main_v4_1).slice (Rect.unit (s := S4736x1024) ![640, 0] S128x1024.size inb_S4736x1024_S128x1024_640_0) (fun _ => rfl))).view.set) (hd6 : Disjoint (((Memref.whole main_v4_1).slice (Rect.unit (s := S4736x1024) ![896, 0] S128x1024.size inb_S4736x1024_S128x1024_896_0) (fun _ => rfl))).view.set (((Memref.whole main_v4_1).slice (Rect.unit (s := S4736x1024) ![768, 0] S128x1024.size inb_S4736x1024_S128x1024_768_0) (fun _ => rfl))).view.set) (hd7 : Disjoint (((Memref.whole main_v4_1).slice (Rect.unit (s := S4736x1024) ![1024, 0] S128x1024.size inb_S4736x1024_S128x1024_1024_0) (fun _ => rfl))).view.set (((Memref.whole main_v4_1).slice (Rect.unit (s := S4736x1024) ![896, 0] S128x1024.size inb_S4736x1024_S128x1024_896_0) (fun _ => rfl))).view.set) (hd8 : Disjoint (((Memref.whole main_v4_1).slice (Rect.unit (s := S4736x1024) ![1152, 0] S128x1024.size inb_S4736x1024_S128x1024_1152_0) (fun _ => rfl))).view.set (((Memref.whole main_v4_1).slice (Rect.unit (s := S4736x1024) ![1024, 0] S128x1024.size inb_S4736x1024_S128x1024_1024_0) (fun _ => rfl))).view.set) (hd9 : Disjoint (((Memref.whole main_v4_1).slice (Rect.unit (s := S4736x1024) ![1280, 0] S128x1024.size inb_S4736x1024_S128x1024_1280_0) (fun _ => rfl))).view.set (((Memref.whole main_v4_1).slice (Rect.unit (s := S4736x1024) ![1152, 0] S128x1024.size inb_S4736x1024_S128x1024_1152_0) (fun _ => rfl))).view.set) (hd10 : Disjoint (((Memref.whole main_v4_1).slice (Rect.unit (s := S4736x1024) ![1408, 0] S128x1024.size inb_S4736x1024_S128x1024_1408_0) (fun _ => rfl))).view.set (((Memref.whole main_v4_1).slice (Rect.unit (s := S4736x1024) ![1280, 0] S128x1024.size inb_S4736x1024_S128x1024_1280_0) (fun _ => rfl))).view.set) (hd11 : Disjoint (((Memref.whole main_v4_1).slice (Rect.unit (s := S4736x1024) ![1536, 0] S128x1024.size inb_S4736x1024_S128x1024_1536_0) (fun _ => rfl))).view.set (((Memref.whole main_v4_1).slice (Rect.unit (s := S4736x1024) ![1408, 0] S128x1024.size inb_S4736x1024_S128x1024_1408_0) (fun _ => rfl))).view.set) (hd12 : Disjoint (((Memref.whole main_v4_1).slice (Rect.unit (s := S4736x1024) ![1664, 0] S128x1024.size inb_S4736x1024_S128x1024_1664_0) (fun _ => rfl))).view.set (((Memref.whole main_v4_1).slice (Rect.unit (s := S4736x1024) ![1536, 0] S128x1024.size inb_S4736x1024_S128x1024_1536_0) (fun _ => rfl))).view.set) (hd13 : Disjoint (((Memref.whole main_v4_1).slice (Rect.unit (s := S4736x1024) ![1792, 0] S128x1024.size inb_S4736x1024_S128x1024_1792_0) (fun _ => rfl))).view.set (((Memref.whole main_v4_1).slice (Rect.unit (s := S4736x1024) ![1664, 0] S128x1024.size inb_S4736x1024_S128x1024_1664_0) (fun _ => rfl))).view.set) (hd14 : Disjoint (((Memref.whole main_v4_1).slice (Rect.unit (s := S4736x1024) ![1920, 0] S128x1024.size inb_S4736x1024_S128x1024_1920_0) (fun _ => rfl))).view.set (((Memref.whole main_v4_1).slice (Rect.unit (s := S4736x1024) ![1792, 0] S128x1024.size inb_S4736x1024_S128x1024_1792_0) (fun _ => rfl))).view.set) (hd15 : Disjoint (((Memref.whole main_v4_1).slice (Rect.unit (s := S4736x1024) ![2048, 0] S128x1024.size inb_S4736x1024_S128x1024_2048_0) (fun _ => rfl))).view.set (((Memref.whole main_v4_1).slice (Rect.unit (s := S4736x1024) ![1920, 0] S128x1024.size inb_S4736x1024_S128x1024_1920_0) (fun _ => rfl))).view.set) (hd16 : Disjoint (((Memref.whole main_v4_1).slice (Rect.unit (s := S4736x1024) ![2176, 0] S128x1024.size inb_S4736x1024_S128x1024_2176_0) (fun _ => rfl))).view.set (((Memref.whole main_v4_1).slice (Rect.unit (s := S4736x1024) ![2048, 0] S128x1024.size inb_S4736x1024_S128x1024_2048_0) (fun _ => rfl))).view.set) (hd17 : Disjoint (((Memref.whole main_v4_1).slice (Rect.unit (s := S4736x1024) ![2304, 0] S128x1024.size inb_S4736x1024_S128x1024_2304_0) (fun _ => rfl))).view.set (((Memref.whole main_v4_1).slice (Rect.unit (s := S4736x1024) ![2176, 0] S128x1024.size inb_S4736x1024_S128x1024_2176_0) (fun _ => rfl))).view.set) (hd18 : Disjoint (((Memref.whole main_v4_1).slice (Rect.unit (s := S4736x1024) ![2432, 0] S128x1024.size inb_S4736x1024_S128x1024_2432_0) (fun _ => rfl))).view.set (((Memref.whole main_v4_1).slice (Rect.unit (s := S4736x1024) ![2304, 0] S128x1024.size inb_S4736x1024_S128x1024_2304_0) (fun _ => rfl))).view.set) (hd19 : Disjoint (((Memref.whole main_v4_1).slice (Rect.unit (s := S4736x1024) ![2560, 0] S128x1024.size inb_S4736x1024_S128x1024_2560_0) (fun _ => rfl))).view.set (((Memref.whole main_v4_1).slice (Rect.unit (s := S4736x1024) ![2432, 0] S128x1024.size inb_S4736x1024_S128x1024_2432_0) (fun _ => rfl))).view.set) (hd20 : Disjoint (((Memref.whole main_v4_1).slice (Rect.unit (s := S4736x1024) ![2688, 0] S128x1024.size inb_S4736x1024_S128x1024_2688_0) (fun _ => rfl))).view.set (((Memref.whole main_v4_1).slice (Rect.unit (s := S4736x1024) ![2560, 0] S128x1024.size inb_S4736x1024_S128x1024_2560_0) (fun _ => rfl))).view.set) (hd21 : Disjoint (((Memref.whole main_v4_1).slice (Rect.unit (s := S4736x1024) ![2816, 0] S128x1024.size inb_S4736x1024_S128x1024_2816_0) (fun _ => rfl))).view.set (((Memref.whole main_v4_1).slice (Rect.unit (s := S4736x1024) ![2688, 0] S128x1024.size inb_S4736x1024_S128x1024_2688_0) (fun _ => rfl))).view.set) (hd22 : Disjoint (((Memref.whole main_v4_1).slice (Rect.unit (s := S4736x1024) ![2944, 0] S128x1024.size inb_S4736x1024_S128x1024_2944_0) (fun _ => rfl))).view.set (((Memref.whole main_v4_1).slice (Rect.unit (s := S4736x1024) ![2816, 0] S128x1024.size inb_S4736x1024_S128x1024_2816_0) (fun _ => rfl))).view.set) (hd23 : Disjoint (((Memref.whole main_v4_1).slice (Rect.unit (s := S4736x1024) ![3072, 0] S128x1024.size inb_S4736x1024_S128x1024_3072_0) (fun _ => rfl))).view.set (((Memref.whole main_v4_1).slice (Rect.unit (s := S4736x1024) ![2944, 0] S128x1024.size inb_S4736x1024_S128x1024_2944_0) (fun _ => rfl))).view.set) (hd24 : Disjoint (((Memref.whole main_v4_1).slice (Rect.unit (s := S4736x1024) ![3200, 0] S128x1024.size inb_S4736x1024_S128x1024_3200_0) (fun _ => rfl))).view.set (((Memref.whole main_v4_1).slice (Rect.unit (s := S4736x1024) ![3072, 0] S128x1024.size inb_S4736x1024_S128x1024_3072_0) (fun _ => rfl))).view.set) (hd25 : Disjoint (((Memref.whole main_v4_1).slice (Rect.unit (s := S4736x1024) ![3328, 0] S128x1024.size inb_S4736x1024_S128x1024_3328_0) (fun _ => rfl))).view.set (((Memref.whole main_v4_1).slice (Rect.unit (s := S4736x1024) ![3200, 0] S128x1024.size inb_S4736x1024_S128x1024_3200_0) (fun _ => rfl))).view.set) (hd26 : Disjoint (((Memref.whole main_v4_1).slice (Rect.unit (s := S4736x1024) ![3456, 0] S128x1024.size inb_S4736x1024_S128x1024_3456_0) (fun _ => rfl))).view.set (((Memref.whole main_v4_1).slice (Rect.unit (s := S4736x1024) ![3328, 0] S128x1024.size inb_S4736x1024_S128x1024_3328_0) (fun _ => rfl))).view.set) (hd27 : Disjoint (((Memref.whole main_v4_1).slice (Rect.unit (s := S4736x1024) ![3584, 0] S128x1024.size inb_S4736x1024_S128x1024_3584_0) (fun _ => rfl))).view.set (((Memref.whole main_v4_1).slice (Rect.unit (s := S4736x1024) ![3456, 0] S128x1024.size inb_S4736x1024_S128x1024_3456_0) (fun _ => rfl))).view.set) (hd28 : Disjoint (((Memref.whole main_v4_1).slice (Rect.unit (s := S4736x1024) ![3712, 0] S128x1024.size inb_S4736x1024_S128x1024_3712_0) (fun _ => rfl))).view.set (((Memref.whole main_v4_1).slice (Rect.unit (s := S4736x1024) ![3584, 0] S128x1024.size inb_S4736x1024_S128x1024_3584_0) (fun _ => rfl))).view.set) (hd29 : Disjoint (((Memref.whole main_v4_1).slice (Rect.unit (s := S4736x1024) ![3840, 0] S128x1024.size inb_S4736x1024_S128x1024_3840_0) (fun _ => rfl))).view.set (((Memref.whole main_v4_1).slice (Rect.unit (s := S4736x1024) ![3712, 0] S128x1024.size inb_S4736x1024_S128x1024_3712_0) (fun _ => rfl))).view.set) (hd30 : Disjoint (((Memref.whole main_v4_1).slice (Rect.unit (s := S4736x1024) ![3968, 0] S128x1024.size inb_S4736x1024_S128x1024_3968_0) (fun _ => rfl))).view.set (((Memref.whole main_v4_1).slice (Rect.unit (s := S4736x1024) ![3840, 0] S128x1024.size inb_S4736x1024_S128x1024_3840_0) (fun _ => rfl))).view.set) (hd31 : Disjoint (((Memref.whole main_v4_1).slice (Rect.unit (s := S4736x1024) ![4096, 0] S128x1024.size inb_S4736x1024_S128x1024_4096_0) (fun _ => rfl))).view.set (((Memref.whole main_v4_1).slice (Rect.unit (s := S4736x1024) ![3968, 0] S128x1024.size inb_S4736x1024_S128x1024_3968_0) (fun _ => rfl))).view.set) (hd32 : Disjoint (((Memref.whole main_v4_1).slice (Rect.unit (s := S4736x1024) ![4224, 0] S128x1024.size inb_S4736x1024_S128x1024_4224_0) (fun _ => rfl))).view.set (((Memref.whole main_v4_1).slice (Rect.unit (s := S4736x1024) ![4096, 0] S128x1024.size inb_S4736x1024_S128x1024_4096_0) (fun _ => rfl))).view.set) (hd33 : Disjoint (((Memref.whole main_v4_1).slice (Rect.unit (s := S4736x1024) ![4352, 0] S128x1024.size inb_S4736x1024_S128x1024_4352_0) (fun _ => rfl))).view.set (((Memref.whole main_v4_1).slice (Rect.unit (s := S4736x1024) ![4224, 0] S128x1024.size inb_S4736x1024_S128x1024_4224_0) (fun _ => rfl))).view.set) (hd34 : Disjoint (((Memref.whole main_v4_1).slice (Rect.unit (s := S4736x1024) ![4480, 0] S128x1024.size inb_S4736x1024_S128x1024_4480_0) (fun _ => rfl))).view.set (((Memref.whole main_v4_1).slice (Rect.unit (s := S4736x1024) ![4352, 0] S128x1024.size inb_S4736x1024_S128x1024_4352_0) (fun _ => rfl))).view.set) (hd35 : Disjoint (((Memref.whole main_v4_1).slice (Rect.unit (s := S4736x1024) ![4608, 0] S128x1024.size inb_S4736x1024_S128x1024_4608_0) (fun _ => rfl))).view.set (((Memref.whole main_v4_1).slice (Rect.unit (s := S4736x1024) ![4480, 0] S128x1024.size inb_S4736x1024_S128x1024_4480_0) (fun _ => rfl))).view.set)
    (x0 : Vec F S512x512 .bf16) (x1 : Vec F S512x512 .bf16) (x2 : Vec F S512x512 .bf16) (x3 : Vec F S512x512 .bf16) (x4 : Vec F S512x1024 .bf16) (x5 : Vec F S512x512 .bf16) (x6 : Vec F S512x512 .bf16) (x7 : Vec F S512x512 .bf16) (x8 : Vec F S512x128 .f32) (x9 : Vec F S512x1024 .f32) (x10 : Vec F S512x1024 .f32) (x11 : Vec F S1x1024 .f32) (x12 : Vec F S1x1024 .f32) (x13 : Vec F S1x1024 .f32) (xo15 : Vec F S1x4736 .f32) (xo16 : Vec F S1x1024 .f32) (xo17 : Vec F S1x1024 .f32) (xo18 : Vec F S1x1024 .f32) (xs0 : Vec F S4736x1024 .bf16) (xs1 : Vec F S1024x4736 .f32) (fh0 : HbBuf0 (F := F) c hbM0_0) (xs2 : Vec F S2x128x1024 .f32) (fw1 : HbBuf0 (F := F) c hbM0_1) :
    (gwRun c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0 xs2 fw1).2.2.2.2.2.2.2.1 = fun y : S4736x1024.Idx => View.canon (gwRun c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0 xs2 fw1).2.2.2.2.2.2.1 (ix2 (y 1) (y 0)) := by
  unfold gwRun
  dsimp only
  refine whole_of_pieces fw1 _ _ ?_ ?_
  · refine ⟨fun x => by unfold gwRun.sl.dma200 gwRun.sl.HS2_37 k0_pay40 gwRun.sl.v763; dsimp only; exact slot_at (F := F) arg24 (off := ![0, 0, 0]) inb_S2x128x1024_S1x128x1024_0_0_0 inb_S2x128x1024_S1x128x1024_0_0_0 (fun _ => rfl) squeezes_S1x128x1024_S128x1024 _ _ transposes_S1024x128_p1_0_S128x1024 shapeCasts_S128x1024_S1x128x1024 arg23.view _ 4608 inb_S1024x4736_S1024x128_0_4608 inb_S4736x1024_S128x1024_4608_0 x,
      fun x => by unfold gwRun.sl.dma197 gwRun.sl.HS2_36 k0_pay39 gwRun.sl.v748; dsimp only; exact slot_at (F := F) arg24 (off := ![1, 0, 0]) inb_S2x128x1024_S1x128x1024_1_0_0 inb_S2x128x1024_S1x128x1024_1_0_0 (fun _ => rfl) squeezes_S1x128x1024_S128x1024 _ _ transposes_S1024x128_p1_0_S128x1024 shapeCasts_S128x1024_S1x128x1024 arg23.view _ 4480 inb_S1024x4736_S1024x128_0_4480 inb_S4736x1024_S128x1024_4480_0 x,
      fun x => by unfold gwRun.sl.dma194 gwRun.sl.HS2_35 k0_pay38 gwRun.sl.v733; dsimp only; exact slot_at (F := F) arg24 (off := ![0, 0, 0]) inb_S2x128x1024_S1x128x1024_0_0_0 inb_S2x128x1024_S1x128x1024_0_0_0 (fun _ => rfl) squeezes_S1x128x1024_S128x1024 _ _ transposes_S1024x128_p1_0_S128x1024 shapeCasts_S128x1024_S1x128x1024 arg23.view _ 4352 inb_S1024x4736_S1024x128_0_4352 inb_S4736x1024_S128x1024_4352_0 x,
      fun x => by unfold gwRun.sl.dma191 gwRun.sl.HS2_34 k0_pay37 gwRun.sl.v718; dsimp only; exact slot_at (F := F) arg24 (off := ![1, 0, 0]) inb_S2x128x1024_S1x128x1024_1_0_0 inb_S2x128x1024_S1x128x1024_1_0_0 (fun _ => rfl) squeezes_S1x128x1024_S128x1024 _ _ transposes_S1024x128_p1_0_S128x1024 shapeCasts_S128x1024_S1x128x1024 arg23.view _ 4224 inb_S1024x4736_S1024x128_0_4224 inb_S4736x1024_S128x1024_4224_0 x,
      fun x => by unfold gwRun.sl.dma188 gwRun.sl.HS2_33 k0_pay36 gwRun.sl.v703; dsimp only; exact slot_at (F := F) arg24 (off := ![0, 0, 0]) inb_S2x128x1024_S1x128x1024_0_0_0 inb_S2x128x1024_S1x128x1024_0_0_0 (fun _ => rfl) squeezes_S1x128x1024_S128x1024 _ _ transposes_S1024x128_p1_0_S128x1024 shapeCasts_S128x1024_S1x128x1024 arg23.view _ 4096 inb_S1024x4736_S1024x128_0_4096 inb_S4736x1024_S128x1024_4096_0 x,
      fun x => by unfold gwRun.sl.dma185 gwRun.sl.HS2_32 k0_pay35 gwRun.sl.r_21 k0_pay34 gwRun.sl.v688; dsimp only; exact slot_at (F := F) arg24 (off := ![1, 0, 0]) inb_S2x128x1024_S1x128x1024_1_0_0 inb_S2x128x1024_S1x128x1024_1_0_0 (fun _ => rfl) squeezes_S1x128x1024_S128x1024 _ _ transposes_S1024x128_p1_0_S128x1024 shapeCasts_S128x1024_S1x128x1024 arg23.view _ 3968 inb_S1024x4736_S1024x128_0_3968 inb_S4736x1024_S128x1024_3968_0 x,
      fun x => by unfold gwRun.sl.dma182 gwRun.sl.HS2_31 k0_pay33 gwRun.sl.v673; dsimp only; exact slot_at (F := F) arg24 (off := ![0, 0, 0]) inb_S2x128x1024_S1x128x1024_0_0_0 inb_S2x128x1024_S1x128x1024_0_0_0 (fun _ => rfl) squeezes_S1x128x1024_S128x1024 _ _ transposes_S1024x128_p1_0_S128x1024 shapeCasts_S128x1024_S1x128x1024 arg23.view _ 3840 inb_S1024x4736_S1024x128_0_3840 inb_S4736x1024_S128x1024_3840_0 x,
      fun x => by unfold gwRun.sl.dma179 gwRun.sl.HS2_30 k0_pay32 gwRun.sl.v658; dsimp only; exact slot_at (F := F) arg24 (off := ![1, 0, 0]) inb_S2x128x1024_S1x128x1024_1_0_0 inb_S2x128x1024_S1x128x1024_1_0_0 (fun _ => rfl) squeezes_S1x128x1024_S128x1024 _ _ transposes_S1024x128_p1_0_S128x1024 shapeCasts_S128x1024_S1x128x1024 arg23.view _ 3712 inb_S1024x4736_S1024x128_0_3712 inb_S4736x1024_S128x1024_3712_0 x,
      fun x => by unfold gwRun.sl.dma176 gwRun.sl.HS2_29 k0_pay31 gwRun.sl.v643; dsimp only; exact slot_at (F := F) arg24 (off := ![0, 0, 0]) inb_S2x128x1024_S1x128x1024_0_0_0 inb_S2x128x1024_S1x128x1024_0_0_0 (fun _ => rfl) squeezes_S1x128x1024_S128x1024 _ _ transposes_S1024x128_p1_0_S128x1024 shapeCasts_S128x1024_S1x128x1024 arg23.view _ 3584 inb_S1024x4736_S1024x128_0_3584 inb_S4736x1024_S128x1024_3584_0 x,
      fun x => by unfold gwRun.sl.dma173 gwRun.sl.HS2_28 k0_pay30 gwRun.sl.v628; dsimp only; exact slot_at (F := F) arg24 (off := ![1, 0, 0]) inb_S2x128x1024_S1x128x1024_1_0_0 inb_S2x128x1024_S1x128x1024_1_0_0 (fun _ => rfl) squeezes_S1x128x1024_S128x1024 _ _ transposes_S1024x128_p1_0_S128x1024 shapeCasts_S128x1024_S1x128x1024 arg23.view _ 3456 inb_S1024x4736_S1024x128_0_3456 inb_S4736x1024_S128x1024_3456_0 x,
      fun x => by unfold gwRun.sl.dma170 gwRun.sl.HS2_27 k0_pay29 gwRun.sl.v613; dsimp only; exact slot_at (F := F) arg24 (off := ![0, 0, 0]) inb_S2x128x1024_S1x128x1024_0_0_0 inb_S2x128x1024_S1x128x1024_0_0_0 (fun _ => rfl) squeezes_S1x128x1024_S128x1024 _ _ transposes_S1024x128_p1_0_S128x1024 shapeCasts_S128x1024_S1x128x1024 arg23.view _ 3328 inb_S1024x4736_S1024x128_0_3328 inb_S4736x1024_S128x1024_3328_0 x,
      fun x => by unfold gwRun.sl.dma167 gwRun.sl.HS2_26 k0_pay28 gwRun.sl.v598; dsimp only; exact slot_at (F := F) arg24 (off := ![1, 0, 0]) inb_S2x128x1024_S1x128x1024_1_0_0 inb_S2x128x1024_S1x128x1024_1_0_0 (fun _ => rfl) squeezes_S1x128x1024_S128x1024 _ _ transposes_S1024x128_p1_0_S128x1024 shapeCasts_S128x1024_S1x128x1024 arg23.view _ 3200 inb_S1024x4736_S1024x128_0_3200 inb_S4736x1024_S128x1024_3200_0 x,
      fun x => by unfold gwRun.sl.dma164 gwRun.sl.HS2_25 k0_pay27 gwRun.sl.v583; dsimp only; exact slot_at (F := F) arg24 (off := ![0, 0, 0]) inb_S2x128x1024_S1x128x1024_0_0_0 inb_S2x128x1024_S1x128x1024_0_0_0 (fun _ => rfl) squeezes_S1x128x1024_S128x1024 _ _ transposes_S1024x128_p1_0_S128x1024 shapeCasts_S128x1024_S1x128x1024 arg23.view _ 3072 inb_S1024x4736_S1024x128_0_3072 inb_S4736x1024_S128x1024_3072_0 x,
      fun x => by unfold gwRun.sl.dma161 gwRun.sl.HS2_24 k0_pay26 gwRun.sl.v568; dsimp only; exact slot_at (F := F) arg24 (off := ![1, 0, 0]) inb_S2x128x1024_S1x128x1024_1_0_0 inb_S2x128x1024_S1x128x1024_1_0_0 (fun _ => rfl) squeezes_S1x128x1024_S128x1024 _ _ transposes_S1024x128_p1_0_S128x1024 shapeCasts_S128x1024_S1x128x1024 arg23.view _ 2944 inb_S1024x4736_S1024x128_0_2944 inb_S4736x1024_S128x1024_2944_0 x,
      fun x => by unfold gwRun.sl.dma158 gwRun.sl.HS2_23 k0_pay25 gwRun.sl.v553; dsimp only; exact slot_at (F := F) arg24 (off := ![0, 0, 0]) inb_S2x128x1024_S1x128x1024_0_0_0 inb_S2x128x1024_S1x128x1024_0_0_0 (fun _ => rfl) squeezes_S1x128x1024_S128x1024 _ _ transposes_S1024x128_p1_0_S128x1024 shapeCasts_S128x1024_S1x128x1024 arg23.view _ 2816 inb_S1024x4736_S1024x128_0_2816 inb_S4736x1024_S128x1024_2816_0 x,
      fun x => by unfold gwRun.sl.dma155 gwRun.sl.HS2_22 k0_pay24 gwRun.sl.v538; dsimp only; exact slot_at (F := F) arg24 (off := ![1, 0, 0]) inb_S2x128x1024_S1x128x1024_1_0_0 inb_S2x128x1024_S1x128x1024_1_0_0 (fun _ => rfl) squeezes_S1x128x1024_S128x1024 _ _ transposes_S1024x128_p1_0_S128x1024 shapeCasts_S128x1024_S1x128x1024 arg23.view _ 2688 inb_S1024x4736_S1024x128_0_2688 inb_S4736x1024_S128x1024_2688_0 x,
      fun x => by unfold gwRun.sl.dma152 gwRun.sl.HS2_21 k0_pay23 gwRun.sl.v523; dsimp only; exact slot_at (F := F) arg24 (off := ![0, 0, 0]) inb_S2x128x1024_S1x128x1024_0_0_0 inb_S2x128x1024_S1x128x1024_0_0_0 (fun _ => rfl) squeezes_S1x128x1024_S128x1024 _ _ transposes_S1024x128_p1_0_S128x1024 shapeCasts_S128x1024_S1x128x1024 arg23.view _ 2560 inb_S1024x4736_S1024x128_0_2560 inb_S4736x1024_S128x1024_2560_0 x,
      fun x => by unfold gwRun.sl.dma149 gwRun.sl.HS2_20 k0_pay22 gwRun.sl.r_20 k0_pay21 gwRun.sl.v508; dsimp only; exact slot_at (F := F) arg24 (off := ![1, 0, 0]) inb_S2x128x1024_S1x128x1024_1_0_0 inb_S2x128x1024_S1x128x1024_1_0_0 (fun _ => rfl) squeezes_S1x128x1024_S128x1024 _ _ transposes_S1024x128_p1_0_S128x1024 shapeCasts_S128x1024_S1x128x1024 arg23.view _ 2432 inb_S1024x4736_S1024x128_0_2432 inb_S4736x1024_S128x1024_2432_0 x,
      fun x => by unfold gwRun.sl.dma146 gwRun.sl.HS2_19 k0_pay20 gwRun.sl.v493; dsimp only; exact slot_at (F := F) arg24 (off := ![0, 0, 0]) inb_S2x128x1024_S1x128x1024_0_0_0 inb_S2x128x1024_S1x128x1024_0_0_0 (fun _ => rfl) squeezes_S1x128x1024_S128x1024 _ _ transposes_S1024x128_p1_0_S128x1024 shapeCasts_S128x1024_S1x128x1024 arg23.view _ 2304 inb_S1024x4736_S1024x128_0_2304 inb_S4736x1024_S128x1024_2304_0 x,
      fun x => by unfold gwRun.sl.dma143 gwRun.sl.HS2_18 k0_pay19 gwRun.sl.v478; dsimp only; exact slot_at (F := F) arg24 (off := ![1, 0, 0]) inb_S2x128x1024_S1x128x1024_1_0_0 inb_S2x128x1024_S1x128x1024_1_0_0 (fun _ => rfl) squeezes_S1x128x1024_S128x1024 _ _ transposes_S1024x128_p1_0_S128x1024 shapeCasts_S128x1024_S1x128x1024 arg23.view _ 2176 inb_S1024x4736_S1024x128_0_2176 inb_S4736x1024_S128x1024_2176_0 x,
      fun x => by unfold gwRun.sl.dma140 gwRun.sl.HS2_17 k0_pay18 gwRun.sl.v463; dsimp only; exact slot_at (F := F) arg24 (off := ![0, 0, 0]) inb_S2x128x1024_S1x128x1024_0_0_0 inb_S2x128x1024_S1x128x1024_0_0_0 (fun _ => rfl) squeezes_S1x128x1024_S128x1024 _ _ transposes_S1024x128_p1_0_S128x1024 shapeCasts_S128x1024_S1x128x1024 arg23.view _ 2048 inb_S1024x4736_S1024x128_0_2048 inb_S4736x1024_S128x1024_2048_0 x,
      fun x => by unfold gwRun.sl.dma137 gwRun.sl.HS2_16 k0_pay17 gwRun.sl.v448; dsimp only; exact slot_at (F := F) arg24 (off := ![1, 0, 0]) inb_S2x128x1024_S1x128x1024_1_0_0 inb_S2x128x1024_S1x128x1024_1_0_0 (fun _ => rfl) squeezes_S1x128x1024_S128x1024 _ _ transposes_S1024x128_p1_0_S128x1024 shapeCasts_S128x1024_S1x128x1024 arg23.view _ 1920 inb_S1024x4736_S1024x128_0_1920 inb_S4736x1024_S128x1024_1920_0 x,
      fun x => by unfold gwRun.sl.dma134 gwRun.sl.HS2_15 k0_pay16 gwRun.sl.v433; dsimp only; exact slot_at (F := F) arg24 (off := ![0, 0, 0]) inb_S2x128x1024_S1x128x1024_0_0_0 inb_S2x128x1024_S1x128x1024_0_0_0 (fun _ => rfl) squeezes_S1x128x1024_S128x1024 _ _ transposes_S1024x128_p1_0_S128x1024 shapeCasts_S128x1024_S1x128x1024 arg23.view _ 1792 inb_S1024x4736_S1024x128_0_1792 inb_S4736x1024_S128x1024_1792_0 x,
      fun x => by unfold gwRun.sl.dma131 gwRun.sl.HS2_14 k0_pay15 gwRun.sl.v418; dsimp only; exact slot_at (F := F) arg24 (off := ![1, 0, 0]) inb_S2x128x1024_S1x128x1024_1_0_0 inb_S2x128x1024_S1x128x1024_1_0_0 (fun _ => rfl) squeezes_S1x128x1024_S128x1024 _ _ transposes_S1024x128_p1_0_S128x1024 shapeCasts_S128x1024_S1x128x1024 arg23.view _ 1664 inb_S1024x4736_S1024x128_0_1664 inb_S4736x1024_S128x1024_1664_0 x,
      fun x => by unfold gwRun.sl.dma128 gwRun.sl.HS2_13 k0_pay14 gwRun.sl.v403; dsimp only; exact slot_at (F := F) arg24 (off := ![0, 0, 0]) inb_S2x128x1024_S1x128x1024_0_0_0 inb_S2x128x1024_S1x128x1024_0_0_0 (fun _ => rfl) squeezes_S1x128x1024_S128x1024 _ _ transposes_S1024x128_p1_0_S128x1024 shapeCasts_S128x1024_S1x128x1024 arg23.view _ 1536 inb_S1024x4736_S1024x128_0_1536 inb_S4736x1024_S128x1024_1536_0 x,
      fun x => by unfold gwRun.sl.dma125 gwRun.sl.HS2_12 k0_pay13 gwRun.sl.v388; dsimp only; exact slot_at (F := F) arg24 (off := ![1, 0, 0]) inb_S2x128x1024_S1x128x1024_1_0_0 inb_S2x128x1024_S1x128x1024_1_0_0 (fun _ => rfl) squeezes_S1x128x1024_S128x1024 _ _ transposes_S1024x128_p1_0_S128x1024 shapeCasts_S128x1024_S1x128x1024 arg23.view _ 1408 inb_S1024x4736_S1024x128_0_1408 inb_S4736x1024_S128x1024_1408_0 x,
      fun x => by unfold gwRun.sl.dma122 gwRun.sl.HS2_11 k0_pay12 gwRun.sl.v373; dsimp only; exact slot_at (F := F) arg24 (off := ![0, 0, 0]) inb_S2x128x1024_S1x128x1024_0_0_0 inb_S2x128x1024_S1x128x1024_0_0_0 (fun _ => rfl) squeezes_S1x128x1024_S128x1024 _ _ transposes_S1024x128_p1_0_S128x1024 shapeCasts_S128x1024_S1x128x1024 arg23.view _ 1280 inb_S1024x4736_S1024x128_0_1280 inb_S4736x1024_S128x1024_1280_0 x,
      fun x => by unfold gwRun.sl.dma119 gwRun.sl.HS2_10 k0_pay11 gwRun.sl.v358; dsimp only; exact slot_at (F := F) arg24 (off := ![1, 0, 0]) inb_S2x128x1024_S1x128x1024_1_0_0 inb_S2x128x1024_S1x128x1024_1_0_0 (fun _ => rfl) squeezes_S1x128x1024_S128x1024 _ _ transposes_S1024x128_p1_0_S128x1024 shapeCasts_S128x1024_S1x128x1024 arg23.view _ 1152 inb_S1024x4736_S1024x128_0_1152 inb_S4736x1024_S128x1024_1152_0 x,
      fun x => by unfold gwRun.sl.dma116 gwRun.sl.HS2_9 k0_pay10 gwRun.sl.v343; dsimp only; exact slot_at (F := F) arg24 (off := ![0, 0, 0]) inb_S2x128x1024_S1x128x1024_0_0_0 inb_S2x128x1024_S1x128x1024_0_0_0 (fun _ => rfl) squeezes_S1x128x1024_S128x1024 _ _ transposes_S1024x128_p1_0_S128x1024 shapeCasts_S128x1024_S1x128x1024 arg23.view _ 1024 inb_S1024x4736_S1024x128_0_1024 inb_S4736x1024_S128x1024_1024_0 x,
      fun x => by unfold gwRun.sl.dma113 gwRun.sl.HS2_8 k0_pay9 gwRun.sl.r_19 k0_pay8 gwRun.sl.v328; dsimp only; exact slot_at (F := F) arg24 (off := ![1, 0, 0]) inb_S2x128x1024_S1x128x1024_1_0_0 inb_S2x128x1024_S1x128x1024_1_0_0 (fun _ => rfl) squeezes_S1x128x1024_S128x1024 _ _ transposes_S1024x128_p1_0_S128x1024 shapeCasts_S128x1024_S1x128x1024 arg23.view _ 896 inb_S1024x4736_S1024x128_0_896 inb_S4736x1024_S128x1024_896_0 x,
      fun x => by unfold gwRun.sl.dma110 gwRun.sl.HS2_7 k0_pay7 gwRun.sl.v313; dsimp only; exact slot_at (F := F) arg24 (off := ![0, 0, 0]) inb_S2x128x1024_S1x128x1024_0_0_0 inb_S2x128x1024_S1x128x1024_0_0_0 (fun _ => rfl) squeezes_S1x128x1024_S128x1024 _ _ transposes_S1024x128_p1_0_S128x1024 shapeCasts_S128x1024_S1x128x1024 arg23.view _ 768 inb_S1024x4736_S1024x128_0_768 inb_S4736x1024_S128x1024_768_0 x,
      fun x => by unfold gwRun.sl.dma107 gwRun.sl.HS2_6 k0_pay6 gwRun.sl.v298; dsimp only; exact slot_at (F := F) arg24 (off := ![1, 0, 0]) inb_S2x128x1024_S1x128x1024_1_0_0 inb_S2x128x1024_S1x128x1024_1_0_0 (fun _ => rfl) squeezes_S1x128x1024_S128x1024 _ _ transposes_S1024x128_p1_0_S128x1024 shapeCasts_S128x1024_S1x128x1024 arg23.view _ 640 inb_S1024x4736_S1024x128_0_640 inb_S4736x1024_S128x1024_640_0 x,
      fun x => by unfold gwRun.sl.dma104 gwRun.sl.HS2_5 k0_pay5 gwRun.sl.v283; dsimp only; exact slot_at (F := F) arg24 (off := ![0, 0, 0]) inb_S2x128x1024_S1x128x1024_0_0_0 inb_S2x128x1024_S1x128x1024_0_0_0 (fun _ => rfl) squeezes_S1x128x1024_S128x1024 _ _ transposes_S1024x128_p1_0_S128x1024 shapeCasts_S128x1024_S1x128x1024 arg23.view _ 512 inb_S1024x4736_S1024x128_0_512 inb_S4736x1024_S128x1024_512_0 x,
      fun x => by unfold gwRun.sl.dma101 gwRun.sl.HS2_4 k0_pay4 gwRun.sl.v268; dsimp only; exact slot_at (F := F) arg24 (off := ![1, 0, 0]) inb_S2x128x1024_S1x128x1024_1_0_0 inb_S2x128x1024_S1x128x1024_1_0_0 (fun _ => rfl) squeezes_S1x128x1024_S128x1024 _ _ transposes_S1024x128_p1_0_S128x1024 shapeCasts_S128x1024_S1x128x1024 arg23.view _ 384 inb_S1024x4736_S1024x128_0_384 inb_S4736x1024_S128x1024_384_0 x,
      fun x => by unfold gwRun.sl.dma98 gwRun.sl.HS2_3 k0_pay3 gwRun.sl.v253; dsimp only; exact slot_at (F := F) arg24 (off := ![0, 0, 0]) inb_S2x128x1024_S1x128x1024_0_0_0 inb_S2x128x1024_S1x128x1024_0_0_0 (fun _ => rfl) squeezes_S1x128x1024_S128x1024 _ _ transposes_S1024x128_p1_0_S128x1024 shapeCasts_S128x1024_S1x128x1024 arg23.view _ 256 inb_S1024x4736_S1024x128_0_256 inb_S4736x1024_S128x1024_256_0 x,
      fun x => by unfold gwRun.sl.dma95 gwRun.sl.HS2_2 k0_pay2 gwRun.sl.v238; dsimp only; exact slot_at (F := F) arg24 (off := ![1, 0, 0]) inb_S2x128x1024_S1x128x1024_1_0_0 inb_S2x128x1024_S1x128x1024_1_0_0 (fun _ => rfl) squeezes_S1x128x1024_S128x1024 _ _ transposes_S1024x128_p1_0_S128x1024 shapeCasts_S128x1024_S1x128x1024 arg23.view _ 128 inb_S1024x4736_S1024x128_0_128 inb_S4736x1024_S128x1024_128_0 x,
      fun x => by unfold gwRun.sl.dma92 gwRun.sl.HS2_1 k0_pay1 gwRun.sl.v228; dsimp only; exact slot_at (F := F) arg24 (off := ![0, 0, 0]) inb_S2x128x1024_S1x128x1024_0_0_0 inb_S2x128x1024_S1x128x1024_0_0_0 (fun _ => rfl) squeezes_S1x128x1024_S128x1024 _ _ transposes_S1024x128_p1_0_S128x1024 shapeCasts_S128x1024_S1x128x1024 arg23.view _ 0 inb_S1024x4736_S1024x128_0_0 inb_S4736x1024_S128x1024_0_0 x, trivial⟩
  · exact View.cover_of_tiledBy _ ![128, 1024] (by sl_kernel_rfl)

end Cert.KernelIdeal.Gw

end
-- ==== Proof.GwLast.lean ====
/- The last point's body with the weight gradient's array named in what it gives back: `gwRun` restated over the lists of
   stores and the accumulator of the generated run, from which the frame's contents are read. -/
module

public import proofs.«01_k».proof.Proof.Gen.KernelIdeal.Frame
public import proofs.«01_k».proof.Proof.GwVal

@[expose] public section

set_option maxRecDepth 16384

noncomputable section

set_option maxHeartbeats 1600000

namespace Cert.KernelIdeal.Gw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-- The stores of the two runs are the same. -/
theorem lists  (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x128 .f32) (harg9 : arg9.IsWhole) (arg10 : Memref sig .tc .vmem S512x1024 .f32) (harg10 : arg10.IsWhole) (arg11 : Memref sig .tc .vmem S512x1024 .f32) (harg11 : arg11.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg18 : Memref sig .tc .vmem S1x4736 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S4736x1024 .bf16) (harg22 : arg22.IsWhole) (arg23 : Memref sig .tc .vmem S1024x4736 .f32) (harg23 : arg23.IsWhole) (arg24 : Memref sig .tc .vmem S2x128x1024 .f32) (harg24 : arg24.IsWhole) (hc0 : ¬cond0_0 i) (hc1 : cond0_1 i) (hd0 : Disjoint (((Memref.whole main_v4_1).slice (Rect.unit (s := S4736x1024) ![128, 0] S128x1024.size inb_S4736x1024_S128x1024_128_0) (fun _ => rfl))).view.set (((Memref.whole main_v4_1).slice (Rect.unit (s := S4736x1024) ![0, 0] S128x1024.size inb_S4736x1024_S128x1024_0_0) (fun _ => rfl))).view.set) (hd1 : Disjoint (((Memref.whole main_v4_1).slice (Rect.unit (s := S4736x1024) ![256, 0] S128x1024.size inb_S4736x1024_S128x1024_256_0) (fun _ => rfl))).view.set (((Memref.whole main_v4_1).slice (Rect.unit (s := S4736x1024) ![128, 0] S128x1024.size inb_S4736x1024_S128x1024_128_0) (fun _ => rfl))).view.set) (hd2 : Disjoint (((Memref.whole main_v4_1).slice (Rect.unit (s := S4736x1024) ![384, 0] S128x1024.size inb_S4736x1024_S128x1024_384_0) (fun _ => rfl))).view.set (((Memref.whole main_v4_1).slice (Rect.unit (s := S4736x1024) ![256, 0] S128x1024.size inb_S4736x1024_S128x1024_256_0) (fun _ => rfl))).view.set) (hd3 : Disjoint (((Memref.whole main_v4_1).slice (Rect.unit (s := S4736x1024) ![512, 0] S128x1024.size inb_S4736x1024_S128x1024_512_0) (fun _ => rfl))).view.set (((Memref.whole main_v4_1).slice (Rect.unit (s := S4736x1024) ![384, 0] S128x1024.size inb_S4736x1024_S128x1024_384_0) (fun _ => rfl))).view.set) (hd4 : Disjoint (((Memref.whole main_v4_1).slice (Rect.unit (s := S4736x1024) ![640, 0] S128x1024.size inb_S4736x1024_S128x1024_640_0) (fun _ => rfl))).view.set (((Memref.whole main_v4_1).slice (Rect.unit (s := S4736x1024) ![512, 0] S128x1024.size inb_S4736x1024_S128x1024_512_0) (fun _ => rfl))).view.set) (hd5 : Disjoint (((Memref.whole main_v4_1).slice (Rect.unit (s := S4736x1024) ![768, 0] S128x1024.size inb_S4736x1024_S128x1024_768_0) (fun _ => rfl))).view.set (((Memref.whole main_v4_1).slice (Rect.unit (s := S4736x1024) ![640, 0] S128x1024.size inb_S4736x1024_S128x1024_640_0) (fun _ => rfl))).view.set) (hd6 : Disjoint (((Memref.whole main_v4_1).slice (Rect.unit (s := S4736x1024) ![896, 0] S128x1024.size inb_S4736x1024_S128x1024_896_0) (fun _ => rfl))).view.set (((Memref.whole main_v4_1).slice (Rect.unit (s := S4736x1024) ![768, 0] S128x1024.size inb_S4736x1024_S128x1024_768_0) (fun _ => rfl))).view.set) (hd7 : Disjoint (((Memref.whole main_v4_1).slice (Rect.unit (s := S4736x1024) ![1024, 0] S128x1024.size inb_S4736x1024_S128x1024_1024_0) (fun _ => rfl))).view.set (((Memref.whole main_v4_1).slice (Rect.unit (s := S4736x1024) ![896, 0] S128x1024.size inb_S4736x1024_S128x1024_896_0) (fun _ => rfl))).view.set) (hd8 : Disjoint (((Memref.whole main_v4_1).slice (Rect.unit (s := S4736x1024) ![1152, 0] S128x1024.size inb_S4736x1024_S128x1024_1152_0) (fun _ => rfl))).view.set (((Memref.whole main_v4_1).slice (Rect.unit (s := S4736x1024) ![1024, 0] S128x1024.size inb_S4736x1024_S128x1024_1024_0) (fun _ => rfl))).view.set) (hd9 : Disjoint (((Memref.whole main_v4_1).slice (Rect.unit (s := S4736x1024) ![1280, 0] S128x1024.size inb_S4736x1024_S128x1024_1280_0) (fun _ => rfl))).view.set (((Memref.whole main_v4_1).slice (Rect.unit (s := S4736x1024) ![1152, 0] S128x1024.size inb_S4736x1024_S128x1024_1152_0) (fun _ => rfl))).view.set) (hd10 : Disjoint (((Memref.whole main_v4_1).slice (Rect.unit (s := S4736x1024) ![1408, 0] S128x1024.size inb_S4736x1024_S128x1024_1408_0) (fun _ => rfl))).view.set (((Memref.whole main_v4_1).slice (Rect.unit (s := S4736x1024) ![1280, 0] S128x1024.size inb_S4736x1024_S128x1024_1280_0) (fun _ => rfl))).view.set) (hd11 : Disjoint (((Memref.whole main_v4_1).slice (Rect.unit (s := S4736x1024) ![1536, 0] S128x1024.size inb_S4736x1024_S128x1024_1536_0) (fun _ => rfl))).view.set (((Memref.whole main_v4_1).slice (Rect.unit (s := S4736x1024) ![1408, 0] S128x1024.size inb_S4736x1024_S128x1024_1408_0) (fun _ => rfl))).view.set) (hd12 : Disjoint (((Memref.whole main_v4_1).slice (Rect.unit (s := S4736x1024) ![1664, 0] S128x1024.size inb_S4736x1024_S128x1024_1664_0) (fun _ => rfl))).view.set (((Memref.whole main_v4_1).slice (Rect.unit (s := S4736x1024) ![1536, 0] S128x1024.size inb_S4736x1024_S128x1024_1536_0) (fun _ => rfl))).view.set) (hd13 : Disjoint (((Memref.whole main_v4_1).slice (Rect.unit (s := S4736x1024) ![1792, 0] S128x1024.size inb_S4736x1024_S128x1024_1792_0) (fun _ => rfl))).view.set (((Memref.whole main_v4_1).slice (Rect.unit (s := S4736x1024) ![1664, 0] S128x1024.size inb_S4736x1024_S128x1024_1664_0) (fun _ => rfl))).view.set) (hd14 : Disjoint (((Memref.whole main_v4_1).slice (Rect.unit (s := S4736x1024) ![1920, 0] S128x1024.size inb_S4736x1024_S128x1024_1920_0) (fun _ => rfl))).view.set (((Memref.whole main_v4_1).slice (Rect.unit (s := S4736x1024) ![1792, 0] S128x1024.size inb_S4736x1024_S128x1024_1792_0) (fun _ => rfl))).view.set) (hd15 : Disjoint (((Memref.whole main_v4_1).slice (Rect.unit (s := S4736x1024) ![2048, 0] S128x1024.size inb_S4736x1024_S128x1024_2048_0) (fun _ => rfl))).view.set (((Memref.whole main_v4_1).slice (Rect.unit (s := S4736x1024) ![1920, 0] S128x1024.size inb_S4736x1024_S128x1024_1920_0) (fun _ => rfl))).view.set) (hd16 : Disjoint (((Memref.whole main_v4_1).slice (Rect.unit (s := S4736x1024) ![2176, 0] S128x1024.size inb_S4736x1024_S128x1024_2176_0) (fun _ => rfl))).view.set (((Memref.whole main_v4_1).slice (Rect.unit (s := S4736x1024) ![2048, 0] S128x1024.size inb_S4736x1024_S128x1024_2048_0) (fun _ => rfl))).view.set) (hd17 : Disjoint (((Memref.whole main_v4_1).slice (Rect.unit (s := S4736x1024) ![2304, 0] S128x1024.size inb_S4736x1024_S128x1024_2304_0) (fun _ => rfl))).view.set (((Memref.whole main_v4_1).slice (Rect.unit (s := S4736x1024) ![2176, 0] S128x1024.size inb_S4736x1024_S128x1024_2176_0) (fun _ => rfl))).view.set) (hd18 : Disjoint (((Memref.whole main_v4_1).slice (Rect.unit (s := S4736x1024) ![2432, 0] S128x1024.size inb_S4736x1024_S128x1024_2432_0) (fun _ => rfl))).view.set (((Memref.whole main_v4_1).slice (Rect.unit (s := S4736x1024) ![2304, 0] S128x1024.size inb_S4736x1024_S128x1024_2304_0) (fun _ => rfl))).view.set) (hd19 : Disjoint (((Memref.whole main_v4_1).slice (Rect.unit (s := S4736x1024) ![2560, 0] S128x1024.size inb_S4736x1024_S128x1024_2560_0) (fun _ => rfl))).view.set (((Memref.whole main_v4_1).slice (Rect.unit (s := S4736x1024) ![2432, 0] S128x1024.size inb_S4736x1024_S128x1024_2432_0) (fun _ => rfl))).view.set) (hd20 : Disjoint (((Memref.whole main_v4_1).slice (Rect.unit (s := S4736x1024) ![2688, 0] S128x1024.size inb_S4736x1024_S128x1024_2688_0) (fun _ => rfl))).view.set (((Memref.whole main_v4_1).slice (Rect.unit (s := S4736x1024) ![2560, 0] S128x1024.size inb_S4736x1024_S128x1024_2560_0) (fun _ => rfl))).view.set) (hd21 : Disjoint (((Memref.whole main_v4_1).slice (Rect.unit (s := S4736x1024) ![2816, 0] S128x1024.size inb_S4736x1024_S128x1024_2816_0) (fun _ => rfl))).view.set (((Memref.whole main_v4_1).slice (Rect.unit (s := S4736x1024) ![2688, 0] S128x1024.size inb_S4736x1024_S128x1024_2688_0) (fun _ => rfl))).view.set) (hd22 : Disjoint (((Memref.whole main_v4_1).slice (Rect.unit (s := S4736x1024) ![2944, 0] S128x1024.size inb_S4736x1024_S128x1024_2944_0) (fun _ => rfl))).view.set (((Memref.whole main_v4_1).slice (Rect.unit (s := S4736x1024) ![2816, 0] S128x1024.size inb_S4736x1024_S128x1024_2816_0) (fun _ => rfl))).view.set) (hd23 : Disjoint (((Memref.whole main_v4_1).slice (Rect.unit (s := S4736x1024) ![3072, 0] S128x1024.size inb_S4736x1024_S128x1024_3072_0) (fun _ => rfl))).view.set (((Memref.whole main_v4_1).slice (Rect.unit (s := S4736x1024) ![2944, 0] S128x1024.size inb_S4736x1024_S128x1024_2944_0) (fun _ => rfl))).view.set) (hd24 : Disjoint (((Memref.whole main_v4_1).slice (Rect.unit (s := S4736x1024) ![3200, 0] S128x1024.size inb_S4736x1024_S128x1024_3200_0) (fun _ => rfl))).view.set (((Memref.whole main_v4_1).slice (Rect.unit (s := S4736x1024) ![3072, 0] S128x1024.size inb_S4736x1024_S128x1024_3072_0) (fun _ => rfl))).view.set) (hd25 : Disjoint (((Memref.whole main_v4_1).slice (Rect.unit (s := S4736x1024) ![3328, 0] S128x1024.size inb_S4736x1024_S128x1024_3328_0) (fun _ => rfl))).view.set (((Memref.whole main_v4_1).slice (Rect.unit (s := S4736x1024) ![3200, 0] S128x1024.size inb_S4736x1024_S128x1024_3200_0) (fun _ => rfl))).view.set) (hd26 : Disjoint (((Memref.whole main_v4_1).slice (Rect.unit (s := S4736x1024) ![3456, 0] S128x1024.size inb_S4736x1024_S128x1024_3456_0) (fun _ => rfl))).view.set (((Memref.whole main_v4_1).slice (Rect.unit (s := S4736x1024) ![3328, 0] S128x1024.size inb_S4736x1024_S128x1024_3328_0) (fun _ => rfl))).view.set) (hd27 : Disjoint (((Memref.whole main_v4_1).slice (Rect.unit (s := S4736x1024) ![3584, 0] S128x1024.size inb_S4736x1024_S128x1024_3584_0) (fun _ => rfl))).view.set (((Memref.whole main_v4_1).slice (Rect.unit (s := S4736x1024) ![3456, 0] S128x1024.size inb_S4736x1024_S128x1024_3456_0) (fun _ => rfl))).view.set) (hd28 : Disjoint (((Memref.whole main_v4_1).slice (Rect.unit (s := S4736x1024) ![3712, 0] S128x1024.size inb_S4736x1024_S128x1024_3712_0) (fun _ => rfl))).view.set (((Memref.whole main_v4_1).slice (Rect.unit (s := S4736x1024) ![3584, 0] S128x1024.size inb_S4736x1024_S128x1024_3584_0) (fun _ => rfl))).view.set) (hd29 : Disjoint (((Memref.whole main_v4_1).slice (Rect.unit (s := S4736x1024) ![3840, 0] S128x1024.size inb_S4736x1024_S128x1024_3840_0) (fun _ => rfl))).view.set (((Memref.whole main_v4_1).slice (Rect.unit (s := S4736x1024) ![3712, 0] S128x1024.size inb_S4736x1024_S128x1024_3712_0) (fun _ => rfl))).view.set) (hd30 : Disjoint (((Memref.whole main_v4_1).slice (Rect.unit (s := S4736x1024) ![3968, 0] S128x1024.size inb_S4736x1024_S128x1024_3968_0) (fun _ => rfl))).view.set (((Memref.whole main_v4_1).slice (Rect.unit (s := S4736x1024) ![3840, 0] S128x1024.size inb_S4736x1024_S128x1024_3840_0) (fun _ => rfl))).view.set) (hd31 : Disjoint (((Memref.whole main_v4_1).slice (Rect.unit (s := S4736x1024) ![4096, 0] S128x1024.size inb_S4736x1024_S128x1024_4096_0) (fun _ => rfl))).view.set (((Memref.whole main_v4_1).slice (Rect.unit (s := S4736x1024) ![3968, 0] S128x1024.size inb_S4736x1024_S128x1024_3968_0) (fun _ => rfl))).view.set) (hd32 : Disjoint (((Memref.whole main_v4_1).slice (Rect.unit (s := S4736x1024) ![4224, 0] S128x1024.size inb_S4736x1024_S128x1024_4224_0) (fun _ => rfl))).view.set (((Memref.whole main_v4_1).slice (Rect.unit (s := S4736x1024) ![4096, 0] S128x1024.size inb_S4736x1024_S128x1024_4096_0) (fun _ => rfl))).view.set) (hd33 : Disjoint (((Memref.whole main_v4_1).slice (Rect.unit (s := S4736x1024) ![4352, 0] S128x1024.size inb_S4736x1024_S128x1024_4352_0) (fun _ => rfl))).view.set (((Memref.whole main_v4_1).slice (Rect.unit (s := S4736x1024) ![4224, 0] S128x1024.size inb_S4736x1024_S128x1024_4224_0) (fun _ => rfl))).view.set) (hd34 : Disjoint (((Memref.whole main_v4_1).slice (Rect.unit (s := S4736x1024) ![4480, 0] S128x1024.size inb_S4736x1024_S128x1024_4480_0) (fun _ => rfl))).view.set (((Memref.whole main_v4_1).slice (Rect.unit (s := S4736x1024) ![4352, 0] S128x1024.size inb_S4736x1024_S128x1024_4352_0) (fun _ => rfl))).view.set) (hd35 : Disjoint (((Memref.whole main_v4_1).slice (Rect.unit (s := S4736x1024) ![4608, 0] S128x1024.size inb_S4736x1024_S128x1024_4608_0) (fun _ => rfl))).view.set (((Memref.whole main_v4_1).slice (Rect.unit (s := S4736x1024) ![4480, 0] S128x1024.size inb_S4736x1024_S128x1024_4480_0) (fun _ => rfl))).view.set)
    (x0 : Vec F S512x512 .bf16) (x1 : Vec F S512x512 .bf16) (x2 : Vec F S512x512 .bf16) (x3 : Vec F S512x512 .bf16) (x4 : Vec F S512x1024 .bf16) (x5 : Vec F S512x512 .bf16) (x6 : Vec F S512x512 .bf16) (x7 : Vec F S512x512 .bf16) (x8 : Vec F S512x128 .f32) (x9 : Vec F S512x1024 .f32) (x10 : Vec F S512x1024 .f32) (x11 : Vec F S1x1024 .f32) (x12 : Vec F S1x1024 .f32) (x13 : Vec F S1x1024 .f32) (xo15 : Vec F S1x4736 .f32) (xo16 : Vec F S1x1024 .f32) (xo17 : Vec F S1x1024 .f32) (xo18 : Vec F S1x1024 .f32) (xs0 : Vec F S4736x1024 .bf16) (xs1 : Vec F S1024x4736 .f32) (fh0 : HbBuf0 (F := F) c hbM0_0) (xs2 : Vec F S2x128x1024 .f32) (fw1 : HbBuf0 (F := F) c hbM0_1) :
    (gwRun c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0 xs2 fw1).1 = (kernelRun0_C c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0).1 ∧ (gwRun c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0 xs2 fw1).2.1 = (kernelRun0_C c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0).2.1 ∧ (gwRun c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0 xs2 fw1).2.2.1 = (kernelRun0_C c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0).2.2.1 ∧ (gwRun c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0 xs2 fw1).2.2.2.1 = (kernelRun0_C c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0).2.2.2.1 ∧ (gwRun c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0 xs2 fw1).2.2.2.2.1 = (kernelRun0_C c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0).2.2.2.2.1 ∧ (gwRun c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0 xs2 fw1).2.2.2.2.2.2.1 = (kernelRun0_C c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0).2.2.2.2.2.2.1 := by
  unfold gwRun kernelRun0_C; exact ⟨rfl, rfl, rfl, rfl, rfl, rfl⟩

/-- The array's contents are the accumulator after the point, transposed. -/
theorem gw_acc  (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x128 .f32) (harg9 : arg9.IsWhole) (arg10 : Memref sig .tc .vmem S512x1024 .f32) (harg10 : arg10.IsWhole) (arg11 : Memref sig .tc .vmem S512x1024 .f32) (harg11 : arg11.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg18 : Memref sig .tc .vmem S1x4736 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S4736x1024 .bf16) (harg22 : arg22.IsWhole) (arg23 : Memref sig .tc .vmem S1024x4736 .f32) (harg23 : arg23.IsWhole) (arg24 : Memref sig .tc .vmem S2x128x1024 .f32) (harg24 : arg24.IsWhole) (hc0 : ¬cond0_0 i) (hc1 : cond0_1 i) (hd0 : Disjoint (((Memref.whole main_v4_1).slice (Rect.unit (s := S4736x1024) ![128, 0] S128x1024.size inb_S4736x1024_S128x1024_128_0) (fun _ => rfl))).view.set (((Memref.whole main_v4_1).slice (Rect.unit (s := S4736x1024) ![0, 0] S128x1024.size inb_S4736x1024_S128x1024_0_0) (fun _ => rfl))).view.set) (hd1 : Disjoint (((Memref.whole main_v4_1).slice (Rect.unit (s := S4736x1024) ![256, 0] S128x1024.size inb_S4736x1024_S128x1024_256_0) (fun _ => rfl))).view.set (((Memref.whole main_v4_1).slice (Rect.unit (s := S4736x1024) ![128, 0] S128x1024.size inb_S4736x1024_S128x1024_128_0) (fun _ => rfl))).view.set) (hd2 : Disjoint (((Memref.whole main_v4_1).slice (Rect.unit (s := S4736x1024) ![384, 0] S128x1024.size inb_S4736x1024_S128x1024_384_0) (fun _ => rfl))).view.set (((Memref.whole main_v4_1).slice (Rect.unit (s := S4736x1024) ![256, 0] S128x1024.size inb_S4736x1024_S128x1024_256_0) (fun _ => rfl))).view.set) (hd3 : Disjoint (((Memref.whole main_v4_1).slice (Rect.unit (s := S4736x1024) ![512, 0] S128x1024.size inb_S4736x1024_S128x1024_512_0) (fun _ => rfl))).view.set (((Memref.whole main_v4_1).slice (Rect.unit (s := S4736x1024) ![384, 0] S128x1024.size inb_S4736x1024_S128x1024_384_0) (fun _ => rfl))).view.set) (hd4 : Disjoint (((Memref.whole main_v4_1).slice (Rect.unit (s := S4736x1024) ![640, 0] S128x1024.size inb_S4736x1024_S128x1024_640_0) (fun _ => rfl))).view.set (((Memref.whole main_v4_1).slice (Rect.unit (s := S4736x1024) ![512, 0] S128x1024.size inb_S4736x1024_S128x1024_512_0) (fun _ => rfl))).view.set) (hd5 : Disjoint (((Memref.whole main_v4_1).slice (Rect.unit (s := S4736x1024) ![768, 0] S128x1024.size inb_S4736x1024_S128x1024_768_0) (fun _ => rfl))).view.set (((Memref.whole main_v4_1).slice (Rect.unit (s := S4736x1024) ![640, 0] S128x1024.size inb_S4736x1024_S128x1024_640_0) (fun _ => rfl))).view.set) (hd6 : Disjoint (((Memref.whole main_v4_1).slice (Rect.unit (s := S4736x1024) ![896, 0] S128x1024.size inb_S4736x1024_S128x1024_896_0) (fun _ => rfl))).view.set (((Memref.whole main_v4_1).slice (Rect.unit (s := S4736x1024) ![768, 0] S128x1024.size inb_S4736x1024_S128x1024_768_0) (fun _ => rfl))).view.set) (hd7 : Disjoint (((Memref.whole main_v4_1).slice (Rect.unit (s := S4736x1024) ![1024, 0] S128x1024.size inb_S4736x1024_S128x1024_1024_0) (fun _ => rfl))).view.set (((Memref.whole main_v4_1).slice (Rect.unit (s := S4736x1024) ![896, 0] S128x1024.size inb_S4736x1024_S128x1024_896_0) (fun _ => rfl))).view.set) (hd8 : Disjoint (((Memref.whole main_v4_1).slice (Rect.unit (s := S4736x1024) ![1152, 0] S128x1024.size inb_S4736x1024_S128x1024_1152_0) (fun _ => rfl))).view.set (((Memref.whole main_v4_1).slice (Rect.unit (s := S4736x1024) ![1024, 0] S128x1024.size inb_S4736x1024_S128x1024_1024_0) (fun _ => rfl))).view.set) (hd9 : Disjoint (((Memref.whole main_v4_1).slice (Rect.unit (s := S4736x1024) ![1280, 0] S128x1024.size inb_S4736x1024_S128x1024_1280_0) (fun _ => rfl))).view.set (((Memref.whole main_v4_1).slice (Rect.unit (s := S4736x1024) ![1152, 0] S128x1024.size inb_S4736x1024_S128x1024_1152_0) (fun _ => rfl))).view.set) (hd10 : Disjoint (((Memref.whole main_v4_1).slice (Rect.unit (s := S4736x1024) ![1408, 0] S128x1024.size inb_S4736x1024_S128x1024_1408_0) (fun _ => rfl))).view.set (((Memref.whole main_v4_1).slice (Rect.unit (s := S4736x1024) ![1280, 0] S128x1024.size inb_S4736x1024_S128x1024_1280_0) (fun _ => rfl))).view.set) (hd11 : Disjoint (((Memref.whole main_v4_1).slice (Rect.unit (s := S4736x1024) ![1536, 0] S128x1024.size inb_S4736x1024_S128x1024_1536_0) (fun _ => rfl))).view.set (((Memref.whole main_v4_1).slice (Rect.unit (s := S4736x1024) ![1408, 0] S128x1024.size inb_S4736x1024_S128x1024_1408_0) (fun _ => rfl))).view.set) (hd12 : Disjoint (((Memref.whole main_v4_1).slice (Rect.unit (s := S4736x1024) ![1664, 0] S128x1024.size inb_S4736x1024_S128x1024_1664_0) (fun _ => rfl))).view.set (((Memref.whole main_v4_1).slice (Rect.unit (s := S4736x1024) ![1536, 0] S128x1024.size inb_S4736x1024_S128x1024_1536_0) (fun _ => rfl))).view.set) (hd13 : Disjoint (((Memref.whole main_v4_1).slice (Rect.unit (s := S4736x1024) ![1792, 0] S128x1024.size inb_S4736x1024_S128x1024_1792_0) (fun _ => rfl))).view.set (((Memref.whole main_v4_1).slice (Rect.unit (s := S4736x1024) ![1664, 0] S128x1024.size inb_S4736x1024_S128x1024_1664_0) (fun _ => rfl))).view.set) (hd14 : Disjoint (((Memref.whole main_v4_1).slice (Rect.unit (s := S4736x1024) ![1920, 0] S128x1024.size inb_S4736x1024_S128x1024_1920_0) (fun _ => rfl))).view.set (((Memref.whole main_v4_1).slice (Rect.unit (s := S4736x1024) ![1792, 0] S128x1024.size inb_S4736x1024_S128x1024_1792_0) (fun _ => rfl))).view.set) (hd15 : Disjoint (((Memref.whole main_v4_1).slice (Rect.unit (s := S4736x1024) ![2048, 0] S128x1024.size inb_S4736x1024_S128x1024_2048_0) (fun _ => rfl))).view.set (((Memref.whole main_v4_1).slice (Rect.unit (s := S4736x1024) ![1920, 0] S128x1024.size inb_S4736x1024_S128x1024_1920_0) (fun _ => rfl))).view.set) (hd16 : Disjoint (((Memref.whole main_v4_1).slice (Rect.unit (s := S4736x1024) ![2176, 0] S128x1024.size inb_S4736x1024_S128x1024_2176_0) (fun _ => rfl))).view.set (((Memref.whole main_v4_1).slice (Rect.unit (s := S4736x1024) ![2048, 0] S128x1024.size inb_S4736x1024_S128x1024_2048_0) (fun _ => rfl))).view.set) (hd17 : Disjoint (((Memref.whole main_v4_1).slice (Rect.unit (s := S4736x1024) ![2304, 0] S128x1024.size inb_S4736x1024_S128x1024_2304_0) (fun _ => rfl))).view.set (((Memref.whole main_v4_1).slice (Rect.unit (s := S4736x1024) ![2176, 0] S128x1024.size inb_S4736x1024_S128x1024_2176_0) (fun _ => rfl))).view.set) (hd18 : Disjoint (((Memref.whole main_v4_1).slice (Rect.unit (s := S4736x1024) ![2432, 0] S128x1024.size inb_S4736x1024_S128x1024_2432_0) (fun _ => rfl))).view.set (((Memref.whole main_v4_1).slice (Rect.unit (s := S4736x1024) ![2304, 0] S128x1024.size inb_S4736x1024_S128x1024_2304_0) (fun _ => rfl))).view.set) (hd19 : Disjoint (((Memref.whole main_v4_1).slice (Rect.unit (s := S4736x1024) ![2560, 0] S128x1024.size inb_S4736x1024_S128x1024_2560_0) (fun _ => rfl))).view.set (((Memref.whole main_v4_1).slice (Rect.unit (s := S4736x1024) ![2432, 0] S128x1024.size inb_S4736x1024_S128x1024_2432_0) (fun _ => rfl))).view.set) (hd20 : Disjoint (((Memref.whole main_v4_1).slice (Rect.unit (s := S4736x1024) ![2688, 0] S128x1024.size inb_S4736x1024_S128x1024_2688_0) (fun _ => rfl))).view.set (((Memref.whole main_v4_1).slice (Rect.unit (s := S4736x1024) ![2560, 0] S128x1024.size inb_S4736x1024_S128x1024_2560_0) (fun _ => rfl))).view.set) (hd21 : Disjoint (((Memref.whole main_v4_1).slice (Rect.unit (s := S4736x1024) ![2816, 0] S128x1024.size inb_S4736x1024_S128x1024_2816_0) (fun _ => rfl))).view.set (((Memref.whole main_v4_1).slice (Rect.unit (s := S4736x1024) ![2688, 0] S128x1024.size inb_S4736x1024_S128x1024_2688_0) (fun _ => rfl))).view.set) (hd22 : Disjoint (((Memref.whole main_v4_1).slice (Rect.unit (s := S4736x1024) ![2944, 0] S128x1024.size inb_S4736x1024_S128x1024_2944_0) (fun _ => rfl))).view.set (((Memref.whole main_v4_1).slice (Rect.unit (s := S4736x1024) ![2816, 0] S128x1024.size inb_S4736x1024_S128x1024_2816_0) (fun _ => rfl))).view.set) (hd23 : Disjoint (((Memref.whole main_v4_1).slice (Rect.unit (s := S4736x1024) ![3072, 0] S128x1024.size inb_S4736x1024_S128x1024_3072_0) (fun _ => rfl))).view.set (((Memref.whole main_v4_1).slice (Rect.unit (s := S4736x1024) ![2944, 0] S128x1024.size inb_S4736x1024_S128x1024_2944_0) (fun _ => rfl))).view.set) (hd24 : Disjoint (((Memref.whole main_v4_1).slice (Rect.unit (s := S4736x1024) ![3200, 0] S128x1024.size inb_S4736x1024_S128x1024_3200_0) (fun _ => rfl))).view.set (((Memref.whole main_v4_1).slice (Rect.unit (s := S4736x1024) ![3072, 0] S128x1024.size inb_S4736x1024_S128x1024_3072_0) (fun _ => rfl))).view.set) (hd25 : Disjoint (((Memref.whole main_v4_1).slice (Rect.unit (s := S4736x1024) ![3328, 0] S128x1024.size inb_S4736x1024_S128x1024_3328_0) (fun _ => rfl))).view.set (((Memref.whole main_v4_1).slice (Rect.unit (s := S4736x1024) ![3200, 0] S128x1024.size inb_S4736x1024_S128x1024_3200_0) (fun _ => rfl))).view.set) (hd26 : Disjoint (((Memref.whole main_v4_1).slice (Rect.unit (s := S4736x1024) ![3456, 0] S128x1024.size inb_S4736x1024_S128x1024_3456_0) (fun _ => rfl))).view.set (((Memref.whole main_v4_1).slice (Rect.unit (s := S4736x1024) ![3328, 0] S128x1024.size inb_S4736x1024_S128x1024_3328_0) (fun _ => rfl))).view.set) (hd27 : Disjoint (((Memref.whole main_v4_1).slice (Rect.unit (s := S4736x1024) ![3584, 0] S128x1024.size inb_S4736x1024_S128x1024_3584_0) (fun _ => rfl))).view.set (((Memref.whole main_v4_1).slice (Rect.unit (s := S4736x1024) ![3456, 0] S128x1024.size inb_S4736x1024_S128x1024_3456_0) (fun _ => rfl))).view.set) (hd28 : Disjoint (((Memref.whole main_v4_1).slice (Rect.unit (s := S4736x1024) ![3712, 0] S128x1024.size inb_S4736x1024_S128x1024_3712_0) (fun _ => rfl))).view.set (((Memref.whole main_v4_1).slice (Rect.unit (s := S4736x1024) ![3584, 0] S128x1024.size inb_S4736x1024_S128x1024_3584_0) (fun _ => rfl))).view.set) (hd29 : Disjoint (((Memref.whole main_v4_1).slice (Rect.unit (s := S4736x1024) ![3840, 0] S128x1024.size inb_S4736x1024_S128x1024_3840_0) (fun _ => rfl))).view.set (((Memref.whole main_v4_1).slice (Rect.unit (s := S4736x1024) ![3712, 0] S128x1024.size inb_S4736x1024_S128x1024_3712_0) (fun _ => rfl))).view.set) (hd30 : Disjoint (((Memref.whole main_v4_1).slice (Rect.unit (s := S4736x1024) ![3968, 0] S128x1024.size inb_S4736x1024_S128x1024_3968_0) (fun _ => rfl))).view.set (((Memref.whole main_v4_1).slice (Rect.unit (s := S4736x1024) ![3840, 0] S128x1024.size inb_S4736x1024_S128x1024_3840_0) (fun _ => rfl))).view.set) (hd31 : Disjoint (((Memref.whole main_v4_1).slice (Rect.unit (s := S4736x1024) ![4096, 0] S128x1024.size inb_S4736x1024_S128x1024_4096_0) (fun _ => rfl))).view.set (((Memref.whole main_v4_1).slice (Rect.unit (s := S4736x1024) ![3968, 0] S128x1024.size inb_S4736x1024_S128x1024_3968_0) (fun _ => rfl))).view.set) (hd32 : Disjoint (((Memref.whole main_v4_1).slice (Rect.unit (s := S4736x1024) ![4224, 0] S128x1024.size inb_S4736x1024_S128x1024_4224_0) (fun _ => rfl))).view.set (((Memref.whole main_v4_1).slice (Rect.unit (s := S4736x1024) ![4096, 0] S128x1024.size inb_S4736x1024_S128x1024_4096_0) (fun _ => rfl))).view.set) (hd33 : Disjoint (((Memref.whole main_v4_1).slice (Rect.unit (s := S4736x1024) ![4352, 0] S128x1024.size inb_S4736x1024_S128x1024_4352_0) (fun _ => rfl))).view.set (((Memref.whole main_v4_1).slice (Rect.unit (s := S4736x1024) ![4224, 0] S128x1024.size inb_S4736x1024_S128x1024_4224_0) (fun _ => rfl))).view.set) (hd34 : Disjoint (((Memref.whole main_v4_1).slice (Rect.unit (s := S4736x1024) ![4480, 0] S128x1024.size inb_S4736x1024_S128x1024_4480_0) (fun _ => rfl))).view.set (((Memref.whole main_v4_1).slice (Rect.unit (s := S4736x1024) ![4352, 0] S128x1024.size inb_S4736x1024_S128x1024_4352_0) (fun _ => rfl))).view.set) (hd35 : Disjoint (((Memref.whole main_v4_1).slice (Rect.unit (s := S4736x1024) ![4608, 0] S128x1024.size inb_S4736x1024_S128x1024_4608_0) (fun _ => rfl))).view.set (((Memref.whole main_v4_1).slice (Rect.unit (s := S4736x1024) ![4480, 0] S128x1024.size inb_S4736x1024_S128x1024_4480_0) (fun _ => rfl))).view.set)
    (x0 : Vec F S512x512 .bf16) (x1 : Vec F S512x512 .bf16) (x2 : Vec F S512x512 .bf16) (x3 : Vec F S512x512 .bf16) (x4 : Vec F S512x1024 .bf16) (x5 : Vec F S512x512 .bf16) (x6 : Vec F S512x512 .bf16) (x7 : Vec F S512x512 .bf16) (x8 : Vec F S512x128 .f32) (x9 : Vec F S512x1024 .f32) (x10 : Vec F S512x1024 .f32) (x11 : Vec F S1x1024 .f32) (x12 : Vec F S1x1024 .f32) (x13 : Vec F S1x1024 .f32) (xo15 : Vec F S1x4736 .f32) (xo16 : Vec F S1x1024 .f32) (xo17 : Vec F S1x1024 .f32) (xo18 : Vec F S1x1024 .f32) (xs0 : Vec F S4736x1024 .bf16) (xs1 : Vec F S1024x4736 .f32) (fh0 : HbBuf0 (F := F) c hbM0_0) (xs2 : Vec F S2x128x1024 .f32) (fw1 : HbBuf0 (F := F) c hbM0_1) :
    (gwRun c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0 xs2 fw1).2.2.2.2.2.2.2.1 = fun y => sout0_C_1 c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0 (ix2 (y 1) (y 0)) := by
  rw [gw1_eq]
  funext y
  unfold sout0_C_1
  rw [View.read_writes_junk_eq_canon]
  exact congrArg (fun L => View.canon L (ix2 (y 1) (y 0))) (lists c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0 xs2 fw1).2.2.2.2.2

/-- What the last point's body gives back, over the stores and the array's contents. -/
def Leaves  (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x128 .f32) (harg9 : arg9.IsWhole) (arg10 : Memref sig .tc .vmem S512x1024 .f32) (harg10 : arg10.IsWhole) (arg11 : Memref sig .tc .vmem S512x1024 .f32) (harg11 : arg11.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg18 : Memref sig .tc .vmem S1x4736 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S4736x1024 .bf16) (harg22 : arg22.IsWhole) (arg23 : Memref sig .tc .vmem S1024x4736 .f32) (harg23 : arg23.IsWhole) (arg24 : Memref sig .tc .vmem S2x128x1024 .f32) (harg24 : arg24.IsWhole) (hc0 : ¬cond0_0 i) (hc1 : cond0_1 i) (hd0 : Disjoint (((Memref.whole main_v4_1).slice (Rect.unit (s := S4736x1024) ![128, 0] S128x1024.size inb_S4736x1024_S128x1024_128_0) (fun _ => rfl))).view.set (((Memref.whole main_v4_1).slice (Rect.unit (s := S4736x1024) ![0, 0] S128x1024.size inb_S4736x1024_S128x1024_0_0) (fun _ => rfl))).view.set) (hd1 : Disjoint (((Memref.whole main_v4_1).slice (Rect.unit (s := S4736x1024) ![256, 0] S128x1024.size inb_S4736x1024_S128x1024_256_0) (fun _ => rfl))).view.set (((Memref.whole main_v4_1).slice (Rect.unit (s := S4736x1024) ![128, 0] S128x1024.size inb_S4736x1024_S128x1024_128_0) (fun _ => rfl))).view.set) (hd2 : Disjoint (((Memref.whole main_v4_1).slice (Rect.unit (s := S4736x1024) ![384, 0] S128x1024.size inb_S4736x1024_S128x1024_384_0) (fun _ => rfl))).view.set (((Memref.whole main_v4_1).slice (Rect.unit (s := S4736x1024) ![256, 0] S128x1024.size inb_S4736x1024_S128x1024_256_0) (fun _ => rfl))).view.set) (hd3 : Disjoint (((Memref.whole main_v4_1).slice (Rect.unit (s := S4736x1024) ![512, 0] S128x1024.size inb_S4736x1024_S128x1024_512_0) (fun _ => rfl))).view.set (((Memref.whole main_v4_1).slice (Rect.unit (s := S4736x1024) ![384, 0] S128x1024.size inb_S4736x1024_S128x1024_384_0) (fun _ => rfl))).view.set) (hd4 : Disjoint (((Memref.whole main_v4_1).slice (Rect.unit (s := S4736x1024) ![640, 0] S128x1024.size inb_S4736x1024_S128x1024_640_0) (fun _ => rfl))).view.set (((Memref.whole main_v4_1).slice (Rect.unit (s := S4736x1024) ![512, 0] S128x1024.size inb_S4736x1024_S128x1024_512_0) (fun _ => rfl))).view.set) (hd5 : Disjoint (((Memref.whole main_v4_1).slice (Rect.unit (s := S4736x1024) ![768, 0] S128x1024.size inb_S4736x1024_S128x1024_768_0) (fun _ => rfl))).view.set (((Memref.whole main_v4_1).slice (Rect.unit (s := S4736x1024) ![640, 0] S128x1024.size inb_S4736x1024_S128x1024_640_0) (fun _ => rfl))).view.set) (hd6 : Disjoint (((Memref.whole main_v4_1).slice (Rect.unit (s := S4736x1024) ![896, 0] S128x1024.size inb_S4736x1024_S128x1024_896_0) (fun _ => rfl))).view.set (((Memref.whole main_v4_1).slice (Rect.unit (s := S4736x1024) ![768, 0] S128x1024.size inb_S4736x1024_S128x1024_768_0) (fun _ => rfl))).view.set) (hd7 : Disjoint (((Memref.whole main_v4_1).slice (Rect.unit (s := S4736x1024) ![1024, 0] S128x1024.size inb_S4736x1024_S128x1024_1024_0) (fun _ => rfl))).view.set (((Memref.whole main_v4_1).slice (Rect.unit (s := S4736x1024) ![896, 0] S128x1024.size inb_S4736x1024_S128x1024_896_0) (fun _ => rfl))).view.set) (hd8 : Disjoint (((Memref.whole main_v4_1).slice (Rect.unit (s := S4736x1024) ![1152, 0] S128x1024.size inb_S4736x1024_S128x1024_1152_0) (fun _ => rfl))).view.set (((Memref.whole main_v4_1).slice (Rect.unit (s := S4736x1024) ![1024, 0] S128x1024.size inb_S4736x1024_S128x1024_1024_0) (fun _ => rfl))).view.set) (hd9 : Disjoint (((Memref.whole main_v4_1).slice (Rect.unit (s := S4736x1024) ![1280, 0] S128x1024.size inb_S4736x1024_S128x1024_1280_0) (fun _ => rfl))).view.set (((Memref.whole main_v4_1).slice (Rect.unit (s := S4736x1024) ![1152, 0] S128x1024.size inb_S4736x1024_S128x1024_1152_0) (fun _ => rfl))).view.set) (hd10 : Disjoint (((Memref.whole main_v4_1).slice (Rect.unit (s := S4736x1024) ![1408, 0] S128x1024.size inb_S4736x1024_S128x1024_1408_0) (fun _ => rfl))).view.set (((Memref.whole main_v4_1).slice (Rect.unit (s := S4736x1024) ![1280, 0] S128x1024.size inb_S4736x1024_S128x1024_1280_0) (fun _ => rfl))).view.set) (hd11 : Disjoint (((Memref.whole main_v4_1).slice (Rect.unit (s := S4736x1024) ![1536, 0] S128x1024.size inb_S4736x1024_S128x1024_1536_0) (fun _ => rfl))).view.set (((Memref.whole main_v4_1).slice (Rect.unit (s := S4736x1024) ![1408, 0] S128x1024.size inb_S4736x1024_S128x1024_1408_0) (fun _ => rfl))).view.set) (hd12 : Disjoint (((Memref.whole main_v4_1).slice (Rect.unit (s := S4736x1024) ![1664, 0] S128x1024.size inb_S4736x1024_S128x1024_1664_0) (fun _ => rfl))).view.set (((Memref.whole main_v4_1).slice (Rect.unit (s := S4736x1024) ![1536, 0] S128x1024.size inb_S4736x1024_S128x1024_1536_0) (fun _ => rfl))).view.set) (hd13 : Disjoint (((Memref.whole main_v4_1).slice (Rect.unit (s := S4736x1024) ![1792, 0] S128x1024.size inb_S4736x1024_S128x1024_1792_0) (fun _ => rfl))).view.set (((Memref.whole main_v4_1).slice (Rect.unit (s := S4736x1024) ![1664, 0] S128x1024.size inb_S4736x1024_S128x1024_1664_0) (fun _ => rfl))).view.set) (hd14 : Disjoint (((Memref.whole main_v4_1).slice (Rect.unit (s := S4736x1024) ![1920, 0] S128x1024.size inb_S4736x1024_S128x1024_1920_0) (fun _ => rfl))).view.set (((Memref.whole main_v4_1).slice (Rect.unit (s := S4736x1024) ![1792, 0] S128x1024.size inb_S4736x1024_S128x1024_1792_0) (fun _ => rfl))).view.set) (hd15 : Disjoint (((Memref.whole main_v4_1).slice (Rect.unit (s := S4736x1024) ![2048, 0] S128x1024.size inb_S4736x1024_S128x1024_2048_0) (fun _ => rfl))).view.set (((Memref.whole main_v4_1).slice (Rect.unit (s := S4736x1024) ![1920, 0] S128x1024.size inb_S4736x1024_S128x1024_1920_0) (fun _ => rfl))).view.set) (hd16 : Disjoint (((Memref.whole main_v4_1).slice (Rect.unit (s := S4736x1024) ![2176, 0] S128x1024.size inb_S4736x1024_S128x1024_2176_0) (fun _ => rfl))).view.set (((Memref.whole main_v4_1).slice (Rect.unit (s := S4736x1024) ![2048, 0] S128x1024.size inb_S4736x1024_S128x1024_2048_0) (fun _ => rfl))).view.set) (hd17 : Disjoint (((Memref.whole main_v4_1).slice (Rect.unit (s := S4736x1024) ![2304, 0] S128x1024.size inb_S4736x1024_S128x1024_2304_0) (fun _ => rfl))).view.set (((Memref.whole main_v4_1).slice (Rect.unit (s := S4736x1024) ![2176, 0] S128x1024.size inb_S4736x1024_S128x1024_2176_0) (fun _ => rfl))).view.set) (hd18 : Disjoint (((Memref.whole main_v4_1).slice (Rect.unit (s := S4736x1024) ![2432, 0] S128x1024.size inb_S4736x1024_S128x1024_2432_0) (fun _ => rfl))).view.set (((Memref.whole main_v4_1).slice (Rect.unit (s := S4736x1024) ![2304, 0] S128x1024.size inb_S4736x1024_S128x1024_2304_0) (fun _ => rfl))).view.set) (hd19 : Disjoint (((Memref.whole main_v4_1).slice (Rect.unit (s := S4736x1024) ![2560, 0] S128x1024.size inb_S4736x1024_S128x1024_2560_0) (fun _ => rfl))).view.set (((Memref.whole main_v4_1).slice (Rect.unit (s := S4736x1024) ![2432, 0] S128x1024.size inb_S4736x1024_S128x1024_2432_0) (fun _ => rfl))).view.set) (hd20 : Disjoint (((Memref.whole main_v4_1).slice (Rect.unit (s := S4736x1024) ![2688, 0] S128x1024.size inb_S4736x1024_S128x1024_2688_0) (fun _ => rfl))).view.set (((Memref.whole main_v4_1).slice (Rect.unit (s := S4736x1024) ![2560, 0] S128x1024.size inb_S4736x1024_S128x1024_2560_0) (fun _ => rfl))).view.set) (hd21 : Disjoint (((Memref.whole main_v4_1).slice (Rect.unit (s := S4736x1024) ![2816, 0] S128x1024.size inb_S4736x1024_S128x1024_2816_0) (fun _ => rfl))).view.set (((Memref.whole main_v4_1).slice (Rect.unit (s := S4736x1024) ![2688, 0] S128x1024.size inb_S4736x1024_S128x1024_2688_0) (fun _ => rfl))).view.set) (hd22 : Disjoint (((Memref.whole main_v4_1).slice (Rect.unit (s := S4736x1024) ![2944, 0] S128x1024.size inb_S4736x1024_S128x1024_2944_0) (fun _ => rfl))).view.set (((Memref.whole main_v4_1).slice (Rect.unit (s := S4736x1024) ![2816, 0] S128x1024.size inb_S4736x1024_S128x1024_2816_0) (fun _ => rfl))).view.set) (hd23 : Disjoint (((Memref.whole main_v4_1).slice (Rect.unit (s := S4736x1024) ![3072, 0] S128x1024.size inb_S4736x1024_S128x1024_3072_0) (fun _ => rfl))).view.set (((Memref.whole main_v4_1).slice (Rect.unit (s := S4736x1024) ![2944, 0] S128x1024.size inb_S4736x1024_S128x1024_2944_0) (fun _ => rfl))).view.set) (hd24 : Disjoint (((Memref.whole main_v4_1).slice (Rect.unit (s := S4736x1024) ![3200, 0] S128x1024.size inb_S4736x1024_S128x1024_3200_0) (fun _ => rfl))).view.set (((Memref.whole main_v4_1).slice (Rect.unit (s := S4736x1024) ![3072, 0] S128x1024.size inb_S4736x1024_S128x1024_3072_0) (fun _ => rfl))).view.set) (hd25 : Disjoint (((Memref.whole main_v4_1).slice (Rect.unit (s := S4736x1024) ![3328, 0] S128x1024.size inb_S4736x1024_S128x1024_3328_0) (fun _ => rfl))).view.set (((Memref.whole main_v4_1).slice (Rect.unit (s := S4736x1024) ![3200, 0] S128x1024.size inb_S4736x1024_S128x1024_3200_0) (fun _ => rfl))).view.set) (hd26 : Disjoint (((Memref.whole main_v4_1).slice (Rect.unit (s := S4736x1024) ![3456, 0] S128x1024.size inb_S4736x1024_S128x1024_3456_0) (fun _ => rfl))).view.set (((Memref.whole main_v4_1).slice (Rect.unit (s := S4736x1024) ![3328, 0] S128x1024.size inb_S4736x1024_S128x1024_3328_0) (fun _ => rfl))).view.set) (hd27 : Disjoint (((Memref.whole main_v4_1).slice (Rect.unit (s := S4736x1024) ![3584, 0] S128x1024.size inb_S4736x1024_S128x1024_3584_0) (fun _ => rfl))).view.set (((Memref.whole main_v4_1).slice (Rect.unit (s := S4736x1024) ![3456, 0] S128x1024.size inb_S4736x1024_S128x1024_3456_0) (fun _ => rfl))).view.set) (hd28 : Disjoint (((Memref.whole main_v4_1).slice (Rect.unit (s := S4736x1024) ![3712, 0] S128x1024.size inb_S4736x1024_S128x1024_3712_0) (fun _ => rfl))).view.set (((Memref.whole main_v4_1).slice (Rect.unit (s := S4736x1024) ![3584, 0] S128x1024.size inb_S4736x1024_S128x1024_3584_0) (fun _ => rfl))).view.set) (hd29 : Disjoint (((Memref.whole main_v4_1).slice (Rect.unit (s := S4736x1024) ![3840, 0] S128x1024.size inb_S4736x1024_S128x1024_3840_0) (fun _ => rfl))).view.set (((Memref.whole main_v4_1).slice (Rect.unit (s := S4736x1024) ![3712, 0] S128x1024.size inb_S4736x1024_S128x1024_3712_0) (fun _ => rfl))).view.set) (hd30 : Disjoint (((Memref.whole main_v4_1).slice (Rect.unit (s := S4736x1024) ![3968, 0] S128x1024.size inb_S4736x1024_S128x1024_3968_0) (fun _ => rfl))).view.set (((Memref.whole main_v4_1).slice (Rect.unit (s := S4736x1024) ![3840, 0] S128x1024.size inb_S4736x1024_S128x1024_3840_0) (fun _ => rfl))).view.set) (hd31 : Disjoint (((Memref.whole main_v4_1).slice (Rect.unit (s := S4736x1024) ![4096, 0] S128x1024.size inb_S4736x1024_S128x1024_4096_0) (fun _ => rfl))).view.set (((Memref.whole main_v4_1).slice (Rect.unit (s := S4736x1024) ![3968, 0] S128x1024.size inb_S4736x1024_S128x1024_3968_0) (fun _ => rfl))).view.set) (hd32 : Disjoint (((Memref.whole main_v4_1).slice (Rect.unit (s := S4736x1024) ![4224, 0] S128x1024.size inb_S4736x1024_S128x1024_4224_0) (fun _ => rfl))).view.set (((Memref.whole main_v4_1).slice (Rect.unit (s := S4736x1024) ![4096, 0] S128x1024.size inb_S4736x1024_S128x1024_4096_0) (fun _ => rfl))).view.set) (hd33 : Disjoint (((Memref.whole main_v4_1).slice (Rect.unit (s := S4736x1024) ![4352, 0] S128x1024.size inb_S4736x1024_S128x1024_4352_0) (fun _ => rfl))).view.set (((Memref.whole main_v4_1).slice (Rect.unit (s := S4736x1024) ![4224, 0] S128x1024.size inb_S4736x1024_S128x1024_4224_0) (fun _ => rfl))).view.set) (hd34 : Disjoint (((Memref.whole main_v4_1).slice (Rect.unit (s := S4736x1024) ![4480, 0] S128x1024.size inb_S4736x1024_S128x1024_4480_0) (fun _ => rfl))).view.set (((Memref.whole main_v4_1).slice (Rect.unit (s := S4736x1024) ![4352, 0] S128x1024.size inb_S4736x1024_S128x1024_4352_0) (fun _ => rfl))).view.set) (hd35 : Disjoint (((Memref.whole main_v4_1).slice (Rect.unit (s := S4736x1024) ![4608, 0] S128x1024.size inb_S4736x1024_S128x1024_4608_0) (fun _ => rfl))).view.set (((Memref.whole main_v4_1).slice (Rect.unit (s := S4736x1024) ![4480, 0] S128x1024.size inb_S4736x1024_S128x1024_4480_0) (fun _ => rfl))).view.set)
    (x0 : Vec F S512x512 .bf16) (x1 : Vec F S512x512 .bf16) (x2 : Vec F S512x512 .bf16) (x3 : Vec F S512x512 .bf16) (x4 : Vec F S512x1024 .bf16) (x5 : Vec F S512x512 .bf16) (x6 : Vec F S512x512 .bf16) (x7 : Vec F S512x512 .bf16) (x8 : Vec F S512x128 .f32) (x9 : Vec F S512x1024 .f32) (x10 : Vec F S512x1024 .f32) (x11 : Vec F S1x1024 .f32) (x12 : Vec F S1x1024 .f32) (x13 : Vec F S1x1024 .f32) (xo15 : Vec F S1x4736 .f32) (xo16 : Vec F S1x1024 .f32) (xo17 : Vec F S1x1024 .f32) (xo18 : Vec F S1x1024 .f32) (xs0 : Vec F S4736x1024 .bf16) (xs1 : Vec F S1024x4736 .f32) (fh0 : HbBuf0 (F := F) c hbM0_0) (xs2 : Vec F S2x128x1024 .f32) (fw1 : HbBuf0 (F := F) c hbM0_1)
    (L14 : List (View.Piece (Elt F) S512x1024 .f32)) (L15 : List (View.Piece (Elt F) S1x4736 .f32)) (L16 L17 L18 : List (View.Piece (Elt F) S1x1024 .f32)) (LS1 : List (View.Piece (Elt F) S1024x4736 .f32)) (gw1 : HbBuf0 (F := F) c hbM0_1) : Prop :=
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ owns (c : Thread nD τ) arg18 fullShare xo15 ∗ owns (c : Thread nD τ) arg19 fullShare xo16 ∗ owns (c : Thread nD τ) arg20 fullShare xo17 ∗ owns (c : Thread nD τ) arg21 fullShare xo18 ∗ owns (c : Thread nD τ) arg22 fullShare xs0 ∗ owns (c : Thread nD τ) arg23 fullShare xs1 ∗ owns (c : Thread nD τ) arg24 fullShare xs2 ∗ semVal ((c : Thread nD τ), SemLoc.dma 31) 0 ∗ semVal ((c : Thread nD τ), SemLoc.dma 32) 0 ∗ semVal ((c : Thread nD τ), SemLoc.dma 33) 0 ∗ hbPt0 c hbM0_0 fh0 ∗ hbPt0 c hbM0_1 fw1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ (∃ f, arg18.view.loc (c : Thread nD τ) ↦[arg18.view.set]{fullShare} arg18.view.writes (Elt F) f L15) ∗ (∃ f, arg19.view.loc (c : Thread nD τ) ↦[arg19.view.set]{fullShare} arg19.view.writes (Elt F) f L16) ∗ (∃ f, arg20.view.loc (c : Thread nD τ) ↦[arg20.view.set]{fullShare} arg20.view.writes (Elt F) f L17) ∗ (∃ f, arg21.view.loc (c : Thread nD τ) ↦[arg21.view.set]{fullShare} arg21.view.writes (Elt F) f L18) ∗ owns (c : Thread nD τ) arg22 fullShare xs0 ∗ (∃ f, arg23.view.loc (c : Thread nD τ) ↦[arg23.view.set]{fullShare} arg23.view.writes (Elt F) f LS1) ∗ (∃ d, owns (c : Thread nD τ) arg24 fullShare d) ∗ semVal ((c : Thread nD τ), SemLoc.dma 31) 0 ∗ semVal ((c : Thread nD τ), SemLoc.dma 32) 0 ∗ semVal ((c : Thread nD τ), SemLoc.dma 33) 0 ∗ hbPt0 c hbM0_0 fh0 ∗ hbPt0 c hbM0_1 gw1 ∗ (∃ W', owes (c : Thread nD τ) 0 W')) -∗ K ⟨⟩))
          ⊢ wp frame (wpE (defs₀ (F := F)) Variants.none c none) Set.univ (cc0_in_bwd i arg1 harg1 arg2 harg2 arg3 harg3 arg4 harg4 arg5 harg5 arg6 harg6 arg7 harg7 arg8 harg8 arg9 harg9 arg10 harg10 arg11 harg11 (Memref.whole main_v2) (Memref.isWhole_whole _) arg13 harg13 arg14 harg14 arg15 harg15 arg16 harg16 (Memref.whole main_v4_1) (Memref.isWhole_whole _) arg18 harg18 arg19 harg19 arg20 harg20 arg21 harg21 arg22 harg22 arg23 harg23 arg24 harg24 cc0_scratch3) K

theorem leaves_gwRun  (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x128 .f32) (harg9 : arg9.IsWhole) (arg10 : Memref sig .tc .vmem S512x1024 .f32) (harg10 : arg10.IsWhole) (arg11 : Memref sig .tc .vmem S512x1024 .f32) (harg11 : arg11.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg18 : Memref sig .tc .vmem S1x4736 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S4736x1024 .bf16) (harg22 : arg22.IsWhole) (arg23 : Memref sig .tc .vmem S1024x4736 .f32) (harg23 : arg23.IsWhole) (arg24 : Memref sig .tc .vmem S2x128x1024 .f32) (harg24 : arg24.IsWhole) (hc0 : ¬cond0_0 i) (hc1 : cond0_1 i) (hd0 : Disjoint (((Memref.whole main_v4_1).slice (Rect.unit (s := S4736x1024) ![128, 0] S128x1024.size inb_S4736x1024_S128x1024_128_0) (fun _ => rfl))).view.set (((Memref.whole main_v4_1).slice (Rect.unit (s := S4736x1024) ![0, 0] S128x1024.size inb_S4736x1024_S128x1024_0_0) (fun _ => rfl))).view.set) (hd1 : Disjoint (((Memref.whole main_v4_1).slice (Rect.unit (s := S4736x1024) ![256, 0] S128x1024.size inb_S4736x1024_S128x1024_256_0) (fun _ => rfl))).view.set (((Memref.whole main_v4_1).slice (Rect.unit (s := S4736x1024) ![128, 0] S128x1024.size inb_S4736x1024_S128x1024_128_0) (fun _ => rfl))).view.set) (hd2 : Disjoint (((Memref.whole main_v4_1).slice (Rect.unit (s := S4736x1024) ![384, 0] S128x1024.size inb_S4736x1024_S128x1024_384_0) (fun _ => rfl))).view.set (((Memref.whole main_v4_1).slice (Rect.unit (s := S4736x1024) ![256, 0] S128x1024.size inb_S4736x1024_S128x1024_256_0) (fun _ => rfl))).view.set) (hd3 : Disjoint (((Memref.whole main_v4_1).slice (Rect.unit (s := S4736x1024) ![512, 0] S128x1024.size inb_S4736x1024_S128x1024_512_0) (fun _ => rfl))).view.set (((Memref.whole main_v4_1).slice (Rect.unit (s := S4736x1024) ![384, 0] S128x1024.size inb_S4736x1024_S128x1024_384_0) (fun _ => rfl))).view.set) (hd4 : Disjoint (((Memref.whole main_v4_1).slice (Rect.unit (s := S4736x1024) ![640, 0] S128x1024.size inb_S4736x1024_S128x1024_640_0) (fun _ => rfl))).view.set (((Memref.whole main_v4_1).slice (Rect.unit (s := S4736x1024) ![512, 0] S128x1024.size inb_S4736x1024_S128x1024_512_0) (fun _ => rfl))).view.set) (hd5 : Disjoint (((Memref.whole main_v4_1).slice (Rect.unit (s := S4736x1024) ![768, 0] S128x1024.size inb_S4736x1024_S128x1024_768_0) (fun _ => rfl))).view.set (((Memref.whole main_v4_1).slice (Rect.unit (s := S4736x1024) ![640, 0] S128x1024.size inb_S4736x1024_S128x1024_640_0) (fun _ => rfl))).view.set) (hd6 : Disjoint (((Memref.whole main_v4_1).slice (Rect.unit (s := S4736x1024) ![896, 0] S128x1024.size inb_S4736x1024_S128x1024_896_0) (fun _ => rfl))).view.set (((Memref.whole main_v4_1).slice (Rect.unit (s := S4736x1024) ![768, 0] S128x1024.size inb_S4736x1024_S128x1024_768_0) (fun _ => rfl))).view.set) (hd7 : Disjoint (((Memref.whole main_v4_1).slice (Rect.unit (s := S4736x1024) ![1024, 0] S128x1024.size inb_S4736x1024_S128x1024_1024_0) (fun _ => rfl))).view.set (((Memref.whole main_v4_1).slice (Rect.unit (s := S4736x1024) ![896, 0] S128x1024.size inb_S4736x1024_S128x1024_896_0) (fun _ => rfl))).view.set) (hd8 : Disjoint (((Memref.whole main_v4_1).slice (Rect.unit (s := S4736x1024) ![1152, 0] S128x1024.size inb_S4736x1024_S128x1024_1152_0) (fun _ => rfl))).view.set (((Memref.whole main_v4_1).slice (Rect.unit (s := S4736x1024) ![1024, 0] S128x1024.size inb_S4736x1024_S128x1024_1024_0) (fun _ => rfl))).view.set) (hd9 : Disjoint (((Memref.whole main_v4_1).slice (Rect.unit (s := S4736x1024) ![1280, 0] S128x1024.size inb_S4736x1024_S128x1024_1280_0) (fun _ => rfl))).view.set (((Memref.whole main_v4_1).slice (Rect.unit (s := S4736x1024) ![1152, 0] S128x1024.size inb_S4736x1024_S128x1024_1152_0) (fun _ => rfl))).view.set) (hd10 : Disjoint (((Memref.whole main_v4_1).slice (Rect.unit (s := S4736x1024) ![1408, 0] S128x1024.size inb_S4736x1024_S128x1024_1408_0) (fun _ => rfl))).view.set (((Memref.whole main_v4_1).slice (Rect.unit (s := S4736x1024) ![1280, 0] S128x1024.size inb_S4736x1024_S128x1024_1280_0) (fun _ => rfl))).view.set) (hd11 : Disjoint (((Memref.whole main_v4_1).slice (Rect.unit (s := S4736x1024) ![1536, 0] S128x1024.size inb_S4736x1024_S128x1024_1536_0) (fun _ => rfl))).view.set (((Memref.whole main_v4_1).slice (Rect.unit (s := S4736x1024) ![1408, 0] S128x1024.size inb_S4736x1024_S128x1024_1408_0) (fun _ => rfl))).view.set) (hd12 : Disjoint (((Memref.whole main_v4_1).slice (Rect.unit (s := S4736x1024) ![1664, 0] S128x1024.size inb_S4736x1024_S128x1024_1664_0) (fun _ => rfl))).view.set (((Memref.whole main_v4_1).slice (Rect.unit (s := S4736x1024) ![1536, 0] S128x1024.size inb_S4736x1024_S128x1024_1536_0) (fun _ => rfl))).view.set) (hd13 : Disjoint (((Memref.whole main_v4_1).slice (Rect.unit (s := S4736x1024) ![1792, 0] S128x1024.size inb_S4736x1024_S128x1024_1792_0) (fun _ => rfl))).view.set (((Memref.whole main_v4_1).slice (Rect.unit (s := S4736x1024) ![1664, 0] S128x1024.size inb_S4736x1024_S128x1024_1664_0) (fun _ => rfl))).view.set) (hd14 : Disjoint (((Memref.whole main_v4_1).slice (Rect.unit (s := S4736x1024) ![1920, 0] S128x1024.size inb_S4736x1024_S128x1024_1920_0) (fun _ => rfl))).view.set (((Memref.whole main_v4_1).slice (Rect.unit (s := S4736x1024) ![1792, 0] S128x1024.size inb_S4736x1024_S128x1024_1792_0) (fun _ => rfl))).view.set) (hd15 : Disjoint (((Memref.whole main_v4_1).slice (Rect.unit (s := S4736x1024) ![2048, 0] S128x1024.size inb_S4736x1024_S128x1024_2048_0) (fun _ => rfl))).view.set (((Memref.whole main_v4_1).slice (Rect.unit (s := S4736x1024) ![1920, 0] S128x1024.size inb_S4736x1024_S128x1024_1920_0) (fun _ => rfl))).view.set) (hd16 : Disjoint (((Memref.whole main_v4_1).slice (Rect.unit (s := S4736x1024) ![2176, 0] S128x1024.size inb_S4736x1024_S128x1024_2176_0) (fun _ => rfl))).view.set (((Memref.whole main_v4_1).slice (Rect.unit (s := S4736x1024) ![2048, 0] S128x1024.size inb_S4736x1024_S128x1024_2048_0) (fun _ => rfl))).view.set) (hd17 : Disjoint (((Memref.whole main_v4_1).slice (Rect.unit (s := S4736x1024) ![2304, 0] S128x1024.size inb_S4736x1024_S128x1024_2304_0) (fun _ => rfl))).view.set (((Memref.whole main_v4_1).slice (Rect.unit (s := S4736x1024) ![2176, 0] S128x1024.size inb_S4736x1024_S128x1024_2176_0) (fun _ => rfl))).view.set) (hd18 : Disjoint (((Memref.whole main_v4_1).slice (Rect.unit (s := S4736x1024) ![2432, 0] S128x1024.size inb_S4736x1024_S128x1024_2432_0) (fun _ => rfl))).view.set (((Memref.whole main_v4_1).slice (Rect.unit (s := S4736x1024) ![2304, 0] S128x1024.size inb_S4736x1024_S128x1024_2304_0) (fun _ => rfl))).view.set) (hd19 : Disjoint (((Memref.whole main_v4_1).slice (Rect.unit (s := S4736x1024) ![2560, 0] S128x1024.size inb_S4736x1024_S128x1024_2560_0) (fun _ => rfl))).view.set (((Memref.whole main_v4_1).slice (Rect.unit (s := S4736x1024) ![2432, 0] S128x1024.size inb_S4736x1024_S128x1024_2432_0) (fun _ => rfl))).view.set) (hd20 : Disjoint (((Memref.whole main_v4_1).slice (Rect.unit (s := S4736x1024) ![2688, 0] S128x1024.size inb_S4736x1024_S128x1024_2688_0) (fun _ => rfl))).view.set (((Memref.whole main_v4_1).slice (Rect.unit (s := S4736x1024) ![2560, 0] S128x1024.size inb_S4736x1024_S128x1024_2560_0) (fun _ => rfl))).view.set) (hd21 : Disjoint (((Memref.whole main_v4_1).slice (Rect.unit (s := S4736x1024) ![2816, 0] S128x1024.size inb_S4736x1024_S128x1024_2816_0) (fun _ => rfl))).view.set (((Memref.whole main_v4_1).slice (Rect.unit (s := S4736x1024) ![2688, 0] S128x1024.size inb_S4736x1024_S128x1024_2688_0) (fun _ => rfl))).view.set) (hd22 : Disjoint (((Memref.whole main_v4_1).slice (Rect.unit (s := S4736x1024) ![2944, 0] S128x1024.size inb_S4736x1024_S128x1024_2944_0) (fun _ => rfl))).view.set (((Memref.whole main_v4_1).slice (Rect.unit (s := S4736x1024) ![2816, 0] S128x1024.size inb_S4736x1024_S128x1024_2816_0) (fun _ => rfl))).view.set) (hd23 : Disjoint (((Memref.whole main_v4_1).slice (Rect.unit (s := S4736x1024) ![3072, 0] S128x1024.size inb_S4736x1024_S128x1024_3072_0) (fun _ => rfl))).view.set (((Memref.whole main_v4_1).slice (Rect.unit (s := S4736x1024) ![2944, 0] S128x1024.size inb_S4736x1024_S128x1024_2944_0) (fun _ => rfl))).view.set) (hd24 : Disjoint (((Memref.whole main_v4_1).slice (Rect.unit (s := S4736x1024) ![3200, 0] S128x1024.size inb_S4736x1024_S128x1024_3200_0) (fun _ => rfl))).view.set (((Memref.whole main_v4_1).slice (Rect.unit (s := S4736x1024) ![3072, 0] S128x1024.size inb_S4736x1024_S128x1024_3072_0) (fun _ => rfl))).view.set) (hd25 : Disjoint (((Memref.whole main_v4_1).slice (Rect.unit (s := S4736x1024) ![3328, 0] S128x1024.size inb_S4736x1024_S128x1024_3328_0) (fun _ => rfl))).view.set (((Memref.whole main_v4_1).slice (Rect.unit (s := S4736x1024) ![3200, 0] S128x1024.size inb_S4736x1024_S128x1024_3200_0) (fun _ => rfl))).view.set) (hd26 : Disjoint (((Memref.whole main_v4_1).slice (Rect.unit (s := S4736x1024) ![3456, 0] S128x1024.size inb_S4736x1024_S128x1024_3456_0) (fun _ => rfl))).view.set (((Memref.whole main_v4_1).slice (Rect.unit (s := S4736x1024) ![3328, 0] S128x1024.size inb_S4736x1024_S128x1024_3328_0) (fun _ => rfl))).view.set) (hd27 : Disjoint (((Memref.whole main_v4_1).slice (Rect.unit (s := S4736x1024) ![3584, 0] S128x1024.size inb_S4736x1024_S128x1024_3584_0) (fun _ => rfl))).view.set (((Memref.whole main_v4_1).slice (Rect.unit (s := S4736x1024) ![3456, 0] S128x1024.size inb_S4736x1024_S128x1024_3456_0) (fun _ => rfl))).view.set) (hd28 : Disjoint (((Memref.whole main_v4_1).slice (Rect.unit (s := S4736x1024) ![3712, 0] S128x1024.size inb_S4736x1024_S128x1024_3712_0) (fun _ => rfl))).view.set (((Memref.whole main_v4_1).slice (Rect.unit (s := S4736x1024) ![3584, 0] S128x1024.size inb_S4736x1024_S128x1024_3584_0) (fun _ => rfl))).view.set) (hd29 : Disjoint (((Memref.whole main_v4_1).slice (Rect.unit (s := S4736x1024) ![3840, 0] S128x1024.size inb_S4736x1024_S128x1024_3840_0) (fun _ => rfl))).view.set (((Memref.whole main_v4_1).slice (Rect.unit (s := S4736x1024) ![3712, 0] S128x1024.size inb_S4736x1024_S128x1024_3712_0) (fun _ => rfl))).view.set) (hd30 : Disjoint (((Memref.whole main_v4_1).slice (Rect.unit (s := S4736x1024) ![3968, 0] S128x1024.size inb_S4736x1024_S128x1024_3968_0) (fun _ => rfl))).view.set (((Memref.whole main_v4_1).slice (Rect.unit (s := S4736x1024) ![3840, 0] S128x1024.size inb_S4736x1024_S128x1024_3840_0) (fun _ => rfl))).view.set) (hd31 : Disjoint (((Memref.whole main_v4_1).slice (Rect.unit (s := S4736x1024) ![4096, 0] S128x1024.size inb_S4736x1024_S128x1024_4096_0) (fun _ => rfl))).view.set (((Memref.whole main_v4_1).slice (Rect.unit (s := S4736x1024) ![3968, 0] S128x1024.size inb_S4736x1024_S128x1024_3968_0) (fun _ => rfl))).view.set) (hd32 : Disjoint (((Memref.whole main_v4_1).slice (Rect.unit (s := S4736x1024) ![4224, 0] S128x1024.size inb_S4736x1024_S128x1024_4224_0) (fun _ => rfl))).view.set (((Memref.whole main_v4_1).slice (Rect.unit (s := S4736x1024) ![4096, 0] S128x1024.size inb_S4736x1024_S128x1024_4096_0) (fun _ => rfl))).view.set) (hd33 : Disjoint (((Memref.whole main_v4_1).slice (Rect.unit (s := S4736x1024) ![4352, 0] S128x1024.size inb_S4736x1024_S128x1024_4352_0) (fun _ => rfl))).view.set (((Memref.whole main_v4_1).slice (Rect.unit (s := S4736x1024) ![4224, 0] S128x1024.size inb_S4736x1024_S128x1024_4224_0) (fun _ => rfl))).view.set) (hd34 : Disjoint (((Memref.whole main_v4_1).slice (Rect.unit (s := S4736x1024) ![4480, 0] S128x1024.size inb_S4736x1024_S128x1024_4480_0) (fun _ => rfl))).view.set (((Memref.whole main_v4_1).slice (Rect.unit (s := S4736x1024) ![4352, 0] S128x1024.size inb_S4736x1024_S128x1024_4352_0) (fun _ => rfl))).view.set) (hd35 : Disjoint (((Memref.whole main_v4_1).slice (Rect.unit (s := S4736x1024) ![4608, 0] S128x1024.size inb_S4736x1024_S128x1024_4608_0) (fun _ => rfl))).view.set (((Memref.whole main_v4_1).slice (Rect.unit (s := S4736x1024) ![4480, 0] S128x1024.size inb_S4736x1024_S128x1024_4480_0) (fun _ => rfl))).view.set)
    (x0 : Vec F S512x512 .bf16) (x1 : Vec F S512x512 .bf16) (x2 : Vec F S512x512 .bf16) (x3 : Vec F S512x512 .bf16) (x4 : Vec F S512x1024 .bf16) (x5 : Vec F S512x512 .bf16) (x6 : Vec F S512x512 .bf16) (x7 : Vec F S512x512 .bf16) (x8 : Vec F S512x128 .f32) (x9 : Vec F S512x1024 .f32) (x10 : Vec F S512x1024 .f32) (x11 : Vec F S1x1024 .f32) (x12 : Vec F S1x1024 .f32) (x13 : Vec F S1x1024 .f32) (xo15 : Vec F S1x4736 .f32) (xo16 : Vec F S1x1024 .f32) (xo17 : Vec F S1x1024 .f32) (xo18 : Vec F S1x1024 .f32) (xs0 : Vec F S4736x1024 .bf16) (xs1 : Vec F S1024x4736 .f32) (fh0 : HbBuf0 (F := F) c hbM0_0) (xs2 : Vec F S2x128x1024 .f32) (fw1 : HbBuf0 (F := F) c hbM0_1) :
    Leaves c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0 xs2 fw1 (gwRun c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0 xs2 fw1).1 (gwRun c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0 xs2 fw1).2.1 (gwRun c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0 xs2 fw1).2.2.1 (gwRun c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0 xs2 fw1).2.2.2.1 (gwRun c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0 xs2 fw1).2.2.2.2.1 (gwRun c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0 xs2 fw1).2.2.2.2.2.2.1 (gwRun c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0 xs2 fw1).2.2.2.2.2.2.2.1 :=
  (gwRun c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0 xs2 fw1).2.2.2.2.2.2.2.2

theorem leaves_of  (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x128 .f32) (harg9 : arg9.IsWhole) (arg10 : Memref sig .tc .vmem S512x1024 .f32) (harg10 : arg10.IsWhole) (arg11 : Memref sig .tc .vmem S512x1024 .f32) (harg11 : arg11.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg18 : Memref sig .tc .vmem S1x4736 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S4736x1024 .bf16) (harg22 : arg22.IsWhole) (arg23 : Memref sig .tc .vmem S1024x4736 .f32) (harg23 : arg23.IsWhole) (arg24 : Memref sig .tc .vmem S2x128x1024 .f32) (harg24 : arg24.IsWhole) (hc0 : ¬cond0_0 i) (hc1 : cond0_1 i) (hd0 : Disjoint (((Memref.whole main_v4_1).slice (Rect.unit (s := S4736x1024) ![128, 0] S128x1024.size inb_S4736x1024_S128x1024_128_0) (fun _ => rfl))).view.set (((Memref.whole main_v4_1).slice (Rect.unit (s := S4736x1024) ![0, 0] S128x1024.size inb_S4736x1024_S128x1024_0_0) (fun _ => rfl))).view.set) (hd1 : Disjoint (((Memref.whole main_v4_1).slice (Rect.unit (s := S4736x1024) ![256, 0] S128x1024.size inb_S4736x1024_S128x1024_256_0) (fun _ => rfl))).view.set (((Memref.whole main_v4_1).slice (Rect.unit (s := S4736x1024) ![128, 0] S128x1024.size inb_S4736x1024_S128x1024_128_0) (fun _ => rfl))).view.set) (hd2 : Disjoint (((Memref.whole main_v4_1).slice (Rect.unit (s := S4736x1024) ![384, 0] S128x1024.size inb_S4736x1024_S128x1024_384_0) (fun _ => rfl))).view.set (((Memref.whole main_v4_1).slice (Rect.unit (s := S4736x1024) ![256, 0] S128x1024.size inb_S4736x1024_S128x1024_256_0) (fun _ => rfl))).view.set) (hd3 : Disjoint (((Memref.whole main_v4_1).slice (Rect.unit (s := S4736x1024) ![512, 0] S128x1024.size inb_S4736x1024_S128x1024_512_0) (fun _ => rfl))).view.set (((Memref.whole main_v4_1).slice (Rect.unit (s := S4736x1024) ![384, 0] S128x1024.size inb_S4736x1024_S128x1024_384_0) (fun _ => rfl))).view.set) (hd4 : Disjoint (((Memref.whole main_v4_1).slice (Rect.unit (s := S4736x1024) ![640, 0] S128x1024.size inb_S4736x1024_S128x1024_640_0) (fun _ => rfl))).view.set (((Memref.whole main_v4_1).slice (Rect.unit (s := S4736x1024) ![512, 0] S128x1024.size inb_S4736x1024_S128x1024_512_0) (fun _ => rfl))).view.set) (hd5 : Disjoint (((Memref.whole main_v4_1).slice (Rect.unit (s := S4736x1024) ![768, 0] S128x1024.size inb_S4736x1024_S128x1024_768_0) (fun _ => rfl))).view.set (((Memref.whole main_v4_1).slice (Rect.unit (s := S4736x1024) ![640, 0] S128x1024.size inb_S4736x1024_S128x1024_640_0) (fun _ => rfl))).view.set) (hd6 : Disjoint (((Memref.whole main_v4_1).slice (Rect.unit (s := S4736x1024) ![896, 0] S128x1024.size inb_S4736x1024_S128x1024_896_0) (fun _ => rfl))).view.set (((Memref.whole main_v4_1).slice (Rect.unit (s := S4736x1024) ![768, 0] S128x1024.size inb_S4736x1024_S128x1024_768_0) (fun _ => rfl))).view.set) (hd7 : Disjoint (((Memref.whole main_v4_1).slice (Rect.unit (s := S4736x1024) ![1024, 0] S128x1024.size inb_S4736x1024_S128x1024_1024_0) (fun _ => rfl))).view.set (((Memref.whole main_v4_1).slice (Rect.unit (s := S4736x1024) ![896, 0] S128x1024.size inb_S4736x1024_S128x1024_896_0) (fun _ => rfl))).view.set) (hd8 : Disjoint (((Memref.whole main_v4_1).slice (Rect.unit (s := S4736x1024) ![1152, 0] S128x1024.size inb_S4736x1024_S128x1024_1152_0) (fun _ => rfl))).view.set (((Memref.whole main_v4_1).slice (Rect.unit (s := S4736x1024) ![1024, 0] S128x1024.size inb_S4736x1024_S128x1024_1024_0) (fun _ => rfl))).view.set) (hd9 : Disjoint (((Memref.whole main_v4_1).slice (Rect.unit (s := S4736x1024) ![1280, 0] S128x1024.size inb_S4736x1024_S128x1024_1280_0) (fun _ => rfl))).view.set (((Memref.whole main_v4_1).slice (Rect.unit (s := S4736x1024) ![1152, 0] S128x1024.size inb_S4736x1024_S128x1024_1152_0) (fun _ => rfl))).view.set) (hd10 : Disjoint (((Memref.whole main_v4_1).slice (Rect.unit (s := S4736x1024) ![1408, 0] S128x1024.size inb_S4736x1024_S128x1024_1408_0) (fun _ => rfl))).view.set (((Memref.whole main_v4_1).slice (Rect.unit (s := S4736x1024) ![1280, 0] S128x1024.size inb_S4736x1024_S128x1024_1280_0) (fun _ => rfl))).view.set) (hd11 : Disjoint (((Memref.whole main_v4_1).slice (Rect.unit (s := S4736x1024) ![1536, 0] S128x1024.size inb_S4736x1024_S128x1024_1536_0) (fun _ => rfl))).view.set (((Memref.whole main_v4_1).slice (Rect.unit (s := S4736x1024) ![1408, 0] S128x1024.size inb_S4736x1024_S128x1024_1408_0) (fun _ => rfl))).view.set) (hd12 : Disjoint (((Memref.whole main_v4_1).slice (Rect.unit (s := S4736x1024) ![1664, 0] S128x1024.size inb_S4736x1024_S128x1024_1664_0) (fun _ => rfl))).view.set (((Memref.whole main_v4_1).slice (Rect.unit (s := S4736x1024) ![1536, 0] S128x1024.size inb_S4736x1024_S128x1024_1536_0) (fun _ => rfl))).view.set) (hd13 : Disjoint (((Memref.whole main_v4_1).slice (Rect.unit (s := S4736x1024) ![1792, 0] S128x1024.size inb_S4736x1024_S128x1024_1792_0) (fun _ => rfl))).view.set (((Memref.whole main_v4_1).slice (Rect.unit (s := S4736x1024) ![1664, 0] S128x1024.size inb_S4736x1024_S128x1024_1664_0) (fun _ => rfl))).view.set) (hd14 : Disjoint (((Memref.whole main_v4_1).slice (Rect.unit (s := S4736x1024) ![1920, 0] S128x1024.size inb_S4736x1024_S128x1024_1920_0) (fun _ => rfl))).view.set (((Memref.whole main_v4_1).slice (Rect.unit (s := S4736x1024) ![1792, 0] S128x1024.size inb_S4736x1024_S128x1024_1792_0) (fun _ => rfl))).view.set) (hd15 : Disjoint (((Memref.whole main_v4_1).slice (Rect.unit (s := S4736x1024) ![2048, 0] S128x1024.size inb_S4736x1024_S128x1024_2048_0) (fun _ => rfl))).view.set (((Memref.whole main_v4_1).slice (Rect.unit (s := S4736x1024) ![1920, 0] S128x1024.size inb_S4736x1024_S128x1024_1920_0) (fun _ => rfl))).view.set) (hd16 : Disjoint (((Memref.whole main_v4_1).slice (Rect.unit (s := S4736x1024) ![2176, 0] S128x1024.size inb_S4736x1024_S128x1024_2176_0) (fun _ => rfl))).view.set (((Memref.whole main_v4_1).slice (Rect.unit (s := S4736x1024) ![2048, 0] S128x1024.size inb_S4736x1024_S128x1024_2048_0) (fun _ => rfl))).view.set) (hd17 : Disjoint (((Memref.whole main_v4_1).slice (Rect.unit (s := S4736x1024) ![2304, 0] S128x1024.size inb_S4736x1024_S128x1024_2304_0) (fun _ => rfl))).view.set (((Memref.whole main_v4_1).slice (Rect.unit (s := S4736x1024) ![2176, 0] S128x1024.size inb_S4736x1024_S128x1024_2176_0) (fun _ => rfl))).view.set) (hd18 : Disjoint (((Memref.whole main_v4_1).slice (Rect.unit (s := S4736x1024) ![2432, 0] S128x1024.size inb_S4736x1024_S128x1024_2432_0) (fun _ => rfl))).view.set (((Memref.whole main_v4_1).slice (Rect.unit (s := S4736x1024) ![2304, 0] S128x1024.size inb_S4736x1024_S128x1024_2304_0) (fun _ => rfl))).view.set) (hd19 : Disjoint (((Memref.whole main_v4_1).slice (Rect.unit (s := S4736x1024) ![2560, 0] S128x1024.size inb_S4736x1024_S128x1024_2560_0) (fun _ => rfl))).view.set (((Memref.whole main_v4_1).slice (Rect.unit (s := S4736x1024) ![2432, 0] S128x1024.size inb_S4736x1024_S128x1024_2432_0) (fun _ => rfl))).view.set) (hd20 : Disjoint (((Memref.whole main_v4_1).slice (Rect.unit (s := S4736x1024) ![2688, 0] S128x1024.size inb_S4736x1024_S128x1024_2688_0) (fun _ => rfl))).view.set (((Memref.whole main_v4_1).slice (Rect.unit (s := S4736x1024) ![2560, 0] S128x1024.size inb_S4736x1024_S128x1024_2560_0) (fun _ => rfl))).view.set) (hd21 : Disjoint (((Memref.whole main_v4_1).slice (Rect.unit (s := S4736x1024) ![2816, 0] S128x1024.size inb_S4736x1024_S128x1024_2816_0) (fun _ => rfl))).view.set (((Memref.whole main_v4_1).slice (Rect.unit (s := S4736x1024) ![2688, 0] S128x1024.size inb_S4736x1024_S128x1024_2688_0) (fun _ => rfl))).view.set) (hd22 : Disjoint (((Memref.whole main_v4_1).slice (Rect.unit (s := S4736x1024) ![2944, 0] S128x1024.size inb_S4736x1024_S128x1024_2944_0) (fun _ => rfl))).view.set (((Memref.whole main_v4_1).slice (Rect.unit (s := S4736x1024) ![2816, 0] S128x1024.size inb_S4736x1024_S128x1024_2816_0) (fun _ => rfl))).view.set) (hd23 : Disjoint (((Memref.whole main_v4_1).slice (Rect.unit (s := S4736x1024) ![3072, 0] S128x1024.size inb_S4736x1024_S128x1024_3072_0) (fun _ => rfl))).view.set (((Memref.whole main_v4_1).slice (Rect.unit (s := S4736x1024) ![2944, 0] S128x1024.size inb_S4736x1024_S128x1024_2944_0) (fun _ => rfl))).view.set) (hd24 : Disjoint (((Memref.whole main_v4_1).slice (Rect.unit (s := S4736x1024) ![3200, 0] S128x1024.size inb_S4736x1024_S128x1024_3200_0) (fun _ => rfl))).view.set (((Memref.whole main_v4_1).slice (Rect.unit (s := S4736x1024) ![3072, 0] S128x1024.size inb_S4736x1024_S128x1024_3072_0) (fun _ => rfl))).view.set) (hd25 : Disjoint (((Memref.whole main_v4_1).slice (Rect.unit (s := S4736x1024) ![3328, 0] S128x1024.size inb_S4736x1024_S128x1024_3328_0) (fun _ => rfl))).view.set (((Memref.whole main_v4_1).slice (Rect.unit (s := S4736x1024) ![3200, 0] S128x1024.size inb_S4736x1024_S128x1024_3200_0) (fun _ => rfl))).view.set) (hd26 : Disjoint (((Memref.whole main_v4_1).slice (Rect.unit (s := S4736x1024) ![3456, 0] S128x1024.size inb_S4736x1024_S128x1024_3456_0) (fun _ => rfl))).view.set (((Memref.whole main_v4_1).slice (Rect.unit (s := S4736x1024) ![3328, 0] S128x1024.size inb_S4736x1024_S128x1024_3328_0) (fun _ => rfl))).view.set) (hd27 : Disjoint (((Memref.whole main_v4_1).slice (Rect.unit (s := S4736x1024) ![3584, 0] S128x1024.size inb_S4736x1024_S128x1024_3584_0) (fun _ => rfl))).view.set (((Memref.whole main_v4_1).slice (Rect.unit (s := S4736x1024) ![3456, 0] S128x1024.size inb_S4736x1024_S128x1024_3456_0) (fun _ => rfl))).view.set) (hd28 : Disjoint (((Memref.whole main_v4_1).slice (Rect.unit (s := S4736x1024) ![3712, 0] S128x1024.size inb_S4736x1024_S128x1024_3712_0) (fun _ => rfl))).view.set (((Memref.whole main_v4_1).slice (Rect.unit (s := S4736x1024) ![3584, 0] S128x1024.size inb_S4736x1024_S128x1024_3584_0) (fun _ => rfl))).view.set) (hd29 : Disjoint (((Memref.whole main_v4_1).slice (Rect.unit (s := S4736x1024) ![3840, 0] S128x1024.size inb_S4736x1024_S128x1024_3840_0) (fun _ => rfl))).view.set (((Memref.whole main_v4_1).slice (Rect.unit (s := S4736x1024) ![3712, 0] S128x1024.size inb_S4736x1024_S128x1024_3712_0) (fun _ => rfl))).view.set) (hd30 : Disjoint (((Memref.whole main_v4_1).slice (Rect.unit (s := S4736x1024) ![3968, 0] S128x1024.size inb_S4736x1024_S128x1024_3968_0) (fun _ => rfl))).view.set (((Memref.whole main_v4_1).slice (Rect.unit (s := S4736x1024) ![3840, 0] S128x1024.size inb_S4736x1024_S128x1024_3840_0) (fun _ => rfl))).view.set) (hd31 : Disjoint (((Memref.whole main_v4_1).slice (Rect.unit (s := S4736x1024) ![4096, 0] S128x1024.size inb_S4736x1024_S128x1024_4096_0) (fun _ => rfl))).view.set (((Memref.whole main_v4_1).slice (Rect.unit (s := S4736x1024) ![3968, 0] S128x1024.size inb_S4736x1024_S128x1024_3968_0) (fun _ => rfl))).view.set) (hd32 : Disjoint (((Memref.whole main_v4_1).slice (Rect.unit (s := S4736x1024) ![4224, 0] S128x1024.size inb_S4736x1024_S128x1024_4224_0) (fun _ => rfl))).view.set (((Memref.whole main_v4_1).slice (Rect.unit (s := S4736x1024) ![4096, 0] S128x1024.size inb_S4736x1024_S128x1024_4096_0) (fun _ => rfl))).view.set) (hd33 : Disjoint (((Memref.whole main_v4_1).slice (Rect.unit (s := S4736x1024) ![4352, 0] S128x1024.size inb_S4736x1024_S128x1024_4352_0) (fun _ => rfl))).view.set (((Memref.whole main_v4_1).slice (Rect.unit (s := S4736x1024) ![4224, 0] S128x1024.size inb_S4736x1024_S128x1024_4224_0) (fun _ => rfl))).view.set) (hd34 : Disjoint (((Memref.whole main_v4_1).slice (Rect.unit (s := S4736x1024) ![4480, 0] S128x1024.size inb_S4736x1024_S128x1024_4480_0) (fun _ => rfl))).view.set (((Memref.whole main_v4_1).slice (Rect.unit (s := S4736x1024) ![4352, 0] S128x1024.size inb_S4736x1024_S128x1024_4352_0) (fun _ => rfl))).view.set) (hd35 : Disjoint (((Memref.whole main_v4_1).slice (Rect.unit (s := S4736x1024) ![4608, 0] S128x1024.size inb_S4736x1024_S128x1024_4608_0) (fun _ => rfl))).view.set (((Memref.whole main_v4_1).slice (Rect.unit (s := S4736x1024) ![4480, 0] S128x1024.size inb_S4736x1024_S128x1024_4480_0) (fun _ => rfl))).view.set)
    (x0 : Vec F S512x512 .bf16) (x1 : Vec F S512x512 .bf16) (x2 : Vec F S512x512 .bf16) (x3 : Vec F S512x512 .bf16) (x4 : Vec F S512x1024 .bf16) (x5 : Vec F S512x512 .bf16) (x6 : Vec F S512x512 .bf16) (x7 : Vec F S512x512 .bf16) (x8 : Vec F S512x128 .f32) (x9 : Vec F S512x1024 .f32) (x10 : Vec F S512x1024 .f32) (x11 : Vec F S1x1024 .f32) (x12 : Vec F S1x1024 .f32) (x13 : Vec F S1x1024 .f32) (xo15 : Vec F S1x4736 .f32) (xo16 : Vec F S1x1024 .f32) (xo17 : Vec F S1x1024 .f32) (xo18 : Vec F S1x1024 .f32) (xs0 : Vec F S4736x1024 .bf16) (xs1 : Vec F S1024x4736 .f32) (fh0 : HbBuf0 (F := F) c hbM0_0) (xs2 : Vec F S2x128x1024 .f32) (fw1 : HbBuf0 (F := F) c hbM0_1)
    (L14 L14' : List (View.Piece (Elt F) S512x1024 .f32)) (L15 L15' : List (View.Piece (Elt F) S1x4736 .f32)) (L16 L16' L17 L17' L18 L18' : List (View.Piece (Elt F) S1x1024 .f32)) (LS1 LS1' : List (View.Piece (Elt F) S1024x4736 .f32)) (gw1 gw1' : HbBuf0 (F := F) c hbM0_1)
    (h14 : L14 = L14') (h15 : L15 = L15') (h16 : L16 = L16') (h17 : L17 = L17') (h18 : L18 = L18') (hS1 : LS1 = LS1') (hg : gw1 = gw1')
    (h : Leaves c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0 xs2 fw1 L14 L15 L16 L17 L18 LS1 gw1) : Leaves c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0 xs2 fw1 L14' L15' L16' L17' L18' LS1' gw1' := by
  subst h14 h15 h16 h17 h18 hS1 hg; exact h

/-- The body at the last point: each output and the accumulator by the generated run's stores, the weight gradient's array at
    the accumulator after the point, transposed. -/
theorem lastRun  (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x128 .f32) (harg9 : arg9.IsWhole) (arg10 : Memref sig .tc .vmem S512x1024 .f32) (harg10 : arg10.IsWhole) (arg11 : Memref sig .tc .vmem S512x1024 .f32) (harg11 : arg11.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg18 : Memref sig .tc .vmem S1x4736 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S4736x1024 .bf16) (harg22 : arg22.IsWhole) (arg23 : Memref sig .tc .vmem S1024x4736 .f32) (harg23 : arg23.IsWhole) (arg24 : Memref sig .tc .vmem S2x128x1024 .f32) (harg24 : arg24.IsWhole) (hc0 : ¬cond0_0 i) (hc1 : cond0_1 i) (hd0 : Disjoint (((Memref.whole main_v4_1).slice (Rect.unit (s := S4736x1024) ![128, 0] S128x1024.size inb_S4736x1024_S128x1024_128_0) (fun _ => rfl))).view.set (((Memref.whole main_v4_1).slice (Rect.unit (s := S4736x1024) ![0, 0] S128x1024.size inb_S4736x1024_S128x1024_0_0) (fun _ => rfl))).view.set) (hd1 : Disjoint (((Memref.whole main_v4_1).slice (Rect.unit (s := S4736x1024) ![256, 0] S128x1024.size inb_S4736x1024_S128x1024_256_0) (fun _ => rfl))).view.set (((Memref.whole main_v4_1).slice (Rect.unit (s := S4736x1024) ![128, 0] S128x1024.size inb_S4736x1024_S128x1024_128_0) (fun _ => rfl))).view.set) (hd2 : Disjoint (((Memref.whole main_v4_1).slice (Rect.unit (s := S4736x1024) ![384, 0] S128x1024.size inb_S4736x1024_S128x1024_384_0) (fun _ => rfl))).view.set (((Memref.whole main_v4_1).slice (Rect.unit (s := S4736x1024) ![256, 0] S128x1024.size inb_S4736x1024_S128x1024_256_0) (fun _ => rfl))).view.set) (hd3 : Disjoint (((Memref.whole main_v4_1).slice (Rect.unit (s := S4736x1024) ![512, 0] S128x1024.size inb_S4736x1024_S128x1024_512_0) (fun _ => rfl))).view.set (((Memref.whole main_v4_1).slice (Rect.unit (s := S4736x1024) ![384, 0] S128x1024.size inb_S4736x1024_S128x1024_384_0) (fun _ => rfl))).view.set) (hd4 : Disjoint (((Memref.whole main_v4_1).slice (Rect.unit (s := S4736x1024) ![640, 0] S128x1024.size inb_S4736x1024_S128x1024_640_0) (fun _ => rfl))).view.set (((Memref.whole main_v4_1).slice (Rect.unit (s := S4736x1024) ![512, 0] S128x1024.size inb_S4736x1024_S128x1024_512_0) (fun _ => rfl))).view.set) (hd5 : Disjoint (((Memref.whole main_v4_1).slice (Rect.unit (s := S4736x1024) ![768, 0] S128x1024.size inb_S4736x1024_S128x1024_768_0) (fun _ => rfl))).view.set (((Memref.whole main_v4_1).slice (Rect.unit (s := S4736x1024) ![640, 0] S128x1024.size inb_S4736x1024_S128x1024_640_0) (fun _ => rfl))).view.set) (hd6 : Disjoint (((Memref.whole main_v4_1).slice (Rect.unit (s := S4736x1024) ![896, 0] S128x1024.size inb_S4736x1024_S128x1024_896_0) (fun _ => rfl))).view.set (((Memref.whole main_v4_1).slice (Rect.unit (s := S4736x1024) ![768, 0] S128x1024.size inb_S4736x1024_S128x1024_768_0) (fun _ => rfl))).view.set) (hd7 : Disjoint (((Memref.whole main_v4_1).slice (Rect.unit (s := S4736x1024) ![1024, 0] S128x1024.size inb_S4736x1024_S128x1024_1024_0) (fun _ => rfl))).view.set (((Memref.whole main_v4_1).slice (Rect.unit (s := S4736x1024) ![896, 0] S128x1024.size inb_S4736x1024_S128x1024_896_0) (fun _ => rfl))).view.set) (hd8 : Disjoint (((Memref.whole main_v4_1).slice (Rect.unit (s := S4736x1024) ![1152, 0] S128x1024.size inb_S4736x1024_S128x1024_1152_0) (fun _ => rfl))).view.set (((Memref.whole main_v4_1).slice (Rect.unit (s := S4736x1024) ![1024, 0] S128x1024.size inb_S4736x1024_S128x1024_1024_0) (fun _ => rfl))).view.set) (hd9 : Disjoint (((Memref.whole main_v4_1).slice (Rect.unit (s := S4736x1024) ![1280, 0] S128x1024.size inb_S4736x1024_S128x1024_1280_0) (fun _ => rfl))).view.set (((Memref.whole main_v4_1).slice (Rect.unit (s := S4736x1024) ![1152, 0] S128x1024.size inb_S4736x1024_S128x1024_1152_0) (fun _ => rfl))).view.set) (hd10 : Disjoint (((Memref.whole main_v4_1).slice (Rect.unit (s := S4736x1024) ![1408, 0] S128x1024.size inb_S4736x1024_S128x1024_1408_0) (fun _ => rfl))).view.set (((Memref.whole main_v4_1).slice (Rect.unit (s := S4736x1024) ![1280, 0] S128x1024.size inb_S4736x1024_S128x1024_1280_0) (fun _ => rfl))).view.set) (hd11 : Disjoint (((Memref.whole main_v4_1).slice (Rect.unit (s := S4736x1024) ![1536, 0] S128x1024.size inb_S4736x1024_S128x1024_1536_0) (fun _ => rfl))).view.set (((Memref.whole main_v4_1).slice (Rect.unit (s := S4736x1024) ![1408, 0] S128x1024.size inb_S4736x1024_S128x1024_1408_0) (fun _ => rfl))).view.set) (hd12 : Disjoint (((Memref.whole main_v4_1).slice (Rect.unit (s := S4736x1024) ![1664, 0] S128x1024.size inb_S4736x1024_S128x1024_1664_0) (fun _ => rfl))).view.set (((Memref.whole main_v4_1).slice (Rect.unit (s := S4736x1024) ![1536, 0] S128x1024.size inb_S4736x1024_S128x1024_1536_0) (fun _ => rfl))).view.set) (hd13 : Disjoint (((Memref.whole main_v4_1).slice (Rect.unit (s := S4736x1024) ![1792, 0] S128x1024.size inb_S4736x1024_S128x1024_1792_0) (fun _ => rfl))).view.set (((Memref.whole main_v4_1).slice (Rect.unit (s := S4736x1024) ![1664, 0] S128x1024.size inb_S4736x1024_S128x1024_1664_0) (fun _ => rfl))).view.set) (hd14 : Disjoint (((Memref.whole main_v4_1).slice (Rect.unit (s := S4736x1024) ![1920, 0] S128x1024.size inb_S4736x1024_S128x1024_1920_0) (fun _ => rfl))).view.set (((Memref.whole main_v4_1).slice (Rect.unit (s := S4736x1024) ![1792, 0] S128x1024.size inb_S4736x1024_S128x1024_1792_0) (fun _ => rfl))).view.set) (hd15 : Disjoint (((Memref.whole main_v4_1).slice (Rect.unit (s := S4736x1024) ![2048, 0] S128x1024.size inb_S4736x1024_S128x1024_2048_0) (fun _ => rfl))).view.set (((Memref.whole main_v4_1).slice (Rect.unit (s := S4736x1024) ![1920, 0] S128x1024.size inb_S4736x1024_S128x1024_1920_0) (fun _ => rfl))).view.set) (hd16 : Disjoint (((Memref.whole main_v4_1).slice (Rect.unit (s := S4736x1024) ![2176, 0] S128x1024.size inb_S4736x1024_S128x1024_2176_0) (fun _ => rfl))).view.set (((Memref.whole main_v4_1).slice (Rect.unit (s := S4736x1024) ![2048, 0] S128x1024.size inb_S4736x1024_S128x1024_2048_0) (fun _ => rfl))).view.set) (hd17 : Disjoint (((Memref.whole main_v4_1).slice (Rect.unit (s := S4736x1024) ![2304, 0] S128x1024.size inb_S4736x1024_S128x1024_2304_0) (fun _ => rfl))).view.set (((Memref.whole main_v4_1).slice (Rect.unit (s := S4736x1024) ![2176, 0] S128x1024.size inb_S4736x1024_S128x1024_2176_0) (fun _ => rfl))).view.set) (hd18 : Disjoint (((Memref.whole main_v4_1).slice (Rect.unit (s := S4736x1024) ![2432, 0] S128x1024.size inb_S4736x1024_S128x1024_2432_0) (fun _ => rfl))).view.set (((Memref.whole main_v4_1).slice (Rect.unit (s := S4736x1024) ![2304, 0] S128x1024.size inb_S4736x1024_S128x1024_2304_0) (fun _ => rfl))).view.set) (hd19 : Disjoint (((Memref.whole main_v4_1).slice (Rect.unit (s := S4736x1024) ![2560, 0] S128x1024.size inb_S4736x1024_S128x1024_2560_0) (fun _ => rfl))).view.set (((Memref.whole main_v4_1).slice (Rect.unit (s := S4736x1024) ![2432, 0] S128x1024.size inb_S4736x1024_S128x1024_2432_0) (fun _ => rfl))).view.set) (hd20 : Disjoint (((Memref.whole main_v4_1).slice (Rect.unit (s := S4736x1024) ![2688, 0] S128x1024.size inb_S4736x1024_S128x1024_2688_0) (fun _ => rfl))).view.set (((Memref.whole main_v4_1).slice (Rect.unit (s := S4736x1024) ![2560, 0] S128x1024.size inb_S4736x1024_S128x1024_2560_0) (fun _ => rfl))).view.set) (hd21 : Disjoint (((Memref.whole main_v4_1).slice (Rect.unit (s := S4736x1024) ![2816, 0] S128x1024.size inb_S4736x1024_S128x1024_2816_0) (fun _ => rfl))).view.set (((Memref.whole main_v4_1).slice (Rect.unit (s := S4736x1024) ![2688, 0] S128x1024.size inb_S4736x1024_S128x1024_2688_0) (fun _ => rfl))).view.set) (hd22 : Disjoint (((Memref.whole main_v4_1).slice (Rect.unit (s := S4736x1024) ![2944, 0] S128x1024.size inb_S4736x1024_S128x1024_2944_0) (fun _ => rfl))).view.set (((Memref.whole main_v4_1).slice (Rect.unit (s := S4736x1024) ![2816, 0] S128x1024.size inb_S4736x1024_S128x1024_2816_0) (fun _ => rfl))).view.set) (hd23 : Disjoint (((Memref.whole main_v4_1).slice (Rect.unit (s := S4736x1024) ![3072, 0] S128x1024.size inb_S4736x1024_S128x1024_3072_0) (fun _ => rfl))).view.set (((Memref.whole main_v4_1).slice (Rect.unit (s := S4736x1024) ![2944, 0] S128x1024.size inb_S4736x1024_S128x1024_2944_0) (fun _ => rfl))).view.set) (hd24 : Disjoint (((Memref.whole main_v4_1).slice (Rect.unit (s := S4736x1024) ![3200, 0] S128x1024.size inb_S4736x1024_S128x1024_3200_0) (fun _ => rfl))).view.set (((Memref.whole main_v4_1).slice (Rect.unit (s := S4736x1024) ![3072, 0] S128x1024.size inb_S4736x1024_S128x1024_3072_0) (fun _ => rfl))).view.set) (hd25 : Disjoint (((Memref.whole main_v4_1).slice (Rect.unit (s := S4736x1024) ![3328, 0] S128x1024.size inb_S4736x1024_S128x1024_3328_0) (fun _ => rfl))).view.set (((Memref.whole main_v4_1).slice (Rect.unit (s := S4736x1024) ![3200, 0] S128x1024.size inb_S4736x1024_S128x1024_3200_0) (fun _ => rfl))).view.set) (hd26 : Disjoint (((Memref.whole main_v4_1).slice (Rect.unit (s := S4736x1024) ![3456, 0] S128x1024.size inb_S4736x1024_S128x1024_3456_0) (fun _ => rfl))).view.set (((Memref.whole main_v4_1).slice (Rect.unit (s := S4736x1024) ![3328, 0] S128x1024.size inb_S4736x1024_S128x1024_3328_0) (fun _ => rfl))).view.set) (hd27 : Disjoint (((Memref.whole main_v4_1).slice (Rect.unit (s := S4736x1024) ![3584, 0] S128x1024.size inb_S4736x1024_S128x1024_3584_0) (fun _ => rfl))).view.set (((Memref.whole main_v4_1).slice (Rect.unit (s := S4736x1024) ![3456, 0] S128x1024.size inb_S4736x1024_S128x1024_3456_0) (fun _ => rfl))).view.set) (hd28 : Disjoint (((Memref.whole main_v4_1).slice (Rect.unit (s := S4736x1024) ![3712, 0] S128x1024.size inb_S4736x1024_S128x1024_3712_0) (fun _ => rfl))).view.set (((Memref.whole main_v4_1).slice (Rect.unit (s := S4736x1024) ![3584, 0] S128x1024.size inb_S4736x1024_S128x1024_3584_0) (fun _ => rfl))).view.set) (hd29 : Disjoint (((Memref.whole main_v4_1).slice (Rect.unit (s := S4736x1024) ![3840, 0] S128x1024.size inb_S4736x1024_S128x1024_3840_0) (fun _ => rfl))).view.set (((Memref.whole main_v4_1).slice (Rect.unit (s := S4736x1024) ![3712, 0] S128x1024.size inb_S4736x1024_S128x1024_3712_0) (fun _ => rfl))).view.set) (hd30 : Disjoint (((Memref.whole main_v4_1).slice (Rect.unit (s := S4736x1024) ![3968, 0] S128x1024.size inb_S4736x1024_S128x1024_3968_0) (fun _ => rfl))).view.set (((Memref.whole main_v4_1).slice (Rect.unit (s := S4736x1024) ![3840, 0] S128x1024.size inb_S4736x1024_S128x1024_3840_0) (fun _ => rfl))).view.set) (hd31 : Disjoint (((Memref.whole main_v4_1).slice (Rect.unit (s := S4736x1024) ![4096, 0] S128x1024.size inb_S4736x1024_S128x1024_4096_0) (fun _ => rfl))).view.set (((Memref.whole main_v4_1).slice (Rect.unit (s := S4736x1024) ![3968, 0] S128x1024.size inb_S4736x1024_S128x1024_3968_0) (fun _ => rfl))).view.set) (hd32 : Disjoint (((Memref.whole main_v4_1).slice (Rect.unit (s := S4736x1024) ![4224, 0] S128x1024.size inb_S4736x1024_S128x1024_4224_0) (fun _ => rfl))).view.set (((Memref.whole main_v4_1).slice (Rect.unit (s := S4736x1024) ![4096, 0] S128x1024.size inb_S4736x1024_S128x1024_4096_0) (fun _ => rfl))).view.set) (hd33 : Disjoint (((Memref.whole main_v4_1).slice (Rect.unit (s := S4736x1024) ![4352, 0] S128x1024.size inb_S4736x1024_S128x1024_4352_0) (fun _ => rfl))).view.set (((Memref.whole main_v4_1).slice (Rect.unit (s := S4736x1024) ![4224, 0] S128x1024.size inb_S4736x1024_S128x1024_4224_0) (fun _ => rfl))).view.set) (hd34 : Disjoint (((Memref.whole main_v4_1).slice (Rect.unit (s := S4736x1024) ![4480, 0] S128x1024.size inb_S4736x1024_S128x1024_4480_0) (fun _ => rfl))).view.set (((Memref.whole main_v4_1).slice (Rect.unit (s := S4736x1024) ![4352, 0] S128x1024.size inb_S4736x1024_S128x1024_4352_0) (fun _ => rfl))).view.set) (hd35 : Disjoint (((Memref.whole main_v4_1).slice (Rect.unit (s := S4736x1024) ![4608, 0] S128x1024.size inb_S4736x1024_S128x1024_4608_0) (fun _ => rfl))).view.set (((Memref.whole main_v4_1).slice (Rect.unit (s := S4736x1024) ![4480, 0] S128x1024.size inb_S4736x1024_S128x1024_4480_0) (fun _ => rfl))).view.set)
    (x0 : Vec F S512x512 .bf16) (x1 : Vec F S512x512 .bf16) (x2 : Vec F S512x512 .bf16) (x3 : Vec F S512x512 .bf16) (x4 : Vec F S512x1024 .bf16) (x5 : Vec F S512x512 .bf16) (x6 : Vec F S512x512 .bf16) (x7 : Vec F S512x512 .bf16) (x8 : Vec F S512x128 .f32) (x9 : Vec F S512x1024 .f32) (x10 : Vec F S512x1024 .f32) (x11 : Vec F S1x1024 .f32) (x12 : Vec F S1x1024 .f32) (x13 : Vec F S1x1024 .f32) (xo15 : Vec F S1x4736 .f32) (xo16 : Vec F S1x1024 .f32) (xo17 : Vec F S1x1024 .f32) (xo18 : Vec F S1x1024 .f32) (xs0 : Vec F S4736x1024 .bf16) (xs1 : Vec F S1024x4736 .f32) (fh0 : HbBuf0 (F := F) c hbM0_0) (xs2 : Vec F S2x128x1024 .f32) (fw1 : HbBuf0 (F := F) c hbM0_1) :
    Leaves c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0 xs2 fw1 (kernelRun0_C c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0).1 (kernelRun0_C c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0).2.1 (kernelRun0_C c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0).2.2.1 (kernelRun0_C c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0).2.2.2.1 (kernelRun0_C c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0).2.2.2.2.1 (kernelRun0_C c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0).2.2.2.2.2.2.1 (fun y => sout0_C_1 c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0 (ix2 (y 1) (y 0))) :=
  have e := lists c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0 xs2 fw1
  leaves_of c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0 xs2 fw1 _ _ _ _ _ _ _ _ _ _ _ _ _ _ e.1 e.2.1 e.2.2.1 e.2.2.2.1 e.2.2.2.2.1 e.2.2.2.2.2 (gw_acc c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0 xs2 fw1) (leaves_gwRun c i arg1 harg1 arg2 harg2 arg3 harg3 arg4 harg4 arg5 harg5 arg6 harg6 arg7 harg7 arg8 harg8 arg9 harg9 arg10 harg10 arg11 harg11 arg13 harg13 arg14 harg14 arg15 harg15 arg16 harg16 arg18 harg18 arg19 harg19 arg20 harg20 arg21 harg21 arg22 harg22 arg23 harg23 arg24 harg24 hc0 hc1 hd0 hd1 hd2 hd3 hd4 hd5 hd6 hd7 hd8 hd9 hd10 hd11 hd12 hd13 hd14 hd15 hd16 hd17 hd18 hd19 hd20 hd21 hd22 hd23 hd24 hd25 hd26 hd27 hd28 hd29 hd30 hd31 hd32 hd33 hd34 hd35 x0 x1 x2 x3 x4 x5 x6 x7 x8 x9 x10 x11 x12 x13 xo15 xo16 xo17 xo18 xs0 xs1 fh0 xs2 fw1)

end Cert.KernelIdeal.Gw

end
-- ==== Proof.GwFrame.lean ====
/- The launch of the projection's backward kernel with the weight gradient's array named at its end: the invariant after the
   last point states that array as the accumulator transposed, and the launch reads it back. -/
module

public import Idealize.ShloMosaic.Lib.Pipeline.FrameValue
public import proofs.«01_k».proof.Proof.GwLast

@[expose] public section

set_option maxRecDepth 16384

noncomputable section

set_option maxHeartbeats 1600000

namespace Cert.KernelIdeal.Gw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The last point. -/
def T : Fin cfg0.N := ⟨31, by rw [show cfg0.N = 32 from N_0]; decide⟩

theorem T_val : T.val = 31 := rfl

theorem T_mod : T.val % 32 = 31 := rfl

theorem T_not : ¬T.val % 32 = 0 := by decide

/-- The accumulator after a point, transposed. -/
def gradAt (c : Dev nD) (t : Fin cfg0.N) : HbBuf0 (F := F) c hbM0_1 := fun y => (outsAt0 m c t.val t.isLt).2.2.2.2.2.2 (ix2 (y 1) (y 0))

/-- The weight gradient: the accumulator after the last point, transposed. -/
def grad (c : Dev nD) : HbBuf0 (F := F) c hbM0_1 := gradAt m c T

/-- The buffers after the region: as at its entry, but the weight gradient's array. -/
def G (c : Dev nD) : (b : Ref sig .tc) → Buf (Elt F) ((c : Thread nD τ).loc b) := Function.update (V m c) main_v4_1 (grad m c)

theorem G_at (c : Dev nD) : G m c main_v4_1 = grad m c := by
  unfold G; simp only [Function.update_self]

theorem held_eq (c : Dev nD) : (Pipeline.routed R0 c (G m c) : sProp 𝕄) = iprop(hbPt0 c hbM0_1 (grad m c)) := by
  unfold Pipeline.routed; rw [BI.bigSep_eq_bigSepL_of_eq [main_v4_1] (by decide) (by decide)]
  simp only [BI.bigSepL_singleton, G_at]; try rfl

/-- What the launch takes back, conjunct by conjunct. -/
theorem end_eq (c : Dev nD) :
    (Pipeline.ΦDRG osem0 spec0 H0 R0 (V m) (G m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 31) 0 ∗ semVal ((c : Thread nD τ), SemLoc.dma 32) 0 ∗ semVal ((c : Thread nD τ), SemLoc.dma 33) 0) ∗ iprop(hbPt0 c hbM0_0 (V m c main_v2)) ∗ iprop(hbPt0 c hbM0_1 (grad m c))) := by
  rw [Pipeline.ΦDRG_eq, scopedRest0_eq, ownSems00_eq, hbmPts0_eq, held_eq]; simp only [scM0_0, scM0_1, scM0_2, owns_whole]; try rfl

/-- What the last point's body leaves. -/
def lastPost (c : Dev nD) (t : Fin cfg0.N) : sProp 𝕄 :=
  iprop((iprop(owns (c : Thread nD τ) scM0_0 fullShare ((outsAt0 m c t.val t.isLt).2.2.2.2.2.1) ∗ owns (c : Thread nD τ) scM0_1 fullShare ((outsAt0 m c t.val t.isLt).2.2.2.2.2.2) ∗ (∃ d, owns (c : Thread nD τ) scM0_2 fullShare d)) ∗ (∃ r, prngReg c r) ∗ iprop(semVal ((c : Thread nD τ), SemLoc.dma 31) 0 ∗ semVal ((c : Thread nD τ), SemLoc.dma 32) 0 ∗ semVal ((c : Thread nD τ), SemLoc.dma 33) 0) ∗ iprop(hbPt0 c hbM0_0 (V m c main_v2)) ∗ iprop(hbPt0 c hbM0_1 (gradAt m c t))) ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

set_option maxHeartbeats 24000000 in
/-- The body at the last point. -/
theorem sound_last (c : Dev nD) (t : Fin cfg0.N) (h0 : ¬t.val % 32 = 0) (h1 : t.val % 32 = 31) (hz : t.val ≠ 0) :
    bodyPre m c t ⊢ wp frame (wpE (defs₀ (F := F)) Variants.none c none) Set.univ (bodyAt0 t) (fun _ => lastPost m c t) := by
  unfold bodyPre lastPost gradAt bodyAt0
  simp only [before0_0, before0_1, before0_2, before0_3, before0_4, before0_5, before0_6, before0_7, before0_8, before0_9, before0_10, before0_11, before0_12, before0_13]
  rw [after0_0, after0_1, after0_2, after0_3, after0_4, after0_5, after0_6, after0_7, after0_8, after0_9, after0_10, after0_11, after0_12, after0_13, after0_14, after0_15, after0_16, after0_17, after0_18]
  unfold Dat.owesAt Pipeline.owesWithin
  rw [show (dats m 0 c).owed t.castSucc = 0 from rfl, show (dats m 0 c).owed t.succ = 0 from rfl]
  rw [PhiS_castSucc m c t, PhiS_pos m c _ _ hz]
  rw [outsAt0_C m c t h0 h1]
  simp only [before0_15_C m c t h0 h1, before0_16_C m c t h0 h1, before0_17_C m c t h0 h1, before0_18_C m c t h0 h1]
  unfold out0_C_14 out0_C_15 out0_C_16 out0_C_17 out0_C_18 sout0_C_0 sout0_C_1; (try dsimp only)
  iintro ⟨⟨⟨HS0, HS1, ⟨%xs2, HS2⟩⟩, Hg, ⟨Hq0, Hq1, Hq2⟩, Hh0, ⟨%fw1, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (lastRun c (grid0.coords t) _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (by exact View.disjoint_slice_of_disj (Memref.whole main_v4_1).view (Rect.unit (s := S4736x1024) ![128, 0] S128x1024.size inb_S4736x1024_S128x1024_128_0) (Rect.unit (s := S4736x1024) ![0, 0] S128x1024.size inb_S4736x1024_S128x1024_0_0) (hdd0_0 t)) (by exact View.disjoint_slice_of_disj (Memref.whole main_v4_1).view (Rect.unit (s := S4736x1024) ![256, 0] S128x1024.size inb_S4736x1024_S128x1024_256_0) (Rect.unit (s := S4736x1024) ![128, 0] S128x1024.size inb_S4736x1024_S128x1024_128_0) (hdd0_1 t)) (by exact View.disjoint_slice_of_disj (Memref.whole main_v4_1).view (Rect.unit (s := S4736x1024) ![384, 0] S128x1024.size inb_S4736x1024_S128x1024_384_0) (Rect.unit (s := S4736x1024) ![256, 0] S128x1024.size inb_S4736x1024_S128x1024_256_0) (hdd0_2 t)) (by exact View.disjoint_slice_of_disj (Memref.whole main_v4_1).view (Rect.unit (s := S4736x1024) ![512, 0] S128x1024.size inb_S4736x1024_S128x1024_512_0) (Rect.unit (s := S4736x1024) ![384, 0] S128x1024.size inb_S4736x1024_S128x1024_384_0) (hdd0_3 t)) (by exact View.disjoint_slice_of_disj (Memref.whole main_v4_1).view (Rect.unit (s := S4736x1024) ![640, 0] S128x1024.size inb_S4736x1024_S128x1024_640_0) (Rect.unit (s := S4736x1024) ![512, 0] S128x1024.size inb_S4736x1024_S128x1024_512_0) (hdd0_4 t)) (by exact View.disjoint_slice_of_disj (Memref.whole main_v4_1).view (Rect.unit (s := S4736x1024) ![768, 0] S128x1024.size inb_S4736x1024_S128x1024_768_0) (Rect.unit (s := S4736x1024) ![640, 0] S128x1024.size inb_S4736x1024_S128x1024_640_0) (hdd0_5 t)) (by exact View.disjoint_slice_of_disj (Memref.whole main_v4_1).view (Rect.unit (s := S4736x1024) ![896, 0] S128x1024.size inb_S4736x1024_S128x1024_896_0) (Rect.unit (s := S4736x1024) ![768, 0] S128x1024.size inb_S4736x1024_S128x1024_768_0) (hdd0_6 t)) (by exact View.disjoint_slice_of_disj (Memref.whole main_v4_1).view (Rect.unit (s := S4736x1024) ![1024, 0] S128x1024.size inb_S4736x1024_S128x1024_1024_0) (Rect.unit (s := S4736x1024) ![896, 0] S128x1024.size inb_S4736x1024_S128x1024_896_0) (hdd0_7 t)) (by exact View.disjoint_slice_of_disj (Memref.whole main_v4_1).view (Rect.unit (s := S4736x1024) ![1152, 0] S128x1024.size inb_S4736x1024_S128x1024_1152_0) (Rect.unit (s := S4736x1024) ![1024, 0] S128x1024.size inb_S4736x1024_S128x1024_1024_0) (hdd0_8 t)) (by exact View.disjoint_slice_of_disj (Memref.whole main_v4_1).view (Rect.unit (s := S4736x1024) ![1280, 0] S128x1024.size inb_S4736x1024_S128x1024_1280_0) (Rect.unit (s := S4736x1024) ![1152, 0] S128x1024.size inb_S4736x1024_S128x1024_1152_0) (hdd0_9 t)) (by exact View.disjoint_slice_of_disj (Memref.whole main_v4_1).view (Rect.unit (s := S4736x1024) ![1408, 0] S128x1024.size inb_S4736x1024_S128x1024_1408_0) (Rect.unit (s := S4736x1024) ![1280, 0] S128x1024.size inb_S4736x1024_S128x1024_1280_0) (hdd0_10 t)) (by exact View.disjoint_slice_of_disj (Memref.whole main_v4_1).view (Rect.unit (s := S4736x1024) ![1536, 0] S128x1024.size inb_S4736x1024_S128x1024_1536_0) (Rect.unit (s := S4736x1024) ![1408, 0] S128x1024.size inb_S4736x1024_S128x1024_1408_0) (hdd0_11 t)) (by exact View.disjoint_slice_of_disj (Memref.whole main_v4_1).view (Rect.unit (s := S4736x1024) ![1664, 0] S128x1024.size inb_S4736x1024_S128x1024_1664_0) (Rect.unit (s := S4736x1024) ![1536, 0] S128x1024.size inb_S4736x1024_S128x1024_1536_0) (hdd0_12 t)) (by exact View.disjoint_slice_of_disj (Memref.whole main_v4_1).view (Rect.unit (s := S4736x1024) ![1792, 0] S128x1024.size inb_S4736x1024_S128x1024_1792_0) (Rect.unit (s := S4736x1024) ![1664, 0] S128x1024.size inb_S4736x1024_S128x1024_1664_0) (hdd0_13 t)) (by exact View.disjoint_slice_of_disj (Memref.whole main_v4_1).view (Rect.unit (s := S4736x1024) ![1920, 0] S128x1024.size inb_S4736x1024_S128x1024_1920_0) (Rect.unit (s := S4736x1024) ![1792, 0] S128x1024.size inb_S4736x1024_S128x1024_1792_0) (hdd0_14 t)) (by exact View.disjoint_slice_of_disj (Memref.whole main_v4_1).view (Rect.unit (s := S4736x1024) ![2048, 0] S128x1024.size inb_S4736x1024_S128x1024_2048_0) (Rect.unit (s := S4736x1024) ![1920, 0] S128x1024.size inb_S4736x1024_S128x1024_1920_0) (hdd0_15 t)) (by exact View.disjoint_slice_of_disj (Memref.whole main_v4_1).view (Rect.unit (s := S4736x1024) ![2176, 0] S128x1024.size inb_S4736x1024_S128x1024_2176_0) (Rect.unit (s := S4736x1024) ![2048, 0] S128x1024.size inb_S4736x1024_S128x1024_2048_0) (hdd0_16 t)) (by exact View.disjoint_slice_of_disj (Memref.whole main_v4_1).view (Rect.unit (s := S4736x1024) ![2304, 0] S128x1024.size inb_S4736x1024_S128x1024_2304_0) (Rect.unit (s := S4736x1024) ![2176, 0] S128x1024.size inb_S4736x1024_S128x1024_2176_0) (hdd0_17 t)) (by exact View.disjoint_slice_of_disj (Memref.whole main_v4_1).view (Rect.unit (s := S4736x1024) ![2432, 0] S128x1024.size inb_S4736x1024_S128x1024_2432_0) (Rect.unit (s := S4736x1024) ![2304, 0] S128x1024.size inb_S4736x1024_S128x1024_2304_0) (hdd0_18 t)) (by exact View.disjoint_slice_of_disj (Memref.whole main_v4_1).view (Rect.unit (s := S4736x1024) ![2560, 0] S128x1024.size inb_S4736x1024_S128x1024_2560_0) (Rect.unit (s := S4736x1024) ![2432, 0] S128x1024.size inb_S4736x1024_S128x1024_2432_0) (hdd0_19 t)) (by exact View.disjoint_slice_of_disj (Memref.whole main_v4_1).view (Rect.unit (s := S4736x1024) ![2688, 0] S128x1024.size inb_S4736x1024_S128x1024_2688_0) (Rect.unit (s := S4736x1024) ![2560, 0] S128x1024.size inb_S4736x1024_S128x1024_2560_0) (hdd0_20 t)) (by exact View.disjoint_slice_of_disj (Memref.whole main_v4_1).view (Rect.unit (s := S4736x1024) ![2816, 0] S128x1024.size inb_S4736x1024_S128x1024_2816_0) (Rect.unit (s := S4736x1024) ![2688, 0] S128x1024.size inb_S4736x1024_S128x1024_2688_0) (hdd0_21 t)) (by exact View.disjoint_slice_of_disj (Memref.whole main_v4_1).view (Rect.unit (s := S4736x1024) ![2944, 0] S128x1024.size inb_S4736x1024_S128x1024_2944_0) (Rect.unit (s := S4736x1024) ![2816, 0] S128x1024.size inb_S4736x1024_S128x1024_2816_0) (hdd0_22 t)) (by exact View.disjoint_slice_of_disj (Memref.whole main_v4_1).view (Rect.unit (s := S4736x1024) ![3072, 0] S128x1024.size inb_S4736x1024_S128x1024_3072_0) (Rect.unit (s := S4736x1024) ![2944, 0] S128x1024.size inb_S4736x1024_S128x1024_2944_0) (hdd0_23 t)) (by exact View.disjoint_slice_of_disj (Memref.whole main_v4_1).view (Rect.unit (s := S4736x1024) ![3200, 0] S128x1024.size inb_S4736x1024_S128x1024_3200_0) (Rect.unit (s := S4736x1024) ![3072, 0] S128x1024.size inb_S4736x1024_S128x1024_3072_0) (hdd0_24 t)) (by exact View.disjoint_slice_of_disj (Memref.whole main_v4_1).view (Rect.unit (s := S4736x1024) ![3328, 0] S128x1024.size inb_S4736x1024_S128x1024_3328_0) (Rect.unit (s := S4736x1024) ![3200, 0] S128x1024.size inb_S4736x1024_S128x1024_3200_0) (hdd0_25 t)) (by exact View.disjoint_slice_of_disj (Memref.whole main_v4_1).view (Rect.unit (s := S4736x1024) ![3456, 0] S128x1024.size inb_S4736x1024_S128x1024_3456_0) (Rect.unit (s := S4736x1024) ![3328, 0] S128x1024.size inb_S4736x1024_S128x1024_3328_0) (hdd0_26 t)) (by exact View.disjoint_slice_of_disj (Memref.whole main_v4_1).view (Rect.unit (s := S4736x1024) ![3584, 0] S128x1024.size inb_S4736x1024_S128x1024_3584_0) (Rect.unit (s := S4736x1024) ![3456, 0] S128x1024.size inb_S4736x1024_S128x1024_3456_0) (hdd0_27 t)) (by exact View.disjoint_slice_of_disj (Memref.whole main_v4_1).view (Rect.unit (s := S4736x1024) ![3712, 0] S128x1024.size inb_S4736x1024_S128x1024_3712_0) (Rect.unit (s := S4736x1024) ![3584, 0] S128x1024.size inb_S4736x1024_S128x1024_3584_0) (hdd0_28 t)) (by exact View.disjoint_slice_of_disj (Memref.whole main_v4_1).view (Rect.unit (s := S4736x1024) ![3840, 0] S128x1024.size inb_S4736x1024_S128x1024_3840_0) (Rect.unit (s := S4736x1024) ![3712, 0] S128x1024.size inb_S4736x1024_S128x1024_3712_0) (hdd0_29 t)) (by exact View.disjoint_slice_of_disj (Memref.whole main_v4_1).view (Rect.unit (s := S4736x1024) ![3968, 0] S128x1024.size inb_S4736x1024_S128x1024_3968_0) (Rect.unit (s := S4736x1024) ![3840, 0] S128x1024.size inb_S4736x1024_S128x1024_3840_0) (hdd0_30 t)) (by exact View.disjoint_slice_of_disj (Memref.whole main_v4_1).view (Rect.unit (s := S4736x1024) ![4096, 0] S128x1024.size inb_S4736x1024_S128x1024_4096_0) (Rect.unit (s := S4736x1024) ![3968, 0] S128x1024.size inb_S4736x1024_S128x1024_3968_0) (hdd0_31 t)) (by exact View.disjoint_slice_of_disj (Memref.whole main_v4_1).view (Rect.unit (s := S4736x1024) ![4224, 0] S128x1024.size inb_S4736x1024_S128x1024_4224_0) (Rect.unit (s := S4736x1024) ![4096, 0] S128x1024.size inb_S4736x1024_S128x1024_4096_0) (hdd0_32 t)) (by exact View.disjoint_slice_of_disj (Memref.whole main_v4_1).view (Rect.unit (s := S4736x1024) ![4352, 0] S128x1024.size inb_S4736x1024_S128x1024_4352_0) (Rect.unit (s := S4736x1024) ![4224, 0] S128x1024.size inb_S4736x1024_S128x1024_4224_0) (hdd0_33 t)) (by exact View.disjoint_slice_of_disj (Memref.whole main_v4_1).view (Rect.unit (s := S4736x1024) ![4480, 0] S128x1024.size inb_S4736x1024_S128x1024_4480_0) (Rect.unit (s := S4736x1024) ![4352, 0] S128x1024.size inb_S4736x1024_S128x1024_4352_0) (hdd0_34 t)) (by exact View.disjoint_slice_of_disj (Memref.whole main_v4_1).view (Rect.unit (s := S4736x1024) ![4608, 0] S128x1024.size inb_S4736x1024_S128x1024_4608_0) (Rect.unit (s := S4736x1024) ![4480, 0] S128x1024.size inb_S4736x1024_S128x1024_4480_0) (hdd0_35 t)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ _ _ _ _ (V m c main_v2) xs2 fw1 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexact H15
  isplitl [H16]; · iexact H16
  isplitl [H17]; · iexact H17
  isplitl [H18]; · iexact H18
  isplitl [HS0]; · iexact HS0
  isplitl [HS1]; · iexact HS1
  isplitl [HS2]; · iexact HS2
  isplitl [Hq0]; · iexact Hq0
  isplitl [Hq1]; · iexact Hq1
  isplitl [Hq2]; · iexact Hq2
  isplitl [Hh0]; · iexact Hh0
  isplitl [Hh1]; · iexact Hh1
  isplitl [HW]; · iexact HW
  iintro ⟨H0, H1, H2, H3, H4, H5, H6, H7, H8, H9, H10, H11, H12, H13, ⟨%e14, H14⟩, ⟨%e15, H15⟩, ⟨%e16, H16⟩, ⟨%e17, H17⟩, ⟨%e18, H18⟩, HS0, ⟨%es1, HS1⟩, HS2, Hq0, Hq1, Hq2, Hh0, Hh1, ⟨%W', HW'⟩⟩
  isplitl [HS0 HS1 HS2 Hg Hq0 Hq1 Hq2 Hh0 Hh1]
  · isplitl [HS0 HS1 HS2]
    · isplitl [HS0]; · iexact HS0
      isplitl [HS1]
      · unfold owns; iexists _; isplitr
        swap; · iexact HS1
        ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      iexact HS2
    isplitl [Hg]
    · iexact Hg
    isplitl [Hq0 Hq1 Hq2]
    · isplitl [Hq0]; · iexact Hq0
      isplitl [Hq1]; · iexact Hq1
      iexact Hq2
    isplitl [Hh0]
    · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_C_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_C_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_C_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H18
  ipureintro; exact View.read_writes_of_cover _ _ _ _ _ (cover0_C_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The invariant: the frame's before the last point, and at the end what the launch takes back. -/
def Phi (c : Dev nD) (t : Fin (cfg0.N + 1)) : sProp 𝕄 :=
  if t.val = 32 then Pipeline.ΦDRG osem0 spec0 H0 R0 (V m) (G m) c else (dats m 0 c).Φ t

/-- The frame's data with that invariant. -/
def gdats (i : Fin 1) (c : Dev nD) : Dat τ (Elt F) Unit ℕ (Pipeline.UD sig nD τ) ℕ cfg0 c :=
  { dats m i c with Φ := Phi m c }

/-- The body's obligation at one point, the invariant before and after it given apart. -/
def Ob {c : Dev nD} (d : Dat τ (Elt F) Unit ℕ (Pipeline.UD sig nD τ) ℕ cfg0 c) (A B : sProp 𝕄) (t : Fin cfg0.N) : Prop :=
  iprop(A ∗ d.owesAt () t.castSucc
      ∗ bigSep Finset.univ fun w : Fin cfg0.W =>
          iprop(∃ x, owns (c : Thread nD τ) ((cfg0.win w).stage (cfg0.slots t w)) fullShare (d.before w t x)))
    ⊢ wp frame (wpE (defs₀ (F := F)) Variants.none c none) Set.univ (defs₀ (F := F) .tc cfg0.body (cfg0.bodyArgs t (cfg0.slots t))) fun _ =>
        iprop(B ∗ d.owesAt () t.succ
          ∗ bigSep Finset.univ fun w : Fin cfg0.W =>
              match cfg0.idle w (cfg0.grid.coords t) with
              | true =>
                match (cfg0.win w).flush t with
                | false => iprop(∃ x, owns (c : Thread nD τ) ((cfg0.win w).stage (cfg0.slots t w)) fullShare (d.before w t x))
                | true => owns (c : Thread nD τ) ((cfg0.win w).stage (cfg0.slots t w)) fullShare (d.after w t)
              | false => owns (c : Thread nD τ) ((cfg0.win w).stage (cfg0.slots t w)) fullShare (d.after w t))

theorem ob_of {c : Dev nD} {d : Dat τ (Elt F) Unit ℕ (Pipeline.UD sig nD τ) ℕ cfg0 c}
    (h : BodyObligation d (defs₀ (F := F)) Variants.none () Set.univ) (t : Fin cfg0.N) : Ob d (d.Φ t.castSucc) (d.Φ t.succ) t := h t

/-- Another invariant with the same obligations. -/
theorem of_ob {c : Dev nD} (d : Dat τ (Elt F) Unit ℕ (Pipeline.UD sig nD τ) ℕ cfg0 c) (Φ' : Fin (cfg0.N + 1) → sProp 𝕄)
    (h : ∀ t, Ob d (Φ' t.castSucc) (Φ' t.succ) t) :
    BodyObligation ({ d with Φ := Φ' } : Dat τ (Elt F) Unit ℕ (Pipeline.UD sig nD τ) ℕ cfg0 c) (defs₀ (F := F)) Variants.none () Set.univ := h

theorem phi_before (c : Dev nD) (t : Fin (cfg0.N + 1)) (h : t.val ≠ 32) : Phi m c t = (dats m 0 c).Φ t := if_neg h

theorem phi_last (c : Dev nD) (t : Fin (cfg0.N + 1)) (h : t.val = 32) : Phi m c t = Pipeline.ΦDRG osem0 spec0 H0 R0 (V m) (G m) c := if_pos h

theorem grad_at (c : Dev nD) (t : Fin cfg0.N) (h : t.val = 31) :
    grad m c = gradAt m c t := by
  have e : T = t := Fin.ext h.symm
  unfold grad
  rw [e]

theorem ob_last (c : Dev nD) (t : Fin cfg0.N) (h : t.val = 31) :
    Ob (dats m 0 c) ((dats m 0 c).Φ t.castSucc) (Pipeline.ΦDRG osem0 spec0 H0 R0 (V m) (G m) c) t := by
  unfold Ob
  rw [bigSep_W0, bigSep_W0, defs₀_row, end_eq, grad_at m c t h]
  refine triple_restated (sound_last m c t (by omega) (by omega) (by omega)) rfl .rfl fun _ => ?_
  unfold lastPost
  iintro ⟨⟨⟨HS0, HS1, HS2⟩, Hg, Hq, Hh0, Hh1⟩, HR⟩
  isplitr [HR]
  · isplitl [HS0 HS1 HS2]
    · isplitl [HS0]; · iexists _; iexact HS0
      isplitl [HS1]; · iexists _; iexact HS1
      iexact HS2
    isplitl [Hg]; · iexact Hg
    isplitl [Hq]; · iexact Hq
    isplitl [Hh0]; · iexact Hh0
    iexact Hh1
  iexact HR

theorem obligation (c : Dev nD) : BodyObligation (gdats (F := F) m 0 c) (defs₀ (F := F)) Variants.none () Set.univ :=
  of_ob (dats m 0 c) (Phi m c) fun t => by
    have hN : t.val < 32 := lt_of_lt_of_eq t.isLt (show cfg0.N = 32 from N_0)
    rw [phi_before m c t.castSucc (by rw [Fin.val_castSucc]; omega)]
    by_cases h1 : t.val = 31
    · rw [phi_last m c t.succ (by rw [Fin.val_succ]; omega)]
      exact ob_last m c t h1
    · rw [phi_before m c t.succ (by rw [Fin.val_succ]; omega)]
      exact ob_of (body_obligation m c) t

theorem gin (c : Dev nD) : Pipeline.ΦDRG osem0 spec0 H0 R0 (V m) (V m) c ⊢ (gdats m 0 c).Φ 0 := by
  rw [show (gdats m 0 c).Φ 0 = (dats m 0 c).Φ 0 from phi_before m c 0 (by decide)]
  exact (Pipeline.ΦDRG_ΦDR osem0 spec0 H0 R0 (V m) (V m) c).trans (hin m c)

theorem gout (c : Dev nD) : (gdats m 0 c).Φ (Fin.last cfg0.N) ⊢ Pipeline.ΦDRG osem0 spec0 H0 R0 (V m) (G m) c := by
  rw [show (gdats m 0 c).Φ (Fin.last cfg0.N) = Pipeline.ΦDRG osem0 spec0 H0 R0 (V m) (G m) c from phi_last m c (Fin.last cfg0.N) (by rw [Fin.val_last]; exact N_0)]

set_option backward.isDefEq.respectTransparency.types false in
/-- The launch. -/
theorem run_main : θ_run defs (onTc (τ := τ) (main (F := F))) (s₀ m ρ) (fun r => Pipeline.FramePostRG cfgs (gdats m) 0 R0 (V m) (G m) r ∧ r.2.sem = fun _ => 0) :=
  Pipeline.θ_run_frame_dmaRG (Q' := _) cfgs (gdats m) (0 : Fin 1) launch0 osem0 defs₀ Variants.none ownSemFacts0 H0 R0 H0_sub R0_sub m ρ main
    (hbody := fun c => (obligation m c).loose) (hshare := fun c => (gdats m 0 c).share_full fun _ => rfl)
    (howed := fun _ _ => rfl) (V := V m) (hmain := hmain m Variants.none) (hA := A_eq m) (G := G m)
    (hin := gin m) (hout := gout m)

end Cert.KernelIdeal.Gw

end
-- ==== Proof.GwKer.lean ====
/- The run of the projection's backward kernel, with every result named, the weight gradient among them. -/
module

public import proofs.«01_k».proof.Proof.InKer
public import proofs.«01_k».proof.Proof.GwFrame

@[expose] public section

set_option maxRecDepth 16384

noncomputable section

namespace Cert.InBwd.Gw

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

theorem gradAt_eq (c : Dev nD) (t : Fin cfg0.N) (ht : t.val % 32 = 31) :
    Cert.KernelIdeal.Gw.gradAt m c t = (fun y : S4736x1024.Idx => gw (args m c) (y 0).val (y 1)) := by
  unfold Cert.KernelIdeal.Gw.gradAt
  exact funext fun (y : S4736x1024.Idx) => ac_last m c t ht (ix2 (y 1) (y 0))

/-- The array the copies out write is the gradient of the weights. -/
theorem grad_eq (c : Dev nD) : Cert.KernelIdeal.Gw.grad m c = (fun y : S4736x1024.Idx => gw (args m c) (y 0).val (y 1)) := by
  unfold Cert.KernelIdeal.Gw.grad
  exact gradAt_eq m c _ Cert.KernelIdeal.Gw.T_mod

/-- The arrays do not depend on the invariant. -/
theorem arr_with {c : Dev nD} (d : Pipeline.Dat τ (Elt Ideal) Unit ℕ (Pipeline.UD sig nD τ) ℕ cfg0 c) (Φ') (w : Fin cfg0.W) (n : ℕ) :
    ({ d with Φ := Φ' } : Pipeline.Dat τ (Elt Ideal) Unit ℕ (Pipeline.UD sig nD τ) ℕ cfg0 c).arrAt w n = d.arrAt w n := by
  induction n with
  | zero => rfl
  | succ n ih =>
    simp only [Pipeline.Dat.arrAt]
    rw [ih]

theorem post_dats {r : PUnit × MemSt nD τ sig (Elt Ideal)} (h : Pipeline.FramePostR cfgs (Cert.KernelIdeal.Gw.gdats m) 0 R0 (V m) r) :
    Pipeline.FramePostR cfgs (dats m) 0 R0 (V m) r := fun c =>
  ⟨fun w => ((h c).1 w).trans (arr_with (dats m 0 c) (Cert.KernelIdeal.Gw.Phi m c) w _), (h c).2⟩

theorem out14 {r : PUnit × MemSt nD τ sig (Elt Ideal)} (h : Pipeline.FramePostR cfgs (dats m) 0 R0 (V m) r) (c : Dev nD) :
    r.2.mem ((c.tc : Thread nD τ).loc main_v4_0) = (dats m 0 c).arrAt 14 cfg0.N := (h c).1 14

theorem out15 {r : PUnit × MemSt nD τ sig (Elt Ideal)} (h : Pipeline.FramePostR cfgs (dats m) 0 R0 (V m) r) (c : Dev nD) :
    r.2.mem ((c.tc : Thread nD τ).loc main_v4_2) = (dats m 0 c).arrAt 15 cfg0.N := (h c).1 15

theorem out16 {r : PUnit × MemSt nD τ sig (Elt Ideal)} (h : Pipeline.FramePostR cfgs (dats m) 0 R0 (V m) r) (c : Dev nD) :
    r.2.mem ((c.tc : Thread nD τ).loc main_v4_3) = (dats m 0 c).arrAt 16 cfg0.N := (h c).1 16

theorem out17 {r : PUnit × MemSt nD τ sig (Elt Ideal)} (h : Pipeline.FramePostR cfgs (dats m) 0 R0 (V m) r) (c : Dev nD) :
    r.2.mem ((c.tc : Thread nD τ).loc main_v4_4) = (dats m 0 c).arrAt 17 cfg0.N := (h c).1 17

theorem out18 {r : PUnit × MemSt nD τ sig (Elt Ideal)} (h : Pipeline.FramePostR cfgs (dats m) 0 R0 (V m) r) (c : Dev nD) :
    r.2.mem ((c.tc : Thread nD τ).loc main_v4_5) = (dats m 0 c).arrAt 18 cfg0.N := (h c).1 18

theorem out_gw {r : PUnit × MemSt nD τ sig (Elt Ideal)}
    (h : Pipeline.FramePostRG cfgs (Cert.KernelIdeal.Gw.gdats m) 0 R0 (V m) (Cert.KernelIdeal.Gw.G m) r) (c : Dev nD) :
    r.2.mem ((c.tc : Thread nD τ).loc main_v4_1) = (fun y : S4736x1024.Idx => gw (args m c) (y 0).val (y 1)) :=
  (h.written c (by decide : main_v4_1 ∈ R0)).trans ((Cert.KernelIdeal.Gw.G_at m c).trans (grad_eq m c))

theorem run : θ_run defs (onTc (τ := τ) (main (F := Ideal))) ⟨m, fun _ => 0, ρ⟩ (fun r => ∀ c : Dev nD,
      r.2.mem ((c.tc : Thread nD τ).loc main_v4_0) = (dats m 0 c).arrAt 14 cfg0.N
      ∧ r.2.mem ((c.tc : Thread nD τ).loc main_v4_1) = (fun y : S4736x1024.Idx => gw (args m c) (y 0).val (y 1))
      ∧ r.2.mem ((c.tc : Thread nD τ).loc main_v4_2) = (dats m 0 c).arrAt 15 cfg0.N
      ∧ r.2.mem ((c.tc : Thread nD τ).loc main_v4_3) = (dats m 0 c).arrAt 16 cfg0.N
      ∧ r.2.mem ((c.tc : Thread nD τ).loc main_v4_4) = (dats m 0 c).arrAt 17 cfg0.N
      ∧ r.2.mem ((c.tc : Thread nD τ).loc main_v4_5) = (dats m 0 c).arrAt 18 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  have h8 : θ_run defs (onTc (τ := τ) (main (F := Ideal))) ⟨m, fun _ => 0, ρ⟩ (fun r => ∀ c : Dev nD,
      r.2.mem ((c.tc : Thread nD τ).loc main_v4_0) = (dats m 0 c).arrAt 14 cfg0.N
      ∧ r.2.mem ((c.tc : Thread nD τ).loc main_v4_1) = (fun y : S4736x1024.Idx => gw (args m c) (y 0).val (y 1))
      ∧ r.2.mem ((c.tc : Thread nD τ).loc main_v4_2) = (dats m 0 c).arrAt 15 cfg0.N
      ∧ r.2.mem ((c.tc : Thread nD τ).loc main_v4_3) = (dats m 0 c).arrAt 16 cfg0.N
      ∧ r.2.mem ((c.tc : Thread nD τ).loc main_v4_4) = (dats m 0 c).arrAt 17 cfg0.N
      ∧ r.2.mem ((c.tc : Thread nD τ).loc main_v4_5) = (dats m 0 c).arrAt 18 cfg0.N) :=
    (θ_run defs _ _).mono (fun r h c => ⟨out14 m (post_dats m h.1.toR) c, out_gw m h.1 c, out15 m (post_dats m h.1.toR) c,
      out16 m (post_dats m h.1.toR) c, out17 m (post_dats m h.1.toR) c, out18 m (post_dats m h.1.toR) c⟩) (Cert.KernelIdeal.Gw.run_main m ρ)
  exact (θ_run defs _ _).mono (fun r h c => ⟨(h.1 c).1, (h.1 c).2.1, (h.1 c).2.2.1, (h.1 c).2.2.2.1, (h.1 c).2.2.2.2.1, (h.1 c).2.2.2.2.2, h.2 c⟩)
    (θ_run_and h8 (unchanged m ρ))

end Cert.InBwd.Gw

end
-- ==== Proof.TailMath.lean ====
/- The mathematics of the tail over the extended reals, on plain functions of row and column: the two gated halves side by
   side (`mix`), the output projection with its gated residual (`hr`), the loss, and the gradients that come back through
   the final norm and the projection.  The kernel's certificate and the reference's are both read as these. -/
module

public import proofs.«01_k».proof.Proof.InMath

@[expose] public section

set_option maxRecDepth 16384

noncomputable section

namespace Cert.Tail

open Idealize.ShloMosaic
open Cert.InBwd (rr bits_1024 bits_half bits_eps)

/-- The gate: an entry times its logistic. -/
def silu (v : EReal) : EReal := v * Ideal.logistic v

/-- The mean of one head's row. -/
def mn (u : Fin 128 → EReal) : EReal := Ideal.div (∑ i, u i) (Ideal.ofBits FTy.f32 1124073472#32)

/-- The row less its mean. -/
def cen (u : Fin 128 → EReal) (i : Fin 128) : EReal := u i - mn u

/-- The reciprocal root of the row's variance. -/
def rs (u : Fin 128 → EReal) : EReal := Ideal.rsqrt (mn (fun i => cen u i * cen u i) + Ideal.ofBits FTy.f32 897988541#32)

/-- The normalised row. -/
def hx (u : Fin 128 → EReal) (i : Fin 128) : EReal := cen u i * rs u

/-- The column of entry `i` of head `h`. -/
def col (h : Fin 4) (i : Fin 128) : Fin 512 := ⟨128 * h.val + i.val, by omega⟩

/-- The arrays the step is a function of, by row and column. -/
structure Args where
  an : Fin 16384 → Fin 512 → EReal
  nz : Fin 16384 → Fin 512 → EReal
  hf : Fin 16384 → Fin 512 → EReal
  hb : Fin 16384 → Fin 512 → EReal
  o : Fin 16384 → Fin 512 → EReal
  z : Fin 16384 → Fin 512 → EReal
  x : Fin 16384 → Fin 1024 → EReal
  tg : Fin 16384 → Fin 1024 → EReal
  g : Fin 1024 → EReal
  nw : Fin 512 → EReal
  fw : Fin 1024 → EReal
  w : Fin 1024 → Fin 1024 → EReal

variable (A : Args) (R : Fin 16384)

/-- One head's row before its norm. -/
def hd (h : Fin 4) (i : Fin 128) : EReal := (A.hf R (col h i) + A.hb R (col h i)) * Ideal.logistic (A.o R (col h i))

/-- The heads' norm, by column. -/
def xh (j : Fin 512) : EReal := hx (hd A R ⟨j.val / 128, by omega⟩) ⟨j.val % 128, by omega⟩

theorem xh_col (h : Fin 4) (i : Fin 128) : xh A R (col h i) = hx (hd A R h) i := by
  unfold xh
  have e1 : (⟨(col h i).val / 128, by have := (col h i).2; omega⟩ : Fin 4) = h := Fin.ext (by simp only [col]; omega)
  have e2 : (⟨(col h i).val % 128, by omega⟩ : Fin 128) = i := Fin.ext (by simp only [col]; omega)
  rw [e1, e2]

/-- The two gated halves side by side. -/
def mix (k : Fin 1024) : EReal :=
  if h : k.val < 512 then A.an R ⟨k.val, h⟩ * silu (A.nz R ⟨k.val, h⟩)
  else xh A R ⟨k.val - 512, by omega⟩ * A.nw ⟨k.val - 512, by omega⟩ * silu (A.z R ⟨k.val - 512, by omega⟩)

/-- The output projection. -/
def yv (k : Fin 1024) : EReal := ∑ j, mix A R j * A.w j k

/-- The residual. -/
def hr (k : Fin 1024) : EReal := A.x R k + A.g k * yv A R k

/-- The final norm before its weight. -/
def xf (k : Fin 1024) : EReal := hr A R k * rr (hr A R)

/-- The difference from the target. -/
def er (k : Fin 1024) : EReal := xf A R k * A.fw k - A.tg R k

/-- One row's share of the loss. -/
def lrow : EReal := Ideal.ofBits FTy.f32 0x3F000000#32 * ((∑ k, er A R k * er A R k) * Ideal.ofBits FTy.f32 0x3A800000#32)

/-- The loss. -/
def loss : EReal := ∑ R, lrow A R

/-- The gradient of the result. -/
def dout (k : Fin 1024) : EReal := er A R k * Ideal.ofBits FTy.f32 0x3A800000#32

/-- The gradient of the residual, back through the final norm. -/
def dh (k : Fin 1024) : EReal :=
  rr (hr A R) * (dout A R k * A.fw k - xf A R k * Ideal.div (∑ l, dout A R l * A.fw l * xf A R l) (Ideal.ofBits FTy.f32 1149239296#32))

/-- The gradient of the projection's result. -/
def dy (k : Fin 1024) : EReal := dh A R k * A.g k

/-- The gradient of the two halves. -/
def dm (j : Fin 1024) : EReal := ∑ k, dy A R k * A.w j k

/-- The gradient of the first half before its gate. -/
def dan (j : Fin 512) : EReal := dm A R ⟨j.val, by omega⟩ * silu (A.nz R j)

/-- The gradient of the gate. -/
def dg (k : Fin 1024) : EReal := ∑ R, dh A R k * yv A R k

/-- The gradient of the final norm's weight. -/
def gfw (k : Fin 1024) : EReal := ∑ R, dout A R k * xf A R k

/-- The gradient of the heads' norm weight. -/
def gnw (j : Fin 512) : EReal := ∑ R, dm A R ⟨512 + j.val, by omega⟩ * xh A R j * silu (A.z R j)

/-- The gradient of the projection's weight. -/
def gwo (j k : Fin 1024) : EReal := ∑ R, mix A R j * dy A R k

/-! ## The reference's forms -/

theorem bits_inv : Ideal.ofBits FTy.f32 0x3A800000#32 = ((1024⁻¹ : ℝ) : EReal) := by
  simp [Ideal.ofBits, Ideal.ieee, -EReal.coe_mul]; norm_num

theorem bits_5 : Ideal.ofBits FTy.f32 0x3F000000#32 = ((1 / 2 : ℝ) : EReal) := by
  simp [Ideal.ofBits, Ideal.ieee, -EReal.coe_mul]; norm_num

theorem bits_2 : Ideal.ofBits FTy.f32 0x40000000#32 = ((2 : ℝ) : EReal) := by
  simp [Ideal.ofBits, Ideal.ieee, -EReal.coe_mul]; norm_num

/-- The loss as half the sum of the rows' means. -/
theorem loss_form : Ideal.ofBits FTy.f32 0x3F000000#32 * (∑ R, Ideal.div (∑ k, er A R k * er A R k) (Ideal.ofBits FTy.f32 1149239296#32)) = loss A := by
  unfold loss lrow
  rw [bits_5, NormMath.coe_mul_sum (by norm_num), bits_1024, bits_inv]
  refine Finset.sum_congr rfl fun R _ => congrArg (_ * ·) ?_
  rw [Ideal.div_coe (by norm_num), one_div]

/-- The gradient of the result: the square's derivative, halved and averaged. -/
theorem dout_form (k : Fin 1024) :
    Ideal.div (Ideal.ofBits FTy.f32 0x3F000000#32 * 1) (Ideal.ofBits FTy.f32 1149239296#32) * (Ideal.ofBits FTy.f32 0x40000000#32 * er A R k) = dout A R k := by
  unfold dout
  rw [bits_5, bits_1024, bits_inv, bits_2, Ideal.div_coe (by norm_num), mul_one, ← mul_assoc, mul_comm (er A R k), ← EReal.coe_mul, ← EReal.coe_mul]
  congr 2; norm_num

/-- The gradient of the residual in the reference's form: the norm differentiated step by step. -/
theorem dh_form (k : Fin 1024) : dh A R k =
    dout A R k * A.fw k * rr (hr A R)
      + hr A R k * Ideal.div ((∑ l, hr A R l * (dout A R l * A.fw l)) * (Ideal.ofBits FTy.f32 3204448256#32
          * Ideal.div (rr (hr A R)) (Ideal.div (∑ l, hr A R l * hr A R l) (Ideal.ofBits FTy.f32 1149239296#32)
            + Ideal.ofBits FTy.f32 897988541#32))) (Ideal.ofBits FTy.f32 1149239296#32)
      + Ideal.div ((∑ l, hr A R l * (dout A R l * A.fw l)) * (Ideal.ofBits FTy.f32 3204448256#32
          * Ideal.div (rr (hr A R)) (Ideal.div (∑ l, hr A R l * hr A R l) (Ideal.ofBits FTy.f32 1149239296#32)
            + Ideal.ofBits FTy.f32 897988541#32))) (Ideal.ofBits FTy.f32 1149239296#32) * hr A R k := by
  obtain ⟨e, he, hE⟩ := bits_eps
  have hpos : 0 < Ideal.div (∑ l, hr A R l * hr A R l) (Ideal.ofBits FTy.f32 1149239296#32) + Ideal.ofBits FTy.f32 897988541#32 := by
    rw [bits_1024, Ideal.div_coe (by norm_num), hE]
    exact NormMath.mean_pos (hr A R) _ e (by norm_num) he
  obtain ⟨ρ, hρ, h1, h2⟩ := NormMath.rsqrt_cube _ hpos
  have hr' : rr (hr A R) = (ρ : EReal) := h1
  have hd' : Ideal.div (rr (hr A R)) (Ideal.div (∑ l, hr A R l * hr A R l) (Ideal.ofBits FTy.f32 1149239296#32) + Ideal.ofBits FTy.f32 897988541#32)
      = ((ρ * ρ * ρ : ℝ) : EReal) := h2
  unfold dh xf
  rw [hd', hr', bits_1024, bits_half, Ideal.div_coe (by norm_num), Ideal.div_coe (by norm_num)]
  have := NormMath.row_real (hr A R) (fun l => dout A R l * A.fw l) 0 ρ (1 / 1024) hρ k
  rw [zero_add, zero_add] at this
  exact this

end Cert.Tail
-- ==== Proof.TailPay.lean ====
/- The stored values of the tail's body, read at one index: what each payload computes over the extended reals. -/
module

public import Idealize.ShloMosaic.Lib.Pipeline.ValueKit
public import proofs.«01_k».proof.Proof.Gen.Kernel3Ideal.Skeleton
public import proofs.«01_k».proof.Proof.TailMath

@[expose] public section

set_option maxRecDepth 16384

noncomputable section

namespace Cert.Tail

open Cert.Kernel3Ideal Cert.Kernel3Ideal.Gen Idealize.ShloMosaic Idealize.ShloMosaic.TcCoe Idealize.SL.Sem
open Cert.InBwd (rr one_bits)

/-! ## The zero fills -/

theorem p2 (y : S1x128.Idx) : k0_pay2 (F := Ideal) y = 0 := by
  pointwise [k0_pay2]

theorem p3 (y : S1x1024.Idx) : k0_pay3 (F := Ideal) y = 0 := by
  pointwise [k0_pay3]

theorem p4 (y : S1x1024.Idx) : k0_pay4 (F := Ideal) y = 0 := by
  pointwise [k0_pay4]

theorem p5 (y : S1x512.Idx) : k0_pay5 (F := Ideal) y = 0 := by
  pointwise [k0_pay5]

theorem p6 (y : S1024x1024.Idx) : k0_pay6 (F := Ideal) y = 0 := by
  pointwise [k0_pay6]

/-! ## The two halves -/

/-- The first half's block. -/
theorem p10 (z : Vec Ideal S512x512 .bf16) (a : Vec Ideal S512x512 .f32) (y : S512x512.Idx) :
    k0_pay10 (F := Ideal) z a y = a y * silu (z y) := by
  pointwise [k0_pay10, k0_pay9, k0_pay8, k0_pay7, silu]
  try rfl

variable (hf hb : Vec Ideal S512x512 .f32) (o z : Vec Ideal S512x512 .bf16)

/-- One head's row of a block before its norm. -/
def bhd (h : Fin 4) (r : Fin 512) (i : Fin 128) : EReal := (hf (ix2 r (col h i)) + hb (ix2 r (col h i))) * Ideal.logistic (o (ix2 r (col h i)))

theorem x0 (y : S512x128.Idx) : k0_pay19 (F := Ideal) (k0_pay15 hf hb o) (k0_pay16 hf hb o) (k0_pay17 (F := Ideal)) y = hx (bhd hf hb o 0 (y 0)) (y 1) := by
  pointwise [k0_pay19, k0_pay18, k0_pay17, k0_pay16, k0_pay15, k0_pay14, k0_pay13, k0_pay11, hx, rs, cen, mn, bhd, col]
  try rfl

theorem x1 (y : S512x128.Idx) : k0_pay23 (F := Ideal) (k0_pay11 hf hb) (k0_pay13 o) y = hx (bhd hf hb o 1 (y 0)) (y 1) := by
  pointwise [k0_pay23, k0_pay22, k0_pay21, k0_pay20, k0_pay13, k0_pay11, hx, rs, cen, mn, bhd, col]
  try rfl

theorem x2 (y : S512x128.Idx) : k0_pay27 (F := Ideal) (k0_pay11 hf hb) (k0_pay13 o) y = hx (bhd hf hb o 2 (y 0)) (y 1) := by
  pointwise [k0_pay27, k0_pay26, k0_pay25, k0_pay24, k0_pay13, k0_pay11, hx, rs, cen, mn, bhd, col]
  try rfl

theorem x3 (y : S512x128.Idx) : k0_pay33 (F := Ideal) (k0_pay29 (k0_pay11 hf hb) (k0_pay13 o)) (k0_pay30 (k0_pay11 hf hb) (k0_pay13 o)) y = hx (bhd hf hb o 3 (y 0)) (y 1) := by
  pointwise [k0_pay33, k0_pay32, k0_pay31, k0_pay30, k0_pay29, k0_pay28, k0_pay13, k0_pay11, hx, rs, cen, mn, bhd, col]
  try rfl

variable (u : FVec Ideal S512x128 .f32) (n : Vec Ideal S1x128 .f32)

theorem p38 (y : S512x128.Idx) : k0_pay38 (F := Ideal) (k0_pay12 z) u n y = u y * n (ix2 0 (y 1)) * silu (z (ix2 (y 0) (col 0 (y 1)))) := by
  pointwise [k0_pay38, k0_pay34, k0_pay12, silu, col]
  try rfl

theorem p39 (y : S512x128.Idx) : k0_pay39 (F := Ideal) (k0_pay12 z) u n y = u y * n (ix2 0 (y 1)) * silu (z (ix2 (y 0) (col 1 (y 1)))) := by
  pointwise [k0_pay39, k0_pay35, k0_pay12, silu, col]
  try rfl

theorem p40 (y : S512x128.Idx) : k0_pay40 (F := Ideal) (k0_pay12 z) u (k0_pay36 (k0_pay12 z)) n y = u y * n (ix2 0 (y 1)) * silu (z (ix2 (y 0) (col 2 (y 1)))) := by
  pointwise [k0_pay40, k0_pay36, k0_pay12, silu, col]
  try rfl

theorem p41 (y : S512x128.Idx) : k0_pay41 (F := Ideal) (k0_pay12 z) u (k0_pay37 (k0_pay12 z)) n y = u y * n (ix2 0 (y 1)) * silu (z (ix2 (y 0) (col 3 (y 1)))) := by
  pointwise [k0_pay41, k0_pay37, k0_pay12, silu, col]
  try rfl

/-! ## The output projection and the final norm -/

variable (M : Vec Ideal S512x1024 .bf16) (w : Vec Ideal S1024x1024 .bf16) (g : Vec Ideal S1x1024 .f32) (x : Vec Ideal S512x1024 .f32)

theorem p43 (y : S512x1024.Idx) : k0_pay43 (F := Ideal) M w y = ∑ k : Fin 1024, M (ix2 (y 0) k) * w (ix2 k (y 1)) := by
  pointwise [k0_pay43, k0_pay42]

theorem p44 (y : S512x1024.Idx) : k0_pay44 (F := Ideal) M w g x y = x y + g (ix2 0 (y 1)) * k0_pay43 (F := Ideal) M w y := by
  pointwise [k0_pay44]

theorem p45 (y : S512x1.Idx) : k0_pay45 (F := Ideal) M w g x y = rr fun k => k0_pay44 (F := Ideal) M w g x (ix2 (y 0) k) := by
  pointwise [k0_pay45, rr]

theorem p46 (y : S512x1024.Idx) : k0_pay46 (F := Ideal) M w g x y = k0_pay44 (F := Ideal) M w g x y * k0_pay45 (F := Ideal) M w g x (ix2 (y 0) 0) := by
  pointwise [k0_pay46]

variable (v : FVec Ideal S512x1024 .f32) (fw : Vec Ideal S1x1024 .f32) (tg : Vec Ideal S512x1024 .f32)

theorem p47 (y : S512x1024.Idx) : k0_pay47 (F := Ideal) v fw tg y = v y * fw (ix2 0 (y 1)) - tg y := by
  pointwise [k0_pay47]

theorem p48 (a : Vec Ideal S1x128 .f32) (y : S1x128.Idx) : k0_pay48 (F := Ideal) v fw tg a y
    = a y + Ideal.ofBits FTy.f32 0x3F000000#32 * ∑ r : Fin 512, (∑ k : Fin 1024, k0_pay47 (F := Ideal) v fw tg (ix2 r k) * k0_pay47 (F := Ideal) v fw tg (ix2 r k)) * Ideal.ofBits FTy.f32 0x3A800000#32 := by
  pointwise [k0_pay48]

theorem p49 (y : S512x1024.Idx) : k0_pay49 (F := Ideal) v fw tg y = k0_pay47 (F := Ideal) v fw tg y * Ideal.ofBits FTy.f32 0x3A800000#32 := by
  pointwise [k0_pay49]

theorem p50 (a : Vec Ideal S1x1024 .f32) (y : S1x1024.Idx) : k0_pay50 (F := Ideal) v fw tg a y
    = a y + ∑ r : Fin 512, k0_pay49 (F := Ideal) v fw tg (ix2 r (y 1)) * v (ix2 r (y 1)) := by
  pointwise [k0_pay50]

variable (fw' : Vec Ideal S1x1024 .f32)

theorem p51 (y : S512x1024.Idx) : k0_pay51 (F := Ideal) v fw tg fw' y = k0_pay49 (F := Ideal) v fw tg y * fw' (ix2 0 (y 1)) := by
  pointwise [k0_pay51]

theorem p52 (y : S512x1024.Idx) : k0_pay52 (F := Ideal) v fw tg fw' y
    = v y * Ideal.div (∑ k : Fin 1024, k0_pay51 (F := Ideal) v fw tg fw' (ix2 (y 0) k) * v (ix2 (y 0) k)) (Ideal.ofBits FTy.f32 1149239296#32) := by
  pointwise [k0_pay52]

variable (q : FVec Ideal S512x1 .f32) (b c : FVec Ideal S512x1024 .f32)

theorem p53 (y : S512x1024.Idx) : k0_pay53 (F := Ideal) q b c y = q (ix2 (y 0) 0) * (b y - c y) := by
  pointwise [k0_pay53]

theorem p54 (e : FVec Ideal S512x1024 .f32) (a : Vec Ideal S1x1024 .f32) (y : S1x1024.Idx) : k0_pay54 (F := Ideal) e q b c a y
    = a y + ∑ r : Fin 512, k0_pay53 (F := Ideal) q b c (ix2 r (y 1)) * e (ix2 r (y 1)) := by
  pointwise [k0_pay54]

theorem p55 (y : S512x1024.Idx) : k0_pay55 (F := Ideal) g q b c y = k0_pay53 (F := Ideal) q b c y * g (ix2 0 (y 1)) := by
  pointwise [k0_pay55]

theorem p56 (a : Vec Ideal S1024x1024 .f32) (y : S1024x1024.Idx) : k0_pay56 (F := Ideal) M g q b c a y
    = a y + ∑ r : Fin 512, M (ix2 r (y 0)) * k0_pay55 (F := Ideal) g q b c (ix2 r (y 1)) := by
  pointwise [k0_pay56]

theorem p57 (y : S512x1024.Idx) : k0_pay57 (F := Ideal) (k0_pay42 w) g q b c y
    = ∑ k : Fin 1024, k0_pay55 (F := Ideal) g q b c (ix2 (y 0) k) * w (ix2 (y 1) k) := by
  pointwise [k0_pay57, k0_pay42]

theorem p59 (W : FVec Ideal S1024x1024 .bf16) (y : S512x512.Idx) : k0_pay59 (F := Ideal) (k0_pay9 z) W g q b c y
    = k0_pay57 (F := Ideal) W g q b c (ix2 (y 0) ⟨(y 1).val, lt_trans (y 1).isLt (by decide : 512 < 1024)⟩) * silu (z y) := by
  pointwise [k0_pay59, k0_pay58, k0_pay9, k0_pay8, k0_pay7, silu]
  try rfl

/-! ## The heads' weight gradient -/

variable (D : FVec Ideal S512x1024 .f32) (a : Vec Ideal S1x128 .f32)

theorem p65 (d : FVec Ideal S512x128 .f32) (y : S1x128.Idx) : k0_pay65 (F := Ideal) u d (k0_pay63 (k0_pay12 z) (k0_pay34 (k0_pay12 z))) a y
    = a y + ∑ r : Fin 512, d (ix2 r (y 1)) * u (ix2 r (y 1)) * silu (z (ix2 r (col 0 (y 1)))) := by
  pointwise [k0_pay65, k0_pay63, k0_pay62, k0_pay34, k0_pay12, silu, col]
  try rfl

theorem p61 (W : FVec Ideal S1024x1024 .bf16) (y : S512x128.Idx) : k0_pay61 (F := Ideal) W g q b c y
    = k0_pay57 (F := Ideal) W g q b c (ix2 (y 0) ⟨512 + (col 0 (y 1)).val, by have := (col 0 (y 1)).2; omega⟩) := by
  pointwise [k0_pay61, col]
  try rfl

theorem p73 (y : S1x128.Idx) : k0_pay73 (F := Ideal) (k0_pay12 z) u (k0_pay35 (k0_pay12 z)) D a y
    = a y + ∑ r : Fin 512, D (ix2 r ⟨512 + (col 1 (y 1)).val, by have := (col 1 (y 1)).2; omega⟩) * u (ix2 r (y 1)) * silu (z (ix2 r (col 1 (y 1)))) := by
  pointwise [k0_pay73, k0_pay71, k0_pay70, k0_pay69, k0_pay35, k0_pay12, silu, col]
  simp only [← Nat.add_assoc, Nat.reduceAdd]

theorem p85 (y : S1x128.Idx) : k0_pay85 (F := Ideal) (k0_pay83 a) (k0_pay84 (k0_pay12 z) u (k0_pay36 (k0_pay12 z)) D) y
    = a y + ∑ r : Fin 512, D (ix2 r ⟨512 + (col 2 (y 1)).val, by have := (col 2 (y 1)).2; omega⟩) * u (ix2 r (y 1)) * silu (z (ix2 r (col 2 (y 1)))) := by
  pointwise [k0_pay85, k0_pay84, k0_pay83, k0_pay81, k0_pay80, k0_pay79, k0_pay36, k0_pay12, silu, col]
  simp only [← Nat.add_assoc, Nat.reduceAdd]

theorem p95 (y : S1x128.Idx) : k0_pay95 (F := Ideal) u (k0_pay89 D) (k0_pay91 (k0_pay12 z) (k0_pay37 (k0_pay12 z))) a y
    = a y + ∑ r : Fin 512, D (ix2 r ⟨512 + (col 3 (y 1)).val, by have := (col 3 (y 1)).2; omega⟩) * u (ix2 r (y 1)) * silu (z (ix2 r (col 3 (y 1)))) := by
  pointwise [k0_pay95, k0_pay91, k0_pay90, k0_pay89, k0_pay37, k0_pay12, silu, col]
  simp only [← Nat.add_assoc, Nat.reduceAdd]

end Cert.Tail
-- ==== Proof.TailBlk.lean ====
/- One block of the tail: the payloads over blocks of the arrays are the tail's functions at the block's rows. -/
module

public import Idealize.ShloMosaic.Lib.Pipeline.ValueKit
public import Idealize.ShloMosaic.Lib.Pipeline.ReadBack
public import proofs.«01_k».proof.Proof.Gen.Kernel3Ideal.Frame
public import proofs.«01_k».proof.Proof.TailPay

@[expose] public section

set_option maxRecDepth 16384

noncomputable section

set_option maxHeartbeats 400000

namespace Cert.Tail

open Cert.Kernel3Ideal Cert.Kernel3Ideal.Gen Idealize.ShloMosaic Idealize.ShloMosaic.TcCoe Idealize.SL.Sem
open Cert.InBwd (rr one_bits)

/-- The blocks hold the arrays' rows `ρ`. -/
structure Fits (A : Args) (ρ : Fin 512 → Fin 16384) (a : Vec Ideal S512x512 .f32) (nz : Vec Ideal S512x512 .bf16) (hf hb : Vec Ideal S512x512 .f32)
    (o z : Vec Ideal S512x512 .bf16) (x tg : Vec Ideal S512x1024 .f32) (g : Vec Ideal S1x1024 .f32) (nw : Vec Ideal S1x512 .f32)
    (fw : Vec Ideal S1x1024 .f32) (w : Vec Ideal S1024x1024 .bf16) : Prop where
  a_at : ∀ r j, a (ix2 r j) = A.an (ρ r) j
  nz_at : ∀ r j, nz (ix2 r j) = A.nz (ρ r) j
  hf_at : ∀ r j, hf (ix2 r j) = A.hf (ρ r) j
  hb_at : ∀ r j, hb (ix2 r j) = A.hb (ρ r) j
  o_at : ∀ r j, o (ix2 r j) = A.o (ρ r) j
  z_at : ∀ r j, z (ix2 r j) = A.z (ρ r) j
  x_at : ∀ r j, x (ix2 r j) = A.x (ρ r) j
  tg_at : ∀ r j, tg (ix2 r j) = A.tg (ρ r) j
  g_at : ∀ j, g (ix2 0 j) = A.g j
  nw_at : ∀ j, nw (ix2 0 j) = A.nw j
  fw_at : ∀ j, fw (ix2 0 j) = A.fw j
  w_at : ∀ i j, w (ix2 i j) = A.w i j

variable {A : Args} {ρ : Fin 512 → Fin 16384} {a : Vec Ideal S512x512 .f32} {nz : Vec Ideal S512x512 .bf16} {hf hb : Vec Ideal S512x512 .f32}
  {o z : Vec Ideal S512x512 .bf16} {x tg : Vec Ideal S512x1024 .f32} {g : Vec Ideal S1x1024 .f32} {nw : Vec Ideal S1x512 .f32}
  {fw : Vec Ideal S1x1024 .f32} {w : Vec Ideal S1024x1024 .bf16} (H : Fits A ρ a nz hf hb o z x tg g nw fw w)
include H

theorem bhd_at (h : Fin 4) (r : Fin 512) : bhd hf hb o h r = hd A (ρ r) h := by
  funext i
  simp only [bhd, hd, H.hf_at, H.hb_at, H.o_at]

/-! ## The two halves -/

theorem lo (r r' : Fin 512) (hr : r = r') (j : Fin 512) (k : Fin 1024) (hk : k.val = j.val) :
    a (ix2 r j) * silu (nz (ix2 r j)) = mix A (ρ r') k := by
  subst hr
  unfold mix
  rw [dif_pos (by omega), H.a_at, H.nz_at]
  have e : (⟨k.val, by omega⟩ : Fin 512) = j := Fin.ext hk
  rw [e]

theorem hi (r r' : Fin 512) (hr : r = r') (h : Fin 4) (i : Fin 128) (k : Fin 1024) (hk : k.val = 512 + (col h i).val) (u n : EReal)
    (hu : u = hx (bhd hf hb o h r) i) (hn : n = nw (ix2 0 (col h i))) : u * n * silu (z (ix2 r (col h i))) = mix A (ρ r') k := by
  subst hr hu hn
  unfold mix
  have e : (⟨k.val - 512, by omega⟩ : Fin 512) = col h i := Fin.ext (by simp only []; omega)
  rw [dif_neg (by omega), e, xh_col, H.nw_at, H.z_at, bhd_at H]

omit H

/-- The five pieces the two halves are stored in. -/
abbrev mixPieces (a : Vec Ideal S512x512 .f32) (nz : Vec Ideal S512x512 .bf16) (hf hb : Vec Ideal S512x512 .f32) (o z : Vec Ideal S512x512 .bf16)
    (nw : Vec Ideal S1x512 .f32) : List (View.Piece (Elt Ideal) S512x1024 .bf16) :=
  [⟨(Rect.unit ![0, 896] ![512, 128] inb_S512x1024_S512x128_0_896), k0_pay41 (k0_pay12 z) (k0_pay33 (k0_pay29 (k0_pay11 hf hb) (k0_pay13 o)) (k0_pay30 (k0_pay11 hf hb) (k0_pay13 o))) (k0_pay37 (k0_pay12 z)) (View.ld nw (Rect.unit ![0, 384] ![1, 128] inb_S1x512_S1x128_0_384))⟩,
  ⟨(Rect.unit ![0, 768] ![512, 128] inb_S512x1024_S512x128_0_768), k0_pay40 (k0_pay12 z) (k0_pay27 (k0_pay11 hf hb) (k0_pay13 o)) (k0_pay36 (k0_pay12 z)) (View.ld nw (Rect.unit ![0, 256] ![1, 128] inb_S1x512_S1x128_0_256))⟩,
  ⟨(Rect.unit ![0, 640] ![512, 128] inb_S512x1024_S512x128_0_640), k0_pay39 (k0_pay12 z) (k0_pay23 (k0_pay11 hf hb) (k0_pay13 o)) (View.ld nw (Rect.unit ![0, 128] ![1, 128] inb_S1x512_S1x128_0_128))⟩,
  ⟨(Rect.unit ![0, 512] ![512, 128] inb_S512x1024_S512x128_0_512), k0_pay38 (k0_pay12 z) (k0_pay19 (k0_pay15 hf hb o) (k0_pay16 hf hb o) (k0_pay17 (F := Ideal))) (View.ld nw (Rect.unit ![0, 0] ![1, 128] inb_S1x512_S1x128_0_0))⟩,
  ⟨(Rect.unit ![0, 0] ![512, 512] inb_S512x1024_S512x512_0_0), k0_pay10 nz a⟩]

theorem ld_at (n : Vec Ideal S1x512 .f32) (off : ℕ) (inb : ∀ b, (![0, off] : Fin 2 → ℕ) b + (![1, 128] : Fin 2 → ℕ) b ≤ S1x512.size b) (i : Fin 128)
    (j : Fin 512) (hj : j.val = off + i.val) :
    View.ld n (Rect.unit ![0, off] ![1, 128] inb) (ix2 0 i) = n (ix2 0 j) := by
  refine congrArg n ?_
  funext b
  refine Fin.ext ?_
  fin_cases b
  · rfl
  · show off + 1 * i.val = j.val
    omega

include H

theorem mix_of : View.PiecesOf (fun y => mix A (ρ (y 0)) (y 1)) (mixPieces a nz hf hb o z nw) := by
  unfold View.PiecesOf
  refine ⟨fun y => ?_, fun y => ?_, fun y => ?_, fun y => ?_, fun y => ?_, trivial⟩
  · exact (p41 _ _ _ y).trans (hi H (y 0) _ (Fin.ext (by simp)) 3 (y 1) _ (by simp [col]; omega) _ _ (x3 hf hb o y) (ld_at nw 384 _ _ _ (by simp [col])))
  · exact (p40 _ _ _ y).trans (hi H (y 0) _ (Fin.ext (by simp)) 2 (y 1) _ (by simp [col]; omega) _ _ (x2 hf hb o y) (ld_at nw 256 _ _ _ (by simp [col])))
  · exact (p39 _ _ _ y).trans (hi H (y 0) _ (Fin.ext (by simp)) 1 (y 1) _ (by simp [col]; omega) _ _ (x1 hf hb o y) (ld_at nw 128 _ _ _ (by simp [col])))
  · exact (p38 _ _ _ y).trans (hi H (y 0) _ (Fin.ext (by simp)) 0 (y 1) _ (by simp [col]) _ _ (x0 hf hb o y) (ld_at nw 0 _ _ _ (by simp [col])))
  · refine (p10 _ _ y).trans ?_
    rw [eq_ix2 y]
    exact lo H (y 0) _ (Fin.ext (by simp)) (y 1) _ (by simp)

theorem mix_canon : View.canon (mixPieces a nz hf hb o z nw) = fun y => mix A (ρ (y 0)) (y 1) :=
  funext fun y => View.canon_append_of_piecesOf _ [] _ (mix_of H) y (View.cover_of_tiledBy _ ![512, 128] (by sl_kernel_rfl) y)

/-- The two halves read back whole. -/
theorem mix_read {sp : Space} (v : View sig .tc sp S512x1024 .bf16) (inb : ∀ b, (![0, 0] : Fin 2 → ℕ) b + S512x1024.size b ≤ S512x1024.size b) :
    v.readCov (mixPieces a nz hf hb o z nw) (Rect.unit (s := S512x1024) ![0, 0] S512x1024.size inb).toLoadRect = fun y => mix A (ρ (y 0)) (y 1) := by
  rw [View.readCov_eq_canon', mix_canon H]
  funext y
  exact congrArg₂ (fun r k => mix A (ρ r) k) (Fin.ext (by simp)) (Fin.ext (by simp))

/-! ## The rest of the block over the two halves -/

variable (M : Vec Ideal S512x1024 .bf16) (hM : M = fun y => mix A (ρ (y 0)) (y 1))
include hM

theorem yv_at (y : S512x1024.Idx) : k0_pay43 (F := Ideal) M w y = yv A (ρ (y 0)) (y 1) := by
  subst hM
  rw [p43]
  exact Finset.sum_congr rfl fun k _ => congrArg (_ * ·) (H.w_at k (y 1))

theorem hr_at (y : S512x1024.Idx) : k0_pay44 (F := Ideal) M w g x y = hr A (ρ (y 0)) (y 1) := by
  rw [p44, yv_at H M hM, show g (ix2 0 (y 1)) = A.g (y 1) from H.g_at (y 1)]
  exact congrArg (· + _) ((congrArg x (eq_ix2 y)).trans (H.x_at _ _))

theorem rr_at (y : S512x1.Idx) : k0_pay45 (F := Ideal) M w g x y = rr (hr A (ρ (y 0))) := by
  rw [p45]
  exact congrArg rr (funext fun k => hr_at H M hM (ix2 (y 0) k))

theorem xf_at (y : S512x1024.Idx) : k0_pay46 (F := Ideal) M w g x y = xf A (ρ (y 0)) (y 1) := by
  rw [p46, hr_at H M hM, rr_at H M hM]
  rfl

theorem er_at (y : S512x1024.Idx) : k0_pay47 (F := Ideal) (k0_pay46 M w g x) fw tg y = er A (ρ (y 0)) (y 1) := by
  rw [p47, xf_at H M hM, show fw (ix2 0 (y 1)) = A.fw (y 1) from H.fw_at (y 1)]
  exact congrArg (_ - ·) ((congrArg tg (eq_ix2 y)).trans (H.tg_at _ _))

theorem loss_pay (P : Vec Ideal S1x128 .f32) (y : S1x128.Idx) :
    k0_pay48 (F := Ideal) (k0_pay46 M w g x) fw tg P y = P y + ∑ r : Fin 512, lrow A (ρ r) := by
  rw [p48]
  refine congrArg (P y + ·) ?_
  unfold lrow
  rw [bits_5, NormMath.coe_mul_sum (by norm_num)]
  refine Finset.sum_congr rfl fun r _ => congrArg (_ * ·) (congrArg (· * _) (Finset.sum_congr rfl fun k _ => ?_))
  rw [er_at H M hM (ix2 r k)]
  rfl

theorem dout_at (y : S512x1024.Idx) : k0_pay49 (F := Ideal) (k0_pay46 M w g x) fw tg y = dout A (ρ (y 0)) (y 1) := by
  rw [p49, er_at H M hM]
  rfl

theorem gfw_pay (P : Vec Ideal S1x1024 .f32) (y : S1x1024.Idx) :
    k0_pay50 (F := Ideal) (k0_pay46 M w g x) fw tg P y = P y + ∑ r : Fin 512, dout A (ρ r) (y 1) * xf A (ρ r) (y 1) := by
  rw [p50]
  exact congrArg (P y + ·) (Finset.sum_congr rfl fun r _ => congrArg₂ (· * ·) (dout_at H M hM (ix2 r (y 1))) (xf_at H M hM (ix2 r (y 1))))

theorem df_at (y : S512x1024.Idx) : k0_pay51 (F := Ideal) (k0_pay46 M w g x) fw tg fw y = dout A (ρ (y 0)) (y 1) * A.fw (y 1) := by
  rw [p51, dout_at H M hM, show fw (ix2 0 (y 1)) = A.fw (y 1) from H.fw_at (y 1)]

theorem pr_at (y : S512x1024.Idx) : k0_pay52 (F := Ideal) (k0_pay46 M w g x) fw tg fw y
    = xf A (ρ (y 0)) (y 1) * Ideal.div (∑ l, dout A (ρ (y 0)) l * A.fw l * xf A (ρ (y 0)) l) (Ideal.ofBits FTy.f32 1149239296#32) := by
  rw [p52, xf_at H M hM]
  refine congrArg (_ * ·) (congrArg (Ideal.div · _) (Finset.sum_congr rfl fun k _ => ?_))
  exact congrArg₂ (· * ·) (df_at H M hM (ix2 (y 0) k)) (xf_at H M hM (ix2 (y 0) k))

theorem dh_pay (y : S512x1024.Idx) : k0_pay53 (F := Ideal) (k0_pay45 M w g x) (k0_pay51 (k0_pay46 M w g x) fw tg fw) (k0_pay52 (k0_pay46 M w g x) fw tg fw) y
    = dh A (ρ (y 0)) (y 1) := by
  rw [p53, df_at H M hM, pr_at H M hM, rr_at H M hM]
  rfl

theorem dg_pay (P : Vec Ideal S1x1024 .f32) (y : S1x1024.Idx) :
    k0_pay54 (F := Ideal) (k0_pay43 M w) (k0_pay45 M w g x) (k0_pay51 (k0_pay46 M w g x) fw tg fw) (k0_pay52 (k0_pay46 M w g x) fw tg fw) P y
    = P y + ∑ r : Fin 512, dh A (ρ r) (y 1) * yv A (ρ r) (y 1) := by
  rw [p54]
  exact congrArg (P y + ·) (Finset.sum_congr rfl fun r _ => congrArg₂ (· * ·) (dh_pay H M hM (ix2 r (y 1))) (yv_at H M hM (ix2 r (y 1))))

theorem dy_at (y : S512x1024.Idx) : k0_pay55 (F := Ideal) g (k0_pay45 M w g x) (k0_pay51 (k0_pay46 M w g x) fw tg fw) (k0_pay52 (k0_pay46 M w g x) fw tg fw) y
    = dy A (ρ (y 0)) (y 1) := by
  rw [p55, dh_pay H M hM, show g (ix2 0 (y 1)) = A.g (y 1) from H.g_at (y 1)]
  rfl

theorem gwo_pay (P : Vec Ideal S1024x1024 .f32) (y : S1024x1024.Idx) :
    k0_pay56 (F := Ideal) M g (k0_pay45 M w g x) (k0_pay51 (k0_pay46 M w g x) fw tg fw) (k0_pay52 (k0_pay46 M w g x) fw tg fw) P y
    = P y + ∑ r : Fin 512, mix A (ρ r) (y 0) * dy A (ρ r) (y 1) := by
  rw [p56]
  exact congrArg (P y + ·) (Finset.sum_congr rfl fun r _ => congrArg₂ (· * ·) (congrFun hM (ix2 r (y 0))) (dy_at H M hM (ix2 r (y 1))))

theorem dm_at (y : S512x1024.Idx) :
    k0_pay57 (F := Ideal) (k0_pay42 w) g (k0_pay45 M w g x) (k0_pay51 (k0_pay46 M w g x) fw tg fw) (k0_pay52 (k0_pay46 M w g x) fw tg fw) y
    = dm A (ρ (y 0)) (y 1) := by
  rw [p57]
  exact Finset.sum_congr rfl fun k _ => congrArg₂ (· * ·) (dy_at H M hM (ix2 (y 0) k)) (H.w_at (y 1) k)

theorem dan_pay (y : S512x512.Idx) :
    k0_pay59 (F := Ideal) (k0_pay9 nz) (k0_pay42 w) g (k0_pay45 M w g x) (k0_pay51 (k0_pay46 M w g x) fw tg fw) (k0_pay52 (k0_pay46 M w g x) fw tg fw) y
    = dan A (ρ (y 0)) (y 1) := by
  rw [p59, dm_at H M hM]
  exact congrArg (_ * ·) (congrArg silu ((congrArg nz (eq_ix2 y)).trans (H.nz_at _ _)))

/-! ## The heads' weight gradient -/

/-- The gradient of the two halves, one block. -/
abbrev DM (M : Vec Ideal S512x1024 .bf16) (w : Vec Ideal S1024x1024 .bf16) (g : Vec Ideal S1x1024 .f32) (x tg : Vec Ideal S512x1024 .f32)
    (fw : Vec Ideal S1x1024 .f32) : FVec Ideal S512x1024 .f32 :=
  k0_pay57 (F := Ideal) (k0_pay42 w) g (k0_pay45 M w g x) (k0_pay51 (k0_pay46 M w g x) fw tg fw) (k0_pay52 (k0_pay46 M w g x) fw tg fw)

omit H hM

/-- The four column pieces added into the heads' weight gradient at one block. -/
abbrev nwPieces (M : Vec Ideal S512x1024 .bf16) (hf hb : Vec Ideal S512x512 .f32) (o z : Vec Ideal S512x512 .bf16)
    (w : Vec Ideal S1024x1024 .bf16) (g : Vec Ideal S1x1024 .f32) (x tg : Vec Ideal S512x1024 .f32)
    (fw : Vec Ideal S1x1024 .f32) (P : Vec Ideal S1x512 .f32) : List (View.Piece (Elt Ideal) S1x512 .f32) :=
  [⟨(Rect.unit ![0, 384] ![1, 128] inb_S1x512_S1x128_0_384), k0_pay95 (k0_pay33 (k0_pay29 (k0_pay11 hf hb) (k0_pay13 o)) (k0_pay30 (k0_pay11 hf hb) (k0_pay13 o))) (k0_pay89 (DM M w g x tg fw)) (k0_pay91 (k0_pay12 z) (k0_pay37 (k0_pay12 z))) (View.ld P (Rect.unit ![0, 384] ![1, 128] inb_S1x512_S1x128_0_384))⟩,
  ⟨(Rect.unit ![0, 256] ![1, 128] inb_S1x512_S1x128_0_256), k0_pay85 (k0_pay83 (View.ld P (Rect.unit ![0, 256] ![1, 128] inb_S1x512_S1x128_0_256))) (k0_pay84 (k0_pay12 z) (k0_pay27 (k0_pay11 hf hb) (k0_pay13 o)) (k0_pay36 (k0_pay12 z)) (DM M w g x tg fw))⟩,
  ⟨(Rect.unit ![0, 128] ![1, 128] inb_S1x512_S1x128_0_128), k0_pay73 (k0_pay12 z) (k0_pay23 (k0_pay11 hf hb) (k0_pay13 o)) (k0_pay35 (k0_pay12 z)) (DM M w g x tg fw) (View.ld P (Rect.unit ![0, 128] ![1, 128] inb_S1x512_S1x128_0_128))⟩,
  ⟨(Rect.unit ![0, 0] ![1, 128] inb_S1x512_S1x128_0_0), k0_pay65 (k0_pay19 (k0_pay15 hf hb o) (k0_pay16 hf hb o) (k0_pay17 (F := Ideal))) (k0_pay61 (k0_pay42 w) g (k0_pay45 M w g x) (k0_pay51 (k0_pay46 M w g x) fw tg fw) (k0_pay52 (k0_pay46 M w g x) fw tg fw)) (k0_pay63 (k0_pay12 z) (k0_pay34 (k0_pay12 z))) (View.ld P (Rect.unit ![0, 0] ![1, 128] inb_S1x512_S1x128_0_0))⟩]

include H

/-- One row's share of the heads' weight gradient. -/
theorem nw_term (r : Fin 512) (h : Fin 4) (i : Fin 128) (j : Fin 512) (hj : col h i = j) (d u : EReal)
    (hd : d = dm A (ρ r) ⟨512 + (col h i).val, by have := (col h i).2; omega⟩) (hu : u = hx (bhd hf hb o h r) i) :
    d * u * silu (z (ix2 r (col h i))) = dm A (ρ r) ⟨512 + j.val, by omega⟩ * xh A (ρ r) j * silu (A.z (ρ r) j) := by
  subst hj hd hu
  rw [xh_col, H.z_at, bhd_at H]

include hM

theorem nw_of (P : Vec Ideal S1x512 .f32) :
    View.PiecesOf (fun y => P y + ∑ r : Fin 512, dm A (ρ r) ⟨512 + (y 1).val, by have : (y 1).val < 512 := (y 1).isLt; omega⟩ * xh A (ρ r) (y 1) * silu (A.z (ρ r) (y 1)))
      (nwPieces M hf hb o z w g x tg fw P) := by
  unfold View.PiecesOf
  refine ⟨fun y => ?_, fun y => ?_, fun y => ?_, fun y => ?_, trivial⟩
  · exact (p95 _ _ _ _ y).trans (congrArg (P _ + ·) (Finset.sum_congr rfl fun r _ =>
      nw_term H r 3 (y 1) _ (Fin.ext (by simp [col])) _ _ (dm_at H M hM _) (x3 hf hb o (ix2 r (y 1)))))
  · exact (p85 _ _ _ _ y).trans (congrArg (P _ + ·) (Finset.sum_congr rfl fun r _ =>
      nw_term H r 2 (y 1) _ (Fin.ext (by simp [col])) _ _ (dm_at H M hM _) (x2 hf hb o (ix2 r (y 1)))))
  · exact (p73 _ _ _ _ y).trans (congrArg (P _ + ·) (Finset.sum_congr rfl fun r _ =>
      nw_term H r 1 (y 1) _ (Fin.ext (by simp [col])) _ _ (dm_at H M hM _) (x1 hf hb o (ix2 r (y 1)))))
  · exact (p65 _ _ _ _ y).trans (congrArg (P _ + ·) (Finset.sum_congr rfl fun r _ =>
      nw_term H r 0 (y 1) _ (Fin.ext (by simp [col])) _ _ ((p61 _ _ _ _ _ (ix2 r (y 1))).trans (dm_at H M hM _)) (x0 hf hb o (ix2 r (y 1)))))

theorem nw_canon (P : Vec Ideal S1x512 .f32) (L : List (View.Piece (Elt Ideal) S1x512 .f32)) :
    View.canon (nwPieces M hf hb o z w g x tg fw P ++ L)
      = fun y => P y + ∑ r : Fin 512, dm A (ρ r) ⟨512 + (y 1).val, by have : (y 1).val < 512 := (y 1).isLt; omega⟩ * xh A (ρ r) (y 1) * silu (A.z (ρ r) (y 1)) :=
  funext fun y => View.canon_append_of_piecesOf _ L _ (nw_of H M hM P) y (View.cover_of_tiledBy _ ![1, 128] (by sl_kernel_rfl) y)

end Cert.Tail

end
-- ==== Proof.TailKer.lean ====
/- What the tail's kernel leaves in its windows. -/
module

public import proofs.«01_k».proof.Proof.Gen.Kernel3Ideal.Frame
public import proofs.«01_k».proof.Proof.TailBlk
public import Idealize.ShloMosaic.Lib.Pipeline.ValueKit
public import Idealize.ShloMosaic.Lib.Pipeline.ReadBack

@[expose] public section

set_option maxRecDepth 16384

noncomputable section

set_option maxHeartbeats 400000

namespace Cert.Tail

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-! ## Stores and loads of whole buffers -/

theorem canon_all {S : Shape} {e : EltTy} (X : S.Idx → Elt Ideal e) (L : List (View.Piece (Elt Ideal) S e)) :
    View.canon (⟨Rect.whole S, X⟩ :: L) = X := by
  funext y
  have h := View.canon_cons_emb (Rect.whole S) X L y
  rwa [Rect.emb_whole_apply] at h

theorem readCov_all {sp : Space} {S : Shape} {e : EltTy} (v : View sig .tc sp S e) (X : S.Idx → Elt Ideal e)
    (L : List (View.Piece (Elt Ideal) S e)) (r : Rect S) :
    v.readCov (⟨Rect.whole S, X⟩ :: L) r.toLoadRect = View.ld X r := by
  rw [View.readCov_eq_canon', canon_all]

/-- The kernel's arguments by row and column. -/
def args : Args where
  an R j := m ((c : Thread nD τ).loc main_arg0) (ix2 R j)
  nz R j := m ((c : Thread nD τ).loc main_arg1) (ix2 R ⟨1536 + j.val, by omega⟩)
  hf R j := m ((c : Thread nD τ).loc main_arg2) (ix2 R j)
  hb R j := m ((c : Thread nD τ).loc main_arg3) (ix2 R j)
  o R j := m ((c : Thread nD τ).loc main_arg1) (ix2 R ⟨3584 + j.val, by omega⟩)
  z R j := m ((c : Thread nD τ).loc main_arg1) (ix2 R ⟨4096 + j.val, by omega⟩)
  x R k := m ((c : Thread nD τ).loc main_arg4) (ix2 R k)
  tg R k := m ((c : Thread nD τ).loc main_arg5) (ix2 R k)
  g k := m ((c : Thread nD τ).loc main_arg6) (ix2 0 k)
  nw j := m ((c : Thread nD τ).loc main_arg7) (ix2 0 j)
  fw k := m ((c : Thread nD τ).loc main_arg8) (ix2 0 k)
  w j k := m ((c : Thread nD τ).loc main_arg9) (ix2 j k)

local notation "𝔸" => args m c

/-! ## The blocks -/

theorem idx : ∀ t : Fin cfg0.N, win0_0.index t = ![t.val, 0] ∧ win0_1.index t = ![t.val, 3] ∧ win0_2.index t = ![t.val, 0] ∧ win0_3.index t = ![t.val, 0]
    ∧ win0_4.index t = ![t.val, 7] ∧ win0_5.index t = ![t.val, 8] ∧ win0_6.index t = ![t.val, 0] ∧ win0_7.index t = ![t.val, 0] ∧ win0_8.index t = ![0, 0]
    ∧ win0_9.index t = ![0, 0] ∧ win0_10.index t = ![0, 0] ∧ win0_11.index t = ![0, 0] ∧ win0_12.index t = ![0, 0] ∧ win0_13.index t = ![t.val, 0]
    ∧ win0_14.index t = ![t.val, 0] ∧ win0_19.index t = ![0, 0] ∧ win0_20.index t = ![0, 0] ∧ win0_21.index t = ![0, 0] ∧ win0_22.index t = ![0, 0] :=
  (by decide +kernel : ∀ t : Fin grid0.N, _)

theorem N_lt (t : Fin cfg0.N) : t.val < 32 := lt_of_lt_of_eq t.isLt (show cfg0.N = 32 from N_0)

/-- The row of the arrays that row `r` of block `t` is. -/
def row (t : Fin cfg0.N) (r : Fin 512) : Fin 16384 := ⟨t.val * 512 + r.val, by have := N_lt t; omega⟩

variable (t : Fin cfg0.N)

/-- The staged weights are the weights. -/
theorem wv (i j : Fin 1024) : V m c main_v0 (ix2 i j) = (𝔸).w i j := by
  simp only [args, V, hostOps0, List.flatten_cons, List.flatten_nil, List.append_nil, List.cons_append, List.nil_append]
  entry_read
  rfl

/-- The blocks of point `t` hold its rows. -/
theorem fits : Fits 𝔸 (row t) (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) where
  a_at r j := by
    simp only [args, row]
    blk_point [iblk, V, idx t]
  nz_at r j := by
    simp only [args, row]
    blk_point [iblk, V, idx t]
  hf_at r j := by
    simp only [args, row]
    blk_point [iblk, V, idx t]
  hb_at r j := by
    simp only [args, row]
    blk_point [iblk, V, idx t]
  o_at r j := by
    simp only [args, row]
    blk_point [iblk, V, idx t]
  z_at r j := by
    simp only [args, row]
    blk_point [iblk, V, idx t]
  x_at r j := by
    simp only [args, row]
    blk_point [iblk, V, idx t]
  tg_at r j := by
    simp only [args, row]
    blk_point [iblk, V, idx t]
  g_at j := by
    simp only [args]
    blk_point [iblk, V, idx t]
  nw_at j := by
    simp only [args]
    blk_point [iblk, V, idx t]
  fw_at j := by
    simp only [args]
    blk_point [iblk, V, idx t]
  w_at i j := by
    rw [← wv m c i j]
    show V m c main_v0 _ = V m c main_v0 _
    blk_ext [idx t]

/-! ## One point's contents -/

/-- An accumulation over the blocks is a sum over the rows. -/
theorem total {ι : Type} (f : (n : ℕ) → n < cfg0.N → ι → EReal) (g : Fin 16384 → ι → EReal)
    (h0 : ∀ t : Fin cfg0.N, t.val % 32 = 0 → ∀ i, f t.val t.isLt i = 0 + ∑ r : Fin 512, g (row t r) i)
    (hs : ∀ t : Fin cfg0.N, ¬t.val % 32 = 0 → ∀ i,
      f t.val t.isLt i = f (t.val - 1) (Nat.lt_of_le_of_lt (Nat.sub_le _ _) t.isLt) i + ∑ r : Fin 512, g (row t r) i)
    (t : Fin cfg0.N) (ht : t.val % 32 = 31) (i : ι) : f t.val t.isLt i = ∑ R, g R i := by
  rw [Pipeline.eq_sum_fin_of_reset_step_apply_last f 32 (fun _ => 0) (fun t i => ∑ r : Fin 512, g (row t r) i) h0 hs (le_of_eq N_0) t
    (by have := N_lt t; have := (show cfg0.N = 32 from N_0); omega) i, zero_add]
  exact Fin.sum_mul_add_congr (fun s k hl => rfl) (show 16384 = cfg0.N * 512 by rw [show cfg0.N = 32 from N_0])

/-- The point before. -/
abbrev prev (n : ℕ) (hn : n < cfg0.N) : n - 1 < cfg0.N := Nat.lt_of_le_of_lt (Nat.sub_le _ _) hn

theorem dh_A (h0 : t.val % 32 = 0) (y : S512x1024.Idx) : (outsAt0 m c t.val t.isLt).2.1 y = dh 𝔸 (row t (y 0)) (y 1) := by
  rw [outsAt0_A m c t h0]; frame_out
  try simp (disch := first | rfl | decide) only [↓View.readCov_skip, ↓View.readCov_fill, readCov_all, read_unread_whole]
  exact dh_pay (fits m c t) _ (mix_read (fits m c t) _ _) y

theorem dh_B (h0 : ¬t.val % 32 = 0) (y : S512x1024.Idx) : (outsAt0 m c t.val t.isLt).2.1 y = dh 𝔸 (row t (y 0)) (y 1) := by
  rw [outsAt0_B m c t h0]; frame_out
  try simp (disch := first | rfl | decide) only [↓View.readCov_skip, ↓View.readCov_fill, readCov_all, read_unread_whole]
  exact dh_pay (fits m c t) _ (mix_read (fits m c t) _ _) y

theorem dh_at (y : S512x1024.Idx) : (outsAt0 m c t.val t.isLt).2.1 y = dh 𝔸 (row t (y 0)) (y 1) := by
  by_cases h0 : t.val % 32 = 0
  · exact dh_A m c t h0 y
  · exact dh_B m c t h0 y

theorem dan_A (h0 : t.val % 32 = 0) (y : S512x512.Idx) : (outsAt0 m c t.val t.isLt).2.2.1 y = dan 𝔸 (row t (y 0)) (y 1) := by
  rw [outsAt0_A m c t h0]; frame_out
  try simp (disch := first | rfl | decide) only [↓View.readCov_skip, ↓View.readCov_fill, readCov_all, read_unread_whole]
  exact dan_pay (fits m c t) _ (mix_read (fits m c t) _ _) y

theorem dan_B (h0 : ¬t.val % 32 = 0) (y : S512x512.Idx) : (outsAt0 m c t.val t.isLt).2.2.1 y = dan 𝔸 (row t (y 0)) (y 1) := by
  rw [outsAt0_B m c t h0]; frame_out
  try simp (disch := first | rfl | decide) only [↓View.readCov_skip, ↓View.readCov_fill, readCov_all, read_unread_whole]
  exact dan_pay (fits m c t) _ (mix_read (fits m c t) _ _) y

theorem dan_at (y : S512x512.Idx) : (outsAt0 m c t.val t.isLt).2.2.1 y = dan 𝔸 (row t (y 0)) (y 1) := by
  by_cases h0 : t.val % 32 = 0
  · exact dan_A m c t h0 y
  · exact dan_B m c t h0 y

theorem loss_A (h0 : t.val % 32 = 0) (y : S1x128.Idx) : (outsAt0 m c t.val t.isLt).1 y = 0 + ∑ r : Fin 512, lrow 𝔸 (row t r) := by
  rw [outsAt0_A m c t h0]; frame_out
  try simp (disch := first | rfl | decide) only [↓View.readCov_skip, ↓View.readCov_fill, readCov_all, read_unread_whole]
  exact (loss_pay (fits m c t) _ (mix_read (fits m c t) _ _) _ y).trans (congrArg (· + _) (p2 y))

theorem loss_B (h0 : ¬t.val % 32 = 0) (y : S1x128.Idx) : (outsAt0 m c t.val t.isLt).1 y = (outsAt0 m c (t.val - 1) (prev t.val t.isLt)).1 y + ∑ r : Fin 512, lrow 𝔸 (row t r) := by
  rw [outsAt0_B m c t h0]; frame_out
  try simp (disch := first | rfl | decide) only [↓View.readCov_skip, ↓View.readCov_fill, readCov_all, read_unread_whole]
  exact loss_pay (fits m c t) _ (mix_read (fits m c t) _ _) _ y

theorem loss_last (ht : t.val % 32 = 31) (y : S1x128.Idx) : (outsAt0 m c t.val t.isLt).1 y = ∑ R, lrow 𝔸 R :=
  total (fun n hn => (outsAt0 m c n hn).1) (fun R (y : S1x128.Idx) => lrow 𝔸 R) (fun t h y => loss_A m c t h y) (fun t h y => loss_B m c t h y) t ht y

theorem dg_A (h0 : t.val % 32 = 0) (y : S1x1024.Idx) : (outsAt0 m c t.val t.isLt).2.2.2.2.2.2.2.1 y = 0 + ∑ r : Fin 512, dh 𝔸 (row t r) (y 1) * yv 𝔸 (row t r) (y 1) := by
  rw [outsAt0_A m c t h0]; frame_out
  try simp (disch := first | rfl | decide) only [↓View.readCov_skip, ↓View.readCov_fill, readCov_all, read_unread_whole]
  exact (dg_pay (fits m c t) _ (mix_read (fits m c t) _ _) _ y).trans (congrArg (· + _) (p3 y))

theorem dg_B (h0 : ¬t.val % 32 = 0) (y : S1x1024.Idx) : (outsAt0 m c t.val t.isLt).2.2.2.2.2.2.2.1 y = (outsAt0 m c (t.val - 1) (prev t.val t.isLt)).2.2.2.2.2.2.2.1 y + ∑ r : Fin 512, dh 𝔸 (row t r) (y 1) * yv 𝔸 (row t r) (y 1) := by
  rw [outsAt0_B m c t h0]; frame_out
  try simp (disch := first | rfl | decide) only [↓View.readCov_skip, ↓View.readCov_fill, readCov_all, read_unread_whole]
  exact dg_pay (fits m c t) _ (mix_read (fits m c t) _ _) _ y

theorem dg_last (ht : t.val % 32 = 31) (y : S1x1024.Idx) : (outsAt0 m c t.val t.isLt).2.2.2.2.2.2.2.1 y = ∑ R, dh 𝔸 R (y 1) * yv 𝔸 R (y 1) :=
  total (fun n hn => (outsAt0 m c n hn).2.2.2.2.2.2.2.1) (fun R (y : S1x1024.Idx) => dh 𝔸 R (y 1) * yv 𝔸 R (y 1)) (fun t h y => dg_A m c t h y) (fun t h y => dg_B m c t h y) t ht y

theorem gfw_A (h0 : t.val % 32 = 0) (y : S1x1024.Idx) : (outsAt0 m c t.val t.isLt).2.2.2.2.2.2.2.2.1 y = 0 + ∑ r : Fin 512, dout 𝔸 (row t r) (y 1) * xf 𝔸 (row t r) (y 1) := by
  rw [outsAt0_A m c t h0]; frame_out
  try simp (disch := first | rfl | decide) only [↓View.readCov_skip, ↓View.readCov_fill, readCov_all, read_unread_whole]
  exact (gfw_pay (fits m c t) _ (mix_read (fits m c t) _ _) _ y).trans (congrArg (· + _) (p4 y))

theorem gfw_B (h0 : ¬t.val % 32 = 0) (y : S1x1024.Idx) : (outsAt0 m c t.val t.isLt).2.2.2.2.2.2.2.2.1 y = (outsAt0 m c (t.val - 1) (prev t.val t.isLt)).2.2.2.2.2.2.2.2.1 y + ∑ r : Fin 512, dout 𝔸 (row t r) (y 1) * xf 𝔸 (row t r) (y 1) := by
  rw [outsAt0_B m c t h0]; frame_out
  try simp (disch := first | rfl | decide) only [↓View.readCov_skip, ↓View.readCov_fill, readCov_all, read_unread_whole]
  exact gfw_pay (fits m c t) _ (mix_read (fits m c t) _ _) _ y

theorem gfw_last (ht : t.val % 32 = 31) (y : S1x1024.Idx) : (outsAt0 m c t.val t.isLt).2.2.2.2.2.2.2.2.1 y = ∑ R, dout 𝔸 R (y 1) * xf 𝔸 R (y 1) :=
  total (fun n hn => (outsAt0 m c n hn).2.2.2.2.2.2.2.2.1) (fun R (y : S1x1024.Idx) => dout 𝔸 R (y 1) * xf 𝔸 R (y 1)) (fun t h y => gfw_A m c t h y) (fun t h y => gfw_B m c t h y) t ht y

theorem gnw_A (h0 : t.val % 32 = 0) (y : S1x512.Idx) : (outsAt0 m c t.val t.isLt).2.2.2.2.2.2.2.2.2.1 y = 0 + ∑ r : Fin 512, dm 𝔸 (row t r) ⟨512 + (y 1).val, by have : (y 1).val < 512 := (y 1).isLt; omega⟩ * xh 𝔸 (row t r) (y 1) * silu ((𝔸).z (row t r) (y 1)) := by
  rw [outsAt0_A m c t h0]; frame_out
  try simp (disch := first | rfl | decide) only [↓View.readCov_skip, ↓View.readCov_fill, readCov_all, read_unread_whole]
  exact (congrFun (nw_canon (fits m c t) _ (mix_read (fits m c t) _ _) _ [_]) y).trans (congrArg (· + _) (p5 y))

theorem gnw_B (h0 : ¬t.val % 32 = 0) (y : S1x512.Idx) : (outsAt0 m c t.val t.isLt).2.2.2.2.2.2.2.2.2.1 y = (outsAt0 m c (t.val - 1) (prev t.val t.isLt)).2.2.2.2.2.2.2.2.2.1 y + ∑ r : Fin 512, dm 𝔸 (row t r) ⟨512 + (y 1).val, by have : (y 1).val < 512 := (y 1).isLt; omega⟩ * xh 𝔸 (row t r) (y 1) * silu ((𝔸).z (row t r) (y 1)) := by
  rw [outsAt0_B m c t h0]; frame_out
  try simp (disch := first | rfl | decide) only [↓View.readCov_skip, ↓View.readCov_fill, readCov_all, read_unread_whole]
  exact congrFun (nw_canon (fits m c t) _ (mix_read (fits m c t) _ _) _ []) y

theorem gnw_last (ht : t.val % 32 = 31) (y : S1x512.Idx) : (outsAt0 m c t.val t.isLt).2.2.2.2.2.2.2.2.2.1 y = ∑ R, dm 𝔸 R ⟨512 + (y 1).val, by have : (y 1).val < 512 := (y 1).isLt; omega⟩ * xh 𝔸 R (y 1) * silu ((𝔸).z R (y 1)) :=
  total (fun n hn => (outsAt0 m c n hn).2.2.2.2.2.2.2.2.2.1) (fun R (y : S1x512.Idx) => dm 𝔸 R ⟨512 + (y 1).val, by have : (y 1).val < 512 := (y 1).isLt; omega⟩ * xh 𝔸 R (y 1) * silu ((𝔸).z R (y 1))) (fun t h y => gnw_A m c t h y) (fun t h y => gnw_B m c t h y) t ht y

theorem gwo_A (h0 : t.val % 32 = 0) (y : S1024x1024.Idx) : (outsAt0 m c t.val t.isLt).2.2.2.2.2.2.2.2.2.2 y = 0 + ∑ r : Fin 512, mix 𝔸 (row t r) (y 0) * dy 𝔸 (row t r) (y 1) := by
  rw [outsAt0_A m c t h0]; frame_out
  try simp (disch := first | rfl | decide) only [↓View.readCov_skip, ↓View.readCov_fill, readCov_all, read_unread_whole]
  exact (gwo_pay (fits m c t) _ (mix_read (fits m c t) _ _) _ y).trans (congrArg (· + _) (p6 y))

theorem gwo_B (h0 : ¬t.val % 32 = 0) (y : S1024x1024.Idx) : (outsAt0 m c t.val t.isLt).2.2.2.2.2.2.2.2.2.2 y = (outsAt0 m c (t.val - 1) (prev t.val t.isLt)).2.2.2.2.2.2.2.2.2.2 y + ∑ r : Fin 512, mix 𝔸 (row t r) (y 0) * dy 𝔸 (row t r) (y 1) := by
  rw [outsAt0_B m c t h0]; frame_out
  try simp (disch := first | rfl | decide) only [↓View.readCov_skip, ↓View.readCov_fill, readCov_all, read_unread_whole]
  exact gwo_pay (fits m c t) _ (mix_read (fits m c t) _ _) _ y

theorem gwo_last (ht : t.val % 32 = 31) (y : S1024x1024.Idx) : (outsAt0 m c t.val t.isLt).2.2.2.2.2.2.2.2.2.2 y = ∑ R, mix 𝔸 R (y 0) * dy 𝔸 R (y 1) :=
  total (fun n hn => (outsAt0 m c n hn).2.2.2.2.2.2.2.2.2.2) (fun R (y : S1024x1024.Idx) => mix 𝔸 R (y 0) * dy 𝔸 R (y 1)) (fun t h y => gwo_A m c t h y) (fun t h y => gwo_B m c t h y) t ht y

/-! ## The arrays -/

theorem final12 : (dats m 0 c).arrAt 12 cfg0.N = fun _ => loss 𝔸 := by
  refine (dats m 0 c).arrAt_eq_of_covers 12 _ (by decide +kernel) fun t hf y => ?_
  blk_simp
  rw [after0_12]
  exact loss_last m c t ((flush0_12 t).mp hf) y

theorem final13 : (dats m 0 c).arrAt 13 cfg0.N = fun y => dh 𝔸 (y 0) (y 1) := by
  refine (dats m 0 c).arrAt_eq_of_covers 13 _ (by decide +kernel) fun t hf y => ?_
  blk_simp
  rw [after0_13]
  refine (dh_at m c t y).trans ?_
  exact congrArg₂ (dh 𝔸) (Fin.ext (by simp only [row]; blk_simp [idx t])) (Fin.ext (by blk_simp [idx t]))

theorem final14 : (dats m 0 c).arrAt 14 cfg0.N = fun y => dan 𝔸 (y 0) (y 1) := by
  refine (dats m 0 c).arrAt_eq_of_covers 14 _ (by decide +kernel) fun t hf y => ?_
  blk_simp
  rw [after0_14]
  refine (dan_at m c t y).trans ?_
  exact congrArg₂ (dan 𝔸) (Fin.ext (by simp only [row]; blk_simp [idx t])) (Fin.ext (by blk_simp [idx t]))

theorem final19 : (dats m 0 c).arrAt 19 cfg0.N = fun y => dg 𝔸 (y 1) := by
  refine (dats m 0 c).arrAt_eq_of_covers 19 _ (by decide +kernel) fun t hf y => ?_
  blk_simp
  rw [after0_19]
  refine (dg_last m c t ((flush0_19 t).mp hf) y).trans (congrArg (dg 𝔸) ?_)
  refine Fin.ext ?_
  blk_simp [idx t]

theorem final20 : (dats m 0 c).arrAt 20 cfg0.N = fun y => gfw 𝔸 (y 1) := by
  refine (dats m 0 c).arrAt_eq_of_covers 20 _ (by decide +kernel) fun t hf y => ?_
  blk_simp
  rw [after0_20]
  refine (gfw_last m c t ((flush0_20 t).mp hf) y).trans (congrArg (gfw 𝔸) ?_)
  refine Fin.ext ?_
  blk_simp [idx t]

theorem final21 : (dats m 0 c).arrAt 21 cfg0.N = fun y => gnw 𝔸 (y 1) := by
  refine (dats m 0 c).arrAt_eq_of_covers 21 _ (by decide +kernel) fun t hf y => ?_
  blk_simp
  rw [after0_21]
  refine (gnw_last m c t ((flush0_21 t).mp hf) y).trans (congrArg (gnw 𝔸) ?_)
  refine Fin.ext ?_
  blk_simp [idx t]

theorem final22 : (dats m 0 c).arrAt 22 cfg0.N = fun y => gwo 𝔸 (y 0) (y 1) := by
  refine (dats m 0 c).arrAt_eq_of_covers 22 _ (by decide +kernel) fun t hf y => ?_
  blk_simp
  rw [after0_22]
  refine (gwo_last m c t ((flush0_22 t).mp hf) y).trans (congrArg₂ (gwo 𝔸) ?_ ?_)
  · refine Fin.ext ?_
    blk_simp [idx t]
  · refine Fin.ext ?_
    blk_simp [idx t]

end Cert.Tail

end
-- ==== Proof.TailRef.lean ====
/- The reference's results of the tail read as the tail's mathematics. -/
module

public import proofs.«01_k».proof.Proof.TailMath
public import proofs.«01_k».proof.Proof.Gen.Reference3Ideal.Read

@[expose] public section

set_option maxRecDepth 16384

noncomputable section

set_option maxHeartbeats 800000

namespace Cert.Tail.Ref

open Cert.Reference3Ideal Cert.Reference3Ideal.Gen Cert.Reference3Ideal.Read Idealize.ShloMosaic Idealize.ShloMosaic.TcCoe Idealize.SL.Sem
open Cert.InBwd (rr one_bits)

variable (x0 : (⟨S16384x512, .f32⟩ : BufTy).Contents (Elt Ideal)) (x1 : (⟨S16384x4608, .bf16⟩ : BufTy).Contents (Elt Ideal))
  (x2 x3 : (⟨S16384x512, .f32⟩ : BufTy).Contents (Elt Ideal)) (x4 x5 : (⟨S16384x1024, .f32⟩ : BufTy).Contents (Elt Ideal))
  (x6 : (⟨S1x1024, .f32⟩ : BufTy).Contents (Elt Ideal)) (x7 : (⟨S1x512, .f32⟩ : BufTy).Contents (Elt Ideal))
  (x8 : (⟨S1x1024, .f32⟩ : BufTy).Contents (Elt Ideal)) (x9 : (⟨S1024x1024, .f32⟩ : BufTy).Contents (Elt Ideal))

/-- The reference's arguments by row and column. -/
def args : Args where
  an R j := x0 (ix2 R j)
  nz R j := x1 (ix2 R ⟨1536 + j.val, by omega⟩)
  hf R j := x2 (ix2 R j)
  hb R j := x3 (ix2 R j)
  o R j := x1 (ix2 R ⟨3584 + j.val, by omega⟩)
  z R j := x1 (ix2 R ⟨4096 + j.val, by omega⟩)
  x R k := x4 (ix2 R k)
  tg R k := x5 (ix2 R k)
  g k := x6 (ix2 0 k)
  nw j := x7 (ix2 0 j)
  fw k := x8 (ix2 0 k)
  w j k := x9 (ix2 j k)

local notation "𝔸" => args x0 x1 x2 x3 x4 x5 x6 x7 x8 x9

variable (R : Fin 16384) (k : Fin 1024) (j : Fin 512)

/-- The first half's gate. -/
theorem v7 : val_main_v7_0 (F := Ideal) x1 (ix2 R j) = silu ((𝔸).nz R j) := by
  pointwise [val_main_call0_v0, val_main_call0_v1, val_main_call0_cst, val_main_call0_v2, val_main_call0_v3, val_main_call0_cst_0, val_main_call0_v4, val_main_v7_0, val_main_v7_2, val_main_v1, val_main_v0]
  simp only [args, silu, Ideal.logistic, one_bits]
  try rfl

/-- The second half's gate. -/
theorem v47 : val_main_v47_0 (F := Ideal) x1 (ix2 R j) = silu ((𝔸).z R j) := by
  pointwise [val_main_call1_v0, val_main_call1_v1, val_main_call1_cst, val_main_call1_v2, val_main_call1_v3, val_main_call1_cst_0, val_main_call1_v4, val_main_v47_0, val_main_v47_2, val_main_v5, val_main_v4]
  simp only [args, silu, Ideal.logistic, one_bits]
  try rfl

/-- One head's row before its norm. -/
theorem v20 (h : Fin 4) (i : Fin 128) : val_main_v20 (F := Ideal) x1 x2 x3 (ix3 R h i) = hd 𝔸 R h i := by
  pointwise [val_main_v20, val_main_v19, val_main_v15, val_main_v14, val_main_v13, val_main_v12, val_main_v11, val_main_v10, val_main_v9, val_main_v6, val_main_v3, val_main_v2, val_main_cst, val_main_cst_0]
  simp only [args, hd, col, Ideal.logistic, one_bits, Nat.mul_comm 128]
  try rfl

/-- Its mean. -/
theorem v24 (h : Fin 4) (q : Fin 1) : val_main_v24 (F := Ideal) x1 x2 x3 (ix3 R h q) = mn (hd 𝔸 R h) := by
  pointwise [val_main_v24, val_main_v23, val_main_v22, val_main_v21, val_main_cst_2, val_main_cst_3]
  simp only [v20 x0 x1 x2 x3 x4 x5 x6 x7 x8 x9]
  rfl

/-- The row less its mean. -/
theorem v26 (h : Fin 4) (i : Fin 128) : val_main_v26 (F := Ideal) x1 x2 x3 (ix3 R h i) = cen (hd 𝔸 R h) i := by
  pointwise [val_main_v26, val_main_v25]
  simp only [v20 x0 x1 x2 x3 x4 x5 x6 x7 x8 x9, v24 x0 x1 x2 x3 x4 x5 x6 x7 x8 x9]
  rfl

theorem v35 (h : Fin 4) (i : Fin 128) : val_main_v35 (F := Ideal) x1 x2 x3 (ix3 R h i) = cen (hd 𝔸 R h) i := by
  pointwise [val_main_v35, val_main_v34]
  simp only [v20 x0 x1 x2 x3 x4 x5 x6 x7 x8 x9, v24 x0 x1 x2 x3 x4 x5 x6 x7 x8 x9]
  rfl

/-- The reciprocal root of its variance. -/
theorem v38 (h : Fin 4) (q : Fin 1) : val_main_v38 (F := Ideal) x1 x2 x3 (ix3 R h q) = rs (hd 𝔸 R h) := by
  pointwise [val_main_v38, val_main_v37, val_main_v36, val_main_v33, val_main_v32, val_main_v31, val_main_v30, val_main_v27, val_main_cst_5, val_main_cst_6, val_main_cst_7]
  simp only [v26 x0 x1 x2 x3 x4 x5 x6 x7 x8 x9]
  rfl

/-- The normalised row. -/
theorem v43 (h : Fin 4) (i : Fin 128) : val_main_v43 (F := Ideal) x1 x2 x3 (ix3 R h i) = hx (hd 𝔸 R h) i := by
  pointwise [val_main_v43, val_main_v42]
  simp only [v35 x0 x1 x2 x3 x4 x5 x6 x7 x8 x9, v38 x0 x1 x2 x3 x4 x5 x6 x7 x8 x9]
  rfl

/-- The heads' norm, by column. -/
theorem v44 : val_main_v44 (F := Ideal) x1 x2 x3 (ix2 R j) = xh 𝔸 R j := by
  pointwise [val_main_v44]
  simp only [v43 x0 x1 x2 x3 x4 x5 x6 x7 x8 x9]
  rfl

/-- The two gated halves. -/
theorem v49 : val_main_v49 (F := Ideal) x0 x1 x2 x3 x7 (ix2 R k) = mix 𝔸 R k := by
  pointwise [val_main_v49, val_main_v48, val_main_v46, val_main_v45, val_main_v8]
  unfold mix
  split
  · exact congrArg₂ (· * ·) rfl (v7 x0 x1 x2 x3 x4 x5 x6 x7 x8 x9 R _)
  · exact congrArg₂ (· * ·) (congrArg₂ (· * ·) (v44 x0 x1 x2 x3 x4 x5 x6 x7 x8 x9 R _) rfl) (v47 x0 x1 x2 x3 x4 x5 x6 x7 x8 x9 R _)

/-- The output projection. -/
theorem v50 : val_main_v50 (F := Ideal) x0 x1 x2 x3 x7 x9 (ix2 R k) = yv 𝔸 R k := by
  pointwise [val_main_v50]
  exact Finset.sum_congr rfl fun j _ => congrArg (· * _) (v49 x0 x1 x2 x3 x4 x5 x6 x7 x8 x9 R j)

/-- The residual. -/
theorem v53 : val_main_v53 (F := Ideal) x0 x1 x2 x3 x4 x6 x7 x9 (ix2 R k) = hr 𝔸 R k := by
  pointwise [val_main_v53, val_main_v52, val_main_v51]
  rw [v50 x0 x1 x2 x3 x4 x5 x6 x7 x8 x9]
  rfl

/-- The reciprocal root. -/
theorem v61 (q : Fin 1) : val_main_v61 (F := Ideal) x0 x1 x2 x3 x4 x6 x7 x9 (ix2 R q) = rr (hr 𝔸 R) := by
  pointwise [val_main_v61, val_main_v60, val_main_v59, val_main_v58, val_main_v57, val_main_v56, val_main_v55, val_main_v54, val_main_cst_9, val_main_cst_10, val_main_cst_11]
  simp only [v53 x0 x1 x2 x3 x4 x5 x6 x7 x8 x9]
  rfl

/-- The final norm before its weight. -/
theorem v66 : val_main_v66 (F := Ideal) x0 x1 x2 x3 x4 x6 x7 x9 (ix2 R k) = xf 𝔸 R k := by
  pointwise [val_main_v66, val_main_v65]
  rw [v53 x0 x1 x2 x3 x4 x5 x6 x7 x8 x9, v61 x0 x1 x2 x3 x4 x5 x6 x7 x8 x9]
  rfl

/-- The difference from the target. -/
theorem v69 : val_main_v69 (F := Ideal) x0 x1 x2 x3 x4 x5 x6 x7 x8 x9 (ix2 R k) = er 𝔸 R k := by
  pointwise [val_main_v69, val_main_v68, val_main_v67]
  rw [v66 x0 x1 x2 x3 x4 x5 x6 x7 x8 x9]
  rfl

/-- The loss. -/
theorem v154 (q : Fin 1) (i : Fin 128) : val_main_v154 (F := Ideal) x0 x1 x2 x3 x4 x5 x6 x7 x8 x9 (ix2 q i) = loss 𝔸 := by
  rw [← loss_form]
  pointwise [val_main_v154, val_main_v77, val_main_v76, val_main_v75, val_main_v74, val_main_v73, val_main_v70, val_main_cst_14, val_main_cst_15, val_main_cst_16, val_main_cst_17]
  simp only [v69 x0 x1 x2 x3 x4 x5 x6 x7 x8 x9]

/-- The gradient of the result. -/
theorem v83 : val_main_v83 (F := Ideal) x0 x1 x2 x3 x4 x5 x6 x7 x8 x9 (ix2 R k) = dout 𝔸 R k := by
  rw [← dout_form]
  pointwise [val_main_v83, val_main_v82, val_main_v81, val_main_v80, val_main_v79, val_main_v78, val_main_v72, val_main_v71, val_main_cst_13, val_main_cst_18, val_main_cst_19, val_main_cst_20]
  simp only [v69 x0 x1 x2 x3 x4 x5 x6 x7 x8 x9, one_bits]

/-- The gradient of the final norm's weight. -/
theorem v86 : val_main_v86 (F := Ideal) x0 x1 x2 x3 x4 x5 x6 x7 x8 x9 (ix2 0 k) = gfw 𝔸 k := by
  pointwise [val_main_v86, val_main_v85, val_main_v84, val_main_cst_21]
  exact Finset.sum_congr rfl fun r _ => (congrArg₂ (· * ·) (v66 x0 x1 x2 x3 x4 x5 x6 x7 x8 x9 r k) (v83 x0 x1 x2 x3 x4 x5 x6 x7 x8 x9 r k)).trans (mul_comm _ _)

/-- The gradient of the residual. -/
theorem v102 : val_main_v102 (F := Ideal) x0 x1 x2 x3 x4 x5 x6 x7 x8 x9 (ix2 R k) = dh 𝔸 R k := by
  pointwise [val_main_v102, val_main_v101, val_main_v100, val_main_v99, val_main_v98, val_main_v97, val_main_v96, val_main_v95, val_main_v94, val_main_v93, val_main_v92, val_main_v91, val_main_v90, val_main_v89, val_main_v88, val_main_v87, val_main_v64, val_main_v63, val_main_v62, val_main_v60, val_main_v59, val_main_v58, val_main_v57, val_main_v56, val_main_v55, val_main_v54, val_main_cst_9, val_main_cst_10, val_main_cst_11, val_main_cst_12, val_main_cst_22, val_main_cst_23, val_main_cst_24]
  simp only [v53 x0 x1 x2 x3 x4 x5 x6 x7 x8 x9, v61 x0 x1 x2 x3 x4 x5 x6 x7 x8 x9, v83 x0 x1 x2 x3 x4 x5 x6 x7 x8 x9, Finset.univ_unique, Finset.sum_singleton]
  exact (dh_form 𝔸 R k).symm

/-- The gradient of the projection's result. -/
theorem v104 : val_main_v104 (F := Ideal) x0 x1 x2 x3 x4 x5 x6 x7 x8 x9 (ix2 R k) = dy 𝔸 R k := by
  pointwise [val_main_v104, val_main_v103]
  rw [v102 x0 x1 x2 x3 x4 x5 x6 x7 x8 x9]
  exact mul_comm _ _

/-- The gradient of the gate. -/
theorem v107 : val_main_v107 (F := Ideal) x0 x1 x2 x3 x4 x5 x6 x7 x8 x9 (ix2 0 k) = dg 𝔸 k := by
  pointwise [val_main_v107, val_main_v106, val_main_v105, val_main_cst_25]
  exact Finset.sum_congr rfl fun r _ => congrArg₂ (· * ·) (v102 x0 x1 x2 x3 x4 x5 x6 x7 x8 x9 r k) (v50 x0 x1 x2 x3 x4 x5 x6 x7 x8 x9 r k)

/-- The gradient of the projection's weight. -/
theorem v109 (i : Fin 1024) : val_main_v109 (F := Ideal) x0 x1 x2 x3 x4 x5 x6 x7 x8 x9 (ix2 i k) = gwo 𝔸 i k := by
  pointwise [val_main_v109, val_main_v108]
  exact Finset.sum_congr rfl fun r _ => (congrArg₂ (· * ·) (v104 x0 x1 x2 x3 x4 x5 x6 x7 x8 x9 r k) (v49 x0 x1 x2 x3 x4 x5 x6 x7 x8 x9 r i)).trans (mul_comm _ _)

/-- The gradient of the two halves. -/
theorem v110 : val_main_v110 (F := Ideal) x0 x1 x2 x3 x4 x5 x6 x7 x8 x9 (ix2 R k) = dm 𝔸 R k := by
  pointwise [val_main_v110]
  exact Finset.sum_congr rfl fun l _ => congrArg (· * _) (v104 x0 x1 x2 x3 x4 x5 x6 x7 x8 x9 R l)

/-- The gradient of the first half before its gate. -/
theorem v152 : val_main_v152 (F := Ideal) x0 x1 x2 x3 x4 x5 x6 x7 x8 x9 (ix2 R j) = dan 𝔸 R j := by
  pointwise [val_main_v152, val_main_v111]
  rw [v110 x0 x1 x2 x3 x4 x5 x6 x7 x8 x9, v7 x0 x1 x2 x3 x4 x5 x6 x7 x8 x9]
  rfl

/-- The gradient of the heads' norm weight. -/
theorem v118 : val_main_v118 (F := Ideal) x0 x1 x2 x3 x4 x5 x6 x7 x8 x9 (ix2 0 j) = gnw 𝔸 j := by
  pointwise [val_main_v118, val_main_v117, val_main_v116, val_main_v114, val_main_v112, val_main_cst_26]
  refine Finset.sum_congr rfl fun r _ => ?_
  rw [v44 x0 x1 x2 x3 x4 x5 x6 x7 x8 x9, v110 x0 x1 x2 x3 x4 x5 x6 x7 x8 x9, v47 x0 x1 x2 x3 x4 x5 x6 x7 x8 x9]
  exact (mul_left_comm _ _ _).trans (mul_assoc _ _ _).symm

end Cert.Tail.Ref
-- ==== Proof.TailRefRun.lean ====
/- The reference's run of the tail, its results as the plain functions. -/
module

public import proofs.«01_k».proof.Proof.Gen.Reference3Ideal.Run
public import proofs.«01_k».proof.Proof.TailRef

@[expose] public section

set_option maxRecDepth 16384

noncomputable section

set_option maxHeartbeats 400000

namespace Cert.Tail.Ref

open Cert.Reference3Ideal Cert.Reference3Ideal.Gen Cert.Reference3Ideal.Value Cert.Reference3Ideal.Read Idealize.ShloMosaic Idealize.ShloMosaic.TcCoe Idealize.SL.Sem

variable (m : (ℓ : Loc nD τ sig) → Buf (Elt Ideal) ℓ) (c : Dev nD)

/-- The launched arguments by row and column. -/
def margs : Args := args (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- A row's index is its column. -/
theorem row_idx {n : ℕ} (y : (⟨2, ![1, n]⟩ : Shape).Idx) : y = ix2 0 (y 1) :=
  (eq_ix2 y).trans (congrArg (fun z => ix2 z (y 1)) (Subsingleton.elim (α := Fin 1) _ _))

theorem run (ρ : Dev nD → PrngReg) :
    θ_run defs (onTc (τ := τ) (main (F := Ideal))) ⟨m, fun _ => 0, ρ⟩ fun r => ∀ c : Dev nD,
      r.2.mem ((c.tc : Thread nD τ).loc main_v154) = (fun _y : S1x128.Idx => loss (margs m c))
      ∧ r.2.mem ((c.tc : Thread nD τ).loc main_v102) = (fun y : S16384x1024.Idx => dh (margs m c) (y 0) (y 1))
      ∧ r.2.mem ((c.tc : Thread nD τ).loc main_v152) = (fun y : S16384x512.Idx => dan (margs m c) (y 0) (y 1))
      ∧ r.2.mem ((c.tc : Thread nD τ).loc main_v107) = (fun y : S1x1024.Idx => dg (margs m c) (y 1))
      ∧ r.2.mem ((c.tc : Thread nD τ).loc main_v86) = (fun y : S1x1024.Idx => gfw (margs m c) (y 1))
      ∧ r.2.mem ((c.tc : Thread nD τ).loc main_v118) = (fun y : S1x512.Idx => gnw (margs m c) (y 1))
      ∧ r.2.mem ((c.tc : Thread nD τ).loc main_v109) = (fun y : S1024x1024.Idx => gwo (margs m c) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ?_) (Cert.Reference3Ideal.Value.run m ρ)
  obtain ⟨h154, h102, h152, -, -, -, -, h107, h86, h118, h109, hk⟩ := h c
  refine ⟨h154.trans ?_, h102.trans ?_, h152.trans ?_, h107.trans ?_, h86.trans ?_, h118.trans ?_, h109.trans ?_, hk⟩
  · exact (val_main_v154_eq ..).trans (funext fun y => (congrArg _ (eq_ix2 y)).trans (v154 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (y 0) (y 1)))
  · exact (val_main_v102_eq ..).trans (funext fun y => (congrArg _ (eq_ix2 y)).trans (v102 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (y 0) (y 1)))
  · exact (val_main_v152_eq ..).trans (funext fun y => (congrArg _ (eq_ix2 y)).trans (v152 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (y 0) (y 1)))
  · exact (val_main_v107_eq ..).trans (funext fun y => (congrArg _ (row_idx y)).trans (v107 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (y 1)))
  · exact (val_main_v86_eq ..).trans (funext fun y => (congrArg _ (row_idx y)).trans (v86 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (y 1)))
  · exact (val_main_v118_eq ..).trans (funext fun y => (congrArg _ (row_idx y)).trans (v118 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (y 1)))
  · exact (val_main_v109_eq ..).trans (funext fun y => (congrArg _ (eq_ix2 y)).trans (v109 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (y 1) (y 0)))

end Cert.Tail.Ref

end
-- ==== Proof.Wada.lean ====
/- The gradient of the modulation's weight over the extended reals: what the kernel and the reference leave. -/
module

public import proofs.«01_k».proof.Proof.InPay
public import proofs.«01_k».proof.Proof.Gen.Kernel4Ideal.Value
public import proofs.«01_k».proof.Proof.Gen.Reference4Ideal.Run
public import proofs.«01_k».proof.Proof.Gen.Reference4Ideal.Read

@[expose] public section

set_option maxRecDepth 16384

noncomputable section

namespace Cert.Wada

open Idealize.ShloMosaic Idealize.ShloMosaic.TcCoe Idealize.SL.Sem

/-- The sum over the sequences of the activation times the modulation's cotangent. -/
def grad (a : Fin 8 → Fin 1024 → EReal) (d : Fin 8 → Fin 768 → EReal) (k : Fin 1024) (j : Fin 768) : EReal :=
  ∑ i, a i k * Ideal.logistic (a i k) * d i j

namespace Ker
open Cert.Kernel4Ideal Cert.Kernel4Ideal.Gen

/-- The stored block. -/
theorem pay (a : Vec Ideal S8x1024 .f32) (d : Vec Ideal S8x768 .f32) :
    k0_pay1 (F := Ideal) a d = fun y => grad (fun i k => a (ix2 i k)) (fun i j => d (ix2 i j)) (y 0) (y 1) := by
  funext y
  pointwise [k0_pay1, grad]

end Ker

namespace Ref
open Cert.Reference4Ideal Cert.Reference4Ideal.Gen Cert.Reference4Ideal.Value Cert.Reference4Ideal.Read

/-- The pullback's value. -/
theorem v5 (a : (⟨S8x1024, .f32⟩ : BufTy).Contents (Elt Ideal)) (d : (⟨S8x768, .f32⟩ : BufTy).Contents (Elt Ideal)) :
    val_main_v5 (F := Ideal) a d = fun y => grad (fun i k => a (ix2 i k)) (fun i j => d (ix2 i j)) (y 0) (y 1) := by
  funext y
  pointwise [grad, val_main_v5, val_main_v4, val_main_v0, val_main_call0_v5, val_main_call0_v4, val_main_call0_v3, val_main_call0_v2, val_main_call0_v1, val_main_call0_v0, val_main_call0_cst, val_main_call0_cst_0]
  exact Finset.sum_congr rfl fun i _ => mul_comm _ _

end Ref

end Cert.Wada

end
-- ==== Proof.SmallSum.lean ====
/- The sum over the devices of the loss and of the small gradients: what the kernel and the reference leave. -/
module

public import proofs.«01_k».proof.Proof.InPay
public import proofs.«01_k».proof.Proof.Gen.Kernel5Ideal.Frame
public import proofs.«01_k».proof.Proof.Gen.Reference5Ideal.Run
public import proofs.«01_k».proof.Proof.Gen.Reference5Ideal.Read
public import Idealize.ShloMosaic.Lib.Pipeline.ValueKit
public import Idealize.ShloMosaic.Lib.Pipeline.ReadBack

@[expose] public section

set_option maxRecDepth 16384

noncomputable section

namespace Cert.SmallSum

open Idealize.ShloMosaic Idealize.ShloMosaic.TcCoe Idealize.SL.Sem

namespace Ref
open Cert.Reference5Ideal Cert.Reference5Ideal.Gen Cert.Reference5Ideal.Value Cert.Reference5Ideal.Read

/-- The reference's total. -/
theorem v0 (x : (⟨S8x24x1024, .f32⟩ : BufTy).Contents (Elt Ideal)) :
    Host.reduceAdd (F := Ideal) x (constant S_ .f32 0x00000000#32) reducesTo_S8x24x1024_S24x1024_d0 h_S_
      = fun y : S24x1024.Idx => ∑ d : Fin 8, x (ix3 d (y 0) (y 1)) := by
  funext y
  pointwise

end Ref

namespace Ker
open Cert.Kernel5Ideal Cert.Kernel5Ideal.Gen

variable (m : (ℓ : Loc nD τ sig) → Buf (Elt Ideal) ℓ) (c : Dev nD)

/-- The terms' total. -/
def total : S24x1024.Idx → EReal := fun y => ∑ d : Fin 8, m ((c : Thread nD τ).loc main_arg0) (ix3 d (y 0) (y 1))

/-- The stored block. -/
theorem pay (x : Vec Ideal S8x8x1024 .f32) (y : S8x1024.Idx) :
    out0_1 (F := Ideal) x y = ∑ d : Fin 8, x (ix3 d (y 0) (y 1)) := by
  unfold out0_1
  rw [View.canon_unit_zero (funext fun a => by fin_cases a <;> rfl : (![0, 0] : Fin 2 → Nat) = fun _ => 0)]
  pointwise [k0_pay1, View.ld]
  simp only [Fin.sum_univ_eight]

theorem idx : ∀ t : Fin cfg0.N, win0_0.index t = ![0, t.val, 0] ∧ win0_1.index t = ![t.val, 0] :=
  (by decide +kernel : ∀ t : Fin grid0.N, _)

theorem final1 : (dats m 0 c).arrAt 1 cfg0.N = total m c := by
  refine (dats m 0 c).arrAt_eq_of_covers 1 _ (by decide +kernel) fun t hf y => ?_
  blk_simp
  rw [after0_1]
  refine (pay _ y).trans ?_
  unfold total
  refine Finset.sum_congr rfl fun d _ => ?_
  blk_point [iblk, V, idx t]

/-! ## The parts of the total -/

variable (T : (⟨S24x1024, .f32⟩ : BufTy).Contents (Elt Ideal))

/-- Where the total holds the loss. -/
def loss : (⟨S_, .f32⟩ : BufTy).Contents (Elt Ideal) :=
  shapeCast S_ (extractStridedSlice S1 ![0] (shapeCast S1024 (extractStridedSlice S1x1024 ![21, 0] T slices_S24x1024_S1x1024_21_0) shapeCasts_S1x1024_S1024) slices_S1024_S1_0) shapeCasts_S1_S_

/-- Where the total holds the gradient of the modulation's bias. -/
def bAda : (⟨S1x3072, .f32⟩ : BufTy).Contents (Elt Ideal) :=
  shapeCast S1x3072 (extractStridedSlice S3x1024 ![0, 0] T slices_S24x1024_S3x1024_0_0) shapeCasts_S3x1024_S1x3072

/-- Where the total holds the gradient of the input norm's weight. -/
def normW : (⟨S1x1024, .f32⟩ : BufTy).Contents (Elt Ideal) :=
  extractStridedSlice S1x1024 ![3, 0] T slices_S24x1024_S1x1024_3_0

/-- Where the total holds the gradient of the projection's bias. -/
def bIn : (⟨S1x4624, .f32⟩ : BufTy).Contents (Elt Ideal) :=
  shapeCast S1x4624 (extractStridedSlice S4624 ![0] (shapeCast S5120 (extractStridedSlice S5x1024 ![4, 0] T slices_S24x1024_S5x1024_4_0) shapeCasts_S5x1024_S5120) slices_S5120_S4624_0) shapeCasts_S4624_S1x4624

/-- Where the total holds the gradient of the convolution's weight. -/
def convW : (⟨S5x1024, .f32⟩ : BufTy).Contents (Elt Ideal) :=
  extractStridedSlice S5x1024 ![9, 0] T slices_S24x1024_S5x1024_9_0

/-- Where the total holds the gradient of the convolution's bias. -/
def convB : (⟨S1x1024, .f32⟩ : BufTy).Contents (Elt Ideal) :=
  extractStridedSlice S1x1024 ![14, 0] T slices_S24x1024_S1x1024_14_0

/-- Where the total holds the gradient of the relative position bias. -/
def rpb : (⟨S1x8x15x31, .f32⟩ : BufTy).Contents (Elt Ideal) :=
  shapeCast S1x8x15x31 (extractStridedSlice S3720 ![0] (shapeCast S4096 (extractStridedSlice S4x1024 ![15, 0] T slices_S24x1024_S4x1024_15_0) shapeCasts_S4x1024_S4096) slices_S4096_S3720_0) shapeCasts_S3720_S1x8x15x31

/-- Where the total holds the gradient of the cell norm's weight. -/
def mlNormW : (⟨S1x512, .f32⟩ : BufTy).Contents (Elt Ideal) :=
  extractStridedSlice S1x512 ![19, 0] T slices_S24x1024_S1x512_19_0

/-- Where the total holds the gradient of the final norm's weight. -/
def finalNormW : (⟨S1024, .f32⟩ : BufTy).Contents (Elt Ideal) :=
  shapeCast S1024 (extractStridedSlice S1x1024 ![20, 0] T slices_S24x1024_S1x1024_20_0) shapeCasts_S1x1024_S1024

/-- The region's array before the host lines that follow it. -/
theorem left : Pipeline.withArrays (cfgs 0).spec c (V0 m c) (fun w => (dats m 0 c).arrAt w (cfgs 0).N) (Proc.devRef .tc main_v0) = total m c :=
  (Pipeline.withArrays_arr (cfgs 0).spec launch0.win.arr_inj c _ _ 1).trans (final1 m c)

theorem tail_loss : Pipeline.afterTail₀ cfgs (dats m) 0 (V0 m) [hostOps1] c main_v20 = loss (total m c) := by
  unfold Pipeline.afterTail₀
  simp only [List.flatten_cons, List.flatten_nil, List.append_nil, hostOps1]
  after_results
  rw [left]
  rfl

theorem tail_bAda : Pipeline.afterTail₀ cfgs (dats m) 0 (V0 m) [hostOps1] c main_v2 = bAda (total m c) := by
  unfold Pipeline.afterTail₀
  simp only [List.flatten_cons, List.flatten_nil, List.append_nil, hostOps1]
  after_results
  rw [left]
  rfl

theorem tail_normW : Pipeline.afterTail₀ cfgs (dats m) 0 (V0 m) [hostOps1] c main_v3 = normW (total m c) := by
  unfold Pipeline.afterTail₀
  simp only [List.flatten_cons, List.flatten_nil, List.append_nil, hostOps1]
  after_results
  rw [left]
  rfl

theorem tail_bIn : Pipeline.afterTail₀ cfgs (dats m) 0 (V0 m) [hostOps1] c main_v7 = bIn (total m c) := by
  unfold Pipeline.afterTail₀
  simp only [List.flatten_cons, List.flatten_nil, List.append_nil, hostOps1]
  after_results
  rw [left]
  rfl

theorem tail_convW : Pipeline.afterTail₀ cfgs (dats m) 0 (V0 m) [hostOps1] c main_v8 = convW (total m c) := by
  unfold Pipeline.afterTail₀
  simp only [List.flatten_cons, List.flatten_nil, List.append_nil, hostOps1]
  after_results
  rw [left]
  rfl

theorem tail_convB : Pipeline.afterTail₀ cfgs (dats m) 0 (V0 m) [hostOps1] c main_v9 = convB (total m c) := by
  unfold Pipeline.afterTail₀
  simp only [List.flatten_cons, List.flatten_nil, List.append_nil, hostOps1]
  after_results
  rw [left]
  rfl

theorem tail_rpb : Pipeline.afterTail₀ cfgs (dats m) 0 (V0 m) [hostOps1] c main_v13 = rpb (total m c) := by
  unfold Pipeline.afterTail₀
  simp only [List.flatten_cons, List.flatten_nil, List.append_nil, hostOps1]
  after_results
  rw [left]
  rfl

theorem tail_mlNormW : Pipeline.afterTail₀ cfgs (dats m) 0 (V0 m) [hostOps1] c main_v14 = mlNormW (total m c) := by
  unfold Pipeline.afterTail₀
  simp only [List.flatten_cons, List.flatten_nil, List.append_nil, hostOps1]
  after_results
  rw [left]
  rfl

theorem tail_finalNormW : Pipeline.afterTail₀ cfgs (dats m) 0 (V0 m) [hostOps1] c main_v16 = finalNormW (total m c) := by
  unfold Pipeline.afterTail₀
  simp only [List.flatten_cons, List.flatten_nil, List.append_nil, hostOps1]
  after_results
  rw [left]
  rfl

/-- The run, its results as parts of the total. -/
theorem run (ρ : Dev nD → PrngReg) : θ_run defs (onTc (τ := τ) (main (F := Ideal))) ⟨m, fun _ => 0, ρ⟩ fun r => ∀ c : Dev nD,
      r.2.mem ((c.tc : Thread nD τ).loc main_v20) = loss (total m c)
      ∧ r.2.mem ((c.tc : Thread nD τ).loc main_v2) = bAda (total m c)
      ∧ r.2.mem ((c.tc : Thread nD τ).loc main_v3) = normW (total m c)
      ∧ r.2.mem ((c.tc : Thread nD τ).loc main_v7) = bIn (total m c)
      ∧ r.2.mem ((c.tc : Thread nD τ).loc main_v8) = convW (total m c)
      ∧ r.2.mem ((c.tc : Thread nD τ).loc main_v9) = convB (total m c)
      ∧ r.2.mem ((c.tc : Thread nD τ).loc main_v13) = rpb (total m c)
      ∧ r.2.mem ((c.tc : Thread nD τ).loc main_v14) = mlNormW (total m c)
      ∧ r.2.mem ((c.tc : Thread nD τ).loc main_v16) = finalNormW (total m c)
      ∧ r.2.mem ((c.tc : Thread nD τ).loc main_arg0) = m ((c.tc : Thread nD τ).loc main_arg0) := by
  have h := θ_run_and (run_main m ρ) (unchanged m ρ)
  exact (θ_run defs _ _).mono (fun r h c => ⟨((h.1 c).2 main_v20 (Pipeline.mem_restRefs_of main_v20 (by decide) (by decide))).trans (tail_loss m c),
    ((h.1 c).2 main_v2 (Pipeline.mem_restRefs_of main_v2 (by decide) (by decide))).trans (tail_bAda m c),
    ((h.1 c).2 main_v3 (Pipeline.mem_restRefs_of main_v3 (by decide) (by decide))).trans (tail_normW m c),
    ((h.1 c).2 main_v7 (Pipeline.mem_restRefs_of main_v7 (by decide) (by decide))).trans (tail_bIn m c),
    ((h.1 c).2 main_v8 (Pipeline.mem_restRefs_of main_v8 (by decide) (by decide))).trans (tail_convW m c),
    ((h.1 c).2 main_v9 (Pipeline.mem_restRefs_of main_v9 (by decide) (by decide))).trans (tail_convB m c),
    ((h.1 c).2 main_v13 (Pipeline.mem_restRefs_of main_v13 (by decide) (by decide))).trans (tail_rpb m c),
    ((h.1 c).2 main_v14 (Pipeline.mem_restRefs_of main_v14 (by decide) (by decide))).trans (tail_mlNormW m c),
    ((h.1 c).2 main_v16 (Pipeline.mem_restRefs_of main_v16 (by decide) (by decide))).trans (tail_finalNormW m c),
    h.2 c⟩) h

end Ker

end Cert.SmallSum

end
-- ==== Proof.WinMoments.lean ====
/- The new moments of the projection's weight: what the kernel leaves, its arrays transposed on entry and on exit. -/
module

public import proofs.«01_k».proof.Proof.InPay
public import proofs.«01_k».proof.Proof.Gen.Kernel16Ideal.Frame
public import proofs.«01_k».proof.Proof.Gen.Reference16Ideal.Run
public import proofs.«01_k».proof.Proof.Gen.Reference16Ideal.Read
public import Idealize.ShloMosaic.Lib.Pipeline.ValueKit
public import Idealize.ShloMosaic.Lib.Pipeline.ReadBack

@[expose] public section

set_option maxRecDepth 16384

noncomputable section

namespace Cert.WinMoments

open Idealize.ShloMosaic Idealize.ShloMosaic.TcCoe Idealize.SL.Sem

/-- The new first moment, from the gradient and the old one. -/
def nm (g m : EReal) : EReal := Ideal.ofBits .f32 0x3F666666#32 * m + Ideal.ofBits .f32 0x3DCCCCCD#32 * g

/-- The new second moment, from the gradient and the old one. -/
def nv (g v : EReal) : EReal := Ideal.ofBits .f32 0x3F7FBE77#32 * v + Ideal.ofBits .f32 0x3A83126F#32 * (g * g)

namespace Ref
open Cert.Reference16Ideal Cert.Reference16Ideal.Gen Cert.Reference16Ideal.Value Cert.Reference16Ideal.Read

theorem v5 (g : (⟨S1156x1024, .f32⟩ : BufTy).Contents (Elt Ideal)) (x : (⟨S1024x1156, .f32⟩ : BufTy).Contents (Elt Ideal)) :
    addf (F := Ideal) (mulf (broadcastInDim S1024x1156 ![] bcast_S_S1024x1156 (constant S_ .f32 0x3F666666#32)) x)
      (mulf (broadcastInDim S1024x1156 ![] bcast_S_S1024x1156 (constant S_ .f32 0x3DCCCCCD#32)) (transpose S1024x1156 [1, 0] g transposes_S1156x1024_S1024x1156_1_0))
      = fun y => nm (g (ix2 (y 1) (y 0))) (x y) := by
  funext y
  pointwise [nm]

theorem v11 (g : (⟨S1156x1024, .f32⟩ : BufTy).Contents (Elt Ideal)) (x : (⟨S1024x1156, .f32⟩ : BufTy).Contents (Elt Ideal)) :
    addf (F := Ideal) (mulf (broadcastInDim S1024x1156 ![] bcast_S_S1024x1156 (constant S_ .f32 0x3F7FBE77#32)) x)
      (mulf (broadcastInDim S1024x1156 ![] bcast_S_S1024x1156 (constant S_ .f32 0x3A83126F#32)) (mulf (transpose S1024x1156 [1, 0] g transposes_S1156x1024_S1024x1156_1_0) (transpose S1024x1156 [1, 0] g transposes_S1156x1024_S1024x1156_1_0)))
      = fun y => nv (g (ix2 (y 1) (y 0))) (x y) := by
  funext y
  pointwise [nv]

end Ref

namespace Ker
open Cert.Kernel16Ideal Cert.Kernel16Ideal.Gen

variable (m : (ℓ : Loc nD τ sig) → Buf (Elt Ideal) ℓ) (c : Dev nD)

/-- The gradient, transposed, the old first moment and the old second moment as the program takes them. -/
abbrev aG : S1156x1024.Idx → EReal := m ((c.tc : Thread nD τ).loc main_arg1)
abbrev aM : S1024x1156.Idx → EReal := m ((c.tc : Thread nD τ).loc main_arg2)
abbrev aV : S1024x1156.Idx → EReal := m ((c.tc : Thread nD τ).loc main_arg3)

/-- The stored blocks. -/
theorem pay5 (x0 x1 x2 x3 : Vec Ideal S1156x128 .f32) (y : S1156x128.Idx) : out0_5 (F := Ideal) x0 x1 x2 x3 y = nm (x1 y) (x2 y) := by
  unfold out0_5
  rw [View.canon_unit_zero (funext fun a => by fin_cases a <;> rfl : (![0, 0] : Fin 2 → Nat) = fun _ => 0)]
  pointwise [k0_pay1, View.ld, nm]

theorem pay6 (x0 x1 x2 x3 : Vec Ideal S1156x128 .f32) (y : S1156x128.Idx) : out0_6 (F := Ideal) x0 x1 x2 x3 y = nv (x1 y) (x3 y) := by
  unfold out0_6
  rw [View.canon_unit_zero (funext fun a => by fin_cases a <;> rfl : (![0, 0] : Fin 2 → Nat) = fun _ => 0)]
  pointwise [k0_pay2, View.ld, nv]

theorem idx : ∀ t : Fin cfg0.N, win0_1.index t = ![0, t.val] ∧ win0_2.index t = ![0, t.val] ∧ win0_3.index t = ![0, t.val]
    ∧ win0_5.index t = ![0, t.val] ∧ win0_6.index t = ![0, t.val] :=
  (by decide +kernel : ∀ t : Fin grid0.N, _)

/-- The arrays the region finds. -/
theorem V1 (y : S1156x1024.Idx) : V m c main_v1 y = aM m c (ix2 (y 1) (y 0)) := by
  have h : V m c main_v1 = transpose S1156x1024 [1, 0] (aM m c) transposes_S1024x1156_S1156x1024_1_0 := by
    show V0 m c (Proc.devRef .tc main_v1) = _
    unfold V0
    simp only [hostOps0, List.flatten_cons, List.flatten_nil, List.append_nil]
    after_results
  rw [h]
  pointwise

theorem V2 (y : S1156x1024.Idx) : V m c main_v2 y = aV m c (ix2 (y 1) (y 0)) := by
  have h : V m c main_v2 = transpose S1156x1024 [1, 0] (aV m c) transposes_S1024x1156_S1156x1024_1_0 := by
    show V0 m c (Proc.devRef .tc main_v2) = _
    unfold V0
    simp only [hostOps0, List.flatten_cons, List.flatten_nil, List.append_nil]
    after_results
  rw [h]
  pointwise

/-- The transposed moments the region leaves. -/
def mT : S1156x1024.Idx → EReal := fun y => nm (aG m c y) (V m c main_v1 y)
def vT : S1156x1024.Idx → EReal := fun y => nv (aG m c y) (V m c main_v2 y)

theorem final5 : (dats m 0 c).arrAt 5 cfg0.N = mT m c := by
  refine (dats m 0 c).arrAt_eq_of_covers 5 _ (by decide +kernel) fun t hf y => ?_
  blk_simp
  rw [after0_5]
  refine (pay5 _ _ _ _ y).trans ?_
  unfold mT
  refine congrArg₂ nm ?_ ?_
  · refine Eq.trans ?_ (congrFun (V_main_arg1 m c) _)
    blk_point [iblk, idx t]
  · blk_point [iblk, idx t]

theorem final6 : (dats m 0 c).arrAt 6 cfg0.N = vT m c := by
  refine (dats m 0 c).arrAt_eq_of_covers 6 _ (by decide +kernel) fun t hf y => ?_
  blk_simp
  rw [after0_6]
  refine (pay6 _ _ _ _ y).trans ?_
  unfold vT
  refine congrArg₂ nv ?_ ?_
  · refine Eq.trans ?_ (congrFun (V_main_arg1 m c) _)
    blk_point [iblk, idx t]
  · blk_point [iblk, idx t]

/-- The results: the moments, entry by entry. -/
def resM : (⟨S1024x1156, .f32⟩ : BufTy).Contents (Elt Ideal) := fun y => nm (aG m c (ix2 (y 1) (y 0))) (aM m c y)
def resV : (⟨S1024x1156, .f32⟩ : BufTy).Contents (Elt Ideal) := fun y => nv (aG m c (ix2 (y 1) (y 0))) (aV m c y)

/-- The region's arrays before the host lines that follow it. -/
theorem left5 : Pipeline.withArrays (cfgs 0).spec c (V0 m c) (fun w => (dats m 0 c).arrAt w (cfgs 0).N) (Proc.devRef .tc main_v3_1) = mT m c :=
  (Pipeline.withArrays_arr (cfgs 0).spec launch0.win.arr_inj c _ _ 5).trans (final5 m c)

theorem left6 : Pipeline.withArrays (cfgs 0).spec c (V0 m c) (fun w => (dats m 0 c).arrAt w (cfgs 0).N) (Proc.devRef .tc main_v3_2) = vT m c :=
  (Pipeline.withArrays_arr (cfgs 0).spec launch0.win.arr_inj c _ _ 6).trans (final6 m c)

theorem tail4 : Pipeline.afterTail₀ cfgs (dats m) 0 (V0 m) [hostOps1] c main_v4 = resM m c := by
  unfold Pipeline.afterTail₀
  simp only [List.flatten_cons, List.flatten_nil, List.append_nil, hostOps1]
  after_results
  rw [left5]
  funext y
  pointwise [mT, resM]
  exact congrArg (nm _) ((V1 m c _).trans (congrArg (aM m c) (funext fun a => by fin_cases a <;> rfl)))

theorem tail5 : Pipeline.afterTail₀ cfgs (dats m) 0 (V0 m) [hostOps1] c main_v5 = resV m c := by
  unfold Pipeline.afterTail₀
  simp only [List.flatten_cons, List.flatten_nil, List.append_nil, hostOps1]
  after_results
  rw [left6]
  funext y
  pointwise [vT, resV]
  exact congrArg (nv _) ((V2 m c _).trans (congrArg (aV m c) (funext fun a => by fin_cases a <;> rfl)))

/-- The run, its results named. -/
theorem run (ρ : Dev nD → PrngReg) : θ_run defs (onTc (τ := τ) (main (F := Ideal))) ⟨m, fun _ => 0, ρ⟩ fun r => ∀ c : Dev nD,
      r.2.mem ((c.tc : Thread nD τ).loc main_v4) = resM m c
      ∧ r.2.mem ((c.tc : Thread nD τ).loc main_v5) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have h := θ_run_and (run_main m ρ) (unchanged m ρ)
  exact (θ_run defs _ _).mono (fun r h c => ⟨((h.1 c).2 main_v4 (Pipeline.mem_restRefs_of main_v4 (by decide) (by decide))).trans (tail4 m c),
    ((h.1 c).2 main_v5 (Pipeline.mem_restRefs_of main_v5 (by decide) (by decide))).trans (tail5 m c), h.2 c⟩) h

end Ker

end Cert.WinMoments

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel3Ideal.Value
public import proofs.«01_k».proof.Proof.InKer
public import proofs.«01_k».proof.Proof.InRefRun
public import proofs.«01_k».proof.Proof.ProjKer
public import proofs.«01_k».proof.Proof.ProjRef
public import proofs.«01_k».proof.Proof.GwKer
public import proofs.«01_k».proof.Proof.TailKer
public import proofs.«01_k».proof.Proof.TailRefRun
public import proofs.«01_k».proof.On_all_but_gate_inputs
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Reference16Ideal.Read
public import proofs.«01_k».proof.Proof.Wada
public import proofs.«01_k».proof.Proof.SmallSum
public import proofs.«01_k».proof.Proof.WinMoments
public import Idealize.ShloMosaic.Adequacy
public import Idealize.ShloMosaic.Init

@[expose] public section

set_option maxRecDepth 16384
set_option maxHeartbeats 1000000

noncomputable section

namespace Cert.Proof

open Idealize.ShloMosaic Idealize.ShloMosaic.TcCoe Idealize.SL.Sem

/-- The backward pass of the input projection. -/
theorem in_bwd : algebraic_KernelIdeal_ReferenceIdeal (hKernelIdeal := Cert.KernelIdeal.Gen.facts)
    (hReferenceIdeal := Cert.ReferenceIdeal.Gen.facts) := by
  intro m g m' g' _ hm
  have hA : ∀ c, Cert.InBwd.Ref.margs m' c = Cert.InBwd.args m c := fun c => by
    obtain ⟨h0, h1, h2, h3, h4, h5, h6, h7, h8, h9, h10, h11, h12, h13, h14⟩ := hm c
    unfold Cert.InBwd.Ref.margs
    rw [h0, h1, h2, h3, h4, h5, h6, h7, h8, h9, h10, h11, h12, h13, h14]
    rfl
  refine ⟨fun c y => Cert.InBwd.gx (Cert.InBwd.args m c) (y 0) (y 1), fun c y => Cert.InBwd.gw (Cert.InBwd.args m c) (y 0).val (y 1),
    fun c y => Cert.InBwd.gb (Cert.InBwd.args m c) (y 1).val, fun c y => Cert.InBwd.dsc (Cert.InBwd.args m c) (y 1),
    fun c y => Cert.InBwd.dsh (Cert.InBwd.args m c) (y 1), fun c y => Cert.InBwd.gnw (Cert.InBwd.args m c) (y 1), ?_, ?_⟩
  · refine (θ_run _ _ _).mono (fun r h c => ?_) (Cert.InBwd.Gw.run m g)
    obtain ⟨h14, hgw, h15, h16, h17, h18, hk⟩ := h c
    exact ⟨(h14.trans (Cert.InBwd.final14 m c)), hgw,
      (h15.trans (Cert.InBwd.final15 m c)), (h16.trans (Cert.InBwd.final16 m c)),
      (h17.trans (Cert.InBwd.final17 m c)), (h18.trans (Cert.InBwd.final18 m c)), hk⟩
  · refine (θ_run _ _ _).mono (fun r h c => ?_) (Cert.InBwd.Ref.run m' g')
    obtain ⟨h65, h67, h68, h43, h40, h48, hk⟩ := h c
    rw [hA c] at h65 h67 h68 h43 h40 h48
    exact ⟨(h65), (h67), (h68), (h43), (h40), (h48), hk⟩

theorem frame_ref : quiescent_ReferenceIdeal (hReferenceIdeal := Cert.ReferenceIdeal.Gen.facts) := fun m ρ _ =>
  (θ_run _ _ _).mono (fun r h => ⟨fun c => (h c).2.2.2.2.2.2, sem_eq_zero_of_no_sems (by decide) r.2⟩) (Cert.InBwd.Ref.run m ρ)

/-- The input projection. -/
theorem in_proj : algebraic_Kernel2Ideal_Reference2Ideal (hKernel2Ideal := Cert.Kernel2Ideal.Gen.facts)
    (hReference2Ideal := Cert.Reference2Ideal.Gen.facts) := by
  intro m g m' g' _ hm
  have hA : ∀ c, Cert.InProj.Ref.margs m' c = Cert.InProj.args m c := fun c => by
    obtain ⟨h0, h1, h2, h3, h4, h5⟩ := hm c
    unfold Cert.InProj.Ref.margs
    rw [h0, h1, h2, h3, h4, h5]
    rfl
  refine ⟨fun c y => Cert.InProj.pj (Cert.InProj.args m c) (y 0) (y 1).val, fun c y => Cert.InProj.pj (Cert.InProj.args m c) (y 0) (4608 + (y 1).val),
    Cert.InProj.run m g, ?_⟩
  refine (θ_run _ _ _).mono (fun r h c => ?_) (Cert.InProj.Ref.run m' g')
  obtain ⟨h24, h22, hk⟩ := h c
  rw [hA c] at h24 h22
  exact ⟨h24, h22, hk⟩

theorem frame_ref2 : quiescent_Reference2Ideal (hReference2Ideal := Cert.Reference2Ideal.Gen.facts) := fun m ρ _ =>
  (θ_run _ _ _).mono (fun r h => ⟨fun c => (h c).2.2, sem_eq_zero_of_no_sems (by decide) r.2⟩) (Cert.InProj.Ref.run m ρ)

/-- The projection's two programs have one text: their body tables are equal. -/
theorem defs2 : Cert.Kernel2Ideal.defs (F := Bits) = Cert.Kernel2.defs (F := Bits) := by
  refine congrArg (Pipeline.defs _) ?_
  refine congrArg Defs.onTc (funext fun l => funext fun x => ?_)
  match l, x with
  | 0, (t, s) => rfl

theorem frame_kernel2 : quiescent_Kernel2 (hKernel2 := Cert.Kernel2.Gen.facts) := fun m ρ _ => by
  have h := Cert.InProj.frame (F := Bits) m ρ
  rw [defs2] at h
  exact h

theorem onFacts3 : Cert.On_all_but_gate_inputs.Facts where
  bcast_S_S1x1024 := by decide
  bcast_S_S1x128 := by decide
  bcast_S_S16384x1024 := by decide
  bcast_S_S16384x512 := by decide
  bcast_S_S1x512 := by decide
  bcast_S_S1024x1024 := by decide

/-- The loss and the gradients of the step's last part. -/
theorem tail : algebraic_Kernel3Ideal_Reference3Ideal_on_all_but_gate_inputs (hKernel3Ideal := Cert.Kernel3Ideal.Gen.facts)
    (hReference3Ideal := Cert.Reference3Ideal.Gen.facts) (hOn_all_but_gate_inputs := onFacts3) := by
  intro m g m' g' _ hm
  have hA : ∀ c, Cert.Tail.Ref.margs m' c = Cert.Tail.args m c := fun c => by
    obtain ⟨h0, h1, h2, h3, h4, h5, h6, h7, h8, h9⟩ := hm c
    unfold Cert.Tail.Ref.margs
    rw [h0, h1, h2, h3, h4, h5, h6, h7, h8, h9]
    rfl
  refine ⟨fun c _ => Cert.Tail.loss (Cert.Tail.args m c), fun c y => Cert.Tail.dh (Cert.Tail.args m c) (y 0) (y 1),
    fun c y => Cert.Tail.dan (Cert.Tail.args m c) (y 0) (y 1), fun c _ => (0 : EReal), fun c _ => (0 : EReal), fun c _ => (0 : EReal),
    fun c _ => (0 : EReal), fun c y => Cert.Tail.dg (Cert.Tail.args m c) (y 1), fun c y => Cert.Tail.gfw (Cert.Tail.args m c) (y 1),
    fun c y => Cert.Tail.gnw (Cert.Tail.args m c) (y 1), fun c y => Cert.Tail.gwo (Cert.Tail.args m c) (y 0) (y 1), ?_, ?_⟩
  · refine (θ_run _ _ _).mono (fun r h c => ?_) (Cert.Kernel3Ideal.Value.run_blocks m g)
    obtain ⟨h12, h13, h14, -, -, -, -, h19, h20, h21, h22, hk⟩ := h c
    exact ⟨fun i _ => congrFun (h12.trans (Cert.Tail.final12 m c)) i, fun i _ => congrFun (h13.trans (Cert.Tail.final13 m c)) i, fun i _ => congrFun (h14.trans (Cert.Tail.final14 m c)) i, fun i hi => absurd hi (by show ¬(0#1 = 1#1); decide), fun i hi => absurd hi (by show ¬(0#1 = 1#1); decide), fun i hi => absurd hi (by show ¬(0#1 = 1#1); decide), fun i hi => absurd hi (by show ¬(0#1 = 1#1); decide), fun i _ => congrFun (h19.trans (Cert.Tail.final19 m c)) i, fun i _ => congrFun (h20.trans (Cert.Tail.final20 m c)) i, fun i _ => congrFun (h21.trans (Cert.Tail.final21 m c)) i, fun i _ => congrFun (h22.trans (Cert.Tail.final22 m c)) i, hk⟩
  · refine (θ_run _ _ _).mono (fun r h c => ?_) (Cert.Tail.Ref.run m' g')
    obtain ⟨h154, h102, h152, h107, h86, h118, h109, hk⟩ := h c
    rw [hA c] at h154 h102 h152 h107 h86 h118 h109
    exact ⟨fun i _ => congrFun (h154) i, fun i _ => congrFun (h102) i, fun i _ => congrFun (h152) i, fun i hi => absurd hi (by show ¬(0#1 = 1#1); decide), fun i hi => absurd hi (by show ¬(0#1 = 1#1); decide), fun i hi => absurd hi (by show ¬(0#1 = 1#1); decide), fun i hi => absurd hi (by show ¬(0#1 = 1#1); decide), fun i _ => congrFun (h107) i, fun i _ => congrFun (h86) i, fun i _ => congrFun (h118) i, fun i _ => congrFun (h109) i, hk⟩

theorem frame_ref3 : quiescent_Reference3Ideal (hReference3Ideal := Cert.Reference3Ideal.Gen.facts) := fun m ρ _ =>
  (θ_run _ _ _).mono (fun r h => ⟨fun c => (h c).2.2.2.2.2.2.2, sem_eq_zero_of_no_sems (by decide) r.2⟩) (Cert.Tail.Ref.run m ρ)

/-- The gradient of the modulation's weight. -/
theorem w_ada_grad : algebraic_Kernel4Ideal_Reference4Ideal (hKernel4Ideal := Cert.Kernel4Ideal.Gen.facts)
    (hReference4Ideal := Cert.Reference4Ideal.Gen.facts) := by
  intro m g m' g' _ hm
  refine ⟨fun c => Cert.Kernel4Ideal.Value.G2 (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg3)), Cert.Kernel4Ideal.Value.run m g, ?_⟩
  refine (θ_run _ _ _).mono (fun r h c => ⟨(h c).1.trans ?_, (h c).2⟩) (Cert.Reference4Ideal.Value.run m' g')
  obtain ⟨h0, -, -, h3⟩ := hm c
  rw [h0, h3]
  exact (Cert.Reference4Ideal.Read.val_main_v5_eq ..).trans ((Cert.Wada.Ref.v5 _ _).trans (Cert.Wada.Ker.pay _ _).symm)

theorem frame_ref4 : quiescent_Reference4Ideal (hReference4Ideal := Cert.Reference4Ideal.Gen.facts) := fun m ρ _ =>
  (θ_run _ _ _).mono (fun r h => ⟨fun c => (h c).2, sem_eq_zero_of_no_sems (by decide) r.2⟩) (Cert.Reference4Ideal.Value.run m ρ)

/-- The sum over the devices of the loss and of the small gradients. -/
theorem small_sum : algebraic_Kernel5Ideal_Reference5Ideal (hKernel5Ideal := Cert.Kernel5Ideal.Gen.facts)
    (hReference5Ideal := Cert.Reference5Ideal.Gen.facts) := by
  intro m g m' g' _ hm
  refine ⟨fun c => Cert.SmallSum.Ker.loss (Cert.SmallSum.Ker.total m c), fun c => Cert.SmallSum.Ker.bAda (Cert.SmallSum.Ker.total m c),
    fun c => Cert.SmallSum.Ker.normW (Cert.SmallSum.Ker.total m c), fun c => Cert.SmallSum.Ker.bIn (Cert.SmallSum.Ker.total m c),
    fun c => Cert.SmallSum.Ker.convW (Cert.SmallSum.Ker.total m c), fun c => Cert.SmallSum.Ker.convB (Cert.SmallSum.Ker.total m c),
    fun c => Cert.SmallSum.Ker.rpb (Cert.SmallSum.Ker.total m c), fun c => Cert.SmallSum.Ker.mlNormW (Cert.SmallSum.Ker.total m c),
    fun c => Cert.SmallSum.Ker.finalNormW (Cert.SmallSum.Ker.total m c), Cert.SmallSum.Ker.run m g, ?_⟩
  refine (θ_run _ _ _).mono (fun r h c => ?_) (Cert.Reference5Ideal.Value.run m' g')
  obtain ⟨h0, h1, h2, h3, h4, h5, h6, h7, h8, hk⟩ := h c
  have hT := (Cert.SmallSum.Ref.v0 (m' ((c.tc : Thread Cert.Reference5Ideal.nD Cert.Reference5Ideal.τ).loc Cert.Reference5Ideal.main_arg0)))
  rw [hm c] at hT
  rw [hm c, hT] at h0 h1 h2 h3 h4 h5 h6 h7 h8
  exact ⟨h0, h1, h2, h3, h4, h5, h6, h7, h8, hk⟩

theorem frame_ref5 : quiescent_Reference5Ideal (hReference5Ideal := Cert.Reference5Ideal.Gen.facts) := fun m ρ _ =>
  (θ_run _ _ _).mono (fun r h => ⟨fun c => (h c).2.2.2.2.2.2.2.2.2, sem_eq_zero_of_no_sems (by decide) r.2⟩) (Cert.Reference5Ideal.Value.run m ρ)

theorem moments6 : algebraic_Kernel6Ideal_Reference6Ideal (hKernel6Ideal := Cert.Kernel6Ideal.Gen.facts)
    (hReference6Ideal := Cert.Reference6Ideal.Gen.facts) := by
  intro m g m' g' _ hm
  refine ⟨fun c => Cert.Kernel6Ideal.Value.G5 (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)),
    fun c => Cert.Kernel6Ideal.Value.G6 (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg3)),
    (θ_run _ _ _).mono (fun r h c => (h c).2) (Cert.Kernel6Ideal.Value.run m g), ?_⟩
  refine (θ_run _ _ _).mono (fun r h c => ?_) (Cert.Reference6Ideal.Value.run m' g')
  obtain ⟨h4, h10, hk⟩ := h c
  obtain ⟨-, h1, h2, h3⟩ := hm c
  rw [h1, h2] at h4
  rw [h1, h3] at h10
  exact ⟨h4, h10, hk⟩

theorem frame_ref6 : quiescent_Reference6Ideal (hReference6Ideal := Cert.Reference6Ideal.Gen.facts) := fun m ρ _ =>
  (θ_run _ _ _).mono (fun r h => ⟨fun c => (h c).2.2, sem_eq_zero_of_no_sems (by decide) r.2⟩) (Cert.Reference6Ideal.Value.run m ρ)

theorem moments7 : algebraic_Kernel7Ideal_Reference7Ideal (hKernel7Ideal := Cert.Kernel7Ideal.Gen.facts)
    (hReference7Ideal := Cert.Reference7Ideal.Gen.facts) := by
  intro m g m' g' _ hm
  refine ⟨fun c => Cert.Kernel7Ideal.Value.G5 (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)),
    fun c => Cert.Kernel7Ideal.Value.G6 (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg3)),
    (θ_run _ _ _).mono (fun r h c => (h c).2) (Cert.Kernel7Ideal.Value.run m g), ?_⟩
  refine (θ_run _ _ _).mono (fun r h c => ?_) (Cert.Reference7Ideal.Value.run m' g')
  obtain ⟨h4, h10, hk⟩ := h c
  obtain ⟨-, h1, h2, h3⟩ := hm c
  rw [h1, h2] at h4
  rw [h1, h3] at h10
  exact ⟨h4, h10, hk⟩

theorem frame_ref7 : quiescent_Reference7Ideal (hReference7Ideal := Cert.Reference7Ideal.Gen.facts) := fun m ρ _ =>
  (θ_run _ _ _).mono (fun r h => ⟨fun c => (h c).2.2, sem_eq_zero_of_no_sems (by decide) r.2⟩) (Cert.Reference7Ideal.Value.run m ρ)

theorem moments8 : algebraic_Kernel8Ideal_Reference8Ideal (hKernel8Ideal := Cert.Kernel8Ideal.Gen.facts)
    (hReference8Ideal := Cert.Reference8Ideal.Gen.facts) := by
  intro m g m' g' _ hm
  refine ⟨fun c => Cert.Kernel8Ideal.Value.G5 (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)),
    fun c => Cert.Kernel8Ideal.Value.G6 (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg3)),
    (θ_run _ _ _).mono (fun r h c => (h c).2) (Cert.Kernel8Ideal.Value.run m g), ?_⟩
  refine (θ_run _ _ _).mono (fun r h c => ?_) (Cert.Reference8Ideal.Value.run m' g')
  obtain ⟨h4, h10, hk⟩ := h c
  obtain ⟨-, h1, h2, h3⟩ := hm c
  rw [h1, h2] at h4
  rw [h1, h3] at h10
  exact ⟨h4, h10, hk⟩

theorem frame_ref8 : quiescent_Reference8Ideal (hReference8Ideal := Cert.Reference8Ideal.Gen.facts) := fun m ρ _ =>
  (θ_run _ _ _).mono (fun r h => ⟨fun c => (h c).2.2, sem_eq_zero_of_no_sems (by decide) r.2⟩) (Cert.Reference8Ideal.Value.run m ρ)

theorem moments9 : algebraic_Kernel9Ideal_Reference9Ideal (hKernel9Ideal := Cert.Kernel9Ideal.Gen.facts)
    (hReference9Ideal := Cert.Reference9Ideal.Gen.facts) := by
  intro m g m' g' _ hm
  refine ⟨fun c => Cert.Kernel9Ideal.Value.G5 (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)),
    fun c => Cert.Kernel9Ideal.Value.G6 (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg3)),
    (θ_run _ _ _).mono (fun r h c => (h c).2) (Cert.Kernel9Ideal.Value.run m g), ?_⟩
  refine (θ_run _ _ _).mono (fun r h c => ?_) (Cert.Reference9Ideal.Value.run m' g')
  obtain ⟨h4, h10, hk⟩ := h c
  obtain ⟨-, h1, h2, h3⟩ := hm c
  rw [h1, h2] at h4
  rw [h1, h3] at h10
  exact ⟨h4, h10, hk⟩

theorem frame_ref9 : quiescent_Reference9Ideal (hReference9Ideal := Cert.Reference9Ideal.Gen.facts) := fun m ρ _ =>
  (θ_run _ _ _).mono (fun r h => ⟨fun c => (h c).2.2, sem_eq_zero_of_no_sems (by decide) r.2⟩) (Cert.Reference9Ideal.Value.run m ρ)

theorem moments10 : algebraic_Kernel10Ideal_Reference10Ideal (hKernel10Ideal := Cert.Kernel10Ideal.Gen.facts)
    (hReference10Ideal := Cert.Reference10Ideal.Gen.facts) := by
  intro m g m' g' _ hm
  refine ⟨fun c => Cert.Kernel10Ideal.Value.G5 (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)),
    fun c => Cert.Kernel10Ideal.Value.G6 (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg3)),
    (θ_run _ _ _).mono (fun r h c => (h c).2) (Cert.Kernel10Ideal.Value.run m g), ?_⟩
  refine (θ_run _ _ _).mono (fun r h c => ?_) (Cert.Reference10Ideal.Value.run m' g')
  obtain ⟨h4, h10, hk⟩ := h c
  obtain ⟨-, h1, h2, h3⟩ := hm c
  rw [h1, h2] at h4
  rw [h1, h3] at h10
  exact ⟨h4, h10, hk⟩

theorem frame_ref10 : quiescent_Reference10Ideal (hReference10Ideal := Cert.Reference10Ideal.Gen.facts) := fun m ρ _ =>
  (θ_run _ _ _).mono (fun r h => ⟨fun c => (h c).2.2, sem_eq_zero_of_no_sems (by decide) r.2⟩) (Cert.Reference10Ideal.Value.run m ρ)

theorem moments11 : algebraic_Kernel11Ideal_Reference11Ideal (hKernel11Ideal := Cert.Kernel11Ideal.Gen.facts)
    (hReference11Ideal := Cert.Reference11Ideal.Gen.facts) := by
  intro m g m' g' _ hm
  refine ⟨fun c => Cert.Kernel11Ideal.Value.G5 (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)),
    fun c => Cert.Kernel11Ideal.Value.G6 (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg3)),
    (θ_run _ _ _).mono (fun r h c => (h c).2) (Cert.Kernel11Ideal.Value.run m g), ?_⟩
  refine (θ_run _ _ _).mono (fun r h c => ?_) (Cert.Reference11Ideal.Value.run m' g')
  obtain ⟨h4, h10, hk⟩ := h c
  obtain ⟨-, h1, h2, h3⟩ := hm c
  rw [h1, h2] at h4
  rw [h1, h3] at h10
  exact ⟨h4, h10, hk⟩

theorem frame_ref11 : quiescent_Reference11Ideal (hReference11Ideal := Cert.Reference11Ideal.Gen.facts) := fun m ρ _ =>
  (θ_run _ _ _).mono (fun r h => ⟨fun c => (h c).2.2, sem_eq_zero_of_no_sems (by decide) r.2⟩) (Cert.Reference11Ideal.Value.run m ρ)

theorem moments12 : algebraic_Kernel12Ideal_Reference12Ideal (hKernel12Ideal := Cert.Kernel12Ideal.Gen.facts)
    (hReference12Ideal := Cert.Reference12Ideal.Gen.facts) := by
  intro m g m' g' _ hm
  refine ⟨fun c => Cert.Kernel12Ideal.Value.G5 (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)),
    fun c => Cert.Kernel12Ideal.Value.G6 (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg3)),
    (θ_run _ _ _).mono (fun r h c => (h c).2) (Cert.Kernel12Ideal.Value.run m g), ?_⟩
  refine (θ_run _ _ _).mono (fun r h c => ?_) (Cert.Reference12Ideal.Value.run m' g')
  obtain ⟨h4, h10, hk⟩ := h c
  obtain ⟨-, h1, h2, h3⟩ := hm c
  rw [h1, h2] at h4
  rw [h1, h3] at h10
  exact ⟨h4, h10, hk⟩

theorem frame_ref12 : quiescent_Reference12Ideal (hReference12Ideal := Cert.Reference12Ideal.Gen.facts) := fun m ρ _ =>
  (θ_run _ _ _).mono (fun r h => ⟨fun c => (h c).2.2, sem_eq_zero_of_no_sems (by decide) r.2⟩) (Cert.Reference12Ideal.Value.run m ρ)

theorem moments13 : algebraic_Kernel13Ideal_Reference13Ideal (hKernel13Ideal := Cert.Kernel13Ideal.Gen.facts)
    (hReference13Ideal := Cert.Reference13Ideal.Gen.facts) := by
  intro m g m' g' _ hm
  refine ⟨fun c => Cert.Kernel13Ideal.Value.G5 (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)),
    fun c => Cert.Kernel13Ideal.Value.G6 (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg3)),
    (θ_run _ _ _).mono (fun r h c => (h c).2) (Cert.Kernel13Ideal.Value.run m g), ?_⟩
  refine (θ_run _ _ _).mono (fun r h c => ?_) (Cert.Reference13Ideal.Value.run m' g')
  obtain ⟨h4, h10, hk⟩ := h c
  obtain ⟨-, h1, h2, h3⟩ := hm c
  rw [h1, h2] at h4
  rw [h1, h3] at h10
  exact ⟨h4, h10, hk⟩

theorem frame_ref13 : quiescent_Reference13Ideal (hReference13Ideal := Cert.Reference13Ideal.Gen.facts) := fun m ρ _ =>
  (θ_run _ _ _).mono (fun r h => ⟨fun c => (h c).2.2, sem_eq_zero_of_no_sems (by decide) r.2⟩) (Cert.Reference13Ideal.Value.run m ρ)

theorem moments14 : algebraic_Kernel14Ideal_Reference14Ideal (hKernel14Ideal := Cert.Kernel14Ideal.Gen.facts)
    (hReference14Ideal := Cert.Reference14Ideal.Gen.facts) := by
  intro m g m' g' _ hm
  refine ⟨fun c => Cert.Kernel14Ideal.Value.G5 (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)),
    fun c => Cert.Kernel14Ideal.Value.G6 (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg3)),
    (θ_run _ _ _).mono (fun r h c => (h c).2) (Cert.Kernel14Ideal.Value.run m g), ?_⟩
  refine (θ_run _ _ _).mono (fun r h c => ?_) (Cert.Reference14Ideal.Value.run m' g')
  obtain ⟨h4, h10, hk⟩ := h c
  obtain ⟨-, h1, h2, h3⟩ := hm c
  rw [h1, h2] at h4
  rw [h1, h3] at h10
  exact ⟨h4, h10, hk⟩

theorem frame_ref14 : quiescent_Reference14Ideal (hReference14Ideal := Cert.Reference14Ideal.Gen.facts) := fun m ρ _ =>
  (θ_run _ _ _).mono (fun r h => ⟨fun c => (h c).2.2, sem_eq_zero_of_no_sems (by decide) r.2⟩) (Cert.Reference14Ideal.Value.run m ρ)

theorem moments15 : algebraic_Kernel15Ideal_Reference15Ideal (hKernel15Ideal := Cert.Kernel15Ideal.Gen.facts)
    (hReference15Ideal := Cert.Reference15Ideal.Gen.facts) := by
  intro m g m' g' _ hm
  refine ⟨fun c => Cert.Kernel15Ideal.Value.G5 (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)),
    fun c => Cert.Kernel15Ideal.Value.G6 (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg3)),
    (θ_run _ _ _).mono (fun r h c => (h c).2) (Cert.Kernel15Ideal.Value.run m g), ?_⟩
  refine (θ_run _ _ _).mono (fun r h c => ?_) (Cert.Reference15Ideal.Value.run m' g')
  obtain ⟨h4, h10, hk⟩ := h c
  obtain ⟨-, h1, h2, h3⟩ := hm c
  rw [h1, h2] at h4
  rw [h1, h3] at h10
  exact ⟨h4, h10, hk⟩

theorem frame_ref15 : quiescent_Reference15Ideal (hReference15Ideal := Cert.Reference15Ideal.Gen.facts) := fun m ρ _ =>
  (θ_run _ _ _).mono (fun r h => ⟨fun c => (h c).2.2, sem_eq_zero_of_no_sems (by decide) r.2⟩) (Cert.Reference15Ideal.Value.run m ρ)

/-- The new moments of the projection's weight. -/
theorem moments16 : algebraic_Kernel16Ideal_Reference16Ideal (hKernel16Ideal := Cert.Kernel16Ideal.Gen.facts)
    (hReference16Ideal := Cert.Reference16Ideal.Gen.facts) := by
  intro m g m' g' _ hm
  refine ⟨fun c => Cert.WinMoments.Ker.resM m c, fun c => Cert.WinMoments.Ker.resV m c, Cert.WinMoments.Ker.run m g, ?_⟩
  refine (θ_run _ _ _).mono (fun r h c => ?_) (Cert.Reference16Ideal.Value.run m' g')
  obtain ⟨h5, h11, hk⟩ := h c
  obtain ⟨-, h1, h2, h3⟩ := hm c
  rw [h1, h2] at h5
  rw [h1, h3] at h11
  exact ⟨h5.trans (Cert.WinMoments.Ref.v5 _ _), h11.trans (Cert.WinMoments.Ref.v11 _ _), hk⟩

theorem frame_ref16 : quiescent_Reference16Ideal (hReference16Ideal := Cert.Reference16Ideal.Gen.facts) := fun m ρ _ =>
  (θ_run _ _ _).mono (fun r h => ⟨fun c => (h c).2.2, sem_eq_zero_of_no_sems (by decide) r.2⟩) (Cert.Reference16Ideal.Value.run m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, onFacts3,
  fun m ρ _ => Cert.Kernel.Gen.frame m ρ,
  fun m ρ _ => Cert.KernelIdeal.Gen.frame m ρ,
  frame_ref,
  frame_kernel2,
  fun m ρ _ => Cert.InProj.frame m ρ,
  frame_ref2,
  fun m ρ _ => Cert.Kernel3.Gen.frame m ρ,
  fun m ρ _ => Cert.Kernel3Ideal.Gen.frame m ρ,
  frame_ref3,
  fun m ρ _ => Cert.Kernel4.Gen.frame m ρ, fun m ρ _ => Cert.Kernel4Ideal.Gen.frame m ρ, frame_ref4,
  fun m ρ _ => Cert.Kernel5.Gen.frame m ρ, fun m ρ _ => Cert.Kernel5Ideal.Gen.frame m ρ, frame_ref5,
  fun m ρ _ => Cert.Kernel6.Gen.frame m ρ, fun m ρ _ => Cert.Kernel6Ideal.Gen.frame m ρ, frame_ref6,
  fun m ρ _ => Cert.Kernel7.Gen.frame m ρ, fun m ρ _ => Cert.Kernel7Ideal.Gen.frame m ρ, frame_ref7,
  fun m ρ _ => Cert.Kernel8.Gen.frame m ρ, fun m ρ _ => Cert.Kernel8Ideal.Gen.frame m ρ, frame_ref8,
  fun m ρ _ => Cert.Kernel9.Gen.frame m ρ, fun m ρ _ => Cert.Kernel9Ideal.Gen.frame m ρ, frame_ref9,
  fun m ρ _ => Cert.Kernel10.Gen.frame m ρ, fun m ρ _ => Cert.Kernel10Ideal.Gen.frame m ρ, frame_ref10,
  fun m ρ _ => Cert.Kernel11.Gen.frame m ρ, fun m ρ _ => Cert.Kernel11Ideal.Gen.frame m ρ, frame_ref11,
  fun m ρ _ => Cert.Kernel12.Gen.frame m ρ, fun m ρ _ => Cert.Kernel12Ideal.Gen.frame m ρ, frame_ref12,
  fun m ρ _ => Cert.Kernel13.Gen.frame m ρ, fun m ρ _ => Cert.Kernel13Ideal.Gen.frame m ρ, frame_ref13,
  fun m ρ _ => Cert.Kernel14.Gen.frame m ρ, fun m ρ _ => Cert.Kernel14Ideal.Gen.frame m ρ, frame_ref14,
  fun m ρ _ => Cert.Kernel15.Gen.frame m ρ, fun m ρ _ => Cert.Kernel15Ideal.Gen.frame m ρ, frame_ref15,
  fun m ρ _ => Cert.Kernel16.Gen.frame m ρ, fun m ρ _ => Cert.Kernel16Ideal.Gen.frame m ρ, frame_ref16,
  trivial, in_bwd,
  trivial, in_proj,
  trivial, tail,
  trivial, w_ada_grad,
  trivial, small_sum,
  trivial, moments6,
  trivial, moments7,
  trivial, moments8,
  trivial, moments9,
  trivial, moments10,
  trivial, moments11,
  trivial, moments12,
  trivial, moments13,
  trivial, moments14,
  trivial, moments15,
  trivial, moments16⟩

end Cert.Proof

end
